-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_InGdn (m : (ℓ : Loc Cert.InGdn.nD Cert.InGdn.τ Cert.InGdn.sig) → Buf (Elt Bits) ℓ) : Prop :=
  True

def Pre_InGdnIdeal (m : (ℓ : Loc Cert.InGdnIdeal.nD Cert.InGdnIdeal.τ Cert.InGdnIdeal.sig) → Buf (Elt Ideal) ℓ) : Prop :=
  True

def Pre_InGdnRefIdeal (m : (ℓ : Loc Cert.InGdnRefIdeal.nD Cert.InGdnRefIdeal.τ Cert.InGdnRefIdeal.sig) → Buf (Elt Ideal) ℓ) : Prop :=
  True

def Pre_InFox (m : (ℓ : Loc Cert.InFox.nD Cert.InFox.τ Cert.InFox.sig) → Buf (Elt Bits) ℓ) : Prop :=
  True

def Pre_InFoxIdeal (m : (ℓ : Loc Cert.InFoxIdeal.nD Cert.InFoxIdeal.τ Cert.InFoxIdeal.sig) → Buf (Elt Ideal) ℓ) : Prop :=
  True

def Pre_InFoxRefIdeal (m : (ℓ : Loc Cert.InFoxRefIdeal.nD Cert.InFoxRefIdeal.τ Cert.InFoxRefIdeal.sig) → Buf (Elt Ideal) ℓ) : Prop :=
  True

def Pre_InRwkv (m : (ℓ : Loc Cert.InRwkv.nD Cert.InRwkv.τ Cert.InRwkv.sig) → Buf (Elt Bits) ℓ) : Prop :=
  True

def Pre_InRwkvIdeal (m : (ℓ : Loc Cert.InRwkvIdeal.nD Cert.InRwkvIdeal.τ Cert.InRwkvIdeal.sig) → Buf (Elt Ideal) ℓ) : Prop :=
  True

def Pre_InRwkvRefIdeal (m : (ℓ : Loc Cert.InRwkvRefIdeal.nD Cert.InRwkvRefIdeal.τ Cert.InRwkvRefIdeal.sig) → Buf (Elt Ideal) ℓ) : Prop :=
  True

def Pre_InGates (m : (ℓ : Loc Cert.InGates.nD Cert.InGates.τ Cert.InGates.sig) → Buf (Elt Bits) ℓ) : Prop :=
  True

def Pre_InGatesIdeal (m : (ℓ : Loc Cert.InGatesIdeal.nD Cert.InGatesIdeal.τ Cert.InGatesIdeal.sig) → Buf (Elt Ideal) ℓ) : Prop :=
  True

def Pre_InGatesRefIdeal (m : (ℓ : Loc Cert.InGatesRefIdeal.nD Cert.InGatesRefIdeal.τ Cert.InGatesRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_NormFinal (m : (ℓ : Loc Cert.NormFinal.nD Cert.NormFinal.τ Cert.NormFinal.sig) → Buf (Elt Bits) ℓ) : Prop :=
  True

def Pre_NormFinalIdeal (m : (ℓ : Loc Cert.NormFinalIdeal.nD Cert.NormFinalIdeal.τ Cert.NormFinalIdeal.sig) → Buf (Elt Ideal) ℓ) : Prop :=
  True

def Pre_NormFinalRefIdeal (m : (ℓ : Loc Cert.NormFinalRefIdeal.nD Cert.NormFinalRefIdeal.τ Cert.NormFinalRefIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_NormFfn (m : (ℓ : Loc Cert.NormFfn.nD Cert.NormFfn.τ Cert.NormFfn.sig) → Buf (Elt Bits) ℓ) : Prop :=
  True

def Pre_NormFfnIdeal (m : (ℓ : Loc Cert.NormFfnIdeal.nD Cert.NormFfnIdeal.τ Cert.NormFfnIdeal.sig) → Buf (Elt Ideal) ℓ) : Prop :=
  True

def Pre_NormFfnRefIdeal (m : (ℓ : Loc Cert.NormFfnRefIdeal.nD Cert.NormFfnRefIdeal.τ Cert.NormFfnRefIdeal.sig) → Buf (Elt Ideal) ℓ) : Prop :=
  True

def Pre_InLora (m : (ℓ : Loc Cert.InLora.nD Cert.InLora.τ Cert.InLora.sig) → Buf (Elt Bits) ℓ) : Prop :=
  True

def Pre_InLoraIdeal (m : (ℓ : Loc Cert.InLoraIdeal.nD Cert.InLoraIdeal.τ Cert.InLoraIdeal.sig) → Buf (Elt Ideal) ℓ) : Prop :=
  True

def Pre_InLoraRefIdeal (m : (ℓ : Loc Cert.InLoraRefIdeal.nD Cert.InLoraRefIdeal.τ Cert.InLoraRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftRefIdeal (m : (ℓ : Loc Cert.ShiftRefIdeal.nD Cert.ShiftRefIdeal.τ Cert.ShiftRefIdeal.sig) → Buf (Elt Ideal) ℓ) : Prop :=
  True

def Pre_ShiftLora (m : (ℓ : Loc Cert.ShiftLora.nD Cert.ShiftLora.τ Cert.ShiftLora.sig) → Buf (Elt Bits) ℓ) : Prop :=
  True

def Pre_ShiftLoraIdeal (m : (ℓ : Loc Cert.ShiftLoraIdeal.nD Cert.ShiftLoraIdeal.τ Cert.ShiftLoraIdeal.sig) → Buf (Elt Ideal) ℓ) : Prop :=
  True

def Pre_ShiftLoraRefIdeal (m : (ℓ : Loc Cert.ShiftLoraRefIdeal.nD Cert.ShiftLoraRefIdeal.τ Cert.ShiftLoraRefIdeal.sig) → Buf (Elt Ideal) ℓ) : Prop :=
  True

def Pre_RwkvOut (m : (ℓ : Loc Cert.RwkvOut.nD Cert.RwkvOut.τ Cert.RwkvOut.sig) → Buf (Elt Bits) ℓ) : Prop :=
  True

def Pre_RwkvOutIdeal (m : (ℓ : Loc Cert.RwkvOutIdeal.nD Cert.RwkvOutIdeal.τ Cert.RwkvOutIdeal.sig) → Buf (Elt Ideal) ℓ) : Prop :=
  True

def Pre_RwkvOutIdeal_heads_finite [hPre_heads_finite : Cert.Pre_heads_finite.Facts] (m : (ℓ : Loc Cert.RwkvOutIdeal.nD Cert.RwkvOutIdeal.τ Cert.RwkvOutIdeal.sig) → Buf (Elt Ideal) ℓ) : Prop :=
  ∀ c : Dev Cert.RwkvOutIdeal.nD,
    (Cert.Pre_heads_finite.fn (F := Ideal) (m ((c.tc : Thread Cert.RwkvOutIdeal.nD Cert.RwkvOutIdeal.τ).loc Cert.RwkvOutIdeal.main_arg0)) (m ((c.tc : Thread Cert.RwkvOutIdeal.nD Cert.RwkvOutIdeal.τ).loc Cert.RwkvOutIdeal.main_arg1)) (m ((c.tc : Thread Cert.RwkvOutIdeal.nD Cert.RwkvOutIdeal.τ).loc Cert.RwkvOutIdeal.main_arg2)) (m ((c.tc : Thread Cert.RwkvOutIdeal.nD Cert.RwkvOutIdeal.τ).loc Cert.RwkvOutIdeal.main_arg3)) (m ((c.tc : Thread Cert.RwkvOutIdeal.nD Cert.RwkvOutIdeal.τ).loc Cert.RwkvOutIdeal.main_arg4))) = (fun _ => 1#1)

def Pre_RwkvOutRefIdeal (m : (ℓ : Loc Cert.RwkvOutRefIdeal.nD Cert.RwkvOutRefIdeal.τ Cert.RwkvOutRefIdeal.sig) → Buf (Elt Ideal) ℓ) : Prop :=
  True

def Pre_RwkvOutRefIdeal_heads_finite [hPre_heads_finite : Cert.Pre_heads_finite.Facts] (m : (ℓ : Loc Cert.RwkvOutRefIdeal.nD Cert.RwkvOutRefIdeal.τ Cert.RwkvOutRefIdeal.sig) → Buf (Elt Ideal) ℓ) : Prop :=
  ∀ c : Dev Cert.RwkvOutRefIdeal.nD,
    (Cert.Pre_heads_finite.fn (F := Ideal) (m ((c.tc : Thread Cert.RwkvOutRefIdeal.nD Cert.RwkvOutRefIdeal.τ).loc Cert.RwkvOutRefIdeal.main_arg0)) (m ((c.tc : Thread Cert.RwkvOutRefIdeal.nD Cert.RwkvOutRefIdeal.τ).loc Cert.RwkvOutRefIdeal.main_arg1)) (m ((c.tc : Thread Cert.RwkvOutRefIdeal.nD Cert.RwkvOutRefIdeal.τ).loc Cert.RwkvOutRefIdeal.main_arg2)) (m ((c.tc : Thread Cert.RwkvOutRefIdeal.nD Cert.RwkvOutRefIdeal.τ).loc Cert.RwkvOutRefIdeal.main_arg3)) (m ((c.tc : Thread Cert.RwkvOutRefIdeal.nD Cert.RwkvOutRefIdeal.τ).loc Cert.RwkvOutRefIdeal.main_arg4))) = (fun _ => 1#1)

def Pre_Cumulative (m : (ℓ : Loc Cert.Cumulative.nD Cert.Cumulative.τ Cert.Cumulative.sig) → Buf (Elt Bits) ℓ) : Prop :=
  True

def Pre_CumulativeIdeal (m : (ℓ : Loc Cert.CumulativeIdeal.nD Cert.CumulativeIdeal.τ Cert.CumulativeIdeal.sig) → Buf (Elt Ideal) ℓ) : Prop :=
  True

def Pre_CumulativeIdeal_gates_finite [hPre_gates_finite : Cert.Pre_gates_finite.Facts] (m : (ℓ : Loc Cert.CumulativeIdeal.nD Cert.CumulativeIdeal.τ Cert.CumulativeIdeal.sig) → Buf (Elt Ideal) ℓ) : Prop :=
  ∀ c : Dev Cert.CumulativeIdeal.nD,
    (Cert.Pre_gates_finite.fn (F := Ideal) (m ((c.tc : Thread Cert.CumulativeIdeal.nD Cert.CumulativeIdeal.τ).loc Cert.CumulativeIdeal.main_arg0))) = (fun _ => 1#1)

def Pre_CumulativeRefIdeal (m : (ℓ : Loc Cert.CumulativeRefIdeal.nD Cert.CumulativeRefIdeal.τ Cert.CumulativeRefIdeal.sig) → Buf (Elt Ideal) ℓ) : Prop :=
  True

def Pre_CumulativeRefIdeal_gates_finite [hPre_gates_finite : Cert.Pre_gates_finite.Facts] (m : (ℓ : Loc Cert.CumulativeRefIdeal.nD Cert.CumulativeRefIdeal.τ Cert.CumulativeRefIdeal.sig) → Buf (Elt Ideal) ℓ) : Prop :=
  ∀ c : Dev Cert.CumulativeRefIdeal.nD,
    (Cert.Pre_gates_finite.fn (F := Ideal) (m ((c.tc : Thread Cert.CumulativeRefIdeal.nD Cert.CumulativeRefIdeal.τ).loc Cert.CumulativeRefIdeal.main_arg0))) = (fun _ => 1#1)

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_chunks_finite [hPre_chunks_finite : Cert.Pre_chunks_finite.Facts] (m : (ℓ : Loc Cert.ScanIdeal.nD Cert.ScanIdeal.τ Cert.ScanIdeal.sig) → Buf (Elt Ideal) ℓ) : Prop :=
  ∀ c : Dev Cert.ScanIdeal.nD,
    (Cert.Pre_chunks_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4))).1 = (fun _ => 1#1)
    ∧ (Cert.Pre_chunks_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4))).2.1 = (fun _ => 1#1)
    ∧ (Cert.Pre_chunks_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4))).2.2 = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_chunks_finite [hPre_chunks_finite : Cert.Pre_chunks_finite.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_chunks_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4))).1 = (fun _ => 1#1)
    ∧ (Cert.Pre_chunks_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4))).2.1 = (fun _ => 1#1)
    ∧ (Cert.Pre_chunks_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4))).2.2 = (fun _ => 1#1)

def Pre_Carry (m : (ℓ : Loc Cert.Carry.nD Cert.Carry.τ Cert.Carry.sig) → Buf (Elt Bits) ℓ) : Prop :=
  True

def Pre_CarryIdeal (m : (ℓ : Loc Cert.CarryIdeal.nD Cert.CarryIdeal.τ Cert.CarryIdeal.sig) → Buf (Elt Ideal) ℓ) : Prop :=
  True

def Pre_CarryIdeal_carried_finite [hPre_carried_finite : Cert.Pre_carried_finite.Facts] (m : (ℓ : Loc Cert.CarryIdeal.nD Cert.CarryIdeal.τ Cert.CarryIdeal.sig) → Buf (Elt Ideal) ℓ) : Prop :=
  ∀ c : Dev Cert.CarryIdeal.nD,
    (Cert.Pre_carried_finite.fn (F := Ideal) (m ((c.tc : Thread Cert.CarryIdeal.nD Cert.CarryIdeal.τ).loc Cert.CarryIdeal.main_arg0)) (m ((c.tc : Thread Cert.CarryIdeal.nD Cert.CarryIdeal.τ).loc Cert.CarryIdeal.main_arg1)) (m ((c.tc : Thread Cert.CarryIdeal.nD Cert.CarryIdeal.τ).loc Cert.CarryIdeal.main_arg2)) (m ((c.tc : Thread Cert.CarryIdeal.nD Cert.CarryIdeal.τ).loc Cert.CarryIdeal.main_arg3)) (m ((c.tc : Thread Cert.CarryIdeal.nD Cert.CarryIdeal.τ).loc Cert.CarryIdeal.main_arg4))).1 = (fun _ => 1#1)
    ∧ (Cert.Pre_carried_finite.fn (F := Ideal) (m ((c.tc : Thread Cert.CarryIdeal.nD Cert.CarryIdeal.τ).loc Cert.CarryIdeal.main_arg0)) (m ((c.tc : Thread Cert.CarryIdeal.nD Cert.CarryIdeal.τ).loc Cert.CarryIdeal.main_arg1)) (m ((c.tc : Thread Cert.CarryIdeal.nD Cert.CarryIdeal.τ).loc Cert.CarryIdeal.main_arg2)) (m ((c.tc : Thread Cert.CarryIdeal.nD Cert.CarryIdeal.τ).loc Cert.CarryIdeal.main_arg3)) (m ((c.tc : Thread Cert.CarryIdeal.nD Cert.CarryIdeal.τ).loc Cert.CarryIdeal.main_arg4))).2.1 = (fun _ => 1#1)
    ∧ (Cert.Pre_carried_finite.fn (F := Ideal) (m ((c.tc : Thread Cert.CarryIdeal.nD Cert.CarryIdeal.τ).loc Cert.CarryIdeal.main_arg0)) (m ((c.tc : Thread Cert.CarryIdeal.nD Cert.CarryIdeal.τ).loc Cert.CarryIdeal.main_arg1)) (m ((c.tc : Thread Cert.CarryIdeal.nD Cert.CarryIdeal.τ).loc Cert.CarryIdeal.main_arg2)) (m ((c.tc : Thread Cert.CarryIdeal.nD Cert.CarryIdeal.τ).loc Cert.CarryIdeal.main_arg3)) (m ((c.tc : Thread Cert.CarryIdeal.nD Cert.CarryIdeal.τ).loc Cert.CarryIdeal.main_arg4))).2.2.1 = (fun _ => 1#1)
    ∧ (Cert.Pre_carried_finite.fn (F := Ideal) (m ((c.tc : Thread Cert.CarryIdeal.nD Cert.CarryIdeal.τ).loc Cert.CarryIdeal.main_arg0)) (m ((c.tc : Thread Cert.CarryIdeal.nD Cert.CarryIdeal.τ).loc Cert.CarryIdeal.main_arg1)) (m ((c.tc : Thread Cert.CarryIdeal.nD Cert.CarryIdeal.τ).loc Cert.CarryIdeal.main_arg2)) (m ((c.tc : Thread Cert.CarryIdeal.nD Cert.CarryIdeal.τ).loc Cert.CarryIdeal.main_arg3)) (m ((c.tc : Thread Cert.CarryIdeal.nD Cert.CarryIdeal.τ).loc Cert.CarryIdeal.main_arg4))).2.2.2 = (fun _ => 1#1)

def Pre_CarryRefIdeal (m : (ℓ : Loc Cert.CarryRefIdeal.nD Cert.CarryRefIdeal.τ Cert.CarryRefIdeal.sig) → Buf (Elt Ideal) ℓ) : Prop :=
  True

def Pre_CarryRefIdeal_carried_finite [hPre_carried_finite : Cert.Pre_carried_finite.Facts] (m : (ℓ : Loc Cert.CarryRefIdeal.nD Cert.CarryRefIdeal.τ Cert.CarryRefIdeal.sig) → Buf (Elt Ideal) ℓ) : Prop :=
  ∀ c : Dev Cert.CarryRefIdeal.nD,
    (Cert.Pre_carried_finite.fn (F := Ideal) (m ((c.tc : Thread Cert.CarryRefIdeal.nD Cert.CarryRefIdeal.τ).loc Cert.CarryRefIdeal.main_arg0)) (m ((c.tc : Thread Cert.CarryRefIdeal.nD Cert.CarryRefIdeal.τ).loc Cert.CarryRefIdeal.main_arg1)) (m ((c.tc : Thread Cert.CarryRefIdeal.nD Cert.CarryRefIdeal.τ).loc Cert.CarryRefIdeal.main_arg2)) (m ((c.tc : Thread Cert.CarryRefIdeal.nD Cert.CarryRefIdeal.τ).loc Cert.CarryRefIdeal.main_arg3)) (m ((c.tc : Thread Cert.CarryRefIdeal.nD Cert.CarryRefIdeal.τ).loc Cert.CarryRefIdeal.main_arg4))).1 = (fun _ => 1#1)
    ∧ (Cert.Pre_carried_finite.fn (F := Ideal) (m ((c.tc : Thread Cert.CarryRefIdeal.nD Cert.CarryRefIdeal.τ).loc Cert.CarryRefIdeal.main_arg0)) (m ((c.tc : Thread Cert.CarryRefIdeal.nD Cert.CarryRefIdeal.τ).loc Cert.CarryRefIdeal.main_arg1)) (m ((c.tc : Thread Cert.CarryRefIdeal.nD Cert.CarryRefIdeal.τ).loc Cert.CarryRefIdeal.main_arg2)) (m ((c.tc : Thread Cert.CarryRefIdeal.nD Cert.CarryRefIdeal.τ).loc Cert.CarryRefIdeal.main_arg3)) (m ((c.tc : Thread Cert.CarryRefIdeal.nD Cert.CarryRefIdeal.τ).loc Cert.CarryRefIdeal.main_arg4))).2.1 = (fun _ => 1#1)
    ∧ (Cert.Pre_carried_finite.fn (F := Ideal) (m ((c.tc : Thread Cert.CarryRefIdeal.nD Cert.CarryRefIdeal.τ).loc Cert.CarryRefIdeal.main_arg0)) (m ((c.tc : Thread Cert.CarryRefIdeal.nD Cert.CarryRefIdeal.τ).loc Cert.CarryRefIdeal.main_arg1)) (m ((c.tc : Thread Cert.CarryRefIdeal.nD Cert.CarryRefIdeal.τ).loc Cert.CarryRefIdeal.main_arg2)) (m ((c.tc : Thread Cert.CarryRefIdeal.nD Cert.CarryRefIdeal.τ).loc Cert.CarryRefIdeal.main_arg3)) (m ((c.tc : Thread Cert.CarryRefIdeal.nD Cert.CarryRefIdeal.τ).loc Cert.CarryRefIdeal.main_arg4))).2.2.1 = (fun _ => 1#1)
    ∧ (Cert.Pre_carried_finite.fn (F := Ideal) (m ((c.tc : Thread Cert.CarryRefIdeal.nD Cert.CarryRefIdeal.τ).loc Cert.CarryRefIdeal.main_arg0)) (m ((c.tc : Thread Cert.CarryRefIdeal.nD Cert.CarryRefIdeal.τ).loc Cert.CarryRefIdeal.main_arg1)) (m ((c.tc : Thread Cert.CarryRefIdeal.nD Cert.CarryRefIdeal.τ).loc Cert.CarryRefIdeal.main_arg2)) (m ((c.tc : Thread Cert.CarryRefIdeal.nD Cert.CarryRefIdeal.τ).loc Cert.CarryRefIdeal.main_arg3)) (m ((c.tc : Thread Cert.CarryRefIdeal.nD Cert.CarryRefIdeal.τ).loc Cert.CarryRefIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InGdn [hInGdn : Cert.InGdn.Facts] : Prop :=
  ∀ (m : (ℓ : Loc Cert.InGdn.nD Cert.InGdn.τ Cert.InGdn.sig) → Buf (Elt Bits) ℓ) (g : Dev Cert.InGdn.nD → PrngReg), Pre_InGdn m →
    θ_run (Cert.InGdn.defs (F := Bits)) (onTc (τ := Cert.InGdn.τ) (Cert.InGdn.main (F := Bits))) ⟨m, fun _ => 0, g⟩ (fun r => (∀ c : Dev Cert.InGdn.nD,
      r.2.mem ((c.tc : Thread Cert.InGdn.nD Cert.InGdn.τ).loc Cert.InGdn.main_arg0) = m ((c.tc : Thread Cert.InGdn.nD Cert.InGdn.τ).loc Cert.InGdn.main_arg0)
      ∧ r.2.mem ((c.tc : Thread Cert.InGdn.nD Cert.InGdn.τ).loc Cert.InGdn.main_arg1) = m ((c.tc : Thread Cert.InGdn.nD Cert.InGdn.τ).loc Cert.InGdn.main_arg1))
      ∧ r.2.sem = fun _ => 0)

def quiescent_InGdnIdeal [hInGdnIdeal : Cert.InGdnIdeal.Facts] : Prop :=
  ∀ (m : (ℓ : Loc Cert.InGdnIdeal.nD Cert.InGdnIdeal.τ Cert.InGdnIdeal.sig) → Buf (Elt Ideal) ℓ) (g : Dev Cert.InGdnIdeal.nD → PrngReg), Pre_InGdnIdeal m →
    θ_run (Cert.InGdnIdeal.defs (F := Ideal)) (onTc (τ := Cert.InGdnIdeal.τ) (Cert.InGdnIdeal.main (F := Ideal))) ⟨m, fun _ => 0, g⟩ (fun r => (∀ c : Dev Cert.InGdnIdeal.nD,
      r.2.mem ((c.tc : Thread Cert.InGdnIdeal.nD Cert.InGdnIdeal.τ).loc Cert.InGdnIdeal.main_arg0) = m ((c.tc : Thread Cert.InGdnIdeal.nD Cert.InGdnIdeal.τ).loc Cert.InGdnIdeal.main_arg0)
      ∧ r.2.mem ((c.tc : Thread Cert.InGdnIdeal.nD Cert.InGdnIdeal.τ).loc Cert.InGdnIdeal.main_arg1) = m ((c.tc : Thread Cert.InGdnIdeal.nD Cert.InGdnIdeal.τ).loc Cert.InGdnIdeal.main_arg1))
      ∧ r.2.sem = fun _ => 0)

def quiescent_InGdnRefIdeal [hInGdnRefIdeal : Cert.InGdnRefIdeal.Facts] : Prop :=
  ∀ (m : (ℓ : Loc Cert.InGdnRefIdeal.nD Cert.InGdnRefIdeal.τ Cert.InGdnRefIdeal.sig) → Buf (Elt Ideal) ℓ) (g : Dev Cert.InGdnRefIdeal.nD → PrngReg), Pre_InGdnRefIdeal m →
    θ_run (Cert.InGdnRefIdeal.defs (F := Ideal)) (onTc (τ := Cert.InGdnRefIdeal.τ) (Cert.InGdnRefIdeal.main (F := Ideal))) ⟨m, fun _ => 0, g⟩ (fun r => (∀ c : Dev Cert.InGdnRefIdeal.nD,
      r.2.mem ((c.tc : Thread Cert.InGdnRefIdeal.nD Cert.InGdnRefIdeal.τ).loc Cert.InGdnRefIdeal.main_arg0) = m ((c.tc : Thread Cert.InGdnRefIdeal.nD Cert.InGdnRefIdeal.τ).loc Cert.InGdnRefIdeal.main_arg0)
      ∧ r.2.mem ((c.tc : Thread Cert.InGdnRefIdeal.nD Cert.InGdnRefIdeal.τ).loc Cert.InGdnRefIdeal.main_arg1) = m ((c.tc : Thread Cert.InGdnRefIdeal.nD Cert.InGdnRefIdeal.τ).loc Cert.InGdnRefIdeal.main_arg1))
      ∧ r.2.sem = fun _ => 0)

def quiescent_InFox [hInFox : Cert.InFox.Facts] : Prop :=
  ∀ (m : (ℓ : Loc Cert.InFox.nD Cert.InFox.τ Cert.InFox.sig) → Buf (Elt Bits) ℓ) (g : Dev Cert.InFox.nD → PrngReg), Pre_InFox m →
    θ_run (Cert.InFox.defs (F := Bits)) (onTc (τ := Cert.InFox.τ) (Cert.InFox.main (F := Bits))) ⟨m, fun _ => 0, g⟩ (fun r => (∀ c : Dev Cert.InFox.nD,
      r.2.mem ((c.tc : Thread Cert.InFox.nD Cert.InFox.τ).loc Cert.InFox.main_arg0) = m ((c.tc : Thread Cert.InFox.nD Cert.InFox.τ).loc Cert.InFox.main_arg0)
      ∧ r.2.mem ((c.tc : Thread Cert.InFox.nD Cert.InFox.τ).loc Cert.InFox.main_arg1) = m ((c.tc : Thread Cert.InFox.nD Cert.InFox.τ).loc Cert.InFox.main_arg1))
      ∧ r.2.sem = fun _ => 0)

def quiescent_InFoxIdeal [hInFoxIdeal : Cert.InFoxIdeal.Facts] : Prop :=
  ∀ (m : (ℓ : Loc Cert.InFoxIdeal.nD Cert.InFoxIdeal.τ Cert.InFoxIdeal.sig) → Buf (Elt Ideal) ℓ) (g : Dev Cert.InFoxIdeal.nD → PrngReg), Pre_InFoxIdeal m →
    θ_run (Cert.InFoxIdeal.defs (F := Ideal)) (onTc (τ := Cert.InFoxIdeal.τ) (Cert.InFoxIdeal.main (F := Ideal))) ⟨m, fun _ => 0, g⟩ (fun r => (∀ c : Dev Cert.InFoxIdeal.nD,
      r.2.mem ((c.tc : Thread Cert.InFoxIdeal.nD Cert.InFoxIdeal.τ).loc Cert.InFoxIdeal.main_arg0) = m ((c.tc : Thread Cert.InFoxIdeal.nD Cert.InFoxIdeal.τ).loc Cert.InFoxIdeal.main_arg0)
      ∧ r.2.mem ((c.tc : Thread Cert.InFoxIdeal.nD Cert.InFoxIdeal.τ).loc Cert.InFoxIdeal.main_arg1) = m ((c.tc : Thread Cert.InFoxIdeal.nD Cert.InFoxIdeal.τ).loc Cert.InFoxIdeal.main_arg1))
      ∧ r.2.sem = fun _ => 0)

def quiescent_InFoxRefIdeal [hInFoxRefIdeal : Cert.InFoxRefIdeal.Facts] : Prop :=
  ∀ (m : (ℓ : Loc Cert.InFoxRefIdeal.nD Cert.InFoxRefIdeal.τ Cert.InFoxRefIdeal.sig) → Buf (Elt Ideal) ℓ) (g : Dev Cert.InFoxRefIdeal.nD → PrngReg), Pre_InFoxRefIdeal m →
    θ_run (Cert.InFoxRefIdeal.defs (F := Ideal)) (onTc (τ := Cert.InFoxRefIdeal.τ) (Cert.InFoxRefIdeal.main (F := Ideal))) ⟨m, fun _ => 0, g⟩ (fun r => (∀ c : Dev Cert.InFoxRefIdeal.nD,
      r.2.mem ((c.tc : Thread Cert.InFoxRefIdeal.nD Cert.InFoxRefIdeal.τ).loc Cert.InFoxRefIdeal.main_arg0) = m ((c.tc : Thread Cert.InFoxRefIdeal.nD Cert.InFoxRefIdeal.τ).loc Cert.InFoxRefIdeal.main_arg0)
      ∧ r.2.mem ((c.tc : Thread Cert.InFoxRefIdeal.nD Cert.InFoxRefIdeal.τ).loc Cert.InFoxRefIdeal.main_arg1) = m ((c.tc : Thread Cert.InFoxRefIdeal.nD Cert.InFoxRefIdeal.τ).loc Cert.InFoxRefIdeal.main_arg1))
      ∧ r.2.sem = fun _ => 0)

def quiescent_InRwkv [hInRwkv : Cert.InRwkv.Facts] : Prop :=
  ∀ (m : (ℓ : Loc Cert.InRwkv.nD Cert.InRwkv.τ Cert.InRwkv.sig) → Buf (Elt Bits) ℓ) (g : Dev Cert.InRwkv.nD → PrngReg), Pre_InRwkv m →
    θ_run (Cert.InRwkv.defs (F := Bits)) (onTc (τ := Cert.InRwkv.τ) (Cert.InRwkv.main (F := Bits))) ⟨m, fun _ => 0, g⟩ (fun r => (∀ c : Dev Cert.InRwkv.nD,
      r.2.mem ((c.tc : Thread Cert.InRwkv.nD Cert.InRwkv.τ).loc Cert.InRwkv.main_arg0) = m ((c.tc : Thread Cert.InRwkv.nD Cert.InRwkv.τ).loc Cert.InRwkv.main_arg0)
      ∧ r.2.mem ((c.tc : Thread Cert.InRwkv.nD Cert.InRwkv.τ).loc Cert.InRwkv.main_arg1) = m ((c.tc : Thread Cert.InRwkv.nD Cert.InRwkv.τ).loc Cert.InRwkv.main_arg1))
      ∧ r.2.sem = fun _ => 0)

def quiescent_InRwkvIdeal [hInRwkvIdeal : Cert.InRwkvIdeal.Facts] : Prop :=
  ∀ (m : (ℓ : Loc Cert.InRwkvIdeal.nD Cert.InRwkvIdeal.τ Cert.InRwkvIdeal.sig) → Buf (Elt Ideal) ℓ) (g : Dev Cert.InRwkvIdeal.nD → PrngReg), Pre_InRwkvIdeal m →
    θ_run (Cert.InRwkvIdeal.defs (F := Ideal)) (onTc (τ := Cert.InRwkvIdeal.τ) (Cert.InRwkvIdeal.main (F := Ideal))) ⟨m, fun _ => 0, g⟩ (fun r => (∀ c : Dev Cert.InRwkvIdeal.nD,
      r.2.mem ((c.tc : Thread Cert.InRwkvIdeal.nD Cert.InRwkvIdeal.τ).loc Cert.InRwkvIdeal.main_arg0) = m ((c.tc : Thread Cert.InRwkvIdeal.nD Cert.InRwkvIdeal.τ).loc Cert.InRwkvIdeal.main_arg0)
      ∧ r.2.mem ((c.tc : Thread Cert.InRwkvIdeal.nD Cert.InRwkvIdeal.τ).loc Cert.InRwkvIdeal.main_arg1) = m ((c.tc : Thread Cert.InRwkvIdeal.nD Cert.InRwkvIdeal.τ).loc Cert.InRwkvIdeal.main_arg1))
      ∧ r.2.sem = fun _ => 0)

def quiescent_InRwkvRefIdeal [hInRwkvRefIdeal : Cert.InRwkvRefIdeal.Facts] : Prop :=
  ∀ (m : (ℓ : Loc Cert.InRwkvRefIdeal.nD Cert.InRwkvRefIdeal.τ Cert.InRwkvRefIdeal.sig) → Buf (Elt Ideal) ℓ) (g : Dev Cert.InRwkvRefIdeal.nD → PrngReg), Pre_InRwkvRefIdeal m →
    θ_run (Cert.InRwkvRefIdeal.defs (F := Ideal)) (onTc (τ := Cert.InRwkvRefIdeal.τ) (Cert.InRwkvRefIdeal.main (F := Ideal))) ⟨m, fun _ => 0, g⟩ (fun r => (∀ c : Dev Cert.InRwkvRefIdeal.nD,
      r.2.mem ((c.tc : Thread Cert.InRwkvRefIdeal.nD Cert.InRwkvRefIdeal.τ).loc Cert.InRwkvRefIdeal.main_arg0) = m ((c.tc : Thread Cert.InRwkvRefIdeal.nD Cert.InRwkvRefIdeal.τ).loc Cert.InRwkvRefIdeal.main_arg0)
      ∧ r.2.mem ((c.tc : Thread Cert.InRwkvRefIdeal.nD Cert.InRwkvRefIdeal.τ).loc Cert.InRwkvRefIdeal.main_arg1) = m ((c.tc : Thread Cert.InRwkvRefIdeal.nD Cert.InRwkvRefIdeal.τ).loc Cert.InRwkvRefIdeal.main_arg1))
      ∧ r.2.sem = fun _ => 0)

def quiescent_InGates [hInGates : Cert.InGates.Facts] : Prop :=
  ∀ (m : (ℓ : Loc Cert.InGates.nD Cert.InGates.τ Cert.InGates.sig) → Buf (Elt Bits) ℓ) (g : Dev Cert.InGates.nD → PrngReg), Pre_InGates m →
    θ_run (Cert.InGates.defs (F := Bits)) (onTc (τ := Cert.InGates.τ) (Cert.InGates.main (F := Bits))) ⟨m, fun _ => 0, g⟩ (fun r => (∀ c : Dev Cert.InGates.nD,
      r.2.mem ((c.tc : Thread Cert.InGates.nD Cert.InGates.τ).loc Cert.InGates.main_arg0) = m ((c.tc : Thread Cert.InGates.nD Cert.InGates.τ).loc Cert.InGates.main_arg0)
      ∧ r.2.mem ((c.tc : Thread Cert.InGates.nD Cert.InGates.τ).loc Cert.InGates.main_arg1) = m ((c.tc : Thread Cert.InGates.nD Cert.InGates.τ).loc Cert.InGates.main_arg1))
      ∧ r.2.sem = fun _ => 0)

def quiescent_InGatesIdeal [hInGatesIdeal : Cert.InGatesIdeal.Facts] : Prop :=
  ∀ (m : (ℓ : Loc Cert.InGatesIdeal.nD Cert.InGatesIdeal.τ Cert.InGatesIdeal.sig) → Buf (Elt Ideal) ℓ) (g : Dev Cert.InGatesIdeal.nD → PrngReg), Pre_InGatesIdeal m →
    θ_run (Cert.InGatesIdeal.defs (F := Ideal)) (onTc (τ := Cert.InGatesIdeal.τ) (Cert.InGatesIdeal.main (F := Ideal))) ⟨m, fun _ => 0, g⟩ (fun r => (∀ c : Dev Cert.InGatesIdeal.nD,
      r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
      ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ r.2.sem = fun _ => 0)

def quiescent_InGatesRefIdeal [hInGatesRefIdeal : Cert.InGatesRefIdeal.Facts] : Prop :=
  ∀ (m : (ℓ : Loc Cert.InGatesRefIdeal.nD Cert.InGatesRefIdeal.τ Cert.InGatesRefIdeal.sig) → Buf (Elt Ideal) ℓ) (g : Dev Cert.InGatesRefIdeal.nD → PrngReg), Pre_InGatesRefIdeal m →
    θ_run (Cert.InGatesRefIdeal.defs (F := Ideal)) (onTc (τ := Cert.InGatesRefIdeal.τ) (Cert.InGatesRefIdeal.main (F := Ideal))) ⟨m, fun _ => 0, g⟩ (fun r => (∀ c : Dev Cert.InGatesRefIdeal.nD,
      r.2.mem ((c.tc : Thread Cert.InGatesRefIdeal.nD Cert.InGatesRefIdeal.τ).loc Cert.InGatesRefIdeal.main_arg0) = m ((c.tc : Thread Cert.InGatesRefIdeal.nD Cert.InGatesRefIdeal.τ).loc Cert.InGatesRefIdeal.main_arg0)
      ∧ r.2.mem ((c.tc : Thread Cert.InGatesRefIdeal.nD Cert.InGatesRefIdeal.τ).loc Cert.InGatesRefIdeal.main_arg1) = m ((c.tc : Thread Cert.InGatesRefIdeal.nD Cert.InGatesRefIdeal.τ).loc Cert.InGatesRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2))
      ∧ r.2.sem = fun _ => 0)

def quiescent_NormFinal [hNormFinal : Cert.NormFinal.Facts] : Prop :=
  ∀ (m : (ℓ : Loc Cert.NormFinal.nD Cert.NormFinal.τ Cert.NormFinal.sig) → Buf (Elt Bits) ℓ) (g : Dev Cert.NormFinal.nD → PrngReg), Pre_NormFinal m →
    θ_run (Cert.NormFinal.defs (F := Bits)) (onTc (τ := Cert.NormFinal.τ) (Cert.NormFinal.main (F := Bits))) ⟨m, fun _ => 0, g⟩ (fun r => (∀ c : Dev Cert.NormFinal.nD,
      r.2.mem ((c.tc : Thread Cert.NormFinal.nD Cert.NormFinal.τ).loc Cert.NormFinal.main_arg0) = m ((c.tc : Thread Cert.NormFinal.nD Cert.NormFinal.τ).loc Cert.NormFinal.main_arg0)
      ∧ r.2.mem ((c.tc : Thread Cert.NormFinal.nD Cert.NormFinal.τ).loc Cert.NormFinal.main_arg1) = m ((c.tc : Thread Cert.NormFinal.nD Cert.NormFinal.τ).loc Cert.NormFinal.main_arg1)
      ∧ r.2.mem ((c.tc : Thread Cert.NormFinal.nD Cert.NormFinal.τ).loc Cert.NormFinal.main_arg2) = m ((c.tc : Thread Cert.NormFinal.nD Cert.NormFinal.τ).loc Cert.NormFinal.main_arg2))
      ∧ r.2.sem = fun _ => 0)

def quiescent_NormFinalIdeal [hNormFinalIdeal : Cert.NormFinalIdeal.Facts] : Prop :=
  ∀ (m : (ℓ : Loc Cert.NormFinalIdeal.nD Cert.NormFinalIdeal.τ Cert.NormFinalIdeal.sig) → Buf (Elt Ideal) ℓ) (g : Dev Cert.NormFinalIdeal.nD → PrngReg), Pre_NormFinalIdeal m →
    θ_run (Cert.NormFinalIdeal.defs (F := Ideal)) (onTc (τ := Cert.NormFinalIdeal.τ) (Cert.NormFinalIdeal.main (F := Ideal))) ⟨m, fun _ => 0, g⟩ (fun r => (∀ c : Dev Cert.NormFinalIdeal.nD,
      r.2.mem ((c.tc : Thread Cert.NormFinalIdeal.nD Cert.NormFinalIdeal.τ).loc Cert.NormFinalIdeal.main_arg0) = m ((c.tc : Thread Cert.NormFinalIdeal.nD Cert.NormFinalIdeal.τ).loc Cert.NormFinalIdeal.main_arg0)
      ∧ r.2.mem ((c.tc : Thread Cert.NormFinalIdeal.nD Cert.NormFinalIdeal.τ).loc Cert.NormFinalIdeal.main_arg1) = m ((c.tc : Thread Cert.NormFinalIdeal.nD Cert.NormFinalIdeal.τ).loc Cert.NormFinalIdeal.main_arg1)
      ∧ r.2.mem ((c.tc : Thread Cert.NormFinalIdeal.nD Cert.NormFinalIdeal.τ).loc Cert.NormFinalIdeal.main_arg2) = m ((c.tc : Thread Cert.NormFinalIdeal.nD Cert.NormFinalIdeal.τ).loc Cert.NormFinalIdeal.main_arg2))
      ∧ r.2.sem = fun _ => 0)

def quiescent_NormFinalRefIdeal [hNormFinalRefIdeal : Cert.NormFinalRefIdeal.Facts] : Prop :=
  ∀ (m : (ℓ : Loc Cert.NormFinalRefIdeal.nD Cert.NormFinalRefIdeal.τ Cert.NormFinalRefIdeal.sig) → Buf (Elt Ideal) ℓ) (g : Dev Cert.NormFinalRefIdeal.nD → PrngReg), Pre_NormFinalRefIdeal m →
    θ_run (Cert.NormFinalRefIdeal.defs (F := Ideal)) (onTc (τ := Cert.NormFinalRefIdeal.τ) (Cert.NormFinalRefIdeal.main (F := Ideal))) ⟨m, fun _ => 0, g⟩ (fun r => (∀ c : Dev Cert.NormFinalRefIdeal.nD,
      r.2.mem ((c.tc : Thread Cert.NormFinalRefIdeal.nD Cert.NormFinalRefIdeal.τ).loc Cert.NormFinalRefIdeal.main_arg0) = m ((c.tc : Thread Cert.NormFinalRefIdeal.nD Cert.NormFinalRefIdeal.τ).loc Cert.NormFinalRefIdeal.main_arg0)
      ∧ r.2.mem ((c.tc : Thread Cert.NormFinalRefIdeal.nD Cert.NormFinalRefIdeal.τ).loc Cert.NormFinalRefIdeal.main_arg1) = m ((c.tc : Thread Cert.NormFinalRefIdeal.nD Cert.NormFinalRefIdeal.τ).loc Cert.NormFinalRefIdeal.main_arg1)
      ∧ r.2.mem ((c.tc : Thread Cert.NormFinalRefIdeal.nD Cert.NormFinalRefIdeal.τ).loc Cert.NormFinalRefIdeal.main_arg2) = m ((c.tc : Thread Cert.NormFinalRefIdeal.nD Cert.NormFinalRefIdeal.τ).loc Cert.NormFinalRefIdeal.main_arg2))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1)
      ∧ r.2.mem ((c.tc : Thread Cert.NormMix.nD Cert.NormMix.τ).loc Cert.NormMix.main_arg2) = m ((c.tc : Thread Cert.NormMix.nD Cert.NormMix.τ).loc Cert.NormMix.main_arg2))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2))
      ∧ r.2.sem = fun _ => 0)

def quiescent_NormFfn [hNormFfn : Cert.NormFfn.Facts] : Prop :=
  ∀ (m : (ℓ : Loc Cert.NormFfn.nD Cert.NormFfn.τ Cert.NormFfn.sig) → Buf (Elt Bits) ℓ) (g : Dev Cert.NormFfn.nD → PrngReg), Pre_NormFfn m →
    θ_run (Cert.NormFfn.defs (F := Bits)) (onTc (τ := Cert.NormFfn.τ) (Cert.NormFfn.main (F := Bits))) ⟨m, fun _ => 0, g⟩ (fun r => (∀ c : Dev Cert.NormFfn.nD,
      r.2.mem ((c.tc : Thread Cert.NormFfn.nD Cert.NormFfn.τ).loc Cert.NormFfn.main_arg0) = m ((c.tc : Thread Cert.NormFfn.nD Cert.NormFfn.τ).loc Cert.NormFfn.main_arg0)
      ∧ r.2.mem ((c.tc : Thread Cert.NormFfn.nD Cert.NormFfn.τ).loc Cert.NormFfn.main_arg1) = m ((c.tc : Thread Cert.NormFfn.nD Cert.NormFfn.τ).loc Cert.NormFfn.main_arg1))
      ∧ r.2.sem = fun _ => 0)

def quiescent_NormFfnIdeal [hNormFfnIdeal : Cert.NormFfnIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1))
      ∧ r.2.sem = fun _ => 0)

def quiescent_NormFfnRefIdeal [hNormFfnRefIdeal : Cert.NormFfnRefIdeal.Facts] : Prop :=
  ∀ (m : (ℓ : Loc Cert.NormFfnRefIdeal.nD Cert.NormFfnRefIdeal.τ Cert.NormFfnRefIdeal.sig) → Buf (Elt Ideal) ℓ) (g : Dev Cert.NormFfnRefIdeal.nD → PrngReg), Pre_NormFfnRefIdeal m →
    θ_run (Cert.NormFfnRefIdeal.defs (F := Ideal)) (onTc (τ := Cert.NormFfnRefIdeal.τ) (Cert.NormFfnRefIdeal.main (F := Ideal))) ⟨m, fun _ => 0, g⟩ (fun r => (∀ c : Dev Cert.NormFfnRefIdeal.nD,
      r.2.mem ((c.tc : Thread Cert.NormFfnRefIdeal.nD Cert.NormFfnRefIdeal.τ).loc Cert.NormFfnRefIdeal.main_arg0) = m ((c.tc : Thread Cert.NormFfnRefIdeal.nD Cert.NormFfnRefIdeal.τ).loc Cert.NormFfnRefIdeal.main_arg0)
      ∧ r.2.mem ((c.tc : Thread Cert.NormFfnRefIdeal.nD Cert.NormFfnRefIdeal.τ).loc Cert.NormFfnRefIdeal.main_arg1) = m ((c.tc : Thread Cert.NormFfnRefIdeal.nD Cert.NormFfnRefIdeal.τ).loc Cert.NormFfnRefIdeal.main_arg1))
      ∧ r.2.sem = fun _ => 0)

def quiescent_InLora [hInLora : Cert.InLora.Facts] : Prop :=
  ∀ (m : (ℓ : Loc Cert.InLora.nD Cert.InLora.τ Cert.InLora.sig) → Buf (Elt Bits) ℓ) (g : Dev Cert.InLora.nD → PrngReg), Pre_InLora m →
    θ_run (Cert.InLora.defs (F := Bits)) (onTc (τ := Cert.InLora.τ) (Cert.InLora.main (F := Bits))) ⟨m, fun _ => 0, g⟩ (fun r => (∀ c : Dev Cert.InLora.nD,
      r.2.mem ((c.tc : Thread Cert.InLora.nD Cert.InLora.τ).loc Cert.InLora.main_arg0) = m ((c.tc : Thread Cert.InLora.nD Cert.InLora.τ).loc Cert.InLora.main_arg0)
      ∧ r.2.mem ((c.tc : Thread Cert.InLora.nD Cert.InLora.τ).loc Cert.InLora.main_arg1) = m ((c.tc : Thread Cert.InLora.nD Cert.InLora.τ).loc Cert.InLora.main_arg1))
      ∧ r.2.sem = fun _ => 0)

def quiescent_InLoraIdeal [hInLoraIdeal : Cert.InLoraIdeal.Facts] : Prop :=
  ∀ (m : (ℓ : Loc Cert.InLoraIdeal.nD Cert.InLoraIdeal.τ Cert.InLoraIdeal.sig) → Buf (Elt Ideal) ℓ) (g : Dev Cert.InLoraIdeal.nD → PrngReg), Pre_InLoraIdeal m →
    θ_run (Cert.InLoraIdeal.defs (F := Ideal)) (onTc (τ := Cert.InLoraIdeal.τ) (Cert.InLoraIdeal.main (F := Ideal))) ⟨m, fun _ => 0, g⟩ (fun r => (∀ c : Dev Cert.InLoraIdeal.nD,
      r.2.mem ((c.tc : Thread Cert.InLoraIdeal.nD Cert.InLoraIdeal.τ).loc Cert.InLoraIdeal.main_arg0) = m ((c.tc : Thread Cert.InLoraIdeal.nD Cert.InLoraIdeal.τ).loc Cert.InLoraIdeal.main_arg0)
      ∧ r.2.mem ((c.tc : Thread Cert.InLoraIdeal.nD Cert.InLoraIdeal.τ).loc Cert.InLoraIdeal.main_arg1) = m ((c.tc : Thread Cert.InLoraIdeal.nD Cert.InLoraIdeal.τ).loc Cert.InLoraIdeal.main_arg1))
      ∧ r.2.sem = fun _ => 0)

def quiescent_InLoraRefIdeal [hInLoraRefIdeal : Cert.InLoraRefIdeal.Facts] : Prop :=
  ∀ (m : (ℓ : Loc Cert.InLoraRefIdeal.nD Cert.InLoraRefIdeal.τ Cert.InLoraRefIdeal.sig) → Buf (Elt Ideal) ℓ) (g : Dev Cert.InLoraRefIdeal.nD → PrngReg), Pre_InLoraRefIdeal m →
    θ_run (Cert.InLoraRefIdeal.defs (F := Ideal)) (onTc (τ := Cert.InLoraRefIdeal.τ) (Cert.InLoraRefIdeal.main (F := Ideal))) ⟨m, fun _ => 0, g⟩ (fun r => (∀ c : Dev Cert.InLoraRefIdeal.nD,
      r.2.mem ((c.tc : Thread Cert.InLoraRefIdeal.nD Cert.InLoraRefIdeal.τ).loc Cert.InLoraRefIdeal.main_arg0) = m ((c.tc : Thread Cert.InLoraRefIdeal.nD Cert.InLoraRefIdeal.τ).loc Cert.InLoraRefIdeal.main_arg0)
      ∧ r.2.mem ((c.tc : Thread Cert.InLoraRefIdeal.nD Cert.InLoraRefIdeal.τ).loc Cert.InLoraRefIdeal.main_arg1) = m ((c.tc : Thread Cert.InLoraRefIdeal.nD Cert.InLoraRefIdeal.τ).loc Cert.InLoraRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1)
      ∧ r.2.mem ((c.tc : Thread Cert.GdnOutRefIdeal.nD Cert.GdnOutRefIdeal.τ).loc Cert.GdnOutRefIdeal.main_arg2) = m ((c.tc : Thread Cert.GdnOutRefIdeal.nD Cert.GdnOutRefIdeal.τ).loc Cert.GdnOutRefIdeal.main_arg2))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1)
      ∧ r.2.mem ((c.tc : Thread Cert.Shift.nD Cert.Shift.τ).loc Cert.Shift.main_arg2) = m ((c.tc : Thread Cert.Shift.nD Cert.Shift.τ).loc Cert.Shift.main_arg2))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2))
      ∧ r.2.sem = fun _ => 0)

def quiescent_ShiftRefIdeal [hShiftRefIdeal : Cert.ShiftRefIdeal.Facts] : Prop :=
  ∀ (m : (ℓ : Loc Cert.ShiftRefIdeal.nD Cert.ShiftRefIdeal.τ Cert.ShiftRefIdeal.sig) → Buf (Elt Ideal) ℓ) (g : Dev Cert.ShiftRefIdeal.nD → PrngReg), Pre_ShiftRefIdeal m →
    θ_run (Cert.ShiftRefIdeal.defs (F := Ideal)) (onTc (τ := Cert.ShiftRefIdeal.τ) (Cert.ShiftRefIdeal.main (F := Ideal))) ⟨m, fun _ => 0, g⟩ (fun r => (∀ c : Dev Cert.ShiftRefIdeal.nD,
      r.2.mem ((c.tc : Thread Cert.ShiftRefIdeal.nD Cert.ShiftRefIdeal.τ).loc Cert.ShiftRefIdeal.main_arg0) = m ((c.tc : Thread Cert.ShiftRefIdeal.nD Cert.ShiftRefIdeal.τ).loc Cert.ShiftRefIdeal.main_arg0)
      ∧ r.2.mem ((c.tc : Thread Cert.ShiftRefIdeal.nD Cert.ShiftRefIdeal.τ).loc Cert.ShiftRefIdeal.main_arg1) = m ((c.tc : Thread Cert.ShiftRefIdeal.nD Cert.ShiftRefIdeal.τ).loc Cert.ShiftRefIdeal.main_arg1)
      ∧ r.2.mem ((c.tc : Thread Cert.ShiftRefIdeal.nD Cert.ShiftRefIdeal.τ).loc Cert.ShiftRefIdeal.main_arg2) = m ((c.tc : Thread Cert.ShiftRefIdeal.nD Cert.ShiftRefIdeal.τ).loc Cert.ShiftRefIdeal.main_arg2))
      ∧ r.2.sem = fun _ => 0)

def quiescent_ShiftLora [hShiftLora : Cert.ShiftLora.Facts] : Prop :=
  ∀ (m : (ℓ : Loc Cert.ShiftLora.nD Cert.ShiftLora.τ Cert.ShiftLora.sig) → Buf (Elt Bits) ℓ) (g : Dev Cert.ShiftLora.nD → PrngReg), Pre_ShiftLora m →
    θ_run (Cert.ShiftLora.defs (F := Bits)) (onTc (τ := Cert.ShiftLora.τ) (Cert.ShiftLora.main (F := Bits))) ⟨m, fun _ => 0, g⟩ (fun r => (∀ c : Dev Cert.ShiftLora.nD,
      r.2.mem ((c.tc : Thread Cert.ShiftLora.nD Cert.ShiftLora.τ).loc Cert.ShiftLora.main_arg0) = m ((c.tc : Thread Cert.ShiftLora.nD Cert.ShiftLora.τ).loc Cert.ShiftLora.main_arg0)
      ∧ r.2.mem ((c.tc : Thread Cert.ShiftLora.nD Cert.ShiftLora.τ).loc Cert.ShiftLora.main_arg1) = m ((c.tc : Thread Cert.ShiftLora.nD Cert.ShiftLora.τ).loc Cert.ShiftLora.main_arg1)
      ∧ r.2.mem ((c.tc : Thread Cert.ShiftLora.nD Cert.ShiftLora.τ).loc Cert.ShiftLora.main_arg2) = m ((c.tc : Thread Cert.ShiftLora.nD Cert.ShiftLora.τ).loc Cert.ShiftLora.main_arg2))
      ∧ r.2.sem = fun _ => 0)

def quiescent_ShiftLoraIdeal [hShiftLoraIdeal : Cert.ShiftLoraIdeal.Facts] : Prop :=
  ∀ (m : (ℓ : Loc Cert.ShiftLoraIdeal.nD Cert.ShiftLoraIdeal.τ Cert.ShiftLoraIdeal.sig) → Buf (Elt Ideal) ℓ) (g : Dev Cert.ShiftLoraIdeal.nD → PrngReg), Pre_ShiftLoraIdeal m →
    θ_run (Cert.ShiftLoraIdeal.defs (F := Ideal)) (onTc (τ := Cert.ShiftLoraIdeal.τ) (Cert.ShiftLoraIdeal.main (F := Ideal))) ⟨m, fun _ => 0, g⟩ (fun r => (∀ c : Dev Cert.ShiftLoraIdeal.nD,
      r.2.mem ((c.tc : Thread Cert.ShiftLoraIdeal.nD Cert.ShiftLoraIdeal.τ).loc Cert.ShiftLoraIdeal.main_arg0) = m ((c.tc : Thread Cert.ShiftLoraIdeal.nD Cert.ShiftLoraIdeal.τ).loc Cert.ShiftLoraIdeal.main_arg0)
      ∧ r.2.mem ((c.tc : Thread Cert.ShiftLoraIdeal.nD Cert.ShiftLoraIdeal.τ).loc Cert.ShiftLoraIdeal.main_arg1) = m ((c.tc : Thread Cert.ShiftLoraIdeal.nD Cert.ShiftLoraIdeal.τ).loc Cert.ShiftLoraIdeal.main_arg1)
      ∧ r.2.mem ((c.tc : Thread Cert.ShiftLoraIdeal.nD Cert.ShiftLoraIdeal.τ).loc Cert.ShiftLoraIdeal.main_arg2) = m ((c.tc : Thread Cert.ShiftLoraIdeal.nD Cert.ShiftLoraIdeal.τ).loc Cert.ShiftLoraIdeal.main_arg2))
      ∧ r.2.sem = fun _ => 0)

def quiescent_ShiftLoraRefIdeal [hShiftLoraRefIdeal : Cert.ShiftLoraRefIdeal.Facts] : Prop :=
  ∀ (m : (ℓ : Loc Cert.ShiftLoraRefIdeal.nD Cert.ShiftLoraRefIdeal.τ Cert.ShiftLoraRefIdeal.sig) → Buf (Elt Ideal) ℓ) (g : Dev Cert.ShiftLoraRefIdeal.nD → PrngReg), Pre_ShiftLoraRefIdeal m →
    θ_run (Cert.ShiftLoraRefIdeal.defs (F := Ideal)) (onTc (τ := Cert.ShiftLoraRefIdeal.τ) (Cert.ShiftLoraRefIdeal.main (F := Ideal))) ⟨m, fun _ => 0, g⟩ (fun r => (∀ c : Dev Cert.ShiftLoraRefIdeal.nD,
      r.2.mem ((c.tc : Thread Cert.ShiftLoraRefIdeal.nD Cert.ShiftLoraRefIdeal.τ).loc Cert.ShiftLoraRefIdeal.main_arg0) = m ((c.tc : Thread Cert.ShiftLoraRefIdeal.nD Cert.ShiftLoraRefIdeal.τ).loc Cert.ShiftLoraRefIdeal.main_arg0)
      ∧ r.2.mem ((c.tc : Thread Cert.ShiftLoraRefIdeal.nD Cert.ShiftLoraRefIdeal.τ).loc Cert.ShiftLoraRefIdeal.main_arg1) = m ((c.tc : Thread Cert.ShiftLoraRefIdeal.nD Cert.ShiftLoraRefIdeal.τ).loc Cert.ShiftLoraRefIdeal.main_arg1)
      ∧ r.2.mem ((c.tc : Thread Cert.ShiftLoraRefIdeal.nD Cert.ShiftLoraRefIdeal.τ).loc Cert.ShiftLoraRefIdeal.main_arg2) = m ((c.tc : Thread Cert.ShiftLoraRefIdeal.nD Cert.ShiftLoraRefIdeal.τ).loc Cert.ShiftLoraRefIdeal.main_arg2))
      ∧ r.2.sem = fun _ => 0)

def quiescent_RwkvOut [hRwkvOut : Cert.RwkvOut.Facts] : Prop :=
  ∀ (m : (ℓ : Loc Cert.RwkvOut.nD Cert.RwkvOut.τ Cert.RwkvOut.sig) → Buf (Elt Bits) ℓ) (g : Dev Cert.RwkvOut.nD → PrngReg), Pre_RwkvOut m →
    θ_run (Cert.RwkvOut.defs (F := Bits)) (onTc (τ := Cert.RwkvOut.τ) (Cert.RwkvOut.main (F := Bits))) ⟨m, fun _ => 0, g⟩ (fun r => (∀ c : Dev Cert.RwkvOut.nD,
      r.2.mem ((c.tc : Thread Cert.RwkvOut.nD Cert.RwkvOut.τ).loc Cert.RwkvOut.main_arg0) = m ((c.tc : Thread Cert.RwkvOut.nD Cert.RwkvOut.τ).loc Cert.RwkvOut.main_arg0)
      ∧ r.2.mem ((c.tc : Thread Cert.RwkvOut.nD Cert.RwkvOut.τ).loc Cert.RwkvOut.main_arg1) = m ((c.tc : Thread Cert.RwkvOut.nD Cert.RwkvOut.τ).loc Cert.RwkvOut.main_arg1)
      ∧ r.2.mem ((c.tc : Thread Cert.RwkvOut.nD Cert.RwkvOut.τ).loc Cert.RwkvOut.main_arg2) = m ((c.tc : Thread Cert.RwkvOut.nD Cert.RwkvOut.τ).loc Cert.RwkvOut.main_arg2)
      ∧ r.2.mem ((c.tc : Thread Cert.RwkvOut.nD Cert.RwkvOut.τ).loc Cert.RwkvOut.main_arg3) = m ((c.tc : Thread Cert.RwkvOut.nD Cert.RwkvOut.τ).loc Cert.RwkvOut.main_arg3)
      ∧ r.2.mem ((c.tc : Thread Cert.RwkvOut.nD Cert.RwkvOut.τ).loc Cert.RwkvOut.main_arg4) = m ((c.tc : Thread Cert.RwkvOut.nD Cert.RwkvOut.τ).loc Cert.RwkvOut.main_arg4))
      ∧ r.2.sem = fun _ => 0)

def quiescent_RwkvOutIdeal [hRwkvOutIdeal : Cert.RwkvOutIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg), Pre_RwkvOutIdeal m →
    θ_run (Cert.RwkvOutIdeal.defs (F := Ideal)) (onTc (τ := Cert.RwkvOutIdeal.τ) (Cert.RwkvOutIdeal.main (F := Ideal))) ⟨m, fun _ => 0, g⟩ (fun r => (∀ c : Dev Cert.RwkvOutIdeal.nD,
      r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
      ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
      ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
      ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3)
      ∧ r.2.mem ((c.tc : Thread Cert.RwkvOutIdeal.nD Cert.RwkvOutIdeal.τ).loc Cert.RwkvOutIdeal.main_arg4) = m ((c.tc : Thread Cert.RwkvOutIdeal.nD Cert.RwkvOutIdeal.τ).loc Cert.RwkvOutIdeal.main_arg4))
      ∧ r.2.sem = fun _ => 0)

def quiescent_RwkvOutIdeal_pre_heads_finite [hRwkvOutIdeal : Cert.RwkvOutIdeal.Facts] [hPre_heads_finite : Cert.Pre_heads_finite.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg), Pre_RwkvOutIdeal_heads_finite m →
    θ_run (Cert.RwkvOutIdeal.defs (F := Ideal)) (onTc (τ := Cert.RwkvOutIdeal.τ) (Cert.RwkvOutIdeal.main (F := Ideal))) ⟨m, fun _ => 0, g⟩ (fun r => (∀ c : Dev Cert.RwkvOutIdeal.nD,
      r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
      ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
      ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
      ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3)
      ∧ r.2.mem ((c.tc : Thread Cert.RwkvOutIdeal.nD Cert.RwkvOutIdeal.τ).loc Cert.RwkvOutIdeal.main_arg4) = m ((c.tc : Thread Cert.RwkvOutIdeal.nD Cert.RwkvOutIdeal.τ).loc Cert.RwkvOutIdeal.main_arg4))
      ∧ r.2.sem = fun _ => 0)

def quiescent_RwkvOutRefIdeal [hRwkvOutRefIdeal : Cert.RwkvOutRefIdeal.Facts] : Prop :=
  ∀ (m : (ℓ : Loc Cert.RwkvOutRefIdeal.nD Cert.RwkvOutRefIdeal.τ Cert.RwkvOutRefIdeal.sig) → Buf (Elt Ideal) ℓ) (g : Dev Cert.RwkvOutRefIdeal.nD → PrngReg), Pre_RwkvOutRefIdeal m →
    θ_run (Cert.RwkvOutRefIdeal.defs (F := Ideal)) (onTc (τ := Cert.RwkvOutRefIdeal.τ) (Cert.RwkvOutRefIdeal.main (F := Ideal))) ⟨m, fun _ => 0, g⟩ (fun r => (∀ c : Dev Cert.RwkvOutRefIdeal.nD,
      r.2.mem ((c.tc : Thread Cert.RwkvOutRefIdeal.nD Cert.RwkvOutRefIdeal.τ).loc Cert.RwkvOutRefIdeal.main_arg0) = m ((c.tc : Thread Cert.RwkvOutRefIdeal.nD Cert.RwkvOutRefIdeal.τ).loc Cert.RwkvOutRefIdeal.main_arg0)
      ∧ r.2.mem ((c.tc : Thread Cert.RwkvOutRefIdeal.nD Cert.RwkvOutRefIdeal.τ).loc Cert.RwkvOutRefIdeal.main_arg1) = m ((c.tc : Thread Cert.RwkvOutRefIdeal.nD Cert.RwkvOutRefIdeal.τ).loc Cert.RwkvOutRefIdeal.main_arg1)
      ∧ r.2.mem ((c.tc : Thread Cert.RwkvOutRefIdeal.nD Cert.RwkvOutRefIdeal.τ).loc Cert.RwkvOutRefIdeal.main_arg2) = m ((c.tc : Thread Cert.RwkvOutRefIdeal.nD Cert.RwkvOutRefIdeal.τ).loc Cert.RwkvOutRefIdeal.main_arg2)
      ∧ r.2.mem ((c.tc : Thread Cert.RwkvOutRefIdeal.nD Cert.RwkvOutRefIdeal.τ).loc Cert.RwkvOutRefIdeal.main_arg3) = m ((c.tc : Thread Cert.RwkvOutRefIdeal.nD Cert.RwkvOutRefIdeal.τ).loc Cert.RwkvOutRefIdeal.main_arg3)
      ∧ r.2.mem ((c.tc : Thread Cert.RwkvOutRefIdeal.nD Cert.RwkvOutRefIdeal.τ).loc Cert.RwkvOutRefIdeal.main_arg4) = m ((c.tc : Thread Cert.RwkvOutRefIdeal.nD Cert.RwkvOutRefIdeal.τ).loc Cert.RwkvOutRefIdeal.main_arg4))
      ∧ r.2.sem = fun _ => 0)

def quiescent_RwkvOutRefIdeal_pre_heads_finite [hRwkvOutRefIdeal : Cert.RwkvOutRefIdeal.Facts] [hPre_heads_finite : Cert.Pre_heads_finite.Facts] : Prop :=
  ∀ (m : (ℓ : Loc Cert.RwkvOutRefIdeal.nD Cert.RwkvOutRefIdeal.τ Cert.RwkvOutRefIdeal.sig) → Buf (Elt Ideal) ℓ) (g : Dev Cert.RwkvOutRefIdeal.nD → PrngReg), Pre_RwkvOutRefIdeal_heads_finite m →
    θ_run (Cert.RwkvOutRefIdeal.defs (F := Ideal)) (onTc (τ := Cert.RwkvOutRefIdeal.τ) (Cert.RwkvOutRefIdeal.main (F := Ideal))) ⟨m, fun _ => 0, g⟩ (fun r => (∀ c : Dev Cert.RwkvOutRefIdeal.nD,
      r.2.mem ((c.tc : Thread Cert.RwkvOutRefIdeal.nD Cert.RwkvOutRefIdeal.τ).loc Cert.RwkvOutRefIdeal.main_arg0) = m ((c.tc : Thread Cert.RwkvOutRefIdeal.nD Cert.RwkvOutRefIdeal.τ).loc Cert.RwkvOutRefIdeal.main_arg0)
      ∧ r.2.mem ((c.tc : Thread Cert.RwkvOutRefIdeal.nD Cert.RwkvOutRefIdeal.τ).loc Cert.RwkvOutRefIdeal.main_arg1) = m ((c.tc : Thread Cert.RwkvOutRefIdeal.nD Cert.RwkvOutRefIdeal.τ).loc Cert.RwkvOutRefIdeal.main_arg1)
      ∧ r.2.mem ((c.tc : Thread Cert.RwkvOutRefIdeal.nD Cert.RwkvOutRefIdeal.τ).loc Cert.RwkvOutRefIdeal.main_arg2) = m ((c.tc : Thread Cert.RwkvOutRefIdeal.nD Cert.RwkvOutRefIdeal.τ).loc Cert.RwkvOutRefIdeal.main_arg2)
      ∧ r.2.mem ((c.tc : Thread Cert.RwkvOutRefIdeal.nD Cert.RwkvOutRefIdeal.τ).loc Cert.RwkvOutRefIdeal.main_arg3) = m ((c.tc : Thread Cert.RwkvOutRefIdeal.nD Cert.RwkvOutRefIdeal.τ).loc Cert.RwkvOutRefIdeal.main_arg3)
      ∧ r.2.mem ((c.tc : Thread Cert.RwkvOutRefIdeal.nD Cert.RwkvOutRefIdeal.τ).loc Cert.RwkvOutRefIdeal.main_arg4) = m ((c.tc : Thread Cert.RwkvOutRefIdeal.nD Cert.RwkvOutRefIdeal.τ).loc Cert.RwkvOutRefIdeal.main_arg4))
      ∧ r.2.sem = fun _ => 0)

def quiescent_Cumulative [hCumulative : Cert.Cumulative.Facts] : Prop :=
  ∀ (m : (ℓ : Loc Cert.Cumulative.nD Cert.Cumulative.τ Cert.Cumulative.sig) → Buf (Elt Bits) ℓ) (g : Dev Cert.Cumulative.nD → PrngReg), Pre_Cumulative m →
    θ_run (Cert.Cumulative.defs (F := Bits)) (onTc (τ := Cert.Cumulative.τ) (Cert.Cumulative.main (F := Bits))) ⟨m, fun _ => 0, g⟩ (fun r => (∀ c : Dev Cert.Cumulative.nD,
      r.2.mem ((c.tc : Thread Cert.Cumulative.nD Cert.Cumulative.τ).loc Cert.Cumulative.main_arg0) = m ((c.tc : Thread Cert.Cumulative.nD Cert.Cumulative.τ).loc Cert.Cumulative.main_arg0))
      ∧ r.2.sem = fun _ => 0)

def quiescent_CumulativeIdeal [hCumulativeIdeal : Cert.CumulativeIdeal.Facts] : Prop :=
  ∀ (m : (ℓ : Loc Cert.CumulativeIdeal.nD Cert.CumulativeIdeal.τ Cert.CumulativeIdeal.sig) → Buf (Elt Ideal) ℓ) (g : Dev Cert.CumulativeIdeal.nD → PrngReg), Pre_CumulativeIdeal m →
    θ_run (Cert.CumulativeIdeal.defs (F := Ideal)) (onTc (τ := Cert.CumulativeIdeal.τ) (Cert.CumulativeIdeal.main (F := Ideal))) ⟨m, fun _ => 0, g⟩ (fun r => (∀ c : Dev Cert.CumulativeIdeal.nD,
      r.2.mem ((c.tc : Thread Cert.CumulativeIdeal.nD Cert.CumulativeIdeal.τ).loc Cert.CumulativeIdeal.main_arg0) = m ((c.tc : Thread Cert.CumulativeIdeal.nD Cert.CumulativeIdeal.τ).loc Cert.CumulativeIdeal.main_arg0))
      ∧ r.2.sem = fun _ => 0)

def quiescent_CumulativeIdeal_pre_gates_finite [hCumulativeIdeal : Cert.CumulativeIdeal.Facts] [hPre_gates_finite : Cert.Pre_gates_finite.Facts] : Prop :=
  ∀ (m : (ℓ : Loc Cert.CumulativeIdeal.nD Cert.CumulativeIdeal.τ Cert.CumulativeIdeal.sig) → Buf (Elt Ideal) ℓ) (g : Dev Cert.CumulativeIdeal.nD → PrngReg), Pre_CumulativeIdeal_gates_finite m →
    θ_run (Cert.CumulativeIdeal.defs (F := Ideal)) (onTc (τ := Cert.CumulativeIdeal.τ) (Cert.CumulativeIdeal.main (F := Ideal))) ⟨m, fun _ => 0, g⟩ (fun r => (∀ c : Dev Cert.CumulativeIdeal.nD,
      r.2.mem ((c.tc : Thread Cert.CumulativeIdeal.nD Cert.CumulativeIdeal.τ).loc Cert.CumulativeIdeal.main_arg0) = m ((c.tc : Thread Cert.CumulativeIdeal.nD Cert.CumulativeIdeal.τ).loc Cert.CumulativeIdeal.main_arg0))
      ∧ r.2.sem = fun _ => 0)

def quiescent_CumulativeRefIdeal [hCumulativeRefIdeal : Cert.CumulativeRefIdeal.Facts] : Prop :=
  ∀ (m : (ℓ : Loc Cert.CumulativeRefIdeal.nD Cert.CumulativeRefIdeal.τ Cert.CumulativeRefIdeal.sig) → Buf (Elt Ideal) ℓ) (g : Dev Cert.CumulativeRefIdeal.nD → PrngReg), Pre_CumulativeRefIdeal m →
    θ_run (Cert.CumulativeRefIdeal.defs (F := Ideal)) (onTc (τ := Cert.CumulativeRefIdeal.τ) (Cert.CumulativeRefIdeal.main (F := Ideal))) ⟨m, fun _ => 0, g⟩ (fun r => (∀ c : Dev Cert.CumulativeRefIdeal.nD,
      r.2.mem ((c.tc : Thread Cert.CumulativeRefIdeal.nD Cert.CumulativeRefIdeal.τ).loc Cert.CumulativeRefIdeal.main_arg0) = m ((c.tc : Thread Cert.CumulativeRefIdeal.nD Cert.CumulativeRefIdeal.τ).loc Cert.CumulativeRefIdeal.main_arg0))
      ∧ r.2.sem = fun _ => 0)

def quiescent_CumulativeRefIdeal_pre_gates_finite [hCumulativeRefIdeal : Cert.CumulativeRefIdeal.Facts] [hPre_gates_finite : Cert.Pre_gates_finite.Facts] : Prop :=
  ∀ (m : (ℓ : Loc Cert.CumulativeRefIdeal.nD Cert.CumulativeRefIdeal.τ Cert.CumulativeRefIdeal.sig) → Buf (Elt Ideal) ℓ) (g : Dev Cert.CumulativeRefIdeal.nD → PrngReg), Pre_CumulativeRefIdeal_gates_finite m →
    θ_run (Cert.CumulativeRefIdeal.defs (F := Ideal)) (onTc (τ := Cert.CumulativeRefIdeal.τ) (Cert.CumulativeRefIdeal.main (F := Ideal))) ⟨m, fun _ => 0, g⟩ (fun r => (∀ c : Dev Cert.CumulativeRefIdeal.nD,
      r.2.mem ((c.tc : Thread Cert.CumulativeRefIdeal.nD Cert.CumulativeRefIdeal.τ).loc Cert.CumulativeRefIdeal.main_arg0) = m ((c.tc : Thread Cert.CumulativeRefIdeal.nD Cert.CumulativeRefIdeal.τ).loc Cert.CumulativeRefIdeal.main_arg0))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ r.2.sem = fun _ => 0)

def quiescent_ScanIdeal_pre_chunks_finite [hScanIdeal : Cert.ScanIdeal.Facts] [hPre_chunks_finite : Cert.Pre_chunks_finite.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_chunks_finite m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4))
      ∧ r.2.sem = fun _ => 0)

def quiescent_ScanRefIdeal_pre_chunks_finite [hScanRefIdeal : Cert.ScanRefIdeal.Facts] [hPre_chunks_finite : Cert.Pre_chunks_finite.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_chunks_finite m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4))
      ∧ r.2.sem = fun _ => 0)

def quiescent_Carry [hCarry : Cert.Carry.Facts] : Prop :=
  ∀ (m : (ℓ : Loc Cert.Carry.nD Cert.Carry.τ Cert.Carry.sig) → Buf (Elt Bits) ℓ) (g : Dev Cert.Carry.nD → PrngReg), Pre_Carry m →
    θ_run (Cert.Carry.defs (F := Bits)) (onTc (τ := Cert.Carry.τ) (Cert.Carry.main (F := Bits))) ⟨m, fun _ => 0, g⟩ (fun r => (∀ c : Dev Cert.Carry.nD,
      r.2.mem ((c.tc : Thread Cert.Carry.nD Cert.Carry.τ).loc Cert.Carry.main_arg0) = m ((c.tc : Thread Cert.Carry.nD Cert.Carry.τ).loc Cert.Carry.main_arg0)
      ∧ r.2.mem ((c.tc : Thread Cert.Carry.nD Cert.Carry.τ).loc Cert.Carry.main_arg1) = m ((c.tc : Thread Cert.Carry.nD Cert.Carry.τ).loc Cert.Carry.main_arg1)
      ∧ r.2.mem ((c.tc : Thread Cert.Carry.nD Cert.Carry.τ).loc Cert.Carry.main_arg2) = m ((c.tc : Thread Cert.Carry.nD Cert.Carry.τ).loc Cert.Carry.main_arg2)
      ∧ r.2.mem ((c.tc : Thread Cert.Carry.nD Cert.Carry.τ).loc Cert.Carry.main_arg3) = m ((c.tc : Thread Cert.Carry.nD Cert.Carry.τ).loc Cert.Carry.main_arg3)
      ∧ r.2.mem ((c.tc : Thread Cert.Carry.nD Cert.Carry.τ).loc Cert.Carry.main_arg4) = m ((c.tc : Thread Cert.Carry.nD Cert.Carry.τ).loc Cert.Carry.main_arg4))
      ∧ r.2.sem = fun _ => 0)

def quiescent_CarryIdeal [hCarryIdeal : Cert.CarryIdeal.Facts] : Prop :=
  ∀ (m : (ℓ : Loc Cert.CarryIdeal.nD Cert.CarryIdeal.τ Cert.CarryIdeal.sig) → Buf (Elt Ideal) ℓ) (g : Dev Cert.CarryIdeal.nD → PrngReg), Pre_CarryIdeal m →
    θ_run (Cert.CarryIdeal.defs (F := Ideal)) (onTc (τ := Cert.CarryIdeal.τ) (Cert.CarryIdeal.main (F := Ideal))) ⟨m, fun _ => 0, g⟩ (fun r => (∀ c : Dev Cert.CarryIdeal.nD,
      r.2.mem ((c.tc : Thread Cert.CarryIdeal.nD Cert.CarryIdeal.τ).loc Cert.CarryIdeal.main_arg0) = m ((c.tc : Thread Cert.CarryIdeal.nD Cert.CarryIdeal.τ).loc Cert.CarryIdeal.main_arg0)
      ∧ r.2.mem ((c.tc : Thread Cert.CarryIdeal.nD Cert.CarryIdeal.τ).loc Cert.CarryIdeal.main_arg1) = m ((c.tc : Thread Cert.CarryIdeal.nD Cert.CarryIdeal.τ).loc Cert.CarryIdeal.main_arg1)
      ∧ r.2.mem ((c.tc : Thread Cert.CarryIdeal.nD Cert.CarryIdeal.τ).loc Cert.CarryIdeal.main_arg2) = m ((c.tc : Thread Cert.CarryIdeal.nD Cert.CarryIdeal.τ).loc Cert.CarryIdeal.main_arg2)
      ∧ r.2.mem ((c.tc : Thread Cert.CarryIdeal.nD Cert.CarryIdeal.τ).loc Cert.CarryIdeal.main_arg3) = m ((c.tc : Thread Cert.CarryIdeal.nD Cert.CarryIdeal.τ).loc Cert.CarryIdeal.main_arg3)
      ∧ r.2.mem ((c.tc : Thread Cert.CarryIdeal.nD Cert.CarryIdeal.τ).loc Cert.CarryIdeal.main_arg4) = m ((c.tc : Thread Cert.CarryIdeal.nD Cert.CarryIdeal.τ).loc Cert.CarryIdeal.main_arg4))
      ∧ r.2.sem = fun _ => 0)

def quiescent_CarryIdeal_pre_carried_finite [hCarryIdeal : Cert.CarryIdeal.Facts] [hPre_carried_finite : Cert.Pre_carried_finite.Facts] : Prop :=
  ∀ (m : (ℓ : Loc Cert.CarryIdeal.nD Cert.CarryIdeal.τ Cert.CarryIdeal.sig) → Buf (Elt Ideal) ℓ) (g : Dev Cert.CarryIdeal.nD → PrngReg), Pre_CarryIdeal_carried_finite m →
    θ_run (Cert.CarryIdeal.defs (F := Ideal)) (onTc (τ := Cert.CarryIdeal.τ) (Cert.CarryIdeal.main (F := Ideal))) ⟨m, fun _ => 0, g⟩ (fun r => (∀ c : Dev Cert.CarryIdeal.nD,
      r.2.mem ((c.tc : Thread Cert.CarryIdeal.nD Cert.CarryIdeal.τ).loc Cert.CarryIdeal.main_arg0) = m ((c.tc : Thread Cert.CarryIdeal.nD Cert.CarryIdeal.τ).loc Cert.CarryIdeal.main_arg0)
      ∧ r.2.mem ((c.tc : Thread Cert.CarryIdeal.nD Cert.CarryIdeal.τ).loc Cert.CarryIdeal.main_arg1) = m ((c.tc : Thread Cert.CarryIdeal.nD Cert.CarryIdeal.τ).loc Cert.CarryIdeal.main_arg1)
      ∧ r.2.mem ((c.tc : Thread Cert.CarryIdeal.nD Cert.CarryIdeal.τ).loc Cert.CarryIdeal.main_arg2) = m ((c.tc : Thread Cert.CarryIdeal.nD Cert.CarryIdeal.τ).loc Cert.CarryIdeal.main_arg2)
      ∧ r.2.mem ((c.tc : Thread Cert.CarryIdeal.nD Cert.CarryIdeal.τ).loc Cert.CarryIdeal.main_arg3) = m ((c.tc : Thread Cert.CarryIdeal.nD Cert.CarryIdeal.τ).loc Cert.CarryIdeal.main_arg3)
      ∧ r.2.mem ((c.tc : Thread Cert.CarryIdeal.nD Cert.CarryIdeal.τ).loc Cert.CarryIdeal.main_arg4) = m ((c.tc : Thread Cert.CarryIdeal.nD Cert.CarryIdeal.τ).loc Cert.CarryIdeal.main_arg4))
      ∧ r.2.sem = fun _ => 0)

def quiescent_CarryRefIdeal [hCarryRefIdeal : Cert.CarryRefIdeal.Facts] : Prop :=
  ∀ (m : (ℓ : Loc Cert.CarryRefIdeal.nD Cert.CarryRefIdeal.τ Cert.CarryRefIdeal.sig) → Buf (Elt Ideal) ℓ) (g : Dev Cert.CarryRefIdeal.nD → PrngReg), Pre_CarryRefIdeal m →
    θ_run (Cert.CarryRefIdeal.defs (F := Ideal)) (onTc (τ := Cert.CarryRefIdeal.τ) (Cert.CarryRefIdeal.main (F := Ideal))) ⟨m, fun _ => 0, g⟩ (fun r => (∀ c : Dev Cert.CarryRefIdeal.nD,
      r.2.mem ((c.tc : Thread Cert.CarryRefIdeal.nD Cert.CarryRefIdeal.τ).loc Cert.CarryRefIdeal.main_arg0) = m ((c.tc : Thread Cert.CarryRefIdeal.nD Cert.CarryRefIdeal.τ).loc Cert.CarryRefIdeal.main_arg0)
      ∧ r.2.mem ((c.tc : Thread Cert.CarryRefIdeal.nD Cert.CarryRefIdeal.τ).loc Cert.CarryRefIdeal.main_arg1) = m ((c.tc : Thread Cert.CarryRefIdeal.nD Cert.CarryRefIdeal.τ).loc Cert.CarryRefIdeal.main_arg1)
      ∧ r.2.mem ((c.tc : Thread Cert.CarryRefIdeal.nD Cert.CarryRefIdeal.τ).loc Cert.CarryRefIdeal.main_arg2) = m ((c.tc : Thread Cert.CarryRefIdeal.nD Cert.CarryRefIdeal.τ).loc Cert.CarryRefIdeal.main_arg2)
      ∧ r.2.mem ((c.tc : Thread Cert.CarryRefIdeal.nD Cert.CarryRefIdeal.τ).loc Cert.CarryRefIdeal.main_arg3) = m ((c.tc : Thread Cert.CarryRefIdeal.nD Cert.CarryRefIdeal.τ).loc Cert.CarryRefIdeal.main_arg3)
      ∧ r.2.mem ((c.tc : Thread Cert.CarryRefIdeal.nD Cert.CarryRefIdeal.τ).loc Cert.CarryRefIdeal.main_arg4) = m ((c.tc : Thread Cert.CarryRefIdeal.nD Cert.CarryRefIdeal.τ).loc Cert.CarryRefIdeal.main_arg4))
      ∧ r.2.sem = fun _ => 0)

def quiescent_CarryRefIdeal_pre_carried_finite [hCarryRefIdeal : Cert.CarryRefIdeal.Facts] [hPre_carried_finite : Cert.Pre_carried_finite.Facts] : Prop :=
  ∀ (m : (ℓ : Loc Cert.CarryRefIdeal.nD Cert.CarryRefIdeal.τ Cert.CarryRefIdeal.sig) → Buf (Elt Ideal) ℓ) (g : Dev Cert.CarryRefIdeal.nD → PrngReg), Pre_CarryRefIdeal_carried_finite m →
    θ_run (Cert.CarryRefIdeal.defs (F := Ideal)) (onTc (τ := Cert.CarryRefIdeal.τ) (Cert.CarryRefIdeal.main (F := Ideal))) ⟨m, fun _ => 0, g⟩ (fun r => (∀ c : Dev Cert.CarryRefIdeal.nD,
      r.2.mem ((c.tc : Thread Cert.CarryRefIdeal.nD Cert.CarryRefIdeal.τ).loc Cert.CarryRefIdeal.main_arg0) = m ((c.tc : Thread Cert.CarryRefIdeal.nD Cert.CarryRefIdeal.τ).loc Cert.CarryRefIdeal.main_arg0)
      ∧ r.2.mem ((c.tc : Thread Cert.CarryRefIdeal.nD Cert.CarryRefIdeal.τ).loc Cert.CarryRefIdeal.main_arg1) = m ((c.tc : Thread Cert.CarryRefIdeal.nD Cert.CarryRefIdeal.τ).loc Cert.CarryRefIdeal.main_arg1)
      ∧ r.2.mem ((c.tc : Thread Cert.CarryRefIdeal.nD Cert.CarryRefIdeal.τ).loc Cert.CarryRefIdeal.main_arg2) = m ((c.tc : Thread Cert.CarryRefIdeal.nD Cert.CarryRefIdeal.τ).loc Cert.CarryRefIdeal.main_arg2)
      ∧ r.2.mem ((c.tc : Thread Cert.CarryRefIdeal.nD Cert.CarryRefIdeal.τ).loc Cert.CarryRefIdeal.main_arg3) = m ((c.tc : Thread Cert.CarryRefIdeal.nD Cert.CarryRefIdeal.τ).loc Cert.CarryRefIdeal.main_arg3)
      ∧ r.2.mem ((c.tc : Thread Cert.CarryRefIdeal.nD Cert.CarryRefIdeal.τ).loc Cert.CarryRefIdeal.main_arg4) = m ((c.tc : Thread Cert.CarryRefIdeal.nD Cert.CarryRefIdeal.τ).loc Cert.CarryRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InGdn_InGdnIdeal : Prop :=
  True

def algebraic_InGdnIdeal_InGdnRefIdeal [hInGdnIdeal : Cert.InGdnIdeal.Facts] [hInGdnRefIdeal : Cert.InGdnRefIdeal.Facts] : Prop :=
  ∀ (m : (ℓ : Loc Cert.InGdnIdeal.nD Cert.InGdnIdeal.τ Cert.InGdnIdeal.sig) → Buf (Elt Ideal) ℓ) (g : Dev Cert.InGdnIdeal.nD → PrngReg)
    (m' : (ℓ : Loc Cert.InGdnRefIdeal.nD Cert.InGdnRefIdeal.τ Cert.InGdnRefIdeal.sig) → Buf (Elt Ideal) ℓ) (g' : Dev Cert.InGdnRefIdeal.nD → PrngReg), Pre_InGdnIdeal m →
    (∀ c : Dev Cert.InGdnIdeal.nD,
      m' ((c.tc : Thread Cert.InGdnRefIdeal.nD Cert.InGdnRefIdeal.τ).loc Cert.InGdnRefIdeal.main_arg0) = m ((c.tc : Thread Cert.InGdnIdeal.nD Cert.InGdnIdeal.τ).loc Cert.InGdnIdeal.main_arg0)
      ∧ m' ((c.tc : Thread Cert.InGdnRefIdeal.nD Cert.InGdnRefIdeal.τ).loc Cert.InGdnRefIdeal.main_arg1) = m ((c.tc : Thread Cert.InGdnIdeal.nD Cert.InGdnIdeal.τ).loc Cert.InGdnIdeal.main_arg1)) →
    ∃ (v0 : (c : Dev Cert.InGdnIdeal.nD) → Buf (Elt Ideal) ((c.tc : Thread Cert.InGdnIdeal.nD Cert.InGdnIdeal.τ).loc Cert.InGdnIdeal.main_v2)),
      θ_run (Cert.InGdnIdeal.defs (F := Ideal)) (onTc (τ := Cert.InGdnIdeal.τ) (Cert.InGdnIdeal.main (F := Ideal))) ⟨m, fun _ => 0, g⟩ (fun r => ∀ c : Dev Cert.InGdnIdeal.nD,
          r.2.mem ((c.tc : Thread Cert.InGdnIdeal.nD Cert.InGdnIdeal.τ).loc Cert.InGdnIdeal.main_v2) = v0 c
          ∧ r.2.mem ((c.tc : Thread Cert.InGdnIdeal.nD Cert.InGdnIdeal.τ).loc Cert.InGdnIdeal.main_arg0) = m ((c.tc : Thread Cert.InGdnIdeal.nD Cert.InGdnIdeal.τ).loc Cert.InGdnIdeal.main_arg0)
          ∧ r.2.mem ((c.tc : Thread Cert.InGdnIdeal.nD Cert.InGdnIdeal.τ).loc Cert.InGdnIdeal.main_arg1) = m ((c.tc : Thread Cert.InGdnIdeal.nD Cert.InGdnIdeal.τ).loc Cert.InGdnIdeal.main_arg1))
      ∧ θ_run (Cert.InGdnRefIdeal.defs (F := Ideal)) (onTc (τ := Cert.InGdnRefIdeal.τ) (Cert.InGdnRefIdeal.main (F := Ideal))) ⟨m', fun _ => 0, g'⟩ (fun r => ∀ c : Dev Cert.InGdnRefIdeal.nD,
          r.2.mem ((c.tc : Thread Cert.InGdnRefIdeal.nD Cert.InGdnRefIdeal.τ).loc Cert.InGdnRefIdeal.main_v2) = v0 c
          ∧ r.2.mem ((c.tc : Thread Cert.InGdnRefIdeal.nD Cert.InGdnRefIdeal.τ).loc Cert.InGdnRefIdeal.main_arg0) = m' ((c.tc : Thread Cert.InGdnRefIdeal.nD Cert.InGdnRefIdeal.τ).loc Cert.InGdnRefIdeal.main_arg0)
          ∧ r.2.mem ((c.tc : Thread Cert.InGdnRefIdeal.nD Cert.InGdnRefIdeal.τ).loc Cert.InGdnRefIdeal.main_arg1) = m' ((c.tc : Thread Cert.InGdnRefIdeal.nD Cert.InGdnRefIdeal.τ).loc Cert.InGdnRefIdeal.main_arg1))

def preserves_InFox_InFoxIdeal : Prop :=
  True

def algebraic_InFoxIdeal_InFoxRefIdeal [hInFoxIdeal : Cert.InFoxIdeal.Facts] [hInFoxRefIdeal : Cert.InFoxRefIdeal.Facts] : Prop :=
  ∀ (m : (ℓ : Loc Cert.InFoxIdeal.nD Cert.InFoxIdeal.τ Cert.InFoxIdeal.sig) → Buf (Elt Ideal) ℓ) (g : Dev Cert.InFoxIdeal.nD → PrngReg)
    (m' : (ℓ : Loc Cert.InFoxRefIdeal.nD Cert.InFoxRefIdeal.τ Cert.InFoxRefIdeal.sig) → Buf (Elt Ideal) ℓ) (g' : Dev Cert.InFoxRefIdeal.nD → PrngReg), Pre_InFoxIdeal m →
    (∀ c : Dev Cert.InFoxIdeal.nD,
      m' ((c.tc : Thread Cert.InFoxRefIdeal.nD Cert.InFoxRefIdeal.τ).loc Cert.InFoxRefIdeal.main_arg0) = m ((c.tc : Thread Cert.InFoxIdeal.nD Cert.InFoxIdeal.τ).loc Cert.InFoxIdeal.main_arg0)
      ∧ m' ((c.tc : Thread Cert.InFoxRefIdeal.nD Cert.InFoxRefIdeal.τ).loc Cert.InFoxRefIdeal.main_arg1) = m ((c.tc : Thread Cert.InFoxIdeal.nD Cert.InFoxIdeal.τ).loc Cert.InFoxIdeal.main_arg1)) →
    ∃ (v0 : (c : Dev Cert.InFoxIdeal.nD) → Buf (Elt Ideal) ((c.tc : Thread Cert.InFoxIdeal.nD Cert.InFoxIdeal.τ).loc Cert.InFoxIdeal.main_v2)),
      θ_run (Cert.InFoxIdeal.defs (F := Ideal)) (onTc (τ := Cert.InFoxIdeal.τ) (Cert.InFoxIdeal.main (F := Ideal))) ⟨m, fun _ => 0, g⟩ (fun r => ∀ c : Dev Cert.InFoxIdeal.nD,
          r.2.mem ((c.tc : Thread Cert.InFoxIdeal.nD Cert.InFoxIdeal.τ).loc Cert.InFoxIdeal.main_v2) = v0 c
          ∧ r.2.mem ((c.tc : Thread Cert.InFoxIdeal.nD Cert.InFoxIdeal.τ).loc Cert.InFoxIdeal.main_arg0) = m ((c.tc : Thread Cert.InFoxIdeal.nD Cert.InFoxIdeal.τ).loc Cert.InFoxIdeal.main_arg0)
          ∧ r.2.mem ((c.tc : Thread Cert.InFoxIdeal.nD Cert.InFoxIdeal.τ).loc Cert.InFoxIdeal.main_arg1) = m ((c.tc : Thread Cert.InFoxIdeal.nD Cert.InFoxIdeal.τ).loc Cert.InFoxIdeal.main_arg1))
      ∧ θ_run (Cert.InFoxRefIdeal.defs (F := Ideal)) (onTc (τ := Cert.InFoxRefIdeal.τ) (Cert.InFoxRefIdeal.main (F := Ideal))) ⟨m', fun _ => 0, g'⟩ (fun r => ∀ c : Dev Cert.InFoxRefIdeal.nD,
          r.2.mem ((c.tc : Thread Cert.InFoxRefIdeal.nD Cert.InFoxRefIdeal.τ).loc Cert.InFoxRefIdeal.main_v2) = v0 c
          ∧ r.2.mem ((c.tc : Thread Cert.InFoxRefIdeal.nD Cert.InFoxRefIdeal.τ).loc Cert.InFoxRefIdeal.main_arg0) = m' ((c.tc : Thread Cert.InFoxRefIdeal.nD Cert.InFoxRefIdeal.τ).loc Cert.InFoxRefIdeal.main_arg0)
          ∧ r.2.mem ((c.tc : Thread Cert.InFoxRefIdeal.nD Cert.InFoxRefIdeal.τ).loc Cert.InFoxRefIdeal.main_arg1) = m' ((c.tc : Thread Cert.InFoxRefIdeal.nD Cert.InFoxRefIdeal.τ).loc Cert.InFoxRefIdeal.main_arg1))

def preserves_InRwkv_InRwkvIdeal : Prop :=
  True

def algebraic_InRwkvIdeal_InRwkvRefIdeal [hInRwkvIdeal : Cert.InRwkvIdeal.Facts] [hInRwkvRefIdeal : Cert.InRwkvRefIdeal.Facts] : Prop :=
  ∀ (m : (ℓ : Loc Cert.InRwkvIdeal.nD Cert.InRwkvIdeal.τ Cert.InRwkvIdeal.sig) → Buf (Elt Ideal) ℓ) (g : Dev Cert.InRwkvIdeal.nD → PrngReg)
    (m' : (ℓ : Loc Cert.InRwkvRefIdeal.nD Cert.InRwkvRefIdeal.τ Cert.InRwkvRefIdeal.sig) → Buf (Elt Ideal) ℓ) (g' : Dev Cert.InRwkvRefIdeal.nD → PrngReg), Pre_InRwkvIdeal m →
    (∀ c : Dev Cert.InRwkvIdeal.nD,
      m' ((c.tc : Thread Cert.InRwkvRefIdeal.nD Cert.InRwkvRefIdeal.τ).loc Cert.InRwkvRefIdeal.main_arg0) = m ((c.tc : Thread Cert.InRwkvIdeal.nD Cert.InRwkvIdeal.τ).loc Cert.InRwkvIdeal.main_arg0)
      ∧ m' ((c.tc : Thread Cert.InRwkvRefIdeal.nD Cert.InRwkvRefIdeal.τ).loc Cert.InRwkvRefIdeal.main_arg1) = m ((c.tc : Thread Cert.InRwkvIdeal.nD Cert.InRwkvIdeal.τ).loc Cert.InRwkvIdeal.main_arg1)) →
    ∃ (v0 : (c : Dev Cert.InRwkvIdeal.nD) → Buf (Elt Ideal) ((c.tc : Thread Cert.InRwkvIdeal.nD Cert.InRwkvIdeal.τ).loc Cert.InRwkvIdeal.main_v2)),
      θ_run (Cert.InRwkvIdeal.defs (F := Ideal)) (onTc (τ := Cert.InRwkvIdeal.τ) (Cert.InRwkvIdeal.main (F := Ideal))) ⟨m, fun _ => 0, g⟩ (fun r => ∀ c : Dev Cert.InRwkvIdeal.nD,
          r.2.mem ((c.tc : Thread Cert.InRwkvIdeal.nD Cert.InRwkvIdeal.τ).loc Cert.InRwkvIdeal.main_v2) = v0 c
          ∧ r.2.mem ((c.tc : Thread Cert.InRwkvIdeal.nD Cert.InRwkvIdeal.τ).loc Cert.InRwkvIdeal.main_arg0) = m ((c.tc : Thread Cert.InRwkvIdeal.nD Cert.InRwkvIdeal.τ).loc Cert.InRwkvIdeal.main_arg0)
          ∧ r.2.mem ((c.tc : Thread Cert.InRwkvIdeal.nD Cert.InRwkvIdeal.τ).loc Cert.InRwkvIdeal.main_arg1) = m ((c.tc : Thread Cert.InRwkvIdeal.nD Cert.InRwkvIdeal.τ).loc Cert.InRwkvIdeal.main_arg1))
      ∧ θ_run (Cert.InRwkvRefIdeal.defs (F := Ideal)) (onTc (τ := Cert.InRwkvRefIdeal.τ) (Cert.InRwkvRefIdeal.main (F := Ideal))) ⟨m', fun _ => 0, g'⟩ (fun r => ∀ c : Dev Cert.InRwkvRefIdeal.nD,
          r.2.mem ((c.tc : Thread Cert.InRwkvRefIdeal.nD Cert.InRwkvRefIdeal.τ).loc Cert.InRwkvRefIdeal.main_v2) = v0 c
          ∧ r.2.mem ((c.tc : Thread Cert.InRwkvRefIdeal.nD Cert.InRwkvRefIdeal.τ).loc Cert.InRwkvRefIdeal.main_arg0) = m' ((c.tc : Thread Cert.InRwkvRefIdeal.nD Cert.InRwkvRefIdeal.τ).loc Cert.InRwkvRefIdeal.main_arg0)
          ∧ r.2.mem ((c.tc : Thread Cert.InRwkvRefIdeal.nD Cert.InRwkvRefIdeal.τ).loc Cert.InRwkvRefIdeal.main_arg1) = m' ((c.tc : Thread Cert.InRwkvRefIdeal.nD Cert.InRwkvRefIdeal.τ).loc Cert.InRwkvRefIdeal.main_arg1))

def preserves_InGates_InGatesIdeal : Prop :=
  True

def algebraic_InGatesIdeal_InGatesRefIdeal [hInGatesIdeal : Cert.InGatesIdeal.Facts] [hInGatesRefIdeal : Cert.InGatesRefIdeal.Facts] : Prop :=
  ∀ (m : (ℓ : Loc Cert.InGatesIdeal.nD Cert.InGatesIdeal.τ Cert.InGatesIdeal.sig) → Buf (Elt Ideal) ℓ) (g : Dev Cert.InGatesIdeal.nD → PrngReg)
    (m' : (ℓ : Loc Cert.InGatesRefIdeal.nD Cert.InGatesRefIdeal.τ Cert.InGatesRefIdeal.sig) → Buf (Elt Ideal) ℓ) (g' : Dev Cert.InGatesRefIdeal.nD → PrngReg), Pre_InGatesIdeal m →
    (∀ c : Dev Cert.InGatesIdeal.nD,
      m' ((c.tc : Thread Cert.InGatesRefIdeal.nD Cert.InGatesRefIdeal.τ).loc Cert.InGatesRefIdeal.main_arg0) = m ((c.tc : Thread Cert.InGatesIdeal.nD Cert.InGatesIdeal.τ).loc Cert.InGatesIdeal.main_arg0)
      ∧ m' ((c.tc : Thread Cert.InGatesRefIdeal.nD Cert.InGatesRefIdeal.τ).loc Cert.InGatesRefIdeal.main_arg1) = m ((c.tc : Thread Cert.InGatesIdeal.nD Cert.InGatesIdeal.τ).loc Cert.InGatesIdeal.main_arg1)) →
    ∃ (v0 : (c : Dev Cert.InGatesIdeal.nD) → Buf (Elt Ideal) ((c.tc : Thread Cert.InGatesIdeal.nD Cert.InGatesIdeal.τ).loc Cert.InGatesIdeal.main_v2)),
      θ_run (Cert.InGatesIdeal.defs (F := Ideal)) (onTc (τ := Cert.InGatesIdeal.τ) (Cert.InGatesIdeal.main (F := Ideal))) ⟨m, fun _ => 0, g⟩ (fun r => ∀ c : Dev Cert.InGatesIdeal.nD,
          r.2.mem ((c.tc : Thread Cert.InGatesIdeal.nD Cert.InGatesIdeal.τ).loc Cert.InGatesIdeal.main_v2) = v0 c
          ∧ r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
          ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ θ_run (Cert.InGatesRefIdeal.defs (F := Ideal)) (onTc (τ := Cert.InGatesRefIdeal.τ) (Cert.InGatesRefIdeal.main (F := Ideal))) ⟨m', fun _ => 0, g'⟩ (fun r => ∀ c : Dev Cert.InGatesRefIdeal.nD,
          r.2.mem ((c.tc : Thread Cert.InGatesRefIdeal.nD Cert.InGatesRefIdeal.τ).loc Cert.InGatesRefIdeal.main_v2) = v0 c
          ∧ r.2.mem ((c.tc : Thread Cert.InGatesRefIdeal.nD Cert.InGatesRefIdeal.τ).loc Cert.InGatesRefIdeal.main_arg0) = m' ((c.tc : Thread Cert.InGatesRefIdeal.nD Cert.InGatesRefIdeal.τ).loc Cert.InGatesRefIdeal.main_arg0)
          ∧ r.2.mem ((c.tc : Thread Cert.InGatesRefIdeal.nD Cert.InGatesRefIdeal.τ).loc Cert.InGatesRefIdeal.main_arg1) = m' ((c.tc : Thread Cert.InGatesRefIdeal.nD Cert.InGatesRefIdeal.τ).loc Cert.InGatesRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v3) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Forget_ForgetIdeal : Prop :=
  True

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)
      ∧ m' ((c.tc : Thread Cert.ForgetRefIdeal.nD Cert.ForgetRefIdeal.τ).loc Cert.ForgetRefIdeal.main_arg2) = m ((c.tc : Thread Cert.ForgetIdeal.nD Cert.ForgetIdeal.τ).loc Cert.ForgetIdeal.main_arg2)) →
    ∃ (v0 : (c : Dev Cert.ForgetIdeal.nD) → Buf (Elt Ideal) ((c.tc : Thread Cert.ForgetIdeal.nD Cert.ForgetIdeal.τ).loc Cert.ForgetIdeal.main_v6)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v6) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v8) = v0 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1)
          ∧ r.2.mem ((c.tc : Thread Cert.ForgetRefIdeal.nD Cert.ForgetRefIdeal.τ).loc Cert.ForgetRefIdeal.main_arg2) = m' ((c.tc : Thread Cert.ForgetRefIdeal.nD Cert.ForgetRefIdeal.τ).loc Cert.ForgetRefIdeal.main_arg2))

def preserves_NormFinal_NormFinalIdeal : Prop :=
  True

def algebraic_NormFinalIdeal_NormFinalRefIdeal [hNormFinalIdeal : Cert.NormFinalIdeal.Facts] [hNormFinalRefIdeal : Cert.NormFinalRefIdeal.Facts] : Prop :=
  ∀ (m : (ℓ : Loc Cert.NormFinalIdeal.nD Cert.NormFinalIdeal.τ Cert.NormFinalIdeal.sig) → Buf (Elt Ideal) ℓ) (g : Dev Cert.NormFinalIdeal.nD → PrngReg)
    (m' : (ℓ : Loc Cert.NormFinalRefIdeal.nD Cert.NormFinalRefIdeal.τ Cert.NormFinalRefIdeal.sig) → Buf (Elt Ideal) ℓ) (g' : Dev Cert.NormFinalRefIdeal.nD → PrngReg), Pre_NormFinalIdeal m →
    (∀ c : Dev Cert.NormFinalIdeal.nD,
      m' ((c.tc : Thread Cert.NormFinalRefIdeal.nD Cert.NormFinalRefIdeal.τ).loc Cert.NormFinalRefIdeal.main_arg0) = m ((c.tc : Thread Cert.NormFinalIdeal.nD Cert.NormFinalIdeal.τ).loc Cert.NormFinalIdeal.main_arg0)
      ∧ m' ((c.tc : Thread Cert.NormFinalRefIdeal.nD Cert.NormFinalRefIdeal.τ).loc Cert.NormFinalRefIdeal.main_arg1) = m ((c.tc : Thread Cert.NormFinalIdeal.nD Cert.NormFinalIdeal.τ).loc Cert.NormFinalIdeal.main_arg1)
      ∧ m' ((c.tc : Thread Cert.NormFinalRefIdeal.nD Cert.NormFinalRefIdeal.τ).loc Cert.NormFinalRefIdeal.main_arg2) = m ((c.tc : Thread Cert.NormFinalIdeal.nD Cert.NormFinalIdeal.τ).loc Cert.NormFinalIdeal.main_arg2)) →
    ∃ (v0 : (c : Dev Cert.NormFinalIdeal.nD) → Buf (Elt Ideal) ((c.tc : Thread Cert.NormFinalIdeal.nD Cert.NormFinalIdeal.τ).loc Cert.NormFinalIdeal.main_v1)),
      θ_run (Cert.NormFinalIdeal.defs (F := Ideal)) (onTc (τ := Cert.NormFinalIdeal.τ) (Cert.NormFinalIdeal.main (F := Ideal))) ⟨m, fun _ => 0, g⟩ (fun r => ∀ c : Dev Cert.NormFinalIdeal.nD,
          r.2.mem ((c.tc : Thread Cert.NormFinalIdeal.nD Cert.NormFinalIdeal.τ).loc Cert.NormFinalIdeal.main_v1) = v0 c
          ∧ r.2.mem ((c.tc : Thread Cert.NormFinalIdeal.nD Cert.NormFinalIdeal.τ).loc Cert.NormFinalIdeal.main_arg0) = m ((c.tc : Thread Cert.NormFinalIdeal.nD Cert.NormFinalIdeal.τ).loc Cert.NormFinalIdeal.main_arg0)
          ∧ r.2.mem ((c.tc : Thread Cert.NormFinalIdeal.nD Cert.NormFinalIdeal.τ).loc Cert.NormFinalIdeal.main_arg1) = m ((c.tc : Thread Cert.NormFinalIdeal.nD Cert.NormFinalIdeal.τ).loc Cert.NormFinalIdeal.main_arg1)
          ∧ r.2.mem ((c.tc : Thread Cert.NormFinalIdeal.nD Cert.NormFinalIdeal.τ).loc Cert.NormFinalIdeal.main_arg2) = m ((c.tc : Thread Cert.NormFinalIdeal.nD Cert.NormFinalIdeal.τ).loc Cert.NormFinalIdeal.main_arg2))
      ∧ θ_run (Cert.NormFinalRefIdeal.defs (F := Ideal)) (onTc (τ := Cert.NormFinalRefIdeal.τ) (Cert.NormFinalRefIdeal.main (F := Ideal))) ⟨m', fun _ => 0, g'⟩ (fun r => ∀ c : Dev Cert.NormFinalRefIdeal.nD,
          r.2.mem ((c.tc : Thread Cert.NormFinalRefIdeal.nD Cert.NormFinalRefIdeal.τ).loc Cert.NormFinalRefIdeal.main_v13) = v0 c
          ∧ r.2.mem ((c.tc : Thread Cert.NormFinalRefIdeal.nD Cert.NormFinalRefIdeal.τ).loc Cert.NormFinalRefIdeal.main_arg0) = m' ((c.tc : Thread Cert.NormFinalRefIdeal.nD Cert.NormFinalRefIdeal.τ).loc Cert.NormFinalRefIdeal.main_arg0)
          ∧ r.2.mem ((c.tc : Thread Cert.NormFinalRefIdeal.nD Cert.NormFinalRefIdeal.τ).loc Cert.NormFinalRefIdeal.main_arg1) = m' ((c.tc : Thread Cert.NormFinalRefIdeal.nD Cert.NormFinalRefIdeal.τ).loc Cert.NormFinalRefIdeal.main_arg1)
          ∧ r.2.mem ((c.tc : Thread Cert.NormFinalRefIdeal.nD Cert.NormFinalRefIdeal.τ).loc Cert.NormFinalRefIdeal.main_arg2) = m' ((c.tc : Thread Cert.NormFinalRefIdeal.nD Cert.NormFinalRefIdeal.τ).loc Cert.NormFinalRefIdeal.main_arg2))

def preserves_NormMix_NormMixIdeal : Prop :=
  True

def algebraic_NormMixIdeal_NormMixRefIdeal [hNormMixIdeal : Cert.NormMixIdeal.Facts] [hNormMixRefIdeal : Cert.NormMixRefIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)
      ∧ m' ((c.tc : Thread Cert.NormMixRefIdeal.nD Cert.NormMixRefIdeal.τ).loc Cert.NormMixRefIdeal.main_arg2) = m ((c.tc : Thread Cert.NormMixIdeal.nD Cert.NormMixIdeal.τ).loc Cert.NormMixIdeal.main_arg2)) →
    ∃ (v0 : (c : Dev Cert.NormMixIdeal.nD) → Buf (Elt Ideal) ((c.tc : Thread Cert.NormMixIdeal.nD Cert.NormMixIdeal.τ).loc Cert.NormMixIdeal.main_v1_0)) (v1 : (c : Dev Cert.NormMixIdeal.nD) → Buf (Elt Ideal) ((c.tc : Thread Cert.NormMixIdeal.nD Cert.NormMixIdeal.τ).loc Cert.NormMixIdeal.main_v1_1)) (v2 : (c : Dev Cert.NormMixIdeal.nD) → Buf (Elt Ideal) ((c.tc : Thread Cert.NormMixIdeal.nD Cert.NormMixIdeal.τ).loc Cert.NormMixIdeal.main_v1_2)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v1_0) = v0 c
          ∧ r.2.mem ((c.tc : Thread Cert.NormMixIdeal.nD Cert.NormMixIdeal.τ).loc Cert.NormMixIdeal.main_v1_1) = v1 c
          ∧ r.2.mem ((c.tc : Thread Cert.NormMixIdeal.nD Cert.NormMixIdeal.τ).loc Cert.NormMixIdeal.main_v1_2) = v2 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
          ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v0) = v0 c
          ∧ r.2.mem ((c.tc : Thread Cert.NormMixRefIdeal.nD Cert.NormMixRefIdeal.τ).loc Cert.NormMixRefIdeal.main_v14) = v1 c
          ∧ r.2.mem ((c.tc : Thread Cert.NormMixRefIdeal.nD Cert.NormMixRefIdeal.τ).loc Cert.NormMixRefIdeal.main_v15) = v2 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1)
          ∧ r.2.mem ((c.tc : Thread Cert.NormMixRefIdeal.nD Cert.NormMixRefIdeal.τ).loc Cert.NormMixRefIdeal.main_arg2) = m' ((c.tc : Thread Cert.NormMixRefIdeal.nD Cert.NormMixRefIdeal.τ).loc Cert.NormMixRefIdeal.main_arg2))

def preserves_NormFfn_NormFfnIdeal : Prop :=
  True

def algebraic_NormFfnIdeal_NormFfnRefIdeal [hNormFfnIdeal : Cert.NormFfnIdeal.Facts] [hNormFfnRefIdeal : Cert.NormFfnRefIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg)
    (m' : (ℓ : Loc Cert.NormFfnRefIdeal.nD Cert.NormFfnRefIdeal.τ Cert.NormFfnRefIdeal.sig) → Buf (Elt Ideal) ℓ) (g' : Dev Cert.NormFfnRefIdeal.nD → PrngReg), Pre_NormFfnIdeal m →
    (∀ c : Dev Cert.NormFfnIdeal.nD,
      m' ((c.tc : Thread Cert.NormFfnRefIdeal.nD Cert.NormFfnRefIdeal.τ).loc Cert.NormFfnRefIdeal.main_arg0) = m ((c.tc : Thread Cert.NormFfnIdeal.nD Cert.NormFfnIdeal.τ).loc Cert.NormFfnIdeal.main_arg0)
      ∧ m' ((c.tc : Thread Cert.NormFfnRefIdeal.nD Cert.NormFfnRefIdeal.τ).loc Cert.NormFfnRefIdeal.main_arg1) = m ((c.tc : Thread Cert.NormFfnIdeal.nD Cert.NormFfnIdeal.τ).loc Cert.NormFfnIdeal.main_arg1)) →
    ∃ (v0 : (c : Dev Cert.NormFfnIdeal.nD) → Buf (Elt Ideal) ((c.tc : Thread Cert.NormFfnIdeal.nD Cert.NormFfnIdeal.τ).loc Cert.NormFfnIdeal.main_v1)),
      θ_run (Cert.NormFfnIdeal.defs (F := Ideal)) (onTc (τ := Cert.NormFfnIdeal.τ) (Cert.NormFfnIdeal.main (F := Ideal))) ⟨m, fun _ => 0, g⟩ (fun r => ∀ c : Dev Cert.NormFfnIdeal.nD,
          r.2.mem ((c.tc : Thread Cert.NormFfnIdeal.nD Cert.NormFfnIdeal.τ).loc Cert.NormFfnIdeal.main_v1) = v0 c
          ∧ r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
          ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1))
      ∧ θ_run (Cert.NormFfnRefIdeal.defs (F := Ideal)) (onTc (τ := Cert.NormFfnRefIdeal.τ) (Cert.NormFfnRefIdeal.main (F := Ideal))) ⟨m', fun _ => 0, g'⟩ (fun r => ∀ c : Dev Cert.NormFfnRefIdeal.nD,
          r.2.mem ((c.tc : Thread Cert.NormFfnRefIdeal.nD Cert.NormFfnRefIdeal.τ).loc Cert.NormFfnRefIdeal.main_v14) = v0 c
          ∧ r.2.mem ((c.tc : Thread Cert.NormFfnRefIdeal.nD Cert.NormFfnRefIdeal.τ).loc Cert.NormFfnRefIdeal.main_arg0) = m' ((c.tc : Thread Cert.NormFfnRefIdeal.nD Cert.NormFfnRefIdeal.τ).loc Cert.NormFfnRefIdeal.main_arg0)
          ∧ r.2.mem ((c.tc : Thread Cert.NormFfnRefIdeal.nD Cert.NormFfnRefIdeal.τ).loc Cert.NormFfnRefIdeal.main_arg1) = m' ((c.tc : Thread Cert.NormFfnRefIdeal.nD Cert.NormFfnRefIdeal.τ).loc Cert.NormFfnRefIdeal.main_arg1))

def preserves_InLora_InLoraIdeal : Prop :=
  True

def algebraic_InLoraIdeal_InLoraRefIdeal [hInLoraIdeal : Cert.InLoraIdeal.Facts] [hInLoraRefIdeal : Cert.InLoraRefIdeal.Facts] : Prop :=
  ∀ (m : (ℓ : Loc Cert.InLoraIdeal.nD Cert.InLoraIdeal.τ Cert.InLoraIdeal.sig) → Buf (Elt Ideal) ℓ) (g : Dev Cert.InLoraIdeal.nD → PrngReg)
    (m' : (ℓ : Loc Cert.InLoraRefIdeal.nD Cert.InLoraRefIdeal.τ Cert.InLoraRefIdeal.sig) → Buf (Elt Ideal) ℓ) (g' : Dev Cert.InLoraRefIdeal.nD → PrngReg), Pre_InLoraIdeal m →
    (∀ c : Dev Cert.InLoraIdeal.nD,
      m' ((c.tc : Thread Cert.InLoraRefIdeal.nD Cert.InLoraRefIdeal.τ).loc Cert.InLoraRefIdeal.main_arg0) = m ((c.tc : Thread Cert.InLoraIdeal.nD Cert.InLoraIdeal.τ).loc Cert.InLoraIdeal.main_arg0)
      ∧ m' ((c.tc : Thread Cert.InLoraRefIdeal.nD Cert.InLoraRefIdeal.τ).loc Cert.InLoraRefIdeal.main_arg1) = m ((c.tc : Thread Cert.InLoraIdeal.nD Cert.InLoraIdeal.τ).loc Cert.InLoraIdeal.main_arg1)) →
    ∃ (v0 : (c : Dev Cert.InLoraIdeal.nD) → Buf (Elt Ideal) ((c.tc : Thread Cert.InLoraIdeal.nD Cert.InLoraIdeal.τ).loc Cert.InLoraIdeal.main_v6)),
      θ_run (Cert.InLoraIdeal.defs (F := Ideal)) (onTc (τ := Cert.InLoraIdeal.τ) (Cert.InLoraIdeal.main (F := Ideal))) ⟨m, fun _ => 0, g⟩ (fun r => ∀ c : Dev Cert.InLoraIdeal.nD,
          r.2.mem ((c.tc : Thread Cert.InLoraIdeal.nD Cert.InLoraIdeal.τ).loc Cert.InLoraIdeal.main_v6) = v0 c
          ∧ r.2.mem ((c.tc : Thread Cert.InLoraIdeal.nD Cert.InLoraIdeal.τ).loc Cert.InLoraIdeal.main_arg0) = m ((c.tc : Thread Cert.InLoraIdeal.nD Cert.InLoraIdeal.τ).loc Cert.InLoraIdeal.main_arg0)
          ∧ r.2.mem ((c.tc : Thread Cert.InLoraIdeal.nD Cert.InLoraIdeal.τ).loc Cert.InLoraIdeal.main_arg1) = m ((c.tc : Thread Cert.InLoraIdeal.nD Cert.InLoraIdeal.τ).loc Cert.InLoraIdeal.main_arg1))
      ∧ θ_run (Cert.InLoraRefIdeal.defs (F := Ideal)) (onTc (τ := Cert.InLoraRefIdeal.τ) (Cert.InLoraRefIdeal.main (F := Ideal))) ⟨m', fun _ => 0, g'⟩ (fun r => ∀ c : Dev Cert.InLoraRefIdeal.nD,
          r.2.mem ((c.tc : Thread Cert.InLoraRefIdeal.nD Cert.InLoraRefIdeal.τ).loc Cert.InLoraRefIdeal.main_v6) = v0 c
          ∧ r.2.mem ((c.tc : Thread Cert.InLoraRefIdeal.nD Cert.InLoraRefIdeal.τ).loc Cert.InLoraRefIdeal.main_arg0) = m' ((c.tc : Thread Cert.InLoraRefIdeal.nD Cert.InLoraRefIdeal.τ).loc Cert.InLoraRefIdeal.main_arg0)
          ∧ r.2.mem ((c.tc : Thread Cert.InLoraRefIdeal.nD Cert.InLoraRefIdeal.τ).loc Cert.InLoraRefIdeal.main_arg1) = m' ((c.tc : Thread Cert.InLoraRefIdeal.nD Cert.InLoraRefIdeal.τ).loc Cert.InLoraRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v63) = v0 c
          ∧ r.2.mem ((c.tc : Thread Cert.ConvRefIdeal.nD Cert.ConvRefIdeal.τ).loc Cert.ConvRefIdeal.main_v64) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)
      ∧ m' ((c.tc : Thread Cert.GdnOutRefIdeal.nD Cert.GdnOutRefIdeal.τ).loc Cert.GdnOutRefIdeal.main_arg2) = m ((c.tc : Thread Cert.GdnOutIdeal.nD Cert.GdnOutIdeal.τ).loc Cert.GdnOutIdeal.main_arg2)) →
    ∃ (v0 : (c : Dev Cert.GdnOutIdeal.nD) → Buf (Elt Ideal) ((c.tc : Thread Cert.GdnOutIdeal.nD Cert.GdnOutIdeal.τ).loc Cert.GdnOutIdeal.main_v1)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v1) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v19) = v0 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1)
          ∧ r.2.mem ((c.tc : Thread Cert.GdnOutRefIdeal.nD Cert.GdnOutRefIdeal.τ).loc Cert.GdnOutRefIdeal.main_arg2) = m' ((c.tc : Thread Cert.GdnOutRefIdeal.nD Cert.GdnOutRefIdeal.τ).loc Cert.GdnOutRefIdeal.main_arg2))

def preserves_Shift_ShiftIdeal : Prop :=
  True

def algebraic_ShiftIdeal_ShiftRefIdeal [hShiftIdeal : Cert.ShiftIdeal.Facts] [hShiftRefIdeal : Cert.ShiftRefIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftRefIdeal.nD Cert.ShiftRefIdeal.τ Cert.ShiftRefIdeal.sig) → Buf (Elt Ideal) ℓ) (g' : Dev Cert.ShiftRefIdeal.nD → PrngReg), Pre_ShiftIdeal m →
    (∀ c : Dev Cert.ShiftIdeal.nD,
      m' ((c.tc : Thread Cert.ShiftRefIdeal.nD Cert.ShiftRefIdeal.τ).loc Cert.ShiftRefIdeal.main_arg0) = m ((c.tc : Thread Cert.ShiftIdeal.nD Cert.ShiftIdeal.τ).loc Cert.ShiftIdeal.main_arg0)
      ∧ m' ((c.tc : Thread Cert.ShiftRefIdeal.nD Cert.ShiftRefIdeal.τ).loc Cert.ShiftRefIdeal.main_arg1) = m ((c.tc : Thread Cert.ShiftIdeal.nD Cert.ShiftIdeal.τ).loc Cert.ShiftIdeal.main_arg1)
      ∧ m' ((c.tc : Thread Cert.ShiftRefIdeal.nD Cert.ShiftRefIdeal.τ).loc Cert.ShiftRefIdeal.main_arg2) = m ((c.tc : Thread Cert.ShiftIdeal.nD Cert.ShiftIdeal.τ).loc Cert.ShiftIdeal.main_arg2)) →
    ∃ (v0 : (c : Dev Cert.ShiftIdeal.nD) → Buf (Elt Ideal) ((c.tc : Thread Cert.ShiftIdeal.nD Cert.ShiftIdeal.τ).loc Cert.ShiftIdeal.main_v4_0)) (v1 : (c : Dev Cert.ShiftIdeal.nD) → Buf (Elt Ideal) ((c.tc : Thread Cert.ShiftIdeal.nD Cert.ShiftIdeal.τ).loc Cert.ShiftIdeal.main_v4_1)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v4_0) = v0 c
          ∧ r.2.mem ((c.tc : Thread Cert.ShiftIdeal.nD Cert.ShiftIdeal.τ).loc Cert.ShiftIdeal.main_v4_1) = v1 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
          ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2))
      ∧ θ_run (Cert.ShiftRefIdeal.defs (F := Ideal)) (onTc (τ := Cert.ShiftRefIdeal.τ) (Cert.ShiftRefIdeal.main (F := Ideal))) ⟨m', fun _ => 0, g'⟩ (fun r => ∀ c : Dev Cert.ShiftRefIdeal.nD,
          r.2.mem ((c.tc : Thread Cert.ShiftRefIdeal.nD Cert.ShiftRefIdeal.τ).loc Cert.ShiftRefIdeal.main_v12) = v0 c
          ∧ r.2.mem ((c.tc : Thread Cert.ShiftRefIdeal.nD Cert.ShiftRefIdeal.τ).loc Cert.ShiftRefIdeal.main_v13) = v1 c
          ∧ r.2.mem ((c.tc : Thread Cert.ShiftRefIdeal.nD Cert.ShiftRefIdeal.τ).loc Cert.ShiftRefIdeal.main_arg0) = m' ((c.tc : Thread Cert.ShiftRefIdeal.nD Cert.ShiftRefIdeal.τ).loc Cert.ShiftRefIdeal.main_arg0)
          ∧ r.2.mem ((c.tc : Thread Cert.ShiftRefIdeal.nD Cert.ShiftRefIdeal.τ).loc Cert.ShiftRefIdeal.main_arg1) = m' ((c.tc : Thread Cert.ShiftRefIdeal.nD Cert.ShiftRefIdeal.τ).loc Cert.ShiftRefIdeal.main_arg1)
          ∧ r.2.mem ((c.tc : Thread Cert.ShiftRefIdeal.nD Cert.ShiftRefIdeal.τ).loc Cert.ShiftRefIdeal.main_arg2) = m' ((c.tc : Thread Cert.ShiftRefIdeal.nD Cert.ShiftRefIdeal.τ).loc Cert.ShiftRefIdeal.main_arg2))

def preserves_ShiftLora_ShiftLoraIdeal : Prop :=
  True

def algebraic_ShiftLoraIdeal_ShiftLoraRefIdeal [hShiftLoraIdeal : Cert.ShiftLoraIdeal.Facts] [hShiftLoraRefIdeal : Cert.ShiftLoraRefIdeal.Facts] : Prop :=
  ∀ (m : (ℓ : Loc Cert.ShiftLoraIdeal.nD Cert.ShiftLoraIdeal.τ Cert.ShiftLoraIdeal.sig) → Buf (Elt Ideal) ℓ) (g : Dev Cert.ShiftLoraIdeal.nD → PrngReg)
    (m' : (ℓ : Loc Cert.ShiftLoraRefIdeal.nD Cert.ShiftLoraRefIdeal.τ Cert.ShiftLoraRefIdeal.sig) → Buf (Elt Ideal) ℓ) (g' : Dev Cert.ShiftLoraRefIdeal.nD → PrngReg), Pre_ShiftLoraIdeal m →
    (∀ c : Dev Cert.ShiftLoraIdeal.nD,
      m' ((c.tc : Thread Cert.ShiftLoraRefIdeal.nD Cert.ShiftLoraRefIdeal.τ).loc Cert.ShiftLoraRefIdeal.main_arg0) = m ((c.tc : Thread Cert.ShiftLoraIdeal.nD Cert.ShiftLoraIdeal.τ).loc Cert.ShiftLoraIdeal.main_arg0)
      ∧ m' ((c.tc : Thread Cert.ShiftLoraRefIdeal.nD Cert.ShiftLoraRefIdeal.τ).loc Cert.ShiftLoraRefIdeal.main_arg1) = m ((c.tc : Thread Cert.ShiftLoraIdeal.nD Cert.ShiftLoraIdeal.τ).loc Cert.ShiftLoraIdeal.main_arg1)
      ∧ m' ((c.tc : Thread Cert.ShiftLoraRefIdeal.nD Cert.ShiftLoraRefIdeal.τ).loc Cert.ShiftLoraRefIdeal.main_arg2) = m ((c.tc : Thread Cert.ShiftLoraIdeal.nD Cert.ShiftLoraIdeal.τ).loc Cert.ShiftLoraIdeal.main_arg2)) →
    ∃ (v0 : (c : Dev Cert.ShiftLoraIdeal.nD) → Buf (Elt Ideal) ((c.tc : Thread Cert.ShiftLoraIdeal.nD Cert.ShiftLoraIdeal.τ).loc Cert.ShiftLoraIdeal.main_v4_0)) (v1 : (c : Dev Cert.ShiftLoraIdeal.nD) → Buf (Elt Ideal) ((c.tc : Thread Cert.ShiftLoraIdeal.nD Cert.ShiftLoraIdeal.τ).loc Cert.ShiftLoraIdeal.main_v4_1)),
      θ_run (Cert.ShiftLoraIdeal.defs (F := Ideal)) (onTc (τ := Cert.ShiftLoraIdeal.τ) (Cert.ShiftLoraIdeal.main (F := Ideal))) ⟨m, fun _ => 0, g⟩ (fun r => ∀ c : Dev Cert.ShiftLoraIdeal.nD,
          r.2.mem ((c.tc : Thread Cert.ShiftLoraIdeal.nD Cert.ShiftLoraIdeal.τ).loc Cert.ShiftLoraIdeal.main_v4_0) = v0 c
          ∧ r.2.mem ((c.tc : Thread Cert.ShiftLoraIdeal.nD Cert.ShiftLoraIdeal.τ).loc Cert.ShiftLoraIdeal.main_v4_1) = v1 c
          ∧ r.2.mem ((c.tc : Thread Cert.ShiftLoraIdeal.nD Cert.ShiftLoraIdeal.τ).loc Cert.ShiftLoraIdeal.main_arg0) = m ((c.tc : Thread Cert.ShiftLoraIdeal.nD Cert.ShiftLoraIdeal.τ).loc Cert.ShiftLoraIdeal.main_arg0)
          ∧ r.2.mem ((c.tc : Thread Cert.ShiftLoraIdeal.nD Cert.ShiftLoraIdeal.τ).loc Cert.ShiftLoraIdeal.main_arg1) = m ((c.tc : Thread Cert.ShiftLoraIdeal.nD Cert.ShiftLoraIdeal.τ).loc Cert.ShiftLoraIdeal.main_arg1)
          ∧ r.2.mem ((c.tc : Thread Cert.ShiftLoraIdeal.nD Cert.ShiftLoraIdeal.τ).loc Cert.ShiftLoraIdeal.main_arg2) = m ((c.tc : Thread Cert.ShiftLoraIdeal.nD Cert.ShiftLoraIdeal.τ).loc Cert.ShiftLoraIdeal.main_arg2))
      ∧ θ_run (Cert.ShiftLoraRefIdeal.defs (F := Ideal)) (onTc (τ := Cert.ShiftLoraRefIdeal.τ) (Cert.ShiftLoraRefIdeal.main (F := Ideal))) ⟨m', fun _ => 0, g'⟩ (fun r => ∀ c : Dev Cert.ShiftLoraRefIdeal.nD,
          r.2.mem ((c.tc : Thread Cert.ShiftLoraRefIdeal.nD Cert.ShiftLoraRefIdeal.τ).loc Cert.ShiftLoraRefIdeal.main_v12) = v0 c
          ∧ r.2.mem ((c.tc : Thread Cert.ShiftLoraRefIdeal.nD Cert.ShiftLoraRefIdeal.τ).loc Cert.ShiftLoraRefIdeal.main_v13) = v1 c
          ∧ r.2.mem ((c.tc : Thread Cert.ShiftLoraRefIdeal.nD Cert.ShiftLoraRefIdeal.τ).loc Cert.ShiftLoraRefIdeal.main_arg0) = m' ((c.tc : Thread Cert.ShiftLoraRefIdeal.nD Cert.ShiftLoraRefIdeal.τ).loc Cert.ShiftLoraRefIdeal.main_arg0)
          ∧ r.2.mem ((c.tc : Thread Cert.ShiftLoraRefIdeal.nD Cert.ShiftLoraRefIdeal.τ).loc Cert.ShiftLoraRefIdeal.main_arg1) = m' ((c.tc : Thread Cert.ShiftLoraRefIdeal.nD Cert.ShiftLoraRefIdeal.τ).loc Cert.ShiftLoraRefIdeal.main_arg1)
          ∧ r.2.mem ((c.tc : Thread Cert.ShiftLoraRefIdeal.nD Cert.ShiftLoraRefIdeal.τ).loc Cert.ShiftLoraRefIdeal.main_arg2) = m' ((c.tc : Thread Cert.ShiftLoraRefIdeal.nD Cert.ShiftLoraRefIdeal.τ).loc Cert.ShiftLoraRefIdeal.main_arg2))

def preserves_RwkvOut_RwkvOutIdeal : Prop :=
  True

def algebraic_RwkvOutIdeal_RwkvOutRefIdeal_pre_heads_finite [hRwkvOutIdeal : Cert.RwkvOutIdeal.Facts] [hRwkvOutRefIdeal : Cert.RwkvOutRefIdeal.Facts] [hPre_heads_finite : Cert.Pre_heads_finite.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg)
    (m' : (ℓ : Loc Cert.RwkvOutRefIdeal.nD Cert.RwkvOutRefIdeal.τ Cert.RwkvOutRefIdeal.sig) → Buf (Elt Ideal) ℓ) (g' : Dev Cert.RwkvOutRefIdeal.nD → PrngReg), Pre_RwkvOutIdeal_heads_finite m →
    (∀ c : Dev Cert.RwkvOutIdeal.nD,
      m' ((c.tc : Thread Cert.RwkvOutRefIdeal.nD Cert.RwkvOutRefIdeal.τ).loc Cert.RwkvOutRefIdeal.main_arg0) = m ((c.tc : Thread Cert.RwkvOutIdeal.nD Cert.RwkvOutIdeal.τ).loc Cert.RwkvOutIdeal.main_arg0)
      ∧ m' ((c.tc : Thread Cert.RwkvOutRefIdeal.nD Cert.RwkvOutRefIdeal.τ).loc Cert.RwkvOutRefIdeal.main_arg1) = m ((c.tc : Thread Cert.RwkvOutIdeal.nD Cert.RwkvOutIdeal.τ).loc Cert.RwkvOutIdeal.main_arg1)
      ∧ m' ((c.tc : Thread Cert.RwkvOutRefIdeal.nD Cert.RwkvOutRefIdeal.τ).loc Cert.RwkvOutRefIdeal.main_arg2) = m ((c.tc : Thread Cert.RwkvOutIdeal.nD Cert.RwkvOutIdeal.τ).loc Cert.RwkvOutIdeal.main_arg2)
      ∧ m' ((c.tc : Thread Cert.RwkvOutRefIdeal.nD Cert.RwkvOutRefIdeal.τ).loc Cert.RwkvOutRefIdeal.main_arg3) = m ((c.tc : Thread Cert.RwkvOutIdeal.nD Cert.RwkvOutIdeal.τ).loc Cert.RwkvOutIdeal.main_arg3)
      ∧ m' ((c.tc : Thread Cert.RwkvOutRefIdeal.nD Cert.RwkvOutRefIdeal.τ).loc Cert.RwkvOutRefIdeal.main_arg4) = m ((c.tc : Thread Cert.RwkvOutIdeal.nD Cert.RwkvOutIdeal.τ).loc Cert.RwkvOutIdeal.main_arg4)) →
    ∃ (v0 : (c : Dev Cert.RwkvOutIdeal.nD) → Buf (Elt Ideal) ((c.tc : Thread Cert.RwkvOutIdeal.nD Cert.RwkvOutIdeal.τ).loc Cert.RwkvOutIdeal.main_v2)),
      θ_run (Cert.RwkvOutIdeal.defs (F := Ideal)) (onTc (τ := Cert.RwkvOutIdeal.τ) (Cert.RwkvOutIdeal.main (F := Ideal))) ⟨m, fun _ => 0, g⟩ (fun r => ∀ c : Dev Cert.RwkvOutIdeal.nD,
          r.2.mem ((c.tc : Thread Cert.RwkvOutIdeal.nD Cert.RwkvOutIdeal.τ).loc Cert.RwkvOutIdeal.main_v2) = v0 c
          ∧ r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
          ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
          ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
          ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3)
          ∧ r.2.mem ((c.tc : Thread Cert.RwkvOutIdeal.nD Cert.RwkvOutIdeal.τ).loc Cert.RwkvOutIdeal.main_arg4) = m ((c.tc : Thread Cert.RwkvOutIdeal.nD Cert.RwkvOutIdeal.τ).loc Cert.RwkvOutIdeal.main_arg4))
      ∧ θ_run (Cert.RwkvOutRefIdeal.defs (F := Ideal)) (onTc (τ := Cert.RwkvOutRefIdeal.τ) (Cert.RwkvOutRefIdeal.main (F := Ideal))) ⟨m', fun _ => 0, g'⟩ (fun r => ∀ c : Dev Cert.RwkvOutRefIdeal.nD,
          r.2.mem ((c.tc : Thread Cert.RwkvOutRefIdeal.nD Cert.RwkvOutRefIdeal.τ).loc Cert.RwkvOutRefIdeal.main_v30) = v0 c
          ∧ r.2.mem ((c.tc : Thread Cert.RwkvOutRefIdeal.nD Cert.RwkvOutRefIdeal.τ).loc Cert.RwkvOutRefIdeal.main_arg0) = m' ((c.tc : Thread Cert.RwkvOutRefIdeal.nD Cert.RwkvOutRefIdeal.τ).loc Cert.RwkvOutRefIdeal.main_arg0)
          ∧ r.2.mem ((c.tc : Thread Cert.RwkvOutRefIdeal.nD Cert.RwkvOutRefIdeal.τ).loc Cert.RwkvOutRefIdeal.main_arg1) = m' ((c.tc : Thread Cert.RwkvOutRefIdeal.nD Cert.RwkvOutRefIdeal.τ).loc Cert.RwkvOutRefIdeal.main_arg1)
          ∧ r.2.mem ((c.tc : Thread Cert.RwkvOutRefIdeal.nD Cert.RwkvOutRefIdeal.τ).loc Cert.RwkvOutRefIdeal.main_arg2) = m' ((c.tc : Thread Cert.RwkvOutRefIdeal.nD Cert.RwkvOutRefIdeal.τ).loc Cert.RwkvOutRefIdeal.main_arg2)
          ∧ r.2.mem ((c.tc : Thread Cert.RwkvOutRefIdeal.nD Cert.RwkvOutRefIdeal.τ).loc Cert.RwkvOutRefIdeal.main_arg3) = m' ((c.tc : Thread Cert.RwkvOutRefIdeal.nD Cert.RwkvOutRefIdeal.τ).loc Cert.RwkvOutRefIdeal.main_arg3)
          ∧ r.2.mem ((c.tc : Thread Cert.RwkvOutRefIdeal.nD Cert.RwkvOutRefIdeal.τ).loc Cert.RwkvOutRefIdeal.main_arg4) = m' ((c.tc : Thread Cert.RwkvOutRefIdeal.nD Cert.RwkvOutRefIdeal.τ).loc Cert.RwkvOutRefIdeal.main_arg4))

def preserves_Cumulative_CumulativeIdeal : Prop :=
  True

def algebraic_CumulativeIdeal_CumulativeRefIdeal_pre_gates_finite [hCumulativeIdeal : Cert.CumulativeIdeal.Facts] [hCumulativeRefIdeal : Cert.CumulativeRefIdeal.Facts] [hPre_gates_finite : Cert.Pre_gates_finite.Facts] : Prop :=
  ∀ (m : (ℓ : Loc Cert.CumulativeIdeal.nD Cert.CumulativeIdeal.τ Cert.CumulativeIdeal.sig) → Buf (Elt Ideal) ℓ) (g : Dev Cert.CumulativeIdeal.nD → PrngReg)
    (m' : (ℓ : Loc Cert.CumulativeRefIdeal.nD Cert.CumulativeRefIdeal.τ Cert.CumulativeRefIdeal.sig) → Buf (Elt Ideal) ℓ) (g' : Dev Cert.CumulativeRefIdeal.nD → PrngReg), Pre_CumulativeIdeal_gates_finite m →
    (∀ c : Dev Cert.CumulativeIdeal.nD,
      m' ((c.tc : Thread Cert.CumulativeRefIdeal.nD Cert.CumulativeRefIdeal.τ).loc Cert.CumulativeRefIdeal.main_arg0) = m ((c.tc : Thread Cert.CumulativeIdeal.nD Cert.CumulativeIdeal.τ).loc Cert.CumulativeIdeal.main_arg0)) →
    ∃ (v0 : (c : Dev Cert.CumulativeIdeal.nD) → Buf (Elt Ideal) ((c.tc : Thread Cert.CumulativeIdeal.nD Cert.CumulativeIdeal.τ).loc Cert.CumulativeIdeal.main_v0)),
      θ_run (Cert.CumulativeIdeal.defs (F := Ideal)) (onTc (τ := Cert.CumulativeIdeal.τ) (Cert.CumulativeIdeal.main (F := Ideal))) ⟨m, fun _ => 0, g⟩ (fun r => ∀ c : Dev Cert.CumulativeIdeal.nD,
          r.2.mem ((c.tc : Thread Cert.CumulativeIdeal.nD Cert.CumulativeIdeal.τ).loc Cert.CumulativeIdeal.main_v0) = v0 c
          ∧ r.2.mem ((c.tc : Thread Cert.CumulativeIdeal.nD Cert.CumulativeIdeal.τ).loc Cert.CumulativeIdeal.main_arg0) = m ((c.tc : Thread Cert.CumulativeIdeal.nD Cert.CumulativeIdeal.τ).loc Cert.CumulativeIdeal.main_arg0))
      ∧ θ_run (Cert.CumulativeRefIdeal.defs (F := Ideal)) (onTc (τ := Cert.CumulativeRefIdeal.τ) (Cert.CumulativeRefIdeal.main (F := Ideal))) ⟨m', fun _ => 0, g'⟩ (fun r => ∀ c : Dev Cert.CumulativeRefIdeal.nD,
          r.2.mem ((c.tc : Thread Cert.CumulativeRefIdeal.nD Cert.CumulativeRefIdeal.τ).loc Cert.CumulativeRefIdeal.main_v3) = v0 c
          ∧ r.2.mem ((c.tc : Thread Cert.CumulativeRefIdeal.nD Cert.CumulativeRefIdeal.τ).loc Cert.CumulativeRefIdeal.main_arg0) = m' ((c.tc : Thread Cert.CumulativeRefIdeal.nD Cert.CumulativeRefIdeal.τ).loc Cert.CumulativeRefIdeal.main_arg0))

def preserves_Scan_ScanIdeal : Prop :=
  True

def algebraic_ScanIdeal_ScanRefIdeal_pre_chunks_finite [hScanIdeal : Cert.ScanIdeal.Facts] [hScanRefIdeal : Cert.ScanRefIdeal.Facts] [hPre_chunks_finite : Cert.Pre_chunks_finite.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_chunks_finite m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)) →
    ∃ (v0 : (c : Dev Cert.ScanIdeal.nD) → Buf (Elt Ideal) ((c.tc : Thread Cert.ScanIdeal.nD Cert.ScanIdeal.τ).loc Cert.ScanIdeal.main_v0_0)) (v1 : (c : Dev Cert.ScanIdeal.nD) → Buf (Elt Ideal) ((c.tc : Thread Cert.ScanIdeal.nD Cert.ScanIdeal.τ).loc Cert.ScanIdeal.main_v0_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0_0) = v0 c
          ∧ r.2.mem ((c.tc : Thread Cert.ScanIdeal.nD Cert.ScanIdeal.τ).loc Cert.ScanIdeal.main_v0_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v7) = v0 c
          ∧ r.2.mem ((c.tc : Thread Cert.ScanRefIdeal.nD Cert.ScanRefIdeal.τ).loc Cert.ScanRefIdeal.main_v9) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4))

def preserves_Carry_CarryIdeal : Prop :=
  True

def algebraic_CarryIdeal_CarryRefIdeal_pre_carried_finite [hCarryIdeal : Cert.CarryIdeal.Facts] [hCarryRefIdeal : Cert.CarryRefIdeal.Facts] [hPre_carried_finite : Cert.Pre_carried_finite.Facts] : Prop :=
  ∀ (m : (ℓ : Loc Cert.CarryIdeal.nD Cert.CarryIdeal.τ Cert.CarryIdeal.sig) → Buf (Elt Ideal) ℓ) (g : Dev Cert.CarryIdeal.nD → PrngReg)
    (m' : (ℓ : Loc Cert.CarryRefIdeal.nD Cert.CarryRefIdeal.τ Cert.CarryRefIdeal.sig) → Buf (Elt Ideal) ℓ) (g' : Dev Cert.CarryRefIdeal.nD → PrngReg), Pre_CarryIdeal_carried_finite m →
    (∀ c : Dev Cert.CarryIdeal.nD,
      m' ((c.tc : Thread Cert.CarryRefIdeal.nD Cert.CarryRefIdeal.τ).loc Cert.CarryRefIdeal.main_arg0) = m ((c.tc : Thread Cert.CarryIdeal.nD Cert.CarryIdeal.τ).loc Cert.CarryIdeal.main_arg0)
      ∧ m' ((c.tc : Thread Cert.CarryRefIdeal.nD Cert.CarryRefIdeal.τ).loc Cert.CarryRefIdeal.main_arg1) = m ((c.tc : Thread Cert.CarryIdeal.nD Cert.CarryIdeal.τ).loc Cert.CarryIdeal.main_arg1)
      ∧ m' ((c.tc : Thread Cert.CarryRefIdeal.nD Cert.CarryRefIdeal.τ).loc Cert.CarryRefIdeal.main_arg2) = m ((c.tc : Thread Cert.CarryIdeal.nD Cert.CarryIdeal.τ).loc Cert.CarryIdeal.main_arg2)
      ∧ m' ((c.tc : Thread Cert.CarryRefIdeal.nD Cert.CarryRefIdeal.τ).loc Cert.CarryRefIdeal.main_arg3) = m ((c.tc : Thread Cert.CarryIdeal.nD Cert.CarryIdeal.τ).loc Cert.CarryIdeal.main_arg3)
      ∧ m' ((c.tc : Thread Cert.CarryRefIdeal.nD Cert.CarryRefIdeal.τ).loc Cert.CarryRefIdeal.main_arg4) = m ((c.tc : Thread Cert.CarryIdeal.nD Cert.CarryIdeal.τ).loc Cert.CarryIdeal.main_arg4)) →
    ∃ (v0 : (c : Dev Cert.CarryIdeal.nD) → Buf (Elt Ideal) ((c.tc : Thread Cert.CarryIdeal.nD Cert.CarryIdeal.τ).loc Cert.CarryIdeal.main_v0_0)) (v1 : (c : Dev Cert.CarryIdeal.nD) → Buf (Elt Ideal) ((c.tc : Thread Cert.CarryIdeal.nD Cert.CarryIdeal.τ).loc Cert.CarryIdeal.main_v0_1)),
      θ_run (Cert.CarryIdeal.defs (F := Ideal)) (onTc (τ := Cert.CarryIdeal.τ) (Cert.CarryIdeal.main (F := Ideal))) ⟨m, fun _ => 0, g⟩ (fun r => ∀ c : Dev Cert.CarryIdeal.nD,
          r.2.mem ((c.tc : Thread Cert.CarryIdeal.nD Cert.CarryIdeal.τ).loc Cert.CarryIdeal.main_v0_0) = v0 c
          ∧ r.2.mem ((c.tc : Thread Cert.CarryIdeal.nD Cert.CarryIdeal.τ).loc Cert.CarryIdeal.main_v0_1) = v1 c
          ∧ r.2.mem ((c.tc : Thread Cert.CarryIdeal.nD Cert.CarryIdeal.τ).loc Cert.CarryIdeal.main_arg0) = m ((c.tc : Thread Cert.CarryIdeal.nD Cert.CarryIdeal.τ).loc Cert.CarryIdeal.main_arg0)
          ∧ r.2.mem ((c.tc : Thread Cert.CarryIdeal.nD Cert.CarryIdeal.τ).loc Cert.CarryIdeal.main_arg1) = m ((c.tc : Thread Cert.CarryIdeal.nD Cert.CarryIdeal.τ).loc Cert.CarryIdeal.main_arg1)
          ∧ r.2.mem ((c.tc : Thread Cert.CarryIdeal.nD Cert.CarryIdeal.τ).loc Cert.CarryIdeal.main_arg2) = m ((c.tc : Thread Cert.CarryIdeal.nD Cert.CarryIdeal.τ).loc Cert.CarryIdeal.main_arg2)
          ∧ r.2.mem ((c.tc : Thread Cert.CarryIdeal.nD Cert.CarryIdeal.τ).loc Cert.CarryIdeal.main_arg3) = m ((c.tc : Thread Cert.CarryIdeal.nD Cert.CarryIdeal.τ).loc Cert.CarryIdeal.main_arg3)
          ∧ r.2.mem ((c.tc : Thread Cert.CarryIdeal.nD Cert.CarryIdeal.τ).loc Cert.CarryIdeal.main_arg4) = m ((c.tc : Thread Cert.CarryIdeal.nD Cert.CarryIdeal.τ).loc Cert.CarryIdeal.main_arg4))
      ∧ θ_run (Cert.CarryRefIdeal.defs (F := Ideal)) (onTc (τ := Cert.CarryRefIdeal.τ) (Cert.CarryRefIdeal.main (F := Ideal))) ⟨m', fun _ => 0, g'⟩ (fun r => ∀ c : Dev Cert.CarryRefIdeal.nD,
          r.2.mem ((c.tc : Thread Cert.CarryRefIdeal.nD Cert.CarryRefIdeal.τ).loc Cert.CarryRefIdeal.main_v11) = v0 c
          ∧ r.2.mem ((c.tc : Thread Cert.CarryRefIdeal.nD Cert.CarryRefIdeal.τ).loc Cert.CarryRefIdeal.main_v9_5) = v1 c
          ∧ r.2.mem ((c.tc : Thread Cert.CarryRefIdeal.nD Cert.CarryRefIdeal.τ).loc Cert.CarryRefIdeal.main_arg0) = m' ((c.tc : Thread Cert.CarryRefIdeal.nD Cert.CarryRefIdeal.τ).loc Cert.CarryRefIdeal.main_arg0)
          ∧ r.2.mem ((c.tc : Thread Cert.CarryRefIdeal.nD Cert.CarryRefIdeal.τ).loc Cert.CarryRefIdeal.main_arg1) = m' ((c.tc : Thread Cert.CarryRefIdeal.nD Cert.CarryRefIdeal.τ).loc Cert.CarryRefIdeal.main_arg1)
          ∧ r.2.mem ((c.tc : Thread Cert.CarryRefIdeal.nD Cert.CarryRefIdeal.τ).loc Cert.CarryRefIdeal.main_arg2) = m' ((c.tc : Thread Cert.CarryRefIdeal.nD Cert.CarryRefIdeal.τ).loc Cert.CarryRefIdeal.main_arg2)
          ∧ r.2.mem ((c.tc : Thread Cert.CarryRefIdeal.nD Cert.CarryRefIdeal.τ).loc Cert.CarryRefIdeal.main_arg3) = m' ((c.tc : Thread Cert.CarryRefIdeal.nD Cert.CarryRefIdeal.τ).loc Cert.CarryRefIdeal.main_arg3)
          ∧ r.2.mem ((c.tc : Thread Cert.CarryRefIdeal.nD Cert.CarryRefIdeal.τ).loc Cert.CarryRefIdeal.main_arg4) = m' ((c.tc : Thread Cert.CarryRefIdeal.nD Cert.CarryRefIdeal.τ).loc Cert.CarryRefIdeal.main_arg4))

def Claim : Prop :=
  ∃ (hKernel : Cert.Kernel.Facts) (hKernelIdeal : Cert.KernelIdeal.Facts) (hReferenceIdeal : Cert.ReferenceIdeal.Facts) (hInGdn : Cert.InGdn.Facts) (hInGdnIdeal : Cert.InGdnIdeal.Facts) (hInGdnRefIdeal : Cert.InGdnRefIdeal.Facts) (hInFox : Cert.InFox.Facts) (hInFoxIdeal : Cert.InFoxIdeal.Facts) (hInFoxRefIdeal : Cert.InFoxRefIdeal.Facts) (hInRwkv : Cert.InRwkv.Facts) (hInRwkvIdeal : Cert.InRwkvIdeal.Facts) (hInRwkvRefIdeal : Cert.InRwkvRefIdeal.Facts) (hInGates : Cert.InGates.Facts) (hInGatesIdeal : Cert.InGatesIdeal.Facts) (hInGatesRefIdeal : Cert.InGatesRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hQuery : Cert.Query.Facts) (hQueryIdeal : Cert.QueryIdeal.Facts) (hQueryRefIdeal : Cert.QueryRefIdeal.Facts) (hForget : Cert.Forget.Facts) (hForgetIdeal : Cert.ForgetIdeal.Facts) (hForgetRefIdeal : Cert.ForgetRefIdeal.Facts) (hNormFinal : Cert.NormFinal.Facts) (hNormFinalIdeal : Cert.NormFinalIdeal.Facts) (hNormFinalRefIdeal : Cert.NormFinalRefIdeal.Facts) (hNormMix : Cert.NormMix.Facts) (hNormMixIdeal : Cert.NormMixIdeal.Facts) (hNormMixRefIdeal : Cert.NormMixRefIdeal.Facts) (hNormFfn : Cert.NormFfn.Facts) (hNormFfnIdeal : Cert.NormFfnIdeal.Facts) (hNormFfnRefIdeal : Cert.NormFfnRefIdeal.Facts) (hInLora : Cert.InLora.Facts) (hInLoraIdeal : Cert.InLoraIdeal.Facts) (hInLoraRefIdeal : Cert.InLoraRefIdeal.Facts) (hConv : Cert.Conv.Facts) (hConvIdeal : Cert.ConvIdeal.Facts) (hConvRefIdeal : Cert.ConvRefIdeal.Facts) (hGdnOut : Cert.GdnOut.Facts) (hGdnOutIdeal : Cert.GdnOutIdeal.Facts) (hGdnOutRefIdeal : Cert.GdnOutRefIdeal.Facts) (hShift : Cert.Shift.Facts) (hShiftIdeal : Cert.ShiftIdeal.Facts) (hShiftRefIdeal : Cert.ShiftRefIdeal.Facts) (hShiftLora : Cert.ShiftLora.Facts) (hShiftLoraIdeal : Cert.ShiftLoraIdeal.Facts) (hShiftLoraRefIdeal : Cert.ShiftLoraRefIdeal.Facts) (hRwkvOut : Cert.RwkvOut.Facts) (hRwkvOutIdeal : Cert.RwkvOutIdeal.Facts) (hRwkvOutRefIdeal : Cert.RwkvOutRefIdeal.Facts) (hCumulative : Cert.Cumulative.Facts) (hCumulativeIdeal : Cert.CumulativeIdeal.Facts) (hCumulativeRefIdeal : Cert.CumulativeRefIdeal.Facts) (hScan : Cert.Scan.Facts) (hScanIdeal : Cert.ScanIdeal.Facts) (hScanRefIdeal : Cert.ScanRefIdeal.Facts) (hCarry : Cert.Carry.Facts) (hCarryIdeal : Cert.CarryIdeal.Facts) (hCarryRefIdeal : Cert.CarryRefIdeal.Facts) (hPre_logits_finite : Cert.Pre_logits_finite.Facts) (hPre_heads_finite : Cert.Pre_heads_finite.Facts) (hPre_gates_finite : Cert.Pre_gates_finite.Facts) (hPre_chunks_finite : Cert.Pre_chunks_finite.Facts) (hPre_carried_finite : Cert.Pre_carried_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ quiescent_InGdn (hInGdn := hInGdn)
    ∧ quiescent_InGdnIdeal (hInGdnIdeal := hInGdnIdeal)
    ∧ quiescent_InGdnRefIdeal (hInGdnRefIdeal := hInGdnRefIdeal)
    ∧ quiescent_InFox (hInFox := hInFox)
    ∧ quiescent_InFoxIdeal (hInFoxIdeal := hInFoxIdeal)
    ∧ quiescent_InFoxRefIdeal (hInFoxRefIdeal := hInFoxRefIdeal)
    ∧ quiescent_InRwkv (hInRwkv := hInRwkv)
    ∧ quiescent_InRwkvIdeal (hInRwkvIdeal := hInRwkvIdeal)
    ∧ quiescent_InRwkvRefIdeal (hInRwkvRefIdeal := hInRwkvRefIdeal)
    ∧ quiescent_InGates (hInGates := hInGates)
    ∧ quiescent_InGatesIdeal (hInGatesIdeal := hInGatesIdeal)
    ∧ quiescent_InGatesRefIdeal (hInGatesRefIdeal := hInGatesRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Query (hQuery := hQuery)
    ∧ quiescent_QueryIdeal (hQueryIdeal := hQueryIdeal)
    ∧ quiescent_QueryRefIdeal (hQueryRefIdeal := hQueryRefIdeal)
    ∧ quiescent_Forget (hForget := hForget)
    ∧ quiescent_ForgetIdeal (hForgetIdeal := hForgetIdeal)
    ∧ quiescent_ForgetRefIdeal (hForgetRefIdeal := hForgetRefIdeal)
    ∧ quiescent_NormFinal (hNormFinal := hNormFinal)
    ∧ quiescent_NormFinalIdeal (hNormFinalIdeal := hNormFinalIdeal)
    ∧ quiescent_NormFinalRefIdeal (hNormFinalRefIdeal := hNormFinalRefIdeal)
    ∧ quiescent_NormMix (hNormMix := hNormMix)
    ∧ quiescent_NormMixIdeal (hNormMixIdeal := hNormMixIdeal)
    ∧ quiescent_NormMixRefIdeal (hNormMixRefIdeal := hNormMixRefIdeal)
    ∧ quiescent_NormFfn (hNormFfn := hNormFfn)
    ∧ quiescent_NormFfnIdeal (hNormFfnIdeal := hNormFfnIdeal)
    ∧ quiescent_NormFfnRefIdeal (hNormFfnRefIdeal := hNormFfnRefIdeal)
    ∧ quiescent_InLora (hInLora := hInLora)
    ∧ quiescent_InLoraIdeal (hInLoraIdeal := hInLoraIdeal)
    ∧ quiescent_InLoraRefIdeal (hInLoraRefIdeal := hInLoraRefIdeal)
    ∧ quiescent_Conv (hConv := hConv)
    ∧ quiescent_ConvIdeal (hConvIdeal := hConvIdeal)
    ∧ quiescent_ConvRefIdeal (hConvRefIdeal := hConvRefIdeal)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_Shift (hShift := hShift)
    ∧ quiescent_ShiftIdeal (hShiftIdeal := hShiftIdeal)
    ∧ quiescent_ShiftRefIdeal (hShiftRefIdeal := hShiftRefIdeal)
    ∧ quiescent_ShiftLora (hShiftLora := hShiftLora)
    ∧ quiescent_ShiftLoraIdeal (hShiftLoraIdeal := hShiftLoraIdeal)
    ∧ quiescent_ShiftLoraRefIdeal (hShiftLoraRefIdeal := hShiftLoraRefIdeal)
    ∧ quiescent_RwkvOut (hRwkvOut := hRwkvOut)
    ∧ quiescent_RwkvOutIdeal (hRwkvOutIdeal := hRwkvOutIdeal)
    ∧ quiescent_RwkvOutIdeal_pre_heads_finite (hRwkvOutIdeal := hRwkvOutIdeal) (hPre_heads_finite := hPre_heads_finite)
    ∧ quiescent_RwkvOutRefIdeal (hRwkvOutRefIdeal := hRwkvOutRefIdeal)
    ∧ quiescent_RwkvOutRefIdeal_pre_heads_finite (hRwkvOutRefIdeal := hRwkvOutRefIdeal) (hPre_heads_finite := hPre_heads_finite)
    ∧ quiescent_Cumulative (hCumulative := hCumulative)
    ∧ quiescent_CumulativeIdeal (hCumulativeIdeal := hCumulativeIdeal)
    ∧ quiescent_CumulativeIdeal_pre_gates_finite (hCumulativeIdeal := hCumulativeIdeal) (hPre_gates_finite := hPre_gates_finite)
    ∧ quiescent_CumulativeRefIdeal (hCumulativeRefIdeal := hCumulativeRefIdeal)
    ∧ quiescent_CumulativeRefIdeal_pre_gates_finite (hCumulativeRefIdeal := hCumulativeRefIdeal) (hPre_gates_finite := hPre_gates_finite)
    ∧ quiescent_Scan (hScan := hScan)
    ∧ quiescent_ScanIdeal (hScanIdeal := hScanIdeal)
    ∧ quiescent_ScanIdeal_pre_chunks_finite (hScanIdeal := hScanIdeal) (hPre_chunks_finite := hPre_chunks_finite)
    ∧ quiescent_ScanRefIdeal (hScanRefIdeal := hScanRefIdeal)
    ∧ quiescent_ScanRefIdeal_pre_chunks_finite (hScanRefIdeal := hScanRefIdeal) (hPre_chunks_finite := hPre_chunks_finite)
    ∧ quiescent_Carry (hCarry := hCarry)
    ∧ quiescent_CarryIdeal (hCarryIdeal := hCarryIdeal)
    ∧ quiescent_CarryIdeal_pre_carried_finite (hCarryIdeal := hCarryIdeal) (hPre_carried_finite := hPre_carried_finite)
    ∧ quiescent_CarryRefIdeal (hCarryRefIdeal := hCarryRefIdeal)
    ∧ quiescent_CarryRefIdeal_pre_carried_finite (hCarryRefIdeal := hCarryRefIdeal) (hPre_carried_finite := hPre_carried_finite)
    ∧ preserves_Kernel_KernelIdeal
    ∧ algebraic_KernelIdeal_ReferenceIdeal_pre_logits_finite (hKernelIdeal := hKernelIdeal) (hReferenceIdeal := hReferenceIdeal) (hPre_logits_finite := hPre_logits_finite)
    ∧ preserves_InGdn_InGdnIdeal
    ∧ algebraic_InGdnIdeal_InGdnRefIdeal (hInGdnIdeal := hInGdnIdeal) (hInGdnRefIdeal := hInGdnRefIdeal)
    ∧ preserves_InFox_InFoxIdeal
    ∧ algebraic_InFoxIdeal_InFoxRefIdeal (hInFoxIdeal := hInFoxIdeal) (hInFoxRefIdeal := hInFoxRefIdeal)
    ∧ preserves_InRwkv_InRwkvIdeal
    ∧ algebraic_InRwkvIdeal_InRwkvRefIdeal (hInRwkvIdeal := hInRwkvIdeal) (hInRwkvRefIdeal := hInRwkvRefIdeal)
    ∧ preserves_InGates_InGatesIdeal
    ∧ algebraic_InGatesIdeal_InGatesRefIdeal (hInGatesIdeal := hInGatesIdeal) (hInGatesRefIdeal := hInGatesRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Query_QueryIdeal
    ∧ algebraic_QueryIdeal_QueryRefIdeal (hQueryIdeal := hQueryIdeal) (hQueryRefIdeal := hQueryRefIdeal)
    ∧ preserves_Forget_ForgetIdeal
    ∧ algebraic_ForgetIdeal_ForgetRefIdeal (hForgetIdeal := hForgetIdeal) (hForgetRefIdeal := hForgetRefIdeal)
    ∧ preserves_NormFinal_NormFinalIdeal
    ∧ algebraic_NormFinalIdeal_NormFinalRefIdeal (hNormFinalIdeal := hNormFinalIdeal) (hNormFinalRefIdeal := hNormFinalRefIdeal)
    ∧ preserves_NormMix_NormMixIdeal
    ∧ algebraic_NormMixIdeal_NormMixRefIdeal (hNormMixIdeal := hNormMixIdeal) (hNormMixRefIdeal := hNormMixRefIdeal)
    ∧ preserves_NormFfn_NormFfnIdeal
    ∧ algebraic_NormFfnIdeal_NormFfnRefIdeal (hNormFfnIdeal := hNormFfnIdeal) (hNormFfnRefIdeal := hNormFfnRefIdeal)
    ∧ preserves_InLora_InLoraIdeal
    ∧ algebraic_InLoraIdeal_InLoraRefIdeal (hInLoraIdeal := hInLoraIdeal) (hInLoraRefIdeal := hInLoraRefIdeal)
    ∧ preserves_Conv_ConvIdeal
    ∧ algebraic_ConvIdeal_ConvRefIdeal (hConvIdeal := hConvIdeal) (hConvRefIdeal := hConvRefIdeal)
    ∧ preserves_GdnOut_GdnOutIdeal
    ∧ algebraic_GdnOutIdeal_GdnOutRefIdeal (hGdnOutIdeal := hGdnOutIdeal) (hGdnOutRefIdeal := hGdnOutRefIdeal)
    ∧ preserves_Shift_ShiftIdeal
    ∧ algebraic_ShiftIdeal_ShiftRefIdeal (hShiftIdeal := hShiftIdeal) (hShiftRefIdeal := hShiftRefIdeal)
    ∧ preserves_ShiftLora_ShiftLoraIdeal
    ∧ algebraic_ShiftLoraIdeal_ShiftLoraRefIdeal (hShiftLoraIdeal := hShiftLoraIdeal) (hShiftLoraRefIdeal := hShiftLoraRefIdeal)
    ∧ preserves_RwkvOut_RwkvOutIdeal
    ∧ algebraic_RwkvOutIdeal_RwkvOutRefIdeal_pre_heads_finite (hRwkvOutIdeal := hRwkvOutIdeal) (hRwkvOutRefIdeal := hRwkvOutRefIdeal) (hPre_heads_finite := hPre_heads_finite)
    ∧ preserves_Cumulative_CumulativeIdeal
    ∧ algebraic_CumulativeIdeal_CumulativeRefIdeal_pre_gates_finite (hCumulativeIdeal := hCumulativeIdeal) (hCumulativeRefIdeal := hCumulativeRefIdeal) (hPre_gates_finite := hPre_gates_finite)
    ∧ preserves_Scan_ScanIdeal
    ∧ algebraic_ScanIdeal_ScanRefIdeal_pre_chunks_finite (hScanIdeal := hScanIdeal) (hScanRefIdeal := hScanRefIdeal) (hPre_chunks_finite := hPre_chunks_finite)
    ∧ preserves_Carry_CarryIdeal
    ∧ algebraic_CarryIdeal_CarryRefIdeal_pre_carried_finite (hCarryIdeal := hCarryIdeal) (hCarryRefIdeal := hCarryRefIdeal) (hPre_carried_finite := hPre_carried_finite)
-- ==== Pre_carried_finite.lean ====
abbrev S8704x2048 : Shape := ⟨2, ![8704, 2048]⟩
abbrev S136x16x128x128 : Shape := ⟨4, ![136, 16, 128, 128]⟩
abbrev S4x16x128x128 : Shape := ⟨4, ![4, 16, 128, 128]⟩
abbrev S_ : Shape := ⟨0, ![]⟩

class Facts : Prop where
  bcast_S_S8704x2048 : S_.BroadcastsInDim S8704x2048 (![] : Fin 0 → Fin S8704x2048.rank)
  bcast_S_S136x16x128x128 : S_.BroadcastsInDim S136x16x128x128 (![] : Fin 0 → Fin S136x16x128x128.rank)
  bcast_S_S4x16x128x128 : S_.BroadcastsInDim S4x16x128x128 (![] : Fin 0 → Fin S4x16x128x128.rank)

variable [Facts]

def fn {F : FTy → Type} [FloatOps F] (main_arg0 : FVec F S8704x2048 .f32) (main_arg1 : FVec F S8704x2048 .f32) (main_arg2 : FVec F S136x16x128x128 .f32) (main_arg3 : FVec F S136x16x128x128 .f32) (main_arg4 : FVec F S4x16x128x128 .f32) : IVec S8704x2048 1 × IVec S136x16x128x128 1 × IVec S136x16x128x128 1 × IVec S4x16x128x128 1 :=
  let main_v0 : FVec F S8704x2048 .f32 := Host.absf main_arg1
  let main_cst : FVec F S_ .f32 := constant S_ .f32 0x7F800000#32
  let main_v1 : FVec F S8704x2048 .f32 := broadcastInDim S8704x2048 ![] bcast_S_S8704x2048 main_cst
  let main_v2 : IVec S8704x2048 1 := cmpf .olt main_v0 main_v1
  let main_v3 : FVec F S136x16x128x128 .f32 := Host.absf main_arg2
  let main_cst_0 : FVec F S_ .f32 := constant S_ .f32 0x7F800000#32
  let main_v4 : FVec F S136x16x128x128 .f32 := broadcastInDim S136x16x128x128 ![] bcast_S_S136x16x128x128 main_cst_0
  let main_v5 : IVec S136x16x128x128 1 := cmpf .olt main_v3 main_v4
  let main_v6 : FVec F S136x16x128x128 .f32 := Host.absf main_arg3
  let main_cst_1 : FVec F S_ .f32 := constant S_ .f32 0x7F800000#32
  let main_v7 : FVec F S136x16x128x128 .f32 := broadcastInDim S136x16x128x128 ![] bcast_S_S136x16x128x128 main_cst_1
  let main_v8 : IVec S136x16x128x128 1 := cmpf .olt main_v6 main_v7
  let main_v9 : FVec F S4x16x128x128 .f32 := Host.absf main_arg4
  let main_cst_2 : FVec F S_ .f32 := constant S_ .f32 0x7F800000#32
  let main_v10 : FVec F S4x16x128x128 .f32 := broadcastInDim S4x16x128x128 ![] bcast_S_S4x16x128x128 main_cst_2
  let main_v11 : IVec S4x16x128x128 1 := cmpf .olt main_v9 main_v10
  (main_v2, main_v5, main_v8, main_v11)
-- ==== Pre_chunks_finite.lean ====
abbrev S512x2048 : Shape := ⟨2, ![512, 2048]⟩
abbrev S8x16x128x128 : Shape := ⟨4, ![8, 16, 128, 128]⟩
abbrev S_ : Shape := ⟨0, ![]⟩

class Facts : Prop where
  bcast_S_S512x2048 : S_.BroadcastsInDim S512x2048 (![] : Fin 0 → Fin S512x2048.rank)
  bcast_S_S8x16x128x128 : S_.BroadcastsInDim S8x16x128x128 (![] : Fin 0 → Fin S8x16x128x128.rank)

variable [Facts]

def fn {F : FTy → Type} [FloatOps F] (main_arg0 : FVec F S512x2048 .f32) (main_arg1 : FVec F S512x2048 .f32) (main_arg2 : FVec F S8x16x128x128 .f32) (main_arg3 : FVec F S8x16x128x128 .f32) (main_arg4 : FVec F S8x16x128x128 .f32) : IVec S512x2048 1 × IVec S8x16x128x128 1 × IVec S8x16x128x128 1 :=
  let main_v0 : FVec F S512x2048 .f32 := Host.absf main_arg1
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_v3 : FVec F S8x16x128x128 .f32 := Host.absf main_arg2
  let main_cst_0 : FVec F S_ .f32 := constant S_ .f32 0x7F800000#32
  let main_v4 : FVec F S8x16x128x128 .f32 := broadcastInDim S8x16x128x128 ![] bcast_S_S8x16x128x128 main_cst_0
  let main_v5 : IVec S8x16x128x128 1 := cmpf .olt main_v3 main_v4
  let main_v6 : FVec F S8x16x128x128 .f32 := Host.absf main_arg4
  let main_cst_1 : FVec F S_ .f32 := constant S_ .f32 0x7F800000#32
  let main_v7 : FVec F S8x16x128x128 .f32 := broadcastInDim S8x16x128x128 ![] bcast_S_S8x16x128x128 main_cst_1
  let main_v8 : IVec S8x16x128x128 1 := cmpf .olt main_v6 main_v7
  (main_v2, main_v5, main_v8)
-- ==== Pre_gates_finite.lean ====
abbrev S16x9216 : Shape := ⟨2, ![16, 9216]⟩
abbrev S16x8704 : Shape := ⟨2, ![16, 8704]⟩
abbrev S_ : Shape := ⟨0, ![]⟩

class Facts : Prop where
  slices_S16x9216_S16x8704_0_0 : S16x9216.Slices ![0, 0] S16x8704
  bcast_S_S16x8704 : S_.BroadcastsInDim S16x8704 (![] : Fin 0 → Fin S16x8704.rank)

variable [Facts]

def fn {F : FTy → Type} [FloatOps F] (main_arg0 : FVec F S16x9216 .f32) : IVec S16x8704 1 :=
  let main_v0 : FVec F S16x8704 .f32 := (extractStridedSlice S16x8704 ![0, 0] · slices_S16x9216_S16x8704_0_0) main_arg0
  let main_v1 : FVec F S16x8704 .f32 := Host.absf main_v0
  let main_cst : FVec F S_ .f32 := constant S_ .f32 0x7F800000#32
  let main_v2 : FVec F S16x8704 .f32 := broadcastInDim S16x8704 ![] bcast_S_S16x8704 main_cst
  let main_v3 : IVec S16x8704 1 := cmpf .olt main_v1 main_v2
  main_v3
-- ==== Pre_heads_finite.lean ====
abbrev S8704x2048 : Shape := ⟨2, ![8704, 2048]⟩
abbrev S2048 : Shape := ⟨1, ![2048]⟩
abbrev S_ : Shape := ⟨0, ![]⟩

class Facts : Prop where
  bcast_S_S8704x2048 : S_.BroadcastsInDim S8704x2048 (![] : Fin 0 → Fin S8704x2048.rank)

variable [Facts]

def fn {F : FTy → Type} [FloatOps F] (main_arg0 : FVec F S8704x2048 .f32) (main_arg1 : FVec F S8704x2048 .f32) (main_arg2 : FVec F S8704x2048 .f32) (main_arg3 : FVec F S2048 .f32) (main_arg4 : FVec F S2048 .f32) : IVec S8704x2048 1 :=
  let main_v0 : FVec F S8704x2048 .f32 := Host.absf main_arg0
  let main_cst : FVec F S_ .f32 := constant S_ .f32 0x7F800000#32
  let main_v1 : FVec F S8704x2048 .f32 := broadcastInDim S8704x2048 ![] bcast_S_S8704x2048 main_cst
  let main_v2 : IVec S8704x2048 1 := cmpf .olt main_v0 main_v1
  main_v2
-- ==== Pre_logits_finite.lean ====
abbrev S9216x6144 : Shape := ⟨2, ![9216, 6144]⟩
abbrev S16x8704 : Shape := ⟨2, ![16, 8704]⟩
abbrev S8704x4096 : Shape := ⟨2, ![8704, 4096]⟩
abbrev S_ : Shape := ⟨0, ![]⟩

class Facts : Prop where
  slices_S9216x6144_S8704x4096_0_0 : S9216x6144.Slices ![0, 0] S8704x4096
  bcast_S_S8704x4096 : S_.BroadcastsInDim S8704x4096 (![] : Fin 0 → Fin S8704x4096.rank)
  bcast_S_S16x8704 : S_.BroadcastsInDim S16x8704 (![] : Fin 0 → Fin S16x8704.rank)

variable [Facts]

def fn {F : FTy → Type} [FloatOps F] (main_arg0 : FVec F S9216x6144 .f32) (main_arg1 : FVec F S16x8704 .f32) : IVec S8704x4096 1 × IVec S16x8704 1 :=
  let main_v0 : FVec F S8704x4096 .f32 := (extractStridedSlice S8704x4096 ![0, 0] · slices_S9216x6144_S8704x4096_0_0) main_arg0
  let main_v1 : FVec F S8704x4096 .f32 := Host.absf main_v0
  let main_cst : FVec F S_ .f32 := constant S_ .f32 0x7F800000#32
  let main_v2 : FVec F S8704x4096 .f32 := broadcastInDim S8704x4096 ![] bcast_S_S8704x4096 main_cst
  let main_v3 : IVec S8704x4096 1 := cmpf .olt main_v1 main_v2
  let main_v4 : FVec F S16x8704 .f32 := Host.absf main_arg1
  let main_cst_0 : FVec F S_ .f32 := constant S_ .f32 0x7F800000#32
  let main_v5 : FVec F S16x8704 .f32 := broadcastInDim S16x8704 ![] bcast_S_S16x8704 main_cst_0
  let main_v6 : IVec S16x8704 1 := cmpf .olt main_v4 main_v5
  (main_v3, main_v6)
-- ==== Kernel.lean ====
abbrev S9216x6144 : Shape := ⟨2, ![9216, 6144]⟩
abbrev S16x8704 : Shape := ⟨2, ![16, 8704]⟩
abbrev S8704x2048 : Shape := ⟨2, ![8704, 2048]⟩
abbrev S128x256 : Shape := ⟨2, ![128, 256]⟩
abbrev S2176x256 : Shape := ⟨2, ![2176, 256]⟩
abbrev S16x2176 : Shape := ⟨2, ![16, 2176]⟩
abbrev S16x128 : Shape := ⟨2, ![16, 128]⟩
abbrev S1x128 : Shape := ⟨2, ![1, 128]⟩
abbrev S128x128 : Shape := ⟨2, ![128, 128]⟩
abbrev S128x1 : Shape := ⟨2, ![128, 1]⟩
abbrev S128x640 : Shape := ⟨2, ![128, 640]⟩
abbrev S640x128 : Shape := ⟨2, ![640, 128]⟩
abbrev S1x640 : Shape := ⟨2, ![1, 640]⟩
abbrev S128 : Shape := ⟨1, ![128]⟩
abbrev S128x1152 : Shape := ⟨2, ![128, 1152]⟩
abbrev S1152x128 : Shape := ⟨2, ![1152, 128]⟩
abbrev S1x1152 : Shape := ⟨2, ![1, 1152]⟩
abbrev S128x1664 : Shape := ⟨2, ![128, 1664]⟩
abbrev S1664x128 : Shape := ⟨2, ![1664, 128]⟩
abbrev S1x1664 : Shape := ⟨2, ![1, 1664]⟩
abbrev S128x2176 : Shape := ⟨2, ![128, 2176]⟩
abbrev S2176x128 : Shape := ⟨2, ![2176, 128]⟩
abbrev S1x2176 : Shape := ⟨2, ![1, 2176]⟩

abbrev nBuf : Space → Nat
  | .hbm => 3
  | .vmem => 12
  | .smem => 0
  | _ => 0

abbrev bufTy : (tb : Table) → Fin (tcTables nBuf tb) → BufTy
  | .hbm, ⟨0, _⟩ => ⟨S9216x6144, .f32⟩
  | .hbm, ⟨1, _⟩ => ⟨S16x8704, .f32⟩
  | .hbm, ⟨2, _⟩ => ⟨S8704x2048, .bf16⟩
  | .local _ .vmem, ⟨0, _⟩ => ⟨S128x256, .f32⟩
  | .local _ .vmem, ⟨1, _⟩ => ⟨S128x256, .f32⟩
  | .local _ .vmem, ⟨2, _⟩ => ⟨S2176x256, .f32⟩
  | .local _ .vmem, ⟨3, _⟩ => ⟨S2176x256, .f32⟩
  | .local _ .vmem, ⟨4, _⟩ => ⟨S2176x256, .f32⟩
  | .local _ .vmem, ⟨5, _⟩ => ⟨S2176x256, .f32⟩
  | .local _ .vmem, ⟨6, _⟩ => ⟨S16x2176, .f32⟩
  | .local _ .vmem, ⟨7, _⟩ => ⟨S16x2176, .f32⟩
  | .local _ .vmem, ⟨8, _⟩ => ⟨S16x128, .f32⟩
  | .local _ .vmem, ⟨9, _⟩ => ⟨S16x128, .f32⟩
  | .local _ .vmem, ⟨10, _⟩ => ⟨S128x256, .bf16⟩
  | .local _ .vmem, ⟨11, _⟩ => ⟨S128x256, .bf16⟩
  | _, _ => ⟨S9216x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 17], ![false, false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let v1 : BitVec 32 := Scalar.addi v0 c0_i32
  let v4 : Index := Scalar.indexCast v1
  let c0 : Index := 0#32
  ![v4.toNat, 0]
def k0_cond1 (i : grid0.Coords) : BitVec 1 :=
  let arg2 : BitVec 32 := BitVec.ofNat 32 (i 2).val
  let c0_i32_3 : BitVec 32 := 0#32
  let v26 : BitVec 1 := Scalar.cmpi .sge arg2 c0_i32_3
  let c5_i32 : BitVec 32 := 5#32
  let v27 : BitVec 1 := Scalar.cmpi .slt arg2 c5_i32
  let v28 : BitVec 1 := Scalar.andi v26 v27
  let v29 : BitVec 32 := Scalar.extui v28
  let c0_i32_4 : BitVec 32 := 0#32
  let v30 : BitVec 1 := Scalar.cmpi .ne v29 c0_i32_4
  v30

def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let v1 : BitVec 32 := Scalar.addi v0 c0_i32
  let v68 : Index := Scalar.indexCast v1
  let c0_22 : Index := 0#32
  ![v68.toNat, 0]
def k0_cond2 (i : grid0.Coords) : BitVec 1 :=
  let arg2 : BitVec 32 := BitVec.ofNat 32 (i 2).val
  let c5_i32_5 : BitVec 32 := 5#32
  let v31 : BitVec 1 := Scalar.cmpi .sge arg2 c5_i32_5
  let c9_i32 : BitVec 32 := 9#32
  let v32 : BitVec 1 := Scalar.cmpi .slt arg2 c9_i32
  let v33 : BitVec 1 := Scalar.andi v31 v32
  let v34 : BitVec 32 := Scalar.extui v33
  let c0_i32_6 : BitVec 32 := 0#32
  let v35 : BitVec 1 := Scalar.cmpi .ne v34 c0_i32_6
  v35

def k0_off3 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let v1 : BitVec 32 := Scalar.addi v0 c0_i32
  let v68 : Index := Scalar.indexCast v1
  let c0_22 : Index := 0#32
  ![v68.toNat, 0]
def k0_cond3 (i : grid0.Coords) : BitVec 1 :=
  let arg2 : BitVec 32 := BitVec.ofNat 32 (i 2).val
  let c9_i32_7 : BitVec 32 := 9#32
  let v36 : BitVec 1 := Scalar.cmpi .sge arg2 c9_i32_7
  let c13_i32 : BitVec 32 := 13#32
  let v37 : BitVec 1 := Scalar.cmpi .slt arg2 c13_i32
  let v38 : BitVec 1 := Scalar.andi v36 v37
  let v39 : BitVec 32 := Scalar.extui v38
  let c0_i32_8 : BitVec 32 := 0#32
  let v40 : BitVec 1 := Scalar.cmpi .ne v39 c0_i32_8
  v40

def k0_off4 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let v1 : BitVec 32 := Scalar.addi v0 c0_i32
  let v68 : Index := Scalar.indexCast v1
  let c0_22 : Index := 0#32
  ![v68.toNat, 0]
def k0_cond4 (i : grid0.Coords) : BitVec 1 :=
  let arg2 : BitVec 32 := BitVec.ofNat 32 (i 2).val
  let c13_i32_9 : BitVec 32 := 13#32
  let v41 : BitVec 1 := Scalar.cmpi .sge arg2 c13_i32_9
  let c17_i32 : BitVec 32 := 17#32
  let v42 : BitVec 1 := Scalar.cmpi .slt arg2 c17_i32
  let v43 : BitVec 1 := Scalar.andi v41 v42
  let v44 : BitVec 32 := Scalar.extui v43
  let c0_i32_10 : BitVec 32 := 0#32
  let v45 : BitVec 1 := Scalar.cmpi .ne v44 c0_i32_10
  v45

def k0_off5 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let v1 : BitVec 32 := Scalar.addi v0 c0_i32
  let v68 : Index := Scalar.indexCast v1
  let c0_22 : Index := 0#32
  ![v68.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2176x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S9216x6144 : Shape := ⟨2, ![9216, 6144]⟩
abbrev S16x8704 : Shape := ⟨2, ![16, 8704]⟩
abbrev S8704x6144 : Shape := ⟨2, ![8704, 6144]⟩
abbrev S4x2176x6144 : Shape := ⟨3, ![4, 2176, 6144]⟩
abbrev S4x2176x2048 : Shape := ⟨3, ![4, 2176, 2048]⟩
abbrev S4x2176x16x128 : Shape := ⟨4, ![4, 2176, 16, 128]⟩
abbrev S16x4x2176 : Shape := ⟨3, ![16, 4, 2176]⟩
abbrev S4x16x2176 : Shape := ⟨3, ![4, 16, 2176]⟩
abbrev S4x16x2176x2176 : Shape := ⟨4, ![4, 16, 2176, 2176]⟩
abbrev S_ : Shape := ⟨0, ![]⟩
abbrev S4x16x2176x1 : Shape := ⟨4, ![4, 16, 2176, 1]⟩
abbrev S4x16x1x2176 : Shape := ⟨4, ![4, 16, 1, 2176]⟩
abbrev S2176 : Shape := ⟨1, ![2176]⟩
abbrev S2176x1 : Shape := ⟨2, ![2176, 1]⟩
abbrev S1x2176 : Shape := ⟨2, ![1, 2176]⟩
abbrev S2176x2176 : Shape := ⟨2, ![2176, 2176]⟩
abbrev S4x16x128x2176 : Shape := ⟨4, ![4, 16, 128, 2176]⟩
abbrev S8704x2048 : Shape := ⟨2, ![8704, 2048]⟩

abbrev nBuf : Space → Nat
  | .hbm => 51
  | .vmem => 0
  | .smem => 0
  | _ => 0

abbrev bufTy : (tb : Table) → Fin (tcTables nBuf tb) → BufTy
  | .hbm, ⟨0, _⟩ => ⟨S9216x6144, .f32⟩
  | .hbm, ⟨1, _⟩ => ⟨S16x8704, .f32⟩
  | .hbm, ⟨2, _⟩ => ⟨S8704x6144, .f32⟩
  | .hbm, ⟨3, _⟩ => ⟨S4x2176x6144, .f32⟩
  | .hbm, ⟨4, _⟩ => ⟨S4x2176x2048, .f32⟩
  | .hbm, ⟨5, _⟩ => ⟨S4x2176x16x128, .f32⟩
  | .hbm, ⟨6, _⟩ => ⟨S4x2176x2048, .f32⟩
  | .hbm, ⟨7, _⟩ => ⟨S4x2176x16x128, .f32⟩
  | .hbm, ⟨8, _⟩ => ⟨S4x2176x2048, .f32⟩
  | .hbm, ⟨9, _⟩ => ⟨S4x2176x16x128, .f32⟩
  | .hbm, ⟨10, _⟩ => ⟨S16x4x2176, .f32⟩
  | .hbm, ⟨11, _⟩ => ⟨S4x16x2176, .f32⟩
  | .hbm, ⟨12, _⟩ => ⟨S4x16x2176x2176, .f32⟩
  | .hbm, ⟨13, _⟩ => ⟨S_, .f32⟩
  | .hbm, ⟨14, _⟩ => ⟨S4x16x2176x2176, .f32⟩
  | .hbm, ⟨15, _⟩ => ⟨S4x16x2176x2176, .f32⟩
  | .hbm, ⟨16, _⟩ => ⟨S4x16x2176x1, .f32⟩
  | .hbm, ⟨17, _⟩ => ⟨S4x16x2176x2176, .f32⟩
  | .hbm, ⟨18, _⟩ => ⟨S4x16x2176x2176, .f32⟩
  | .hbm, ⟨19, _⟩ => ⟨S4x16x1x2176, .f32⟩
  | .hbm, ⟨20, _⟩ => ⟨S4x16x2176x2176, .f32⟩
  | .hbm, ⟨21, _⟩ => ⟨S4x16x2176x2176, .f32⟩
  | .hbm, ⟨22, _⟩ => ⟨S2176, .i32⟩
  | .hbm, ⟨23, _⟩ => ⟨S2176x1, .i32⟩
  | .hbm, ⟨24, _⟩ => ⟨S1x2176, .i32⟩
  | .hbm, ⟨25, _⟩ => ⟨S2176x2176, .i32⟩
  | .hbm, ⟨26, _⟩ => ⟨S2176x2176, .i32⟩
  | .hbm, ⟨27, _⟩ => ⟨S2176x2176, .i1⟩
  | .hbm, ⟨28, _⟩ => ⟨S_, .f32⟩
  | .hbm, ⟨29, _⟩ => ⟨S_, .f32⟩
  | .hbm, ⟨30, _⟩ => ⟨S4x16x2176x2176, .i1⟩
  | .hbm, ⟨31, _⟩ => ⟨S4x16x2176x2176, .f32⟩
  | .hbm, ⟨32, _⟩ => ⟨S4x16x2176x2176, .f32⟩
  | .hbm, ⟨33, _⟩ => ⟨S_, .f32⟩
  | .hbm, ⟨34, _⟩ => ⟨S4x16x2176, .f32⟩
  | .hbm, ⟨35, _⟩ => ⟨S_, .f32⟩
  | .hbm, ⟨36, _⟩ => ⟨S4x16x2176, .f32⟩
  | .hbm, ⟨37, _⟩ => ⟨S4x16x2176, .f32⟩
  | .hbm, ⟨38, _⟩ => ⟨S4x16x2176x1, .f32⟩
  | .hbm, ⟨39, _⟩ => ⟨S4x16x2176x2176, .f32⟩
  | .hbm, ⟨40, _⟩ => ⟨S4x16x2176x2176, .f32⟩
  | .hbm, ⟨41, _⟩ => ⟨S4x16x2176x2176, .f32⟩
  | .hbm, ⟨42, _⟩ => ⟨S_, .f32⟩
  | .hbm, ⟨43, _⟩ => ⟨S4x16x2176, .f32⟩
  | .hbm, ⟨44, _⟩ => ⟨S4x16x2176x1, .f32⟩
  | .hbm, ⟨45, _⟩ => ⟨S4x16x2176x2176, .f32⟩
  | .hbm, ⟨46, _⟩ => ⟨S4x16x2176x2176, .f32⟩
  | .hbm, ⟨47, _⟩ => ⟨S4x16x128x2176, .f32⟩
  | .hbm, ⟨48, _⟩ => ⟨S4x2176x16x128, .f32⟩
  | .hbm, ⟨49, _⟩ => ⟨S8704x2048, .f32⟩
  | .hbm, ⟨50, _⟩ => ⟨S8704x2048, .bf16⟩
  | _, _ => ⟨S9216x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== InGdn.lean ====
abbrev S9216x4096 : Shape := ⟨2, ![9216, 4096]⟩
abbrev S4096x33072 : Shape := ⟨2, ![4096, 33072]⟩
abbrev S4096x8192 : Shape := ⟨2, ![4096, 8192]⟩
abbrev S9216x8192 : Shape := ⟨2, ![9216, 8192]⟩
abbrev S1152x4096 : Shape := ⟨2, ![1152, 4096]⟩
abbrev S4096x512 : Shape := ⟨2, ![4096, 512]⟩
abbrev S1152x512 : Shape := ⟨2, ![1152, 512]⟩

abbrev nBuf : Space → Nat
  | .hbm => 5
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4096x33072, .f32⟩
  | .hbm, ⟨2, _⟩ => ⟨S4096x8192, .f32⟩
  | .hbm, ⟨3, _⟩ => ⟨S4096x8192, .bf16⟩
  | .hbm, ⟨4, _⟩ => ⟨S9216x8192, .f32⟩
  | .local _ .vmem, ⟨0, _⟩ => ⟨S1152x4096, .bf16⟩
  | .local _ .vmem, ⟨1, _⟩ => ⟨S1152x4096, .bf16⟩
  | .local _ .vmem, ⟨2, _⟩ => ⟨S4096x512, .bf16⟩
  | .local _ .vmem, ⟨3, _⟩ => ⟨S4096x512, .bf16⟩
  | .local _ .vmem, ⟨4, _⟩ => ⟨S1152x512, .f32⟩
  | .local _ .vmem, ⟨5, _⟩ => ⟨S1152x512, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGdnRefIdeal.lean ====
abbrev S9216x4096 : Shape := ⟨2, ![9216, 4096]⟩
abbrev S4096x33072 : Shape := ⟨2, ![4096, 33072]⟩
abbrev S9216x33072 : Shape := ⟨2, ![9216, 33072]⟩
abbrev S9216x8192 : Shape := ⟨2, ![9216, 8192]⟩

abbrev nBuf : Space → Nat
  | .hbm => 5
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x33072, .f32⟩
  | .hbm, ⟨2, _⟩ => ⟨S9216x4096, .f32⟩
  | .hbm, ⟨3, _⟩ => ⟨S9216x33072, .f32⟩
  | .hbm, ⟨4, _⟩ => ⟨S9216x8192, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InFox.lean ====
abbrev S9216x4096 : Shape := ⟨2, ![9216, 4096]⟩
abbrev S4096x33072 : Shape := ⟨2, ![4096, 33072]⟩
abbrev S4096x6144 : Shape := ⟨2, ![4096, 6144]⟩
abbrev S9216x6144 : Shape := ⟨2, ![9216, 6144]⟩
abbrev S1152x4096 : Shape := ⟨2, ![1152, 4096]⟩
abbrev S4096x512 : Shape := ⟨2, ![4096, 512]⟩
abbrev S1152x512 : Shape := ⟨2, ![1152, 512]⟩

abbrev nBuf : Space → Nat
  | .hbm => 5
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4096x33072, .f32⟩
  | .hbm, ⟨2, _⟩ => ⟨S4096x6144, .f32⟩
  | .hbm, ⟨3, _⟩ => ⟨S4096x6144, .bf16⟩
  | .hbm, ⟨4, _⟩ => ⟨S9216x6144, .f32⟩
  | .local _ .vmem, ⟨0, _⟩ => ⟨S1152x4096, .bf16⟩
  | .local _ .vmem, ⟨1, _⟩ => ⟨S1152x4096, .bf16⟩
  | .local _ .vmem, ⟨2, _⟩ => ⟨S4096x512, .bf16⟩
  | .local _ .vmem, ⟨3, _⟩ => ⟨S4096x512, .bf16⟩
  | .local _ .vmem, ⟨4, _⟩ => ⟨S1152x512, .f32⟩
  | .local _ .vmem, ⟨5, _⟩ => ⟨S1152x512, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InFoxRefIdeal.lean ====
abbrev S9216x4096 : Shape := ⟨2, ![9216, 4096]⟩
abbrev S4096x33072 : Shape := ⟨2, ![4096, 33072]⟩
abbrev S9216x33072 : Shape := ⟨2, ![9216, 33072]⟩
abbrev S9216x6144 : Shape := ⟨2, ![9216, 6144]⟩

abbrev nBuf : Space → Nat
  | .hbm => 5
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x33072, .f32⟩
  | .hbm, ⟨2, _⟩ => ⟨S9216x4096, .f32⟩
  | .hbm, ⟨3, _⟩ => ⟨S9216x33072, .f32⟩
  | .hbm, ⟨4, _⟩ => ⟨S9216x6144, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InRwkv.lean ====
abbrev S9216x4096 : Shape := ⟨2, ![9216, 4096]⟩
abbrev S4096x33072 : Shape := ⟨2, ![4096, 33072]⟩
abbrev S4096x6144 : Shape := ⟨2, ![4096, 6144]⟩
abbrev S9216x6144 : Shape := ⟨2, ![9216, 6144]⟩
abbrev S1152x4096 : Shape := ⟨2, ![1152, 4096]⟩
abbrev S4096x512 : Shape := ⟨2, ![4096, 512]⟩
abbrev S1152x512 : Shape := ⟨2, ![1152, 512]⟩

abbrev nBuf : Space → Nat
  | .hbm => 5
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4096x33072, .f32⟩
  | .hbm, ⟨2, _⟩ => ⟨S4096x6144, .f32⟩
  | .hbm, ⟨3, _⟩ => ⟨S4096x6144, .bf16⟩
  | .hbm, ⟨4, _⟩ => ⟨S9216x6144, .f32⟩
  | .local _ .vmem, ⟨0, _⟩ => ⟨S1152x4096, .bf16⟩
  | .local _ .vmem, ⟨1, _⟩ => ⟨S1152x4096, .bf16⟩
  | .local _ .vmem, ⟨2, _⟩ => ⟨S4096x512, .bf16⟩
  | .local _ .vmem, ⟨3, _⟩ => ⟨S4096x512, .bf16⟩
  | .local _ .vmem, ⟨4, _⟩ => ⟨S1152x512, .f32⟩
  | .local _ .vmem, ⟨5, _⟩ => ⟨S1152x512, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRwkvRefIdeal.lean ====
abbrev S9216x4096 : Shape := ⟨2, ![9216, 4096]⟩
abbrev S4096x33072 : Shape := ⟨2, ![4096, 33072]⟩
abbrev S9216x33072 : Shape := ⟨2, ![9216, 33072]⟩
abbrev S9216x6144 : Shape := ⟨2, ![9216, 6144]⟩

abbrev nBuf : Space → Nat
  | .hbm => 5
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x33072, .f32⟩
  | .hbm, ⟨2, _⟩ => ⟨S9216x4096, .f32⟩
  | .hbm, ⟨3, _⟩ => ⟨S9216x33072, .f32⟩
  | .hbm, ⟨4, _⟩ => ⟨S9216x6144, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InGates.lean ====
abbrev S9216x4096 : Shape := ⟨2, ![9216, 4096]⟩
abbrev S4096x33072 : Shape := ⟨2, ![4096, 33072]⟩
abbrev S4096x12288 : Shape := ⟨2, ![4096, 12288]⟩
abbrev S9216x12288 : Shape := ⟨2, ![9216, 12288]⟩
abbrev S1152x4096 : Shape := ⟨2, ![1152, 4096]⟩
abbrev S4096x512 : Shape := ⟨2, ![4096, 512]⟩
abbrev S1152x512 : Shape := ⟨2, ![1152, 512]⟩

abbrev nBuf : Space → Nat
  | .hbm => 5
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4096x33072, .f32⟩
  | .hbm, ⟨2, _⟩ => ⟨S4096x12288, .f32⟩
  | .hbm, ⟨3, _⟩ => ⟨S4096x12288, .bf16⟩
  | .hbm, ⟨4, _⟩ => ⟨S9216x12288, .f32⟩
  | .local _ .vmem, ⟨0, _⟩ => ⟨S1152x4096, .bf16⟩
  | .local _ .vmem, ⟨1, _⟩ => ⟨S1152x4096, .bf16⟩
  | .local _ .vmem, ⟨2, _⟩ => ⟨S4096x512, .bf16⟩
  | .local _ .vmem, ⟨3, _⟩ => ⟨S4096x512, .bf16⟩
  | .local _ .vmem, ⟨4, _⟩ => ⟨S1152x512, .f32⟩
  | .local _ .vmem, ⟨5, _⟩ => ⟨S1152x512, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGatesRefIdeal.lean ====
abbrev S9216x4096 : Shape := ⟨2, ![9216, 4096]⟩
abbrev S4096x33072 : Shape := ⟨2, ![4096, 33072]⟩
abbrev S9216x33072 : Shape := ⟨2, ![9216, 33072]⟩
abbrev S9216x12288 : Shape := ⟨2, ![9216, 12288]⟩

abbrev nBuf : Space → Nat
  | .hbm => 5
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x33072, .f32⟩
  | .hbm, ⟨2, _⟩ => ⟨S9216x4096, .f32⟩
  | .hbm, ⟨3, _⟩ => ⟨S9216x33072, .f32⟩
  | .hbm, ⟨4, _⟩ => ⟨S9216x12288, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S9216x2048 : Shape := ⟨2, ![9216, 2048]⟩
abbrev S2048x4096 : Shape := ⟨2, ![2048, 4096]⟩
abbrev S9216x12288 : Shape := ⟨2, ![9216, 12288]⟩
abbrev S9216x4096 : Shape := ⟨2, ![9216, 4096]⟩
abbrev S576x2048 : Shape := ⟨2, ![576, 2048]⟩
abbrev S2048x512 : Shape := ⟨2, ![2048, 512]⟩
abbrev S576x512 : Shape := ⟨2, ![576, 512]⟩

abbrev nBuf : Space → Nat
  | .hbm => 11
  | .vmem => 20
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S9216x2048, .bf16⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S9216x12288, .f32⟩
  | .hbm, ⟨7, _⟩ => ⟨S2048x4096, .bf16⟩
  | .hbm, ⟨8, _⟩ => ⟨S2048x4096, .bf16⟩
  | .hbm, ⟨9, _⟩ => ⟨S2048x4096, .bf16⟩
  | .hbm, ⟨10, _⟩ => ⟨S9216x4096, .bf16⟩
  | .local _ .vmem, ⟨0, _⟩ => ⟨S576x2048, .bf16⟩
  | .local _ .vmem, ⟨1, _⟩ => ⟨S576x2048, .bf16⟩
  | .local _ .vmem, ⟨2, _⟩ => ⟨S576x2048, .bf16⟩
  | .local _ .vmem, ⟨3, _⟩ => ⟨S576x2048, .bf16⟩
  | .local _ .vmem, ⟨4, _⟩ => ⟨S576x2048, .bf16⟩
  | .local _ .vmem, ⟨5, _⟩ => ⟨S576x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S576x512, .f32⟩
  | .local _ .vmem, ⟨13, _⟩ => ⟨S576x512, .f32⟩
  | .local _ .vmem, ⟨14, _⟩ => ⟨S576x512, .f32⟩
  | .local _ .vmem, ⟨15, _⟩ => ⟨S576x512, .f32⟩
  | .local _ .vmem, ⟨16, _⟩ => ⟨S576x512, .f32⟩
  | .local _ .vmem, ⟨17, _⟩ => ⟨S576x512, .f32⟩
  | .local _ .vmem, ⟨18, _⟩ => ⟨S576x512, .bf16⟩
  | .local _ .vmem, ⟨19, _⟩ => ⟨S576x512, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S576x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S576x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S576x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S576x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S576x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S576x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S576x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S9216x2048 : Shape := ⟨2, ![9216, 2048]⟩
abbrev S2048x4096 : Shape := ⟨2, ![2048, 4096]⟩
abbrev S9216x12288 : Shape := ⟨2, ![9216, 12288]⟩
abbrev S_ : Shape := ⟨0, ![]⟩
abbrev S9216x3x4096 : Shape := ⟨3, ![9216, 3, 4096]⟩
abbrev S9216x1x4096 : Shape := ⟨3, ![9216, 1, 4096]⟩
abbrev S9216x4096 : Shape := ⟨2, ![9216, 4096]⟩

abbrev nBuf : Space → Nat
  | .hbm => 34
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .bf16⟩
  | .hbm, ⟨2, _⟩ => ⟨S9216x2048, .bf16⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S9216x12288, .f32⟩
  | .hbm, ⟨7, _⟩ => ⟨S9216x12288, .f32⟩
  | .hbm, ⟨8, _⟩ => ⟨S9216x12288, .f32⟩
  | .hbm, ⟨9, _⟩ => ⟨S_, .f32⟩
  | .hbm, ⟨10, _⟩ => ⟨S9216x12288, .f32⟩
  | .hbm, ⟨11, _⟩ => ⟨S9216x12288, .f32⟩
  | .hbm, ⟨12, _⟩ => ⟨S_, .f32⟩
  | .hbm, ⟨13, _⟩ => ⟨S9216x12288, .f32⟩
  | .hbm, ⟨14, _⟩ => ⟨S9216x12288, .f32⟩
  | .hbm, ⟨15, _⟩ => ⟨S9216x3x4096, .f32⟩
  | .hbm, ⟨16, _⟩ => ⟨S9216x1x4096, .f32⟩
  | .hbm, ⟨17, _⟩ => ⟨S9216x4096, .f32⟩
  | .hbm, ⟨18, _⟩ => ⟨S9216x2048, .f32⟩
  | .hbm, ⟨19, _⟩ => ⟨S9216x4096, .f32⟩
  | .hbm, ⟨20, _⟩ => ⟨S9216x4096, .f32⟩
  | .hbm, ⟨21, _⟩ => ⟨S9216x1x4096, .f32⟩
  | .hbm, ⟨22, _⟩ => ⟨S9216x4096, .f32⟩
  | .hbm, ⟨23, _⟩ => ⟨S9216x2048, .f32⟩
  | .hbm, ⟨24, _⟩ => ⟨S9216x4096, .f32⟩
  | .hbm, ⟨25, _⟩ => ⟨S9216x4096, .f32⟩
  | .hbm, ⟨26, _⟩ => ⟨S9216x4096, .f32⟩
  | .hbm, ⟨27, _⟩ => ⟨S9216x1x4096, .f32⟩
  | .hbm, ⟨28, _⟩ => ⟨S9216x4096, .f32⟩
  | .hbm, ⟨29, _⟩ => ⟨S9216x2048, .f32⟩
  | .hbm, ⟨30, _⟩ => ⟨S9216x4096, .f32⟩
  | .hbm, ⟨31, _⟩ => ⟨S9216x4096, .f32⟩
  | .hbm, ⟨32, _⟩ => ⟨S9216x4096, .f32⟩
  | .hbm, ⟨33, _⟩ => ⟨S9216x4096, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Out.lean ====
abbrev S9216x4096 : Shape := ⟨2, ![9216, 4096]⟩
abbrev S4096x4096 : Shape := ⟨2, ![4096, 4096]⟩
abbrev S1152x4096 : Shape := ⟨2, ![1152, 4096]⟩
abbrev S4096x512 : Shape := ⟨2, ![4096, 512]⟩
abbrev S1152x512 : Shape := ⟨2, ![1152, 512]⟩

abbrev nBuf : Space → Nat
  | .hbm => 5
  | .vmem => 8
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .f32⟩
  | .hbm, ⟨2, _⟩ => ⟨S9216x4096, .f32⟩
  | .hbm, ⟨3, _⟩ => ⟨S4096x4096, .bf16⟩
  | .hbm, ⟨4, _⟩ => ⟨S9216x4096, .f32⟩
  | .local _ .vmem, ⟨0, _⟩ => ⟨S1152x4096, .bf16⟩
  | .local _ .vmem, ⟨1, _⟩ => ⟨S1152x4096, .bf16⟩
  | .local _ .vmem, ⟨2, _⟩ => ⟨S4096x512, .bf16⟩
  | .local _ .vmem, ⟨3, _⟩ => ⟨S4096x512, .bf16⟩
  | .local _ .vmem, ⟨4, _⟩ => ⟨S1152x512, .f32⟩
  | .local _ .vmem, ⟨5, _⟩ => ⟨S1152x512, .f32⟩
  | .local _ .vmem, ⟨6, _⟩ => ⟨S1152x512, .f32⟩
  | .local _ .vmem, ⟨7, _⟩ => ⟨S1152x512, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1152x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S9216x4096 : Shape := ⟨2, ![9216, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .f32⟩
  | .hbm, ⟨2, _⟩ => ⟨S9216x4096, .f32⟩
  | .hbm, ⟨3, _⟩ => ⟨S9216x4096, .f32⟩
  | .hbm, ⟨4, _⟩ => ⟨S9216x4096, .f32⟩
  | .hbm, ⟨5, _⟩ => ⟨S9216x4096, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Query.lean ====
abbrev S4096x9216 : Shape := ⟨2, ![4096, 9216]⟩
abbrev S4096x2048 : Shape := ⟨2, ![4096, 2048]⟩
abbrev S2048x4096 : Shape := ⟨2, ![2048, 4096]⟩
abbrev S2048x9216 : Shape := ⟨2, ![2048, 9216]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x9216, .bf16⟩
  | .hbm, ⟨1, _⟩ => ⟨S4096x2048, .f32⟩
  | .hbm, ⟨2, _⟩ => ⟨S2048x4096, .f32⟩
  | .hbm, ⟨3, _⟩ => ⟨S2048x4096, .bf16⟩
  | .hbm, ⟨4, _⟩ => ⟨S2048x9216, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueryRefIdeal.lean ====
abbrev S4096x9216 : Shape := ⟨2, ![4096, 9216]⟩
abbrev S4096x2048 : Shape := ⟨2, ![4096, 2048]⟩
abbrev S9216x4096 : Shape := ⟨2, ![9216, 4096]⟩
abbrev S9216x2048 : Shape := ⟨2, ![9216, 2048]⟩
abbrev S2048x9216 : Shape := ⟨2, ![2048, 9216]⟩

abbrev nBuf : Space → Nat
  | .hbm => 6
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S4096x2048, .f32⟩
  | .hbm, ⟨2, _⟩ => ⟨S9216x4096, .bf16⟩
  | .hbm, ⟨3, _⟩ => ⟨S9216x4096, .f32⟩
  | .hbm, ⟨4, _⟩ => ⟨S9216x2048, .f32⟩
  | .hbm, ⟨5, _⟩ => ⟨S2048x9216, .f32⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Forget.lean ====
abbrev S4096x9216 : Shape := ⟨2, ![4096, 9216]⟩
abbrev S4096x33072 : Shape := ⟨2, ![4096, 33072]⟩
abbrev S16 : Shape := ⟨1, ![16]⟩
abbrev S4096x16 : Shape := ⟨2, ![4096, 16]⟩
abbrev S16x4096 : Shape := ⟨2, ![16, 4096]⟩
abbrev S_ : Shape := ⟨0, ![]⟩
abbrev S16x1 : Shape := ⟨2, ![16, 1]⟩
abbrev S16x9216 : Shape := ⟨2, ![16, 9216]⟩
abbrev S4096x512 : Shape := ⟨2, ![4096, 512]⟩
abbrev S16x512 : Shape := ⟨2, ![16, 512]⟩

abbrev nBuf : Space → Nat
  | .hbm => 14
  | .vmem => 6
  | .smem => 0
  | _ => 0

abbrev bufTy : (tb : Table) → Fin (tcTables nBuf tb) → BufTy
  | .hbm, ⟨0, _⟩ => ⟨S4096x9216, .bf16⟩
  | .hbm, ⟨1, _⟩ => ⟨S4096x33072, .f32⟩
  | .hbm, ⟨2, _⟩ => ⟨S16, .f32⟩
  | .hbm, ⟨3, _⟩ => ⟨S4096x16, .f32⟩
  | .hbm, ⟨4, _⟩ => ⟨S16x4096, .f32⟩
  | .hbm, ⟨5, _⟩ => ⟨S_, .i32⟩
  | .hbm, ⟨6, _⟩ => ⟨S_, .f32⟩
  | .hbm, ⟨7, _⟩ => ⟨S16x4096, .f32⟩
  | .hbm, ⟨8, _⟩ => ⟨S16x4096, .bf16⟩
  | .hbm, ⟨9, _⟩ => ⟨S16x1, .f32⟩
  | .hbm, ⟨10, _⟩ => ⟨S_, .i32⟩
  | .hbm, ⟨11, _⟩ => ⟨S_, .f32⟩
  | .hbm, ⟨12, _⟩ => ⟨S16x1, .f32⟩
  | .hbm, ⟨13, _⟩ => ⟨S16x9216, .f32⟩
  | .local _ .vmem, ⟨0, _⟩ => ⟨S16x4096, .bf16⟩
  | .local _ .vmem, ⟨1, _⟩ => ⟨S4096x512, .bf16⟩
  | .local _ .vmem, ⟨2, _⟩ => ⟨S4096x512, .bf16⟩
  | .local _ .vmem, ⟨3, _⟩ => ⟨S16x1, .f32⟩
  | .local _ .vmem, ⟨4, _⟩ => ⟨S16x512, .f32⟩
  | .local _ .vmem, ⟨5, _⟩ => ⟨S16x512, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S16x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ForgetRefIdeal.lean ====
abbrev S4096x9216 : Shape := ⟨2, ![4096, 9216]⟩
abbrev S4096x33072 : Shape := ⟨2, ![4096, 33072]⟩
abbrev S16 : Shape := ⟨1, ![16]⟩
abbrev S9216x4096 : Shape := ⟨2, ![9216, 4096]⟩
abbrev S9216x33072 : Shape := ⟨2, ![9216, 33072]⟩
abbrev S9216x16 : Shape := ⟨2, ![9216, 16]⟩
abbrev S1x16 : Shape := ⟨2, ![1, 16]⟩
abbrev S_ : Shape := ⟨0, ![]⟩
abbrev S16x9216 : Shape := ⟨2, ![16, 9216]⟩

abbrev nBuf : Space → Nat
  | .hbm => 27
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S4096x33072, .f32⟩
  | .hbm, ⟨2, _⟩ => ⟨S16, .f32⟩
  | .hbm, ⟨3, _⟩ => ⟨S9216x4096, .bf16⟩
  | .hbm, ⟨4, _⟩ => ⟨S9216x4096, .f32⟩
  | .hbm, ⟨5, _⟩ => ⟨S9216x33072, .f32⟩
  | .hbm, ⟨6, _⟩ => ⟨S9216x16, .f32⟩
  | .hbm, ⟨7, _⟩ => ⟨S1x16, .f32⟩
  | .hbm, ⟨8, _⟩ => ⟨S9216x16, .f32⟩
  | .hbm, ⟨9, _⟩ => ⟨S9216x16, .f32⟩
  | .hbm, ⟨10, _⟩ => ⟨S9216x16, .f32⟩
  | .hbm, ⟨11, _⟩ => ⟨S_, .f32⟩
  | .hbm, ⟨12, _⟩ => ⟨S9216x16, .f32⟩
  | .hbm, ⟨13, _⟩ => ⟨S9216x16, .f32⟩
  | .hbm, ⟨14, _⟩ => ⟨S9216x16, .f32⟩
  | .hbm, ⟨15, _⟩ => ⟨S9216x16, .f32⟩
  | .hbm, ⟨16, _⟩ => ⟨S9216x16, .i1⟩
  | .hbm, ⟨17, _⟩ => ⟨S9216x16, .f32⟩
  | .hbm, ⟨18, _⟩ => ⟨S9216x16, .f32⟩
  | .hbm, ⟨19, _⟩ => ⟨S9216x16, .f32⟩
  | .hbm, ⟨20, _⟩ => ⟨S9216x16, .f32⟩
  | .hbm, ⟨21, _⟩ => ⟨S9216x16, .f32⟩
  | .hbm, ⟨22, _⟩ => ⟨S9216x16, .f32⟩
  | .hbm, ⟨23, _⟩ => ⟨S9216x16, .f32⟩
  | .hbm, ⟨24, _⟩ => ⟨S9216x16, .f32⟩
  | .hbm, ⟨25, _⟩ => ⟨S9216x16, .f32⟩
  | .hbm, ⟨26, _⟩ => ⟨S16x9216, .f32⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v7 : Ref sig .tc := ⟨.hbm, 25, rfl⟩
abbrev main_v8 : Ref sig .tc := ⟨.hbm, 26, rfl⟩

abbrev nD : Nat := 1
abbrev τ : Topo := Topo.v7x

variable {F : FTy → Type} [FloatOps F]
-- ==== NormFinal.lean ====
abbrev S9216x4096 : Shape := ⟨2, ![9216, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S9216x4096, .f32⟩
  | .hbm, ⟨3, _⟩ => ⟨S1x4096, .f32⟩
  | .hbm, ⟨4, _⟩ => ⟨S9216x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFinalRefIdeal.lean ====
abbrev S9216x4096 : Shape := ⟨2, ![9216, 4096]⟩
abbrev S4096 : Shape := ⟨1, ![4096]⟩
abbrev S_ : Shape := ⟨0, ![]⟩
abbrev S9216 : Shape := ⟨1, ![9216]⟩
abbrev S9216x1 : Shape := ⟨2, ![9216, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S9216x4096, .f32⟩
  | .hbm, ⟨3, _⟩ => ⟨S9216x4096, .f32⟩
  | .hbm, ⟨4, _⟩ => ⟨S9216x4096, .f32⟩
  | .hbm, ⟨5, _⟩ => ⟨S_, .f32⟩
  | .hbm, ⟨6, _⟩ => ⟨S9216, .f32⟩
  | .hbm, ⟨7, _⟩ => ⟨S9216x1, .f32⟩
  | .hbm, ⟨8, _⟩ => ⟨S_, .f32⟩
  | .hbm, ⟨9, _⟩ => ⟨S9216x1, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S9216x1, .f32⟩
  | .hbm, ⟨15, _⟩ => ⟨S9216x4096, .f32⟩
  | .hbm, ⟨16, _⟩ => ⟨S9216x4096, .f32⟩
  | .hbm, ⟨17, _⟩ => ⟨S1x4096, .f32⟩
  | .hbm, ⟨18, _⟩ => ⟨S9216x4096, .f32⟩
  | .hbm, ⟨19, _⟩ => ⟨S9216x4096, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== NormMix.lean ====
abbrev S9216x4096 : Shape := ⟨2, ![9216, 4096]⟩
abbrev S4096 : Shape := ⟨1, ![4096]⟩
abbrev S1x4096 : Shape := ⟨2, ![1, 4096]⟩
abbrev S4096x9216 : Shape := ⟨2, ![4096, 9216]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S9216x4096, .f32⟩
  | .hbm, ⟨3, _⟩ => ⟨S1x4096, .f32⟩
  | .hbm, ⟨4, _⟩ => ⟨S9216x4096, .f32⟩
  | .hbm, ⟨5, _⟩ => ⟨S9216x4096, .bf16⟩
  | .hbm, ⟨6, _⟩ => ⟨S4096x9216, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | .local _ .vmem, ⟨9, _⟩ => ⟨S4096x256, .bf16⟩
  | .local _ .vmem, ⟨10, _⟩ => ⟨S4096x256, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormMixRefIdeal.lean ====
abbrev S9216x4096 : Shape := ⟨2, ![9216, 4096]⟩
abbrev S4096 : Shape := ⟨1, ![4096]⟩
abbrev S_ : Shape := ⟨0, ![]⟩
abbrev S9216 : Shape := ⟨1, ![9216]⟩
abbrev S9216x1 : Shape := ⟨2, ![9216, 1]⟩
abbrev S1x4096 : Shape := ⟨2, ![1, 4096]⟩
abbrev S4096x9216 : Shape := ⟨2, ![4096, 9216]⟩

abbrev nBuf : Space → Nat
  | .hbm => 22
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S9216x4096, .f32⟩
  | .hbm, ⟨3, _⟩ => ⟨S9216x4096, .f32⟩
  | .hbm, ⟨4, _⟩ => ⟨S9216x4096, .f32⟩
  | .hbm, ⟨5, _⟩ => ⟨S_, .f32⟩
  | .hbm, ⟨6, _⟩ => ⟨S9216, .f32⟩
  | .hbm, ⟨7, _⟩ => ⟨S9216x1, .f32⟩
  | .hbm, ⟨8, _⟩ => ⟨S_, .f32⟩
  | .hbm, ⟨9, _⟩ => ⟨S9216x1, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S9216x1, .f32⟩
  | .hbm, ⟨15, _⟩ => ⟨S9216x4096, .f32⟩
  | .hbm, ⟨16, _⟩ => ⟨S9216x4096, .f32⟩
  | .hbm, ⟨17, _⟩ => ⟨S1x4096, .f32⟩
  | .hbm, ⟨18, _⟩ => ⟨S9216x4096, .f32⟩
  | .hbm, ⟨19, _⟩ => ⟨S9216x4096, .f32⟩
  | .hbm, ⟨20, _⟩ => ⟨S9216x4096, .bf16⟩
  | .hbm, ⟨21, _⟩ => ⟨S4096x9216, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== NormFfn.lean ====
abbrev S9216x4096 : Shape := ⟨2, ![9216, 4096]⟩
abbrev S4096 : Shape := ⟨1, ![4096]⟩
abbrev S1x4096 : Shape := ⟨2, ![1, 4096]⟩
abbrev S4096x9216 : Shape := ⟨2, ![4096, 9216]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S1x4096, .f32⟩
  | .hbm, ⟨3, _⟩ => ⟨S4096x9216, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x256, .bf16⟩
  | .local _ .vmem, ⟨4, _⟩ => ⟨S4096x256, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFfnRefIdeal.lean ====
abbrev S9216x4096 : Shape := ⟨2, ![9216, 4096]⟩
abbrev S4096 : Shape := ⟨1, ![4096]⟩
abbrev S_ : Shape := ⟨0, ![]⟩
abbrev S9216 : Shape := ⟨1, ![9216]⟩
abbrev S9216x1 : Shape := ⟨2, ![9216, 1]⟩
abbrev S1x4096 : Shape := ⟨2, ![1, 4096]⟩
abbrev S4096x9216 : Shape := ⟨2, ![4096, 9216]⟩

abbrev nBuf : Space → Nat
  | .hbm => 20
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S4096, .f32⟩
  | .hbm, ⟨2, _⟩ => ⟨S9216x4096, .f32⟩
  | .hbm, ⟨3, _⟩ => ⟨S_, .f32⟩
  | .hbm, ⟨4, _⟩ => ⟨S9216, .f32⟩
  | .hbm, ⟨5, _⟩ => ⟨S9216x1, .f32⟩
  | .hbm, ⟨6, _⟩ => ⟨S_, .f32⟩
  | .hbm, ⟨7, _⟩ => ⟨S9216x1, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S9216x1, .f32⟩
  | .hbm, ⟨13, _⟩ => ⟨S9216x4096, .f32⟩
  | .hbm, ⟨14, _⟩ => ⟨S9216x4096, .f32⟩
  | .hbm, ⟨15, _⟩ => ⟨S1x4096, .f32⟩
  | .hbm, ⟨16, _⟩ => ⟨S9216x4096, .f32⟩
  | .hbm, ⟨17, _⟩ => ⟨S9216x4096, .f32⟩
  | .hbm, ⟨18, _⟩ => ⟨S9216x4096, .bf16⟩
  | .hbm, ⟨19, _⟩ => ⟨S4096x9216, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== InLora.lean ====
abbrev S9216x4096 : Shape := ⟨2, ![9216, 4096]⟩
abbrev S4096x33072 : Shape := ⟨2, ![4096, 33072]⟩
abbrev S4096x256 : Shape := ⟨2, ![4096, 256]⟩
abbrev S4096x16 : Shape := ⟨2, ![4096, 16]⟩
abbrev S4096x32 : Shape := ⟨2, ![4096, 32]⟩
abbrev S_ : Shape := ⟨0, ![]⟩
abbrev S4096x80 : Shape := ⟨2, ![4096, 80]⟩
abbrev S4096x384 : Shape := ⟨2, ![4096, 384]⟩
abbrev S9216x384 : Shape := ⟨2, ![9216, 384]⟩
abbrev S1152x4096 : Shape := ⟨2, ![1152, 4096]⟩
abbrev S1152x384 : Shape := ⟨2, ![1152, 384]⟩

abbrev nBuf : Space → Nat
  | .hbm => 10
  | .vmem => 5
  | .smem => 0
  | _ => 0

abbrev bufTy : (tb : Table) → Fin (tcTables nBuf tb) → BufTy
  | .hbm, ⟨0, _⟩ => ⟨S9216x4096, .bf16⟩
  | .hbm, ⟨1, _⟩ => ⟨S4096x33072, .f32⟩
  | .hbm, ⟨2, _⟩ => ⟨S4096x256, .f32⟩
  | .hbm, ⟨3, _⟩ => ⟨S4096x16, .f32⟩
  | .hbm, ⟨4, _⟩ => ⟨S4096x32, .f32⟩
  | .hbm, ⟨5, _⟩ => ⟨S_, .f32⟩
  | .hbm, ⟨6, _⟩ => ⟨S4096x80, .f32⟩
  | .hbm, ⟨7, _⟩ => ⟨S4096x384, .f32⟩
  | .hbm, ⟨8, _⟩ => ⟨S4096x384, .bf16⟩
  | .hbm, ⟨9, _⟩ => ⟨S9216x384, .f32⟩
  | .local _ .vmem, ⟨0, _⟩ => ⟨S1152x4096, .bf16⟩
  | .local _ .vmem, ⟨1, _⟩ => ⟨S1152x4096, .bf16⟩
  | .local _ .vmem, ⟨2, _⟩ => ⟨S4096x384, .bf16⟩
  | .local _ .vmem, ⟨3, _⟩ => ⟨S1152x384, .f32⟩
  | .local _ .vmem, ⟨4, _⟩ => ⟨S1152x384, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1152x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InLoraRefIdeal.lean ====
abbrev S9216x4096 : Shape := ⟨2, ![9216, 4096]⟩
abbrev S4096x33072 : Shape := ⟨2, ![4096, 33072]⟩
abbrev S9216x33072 : Shape := ⟨2, ![9216, 33072]⟩
abbrev S9216x256 : Shape := ⟨2, ![9216, 256]⟩
abbrev S9216x16 : Shape := ⟨2, ![9216, 16]⟩
abbrev S9216x32 : Shape := ⟨2, ![9216, 32]⟩
abbrev S_ : Shape := ⟨0, ![]⟩
abbrev S9216x80 : Shape := ⟨2, ![9216, 80]⟩
abbrev S9216x384 : Shape := ⟨2, ![9216, 384]⟩

abbrev nBuf : Space → Nat
  | .hbm => 10
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x33072, .f32⟩
  | .hbm, ⟨2, _⟩ => ⟨S9216x4096, .f32⟩
  | .hbm, ⟨3, _⟩ => ⟨S9216x33072, .f32⟩
  | .hbm, ⟨4, _⟩ => ⟨S9216x256, .f32⟩
  | .hbm, ⟨5, _⟩ => ⟨S9216x16, .f32⟩
  | .hbm, ⟨6, _⟩ => ⟨S9216x32, .f32⟩
  | .hbm, ⟨7, _⟩ => ⟨S_, .f32⟩
  | .hbm, ⟨8, _⟩ => ⟨S9216x80, .f32⟩
  | .hbm, ⟨9, _⟩ => ⟨S9216x384, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Conv.lean ====
abbrev S9216x8192 : Shape := ⟨2, ![9216, 8192]⟩
abbrev S4x3x6144 : Shape := ⟨3, ![4, 3, 6144]⟩
abbrev S4x6144 : Shape := ⟨2, ![4, 6144]⟩
abbrev S8704x6144 : Shape := ⟨2, ![8704, 6144]⟩
abbrev S2176x128 : Shape := ⟨2, ![2176, 128]⟩
abbrev S1x3x128 : Shape := ⟨3, ![1, 3, 128]⟩
abbrev S4x128 : Shape := ⟨2, ![4, 128]⟩
abbrev S2184x128 : Shape := ⟨2, ![2184, 128]⟩
abbrev S8x128 : Shape := ⟨2, ![8, 128]⟩
abbrev S3x128 : Shape := ⟨2, ![3, 128]⟩
abbrev S1x128 : Shape := ⟨2, ![1, 128]⟩
abbrev S2176 : Shape := ⟨1, ![2176]⟩
abbrev S2176x1 : Shape := ⟨2, ![2176, 1]⟩

abbrev nBuf : Space → Nat
  | .hbm => 5
  | .vmem => 11
  | .smem => 0
  | _ => 0

abbrev bufTy : (tb : Table) → Fin (tcTables nBuf tb) → BufTy
  | .hbm, ⟨0, _⟩ => ⟨S9216x8192, .f32⟩
  | .hbm, ⟨1, _⟩ => ⟨S4x3x6144, .f32⟩
  | .hbm, ⟨2, _⟩ => ⟨S4x6144, .f32⟩
  | .hbm, ⟨3, _⟩ => ⟨S8704x6144, .f32⟩
  | .hbm, ⟨4, _⟩ => ⟨S4x3x6144, .f32⟩
  | .local _ .vmem, ⟨0, _⟩ => ⟨S2176x128, .f32⟩
  | .local _ .vmem, ⟨1, _⟩ => ⟨S2176x128, .f32⟩
  | .local _ .vmem, ⟨2, _⟩ => ⟨S1x3x128, .f32⟩
  | .local _ .vmem, ⟨3, _⟩ => ⟨S1x3x128, .f32⟩
  | .local _ .vmem, ⟨4, _⟩ => ⟨S4x128, .f32⟩
  | .local _ .vmem, ⟨5, _⟩ => ⟨S4x128, .f32⟩
  | .local _ .vmem, ⟨6, _⟩ => ⟨S2176x128, .f32⟩
  | .local _ .vmem, ⟨7, _⟩ => ⟨S2176x128, .f32⟩
  | .local _ .vmem, ⟨8, _⟩ => ⟨S1x3x128, .f32⟩
  | .local _ .vmem, ⟨9, _⟩ => ⟨S1x3x128, .f32⟩
  | .local _ .vmem, ⟨10, _⟩ => ⟨S2184x128, .f32⟩
  | _, _ => ⟨S9216x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 3, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c16_i32 : BitVec 32 := 16#32
  let v1 : BitVec 32 := Scalar.muli arg1 c16_i32
  let c0_i32_0 : BitVec 32 := 0#32
  let v2 : BitVec 32 := Scalar.addi c0_i32_0 v1
  let v3 : BitVec 32 := Scalar.addi v2 arg2
  let c0_i32_1 : BitVec 32 := 0#32
  ![v0.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![arg0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, c0_i32.toNat, v1.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ConvRefIdeal.lean ====
abbrev S9216x8192 : Shape := ⟨2, ![9216, 8192]⟩
abbrev S4x3x6144 : Shape := ⟨3, ![4, 3, 6144]⟩
abbrev S4x6144 : Shape := ⟨2, ![4, 6144]⟩
abbrev S8704x6144 : Shape := ⟨2, ![8704, 6144]⟩
abbrev S4x2176x6144 : Shape := ⟨3, ![4, 2176, 6144]⟩
abbrev S4x2064x6144 : Shape := ⟨3, ![4, 2064, 6144]⟩
abbrev S4x2067x6144 : Shape := ⟨3, ![4, 2067, 6144]⟩
abbrev S1x6144 : Shape := ⟨2, ![1, 6144]⟩
abbrev S6144 : Shape := ⟨1, ![6144]⟩
abbrev S1x1x6144 : Shape := ⟨3, ![1, 1, 6144]⟩
abbrev S_ : Shape := ⟨0, ![]⟩
abbrev S4x2064x3x16x128 : Shape := ⟨5, ![4, 2064, 3, 16, 128]⟩
abbrev S4x2064x1x16x128 : Shape := ⟨5, ![4, 2064, 1, 16, 128]⟩
abbrev S4x2064x16x128 : Shape := ⟨4, ![4, 2064, 16, 128]⟩
abbrev S4x2064x16 : Shape := ⟨3, ![4, 2064, 16]⟩
abbrev S4x2064x16x1 : Shape := ⟨4, ![4, 2064, 16, 1]⟩

abbrev nBuf : Space → Nat
  | .hbm => 83
  | .vmem => 0
  | .smem => 0
  | _ => 0

abbrev bufTy : (tb : Table) → Fin (tcTables nBuf tb) → BufTy
  | .hbm, ⟨0, _⟩ => ⟨S9216x8192, .f32⟩
  | .hbm, ⟨1, _⟩ => ⟨S4x3x6144, .f32⟩
  | .hbm, ⟨2, _⟩ => ⟨S4x6144, .f32⟩
  | .hbm, ⟨3, _⟩ => ⟨S8704x6144, .f32⟩
  | .hbm, ⟨4, _⟩ => ⟨S4x2176x6144, .f32⟩
  | .hbm, ⟨5, _⟩ => ⟨S4x2064x6144, .f32⟩
  | .hbm, ⟨6, _⟩ => ⟨S4x2067x6144, .f32⟩
  | .hbm, ⟨7, _⟩ => ⟨S4x2064x6144, .f32⟩
  | .hbm, ⟨8, _⟩ => ⟨S1x6144, .f32⟩
  | .hbm, ⟨9, _⟩ => ⟨S6144, .f32⟩
  | .hbm, ⟨10, _⟩ => ⟨S1x1x6144, .f32⟩
  | .hbm, ⟨11, _⟩ => ⟨S4x2064x6144, .f32⟩
  | .hbm, ⟨12, _⟩ => ⟨S4x2064x6144, .f32⟩
  | .hbm, ⟨13, _⟩ => ⟨S4x2064x6144, .f32⟩
  | .hbm, ⟨14, _⟩ => ⟨S1x6144, .f32⟩
  | .hbm, ⟨15, _⟩ => ⟨S6144, .f32⟩
  | .hbm, ⟨16, _⟩ => ⟨S1x1x6144, .f32⟩
  | .hbm, ⟨17, _⟩ => ⟨S4x2064x6144, .f32⟩
  | .hbm, ⟨18, _⟩ => ⟨S4x2064x6144, .f32⟩
  | .hbm, ⟨19, _⟩ => ⟨S4x2064x6144, .f32⟩
  | .hbm, ⟨20, _⟩ => ⟨S4x2064x6144, .f32⟩
  | .hbm, ⟨21, _⟩ => ⟨S1x6144, .f32⟩
  | .hbm, ⟨22, _⟩ => ⟨S6144, .f32⟩
  | .hbm, ⟨23, _⟩ => ⟨S1x1x6144, .f32⟩
  | .hbm, ⟨24, _⟩ => ⟨S4x2064x6144, .f32⟩
  | .hbm, ⟨25, _⟩ => ⟨S4x2064x6144, .f32⟩
  | .hbm, ⟨26, _⟩ => ⟨S4x2064x6144, .f32⟩
  | .hbm, ⟨27, _⟩ => ⟨S4x2064x6144, .f32⟩
  | .hbm, ⟨28, _⟩ => ⟨S1x6144, .f32⟩
  | .hbm, ⟨29, _⟩ => ⟨S6144, .f32⟩
  | .hbm, ⟨30, _⟩ => ⟨S1x1x6144, .f32⟩
  | .hbm, ⟨31, _⟩ => ⟨S4x2064x6144, .f32⟩
  | .hbm, ⟨32, _⟩ => ⟨S4x2064x6144, .f32⟩
  | .hbm, ⟨33, _⟩ => ⟨S4x2064x6144, .f32⟩
  | .hbm, ⟨34, _⟩ => ⟨S4x2064x6144, .f32⟩
  | .hbm, ⟨35, _⟩ => ⟨S4x2064x6144, .f32⟩
  | .hbm, ⟨36, _⟩ => ⟨S_, .f32⟩
  | .hbm, ⟨37, _⟩ => ⟨S4x2064x6144, .f32⟩
  | .hbm, ⟨38, _⟩ => ⟨S4x2064x6144, .f32⟩
  | .hbm, ⟨39, _⟩ => ⟨S_, .f32⟩
  | .hbm, ⟨40, _⟩ => ⟨S4x2064x6144, .f32⟩
  | .hbm, ⟨41, _⟩ => ⟨S4x2064x6144, .f32⟩
  | .hbm, ⟨42, _⟩ => ⟨S4x2064x6144, .f32⟩
  | .hbm, ⟨43, _⟩ => ⟨S4x2064x3x16x128, .f32⟩
  | .hbm, ⟨44, _⟩ => ⟨S4x2064x1x16x128, .f32⟩
  | .hbm, ⟨45, _⟩ => ⟨S4x2064x16x128, .f32⟩
  | .hbm, ⟨46, _⟩ => ⟨S4x2064x16x128, .f32⟩
  | .hbm, ⟨47, _⟩ => ⟨S_, .f32⟩
  | .hbm, ⟨48, _⟩ => ⟨S4x2064x16, .f32⟩
  | .hbm, ⟨49, _⟩ => ⟨S4x2064x16x1, .f32⟩
  | .hbm, ⟨50, _⟩ => ⟨S_, .f32⟩
  | .hbm, ⟨51, _⟩ => ⟨S4x2064x16x1, .f32⟩
  | .hbm, ⟨52, _⟩ => ⟨S4x2064x16x1, .f32⟩
  | .hbm, ⟨53, _⟩ => ⟨S4x2064x16x1, .f32⟩
  | .hbm, ⟨54, _⟩ => ⟨S4x2064x16x128, .f32⟩
  | .hbm, ⟨55, _⟩ => ⟨S4x2064x16x128, .f32⟩
  | .hbm, ⟨56, _⟩ => ⟨S_, .f32⟩
  | .hbm, ⟨57, _⟩ => ⟨S4x2064x16x128, .f32⟩
  | .hbm, ⟨58, _⟩ => ⟨S4x2064x16x128, .f32⟩
  | .hbm, ⟨59, _⟩ => ⟨S4x2064x1x16x128, .f32⟩
  | .hbm, ⟨60, _⟩ => ⟨S4x2064x16x128, .f32⟩
  | .hbm, ⟨61, _⟩ => ⟨S4x2064x16x128, .f32⟩
  | .hbm, ⟨62, _⟩ => ⟨S_, .f32⟩
  | .hbm, ⟨63, _⟩ => ⟨S4x2064x16, .f32⟩
  | .hbm, ⟨64, _⟩ => ⟨S4x2064x16x1, .f32⟩
  | .hbm, ⟨65, _⟩ => ⟨S_, .f32⟩
  | .hbm, ⟨66, _⟩ => ⟨S4x2064x16x1, .f32⟩
  | .hbm, ⟨67, _⟩ => ⟨S4x2064x16x1, .f32⟩
  | .hbm, ⟨68, _⟩ => ⟨S4x2064x16x1, .f32⟩
  | .hbm, ⟨69, _⟩ => ⟨S4x2064x16x128, .f32⟩
  | .hbm, ⟨70, _⟩ => ⟨S4x2064x16x128, .f32⟩
  | .hbm, ⟨71, _⟩ => ⟨S4x2064x1x16x128, .f32⟩
  | .hbm, ⟨72, _⟩ => ⟨S4x2064x16x128, .f32⟩
  | .hbm, ⟨73, _⟩ => ⟨S4x2064x1x16x128, .f32⟩
  | .hbm, ⟨74, _⟩ => ⟨S4x2064x1x16x128, .f32⟩
  | .hbm, ⟨75, _⟩ => ⟨S4x2064x1x16x128, .f32⟩
  | .hbm, ⟨76, _⟩ => ⟨S4x2064x3x16x128, .f32⟩
  | .hbm, ⟨77, _⟩ => ⟨S4x2064x6144, .f32⟩
  | .hbm, ⟨78, _⟩ => ⟨S_, .i32⟩
  | .hbm, ⟨79, _⟩ => ⟨S_, .f32⟩
  | .hbm, ⟨80, _⟩ => ⟨S4x2176x6144, .f32⟩
  | .hbm, ⟨81, _⟩ => ⟨S8704x6144, .f32⟩
  | .hbm, ⟨82, _⟩ => ⟨S4x3x6144, .f32⟩
  | _, _ => ⟨S9216x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst : Ref sig .tc := ⟨.hbm, 47, rfl⟩
abbrev main_v36 : Ref sig .tc := ⟨.hbm, 48, rfl⟩
abbrev main_v37 : Ref sig .tc := ⟨.hbm, 49, rfl⟩
abbrev main_cst_0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_1 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_2 : Ref sig .tc := ⟨.hbm, 62, rfl⟩
abbrev main_v48 : Ref sig .tc := ⟨.hbm, 63, rfl⟩
abbrev main_v49 : Ref sig .tc := ⟨.hbm, 64, rfl⟩
abbrev main_cst_3 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c : Ref sig .tc := ⟨.hbm, 78, rfl⟩
abbrev main_call1_v0 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== GdnOut.lean ====
abbrev S8704x2048 : Shape := ⟨2, ![8704, 2048]⟩
abbrev S9216x8192 : Shape := ⟨2, ![9216, 8192]⟩
abbrev S128 : Shape := ⟨1, ![128]⟩
abbrev S1x128 : Shape := ⟨2, ![1, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S9216x8192, .f32⟩
  | .hbm, ⟨2, _⟩ => ⟨S128, .f32⟩
  | .hbm, ⟨3, _⟩ => ⟨S1x128, .f32⟩
  | .hbm, ⟨4, _⟩ => ⟨S8704x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x128, .f32⟩
  | .local _ .vmem, ⟨5, _⟩ => ⟨S256x2048, .bf16⟩
  | .local _ .vmem, ⟨6, _⟩ => ⟨S256x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c3_i32 : BitVec 32 := 3#32
  let c0_i32_0 : BitVec 32 := 0#32
  ![v0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GdnOutRefIdeal.lean ====
abbrev S8704x2048 : Shape := ⟨2, ![8704, 2048]⟩
abbrev S9216x8192 : Shape := ⟨2, ![9216, 8192]⟩
abbrev S128 : Shape := ⟨1, ![128]⟩
abbrev S8704x16x128 : Shape := ⟨3, ![8704, 16, 128]⟩
abbrev S_ : Shape := ⟨0, ![]⟩
abbrev S8704x16 : Shape := ⟨2, ![8704, 16]⟩
abbrev S8704x16x1 : Shape := ⟨3, ![8704, 16, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S9216x8192, .f32⟩
  | .hbm, ⟨2, _⟩ => ⟨S128, .f32⟩
  | .hbm, ⟨3, _⟩ => ⟨S8704x16x128, .f32⟩
  | .hbm, ⟨4, _⟩ => ⟨S8704x2048, .f32⟩
  | .hbm, ⟨5, _⟩ => ⟨S8704x16x128, .f32⟩
  | .hbm, ⟨6, _⟩ => ⟨S8704x16x128, .f32⟩
  | .hbm, ⟨7, _⟩ => ⟨S_, .f32⟩
  | .hbm, ⟨8, _⟩ => ⟨S8704x16, .f32⟩
  | .hbm, ⟨9, _⟩ => ⟨S8704x16x1, .f32⟩
  | .hbm, ⟨10, _⟩ => ⟨S_, .f32⟩
  | .hbm, ⟨11, _⟩ => ⟨S8704x16x1, .f32⟩
  | .hbm, ⟨12, _⟩ => ⟨S8704x16x1, .f32⟩
  | .hbm, ⟨13, _⟩ => ⟨S_, .f32⟩
  | .hbm, ⟨14, _⟩ => ⟨S8704x16x1, .f32⟩
  | .hbm, ⟨15, _⟩ => ⟨S8704x16x1, .f32⟩
  | .hbm, ⟨16, _⟩ => ⟨S8704x16x1, .f32⟩
  | .hbm, ⟨17, _⟩ => ⟨S8704x16x128, .f32⟩
  | .hbm, ⟨18, _⟩ => ⟨S8704x16x128, .f32⟩
  | .hbm, ⟨19, _⟩ => ⟨S1x1x128, .f32⟩
  | .hbm, ⟨20, _⟩ => ⟨S8704x16x128, .f32⟩
  | .hbm, ⟨21, _⟩ => ⟨S8704x16x128, .f32⟩
  | .hbm, ⟨22, _⟩ => ⟨S8704x16x128, .f32⟩
  | .hbm, ⟨23, _⟩ => ⟨S8704x16x128, .f32⟩
  | .hbm, ⟨24, _⟩ => ⟨S_, .f32⟩
  | .hbm, ⟨25, _⟩ => ⟨S8704x16x128, .f32⟩
  | .hbm, ⟨26, _⟩ => ⟨S8704x16x128, .f32⟩
  | .hbm, ⟨27, _⟩ => ⟨S_, .f32⟩
  | .hbm, ⟨28, _⟩ => ⟨S8704x16x128, .f32⟩
  | .hbm, ⟨29, _⟩ => ⟨S8704x16x128, .f32⟩
  | .hbm, ⟨30, _⟩ => ⟨S8704x16x128, .f32⟩
  | .hbm, ⟨31, _⟩ => ⟨S8704x16x128, .f32⟩
  | .hbm, ⟨32, _⟩ => ⟨S8704x2048, .f32⟩
  | .hbm, ⟨33, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Shift.lean ====
abbrev S9216x6144 : Shape := ⟨2, ![9216, 6144]⟩
abbrev S4x6400 : Shape := ⟨2, ![4, 6400]⟩
abbrev S6400 : Shape := ⟨1, ![6400]⟩
abbrev S4x6144 : Shape := ⟨2, ![4, 6144]⟩
abbrev S6144 : Shape := ⟨1, ![6144]⟩
abbrev S4x1x6144 : Shape := ⟨3, ![4, 1, 6144]⟩
abbrev S1x6144 : Shape := ⟨2, ![1, 6144]⟩
abbrev S8704x6144 : Shape := ⟨2, ![8704, 6144]⟩
abbrev S2176x256 : Shape := ⟨2, ![2176, 256]⟩
abbrev S1x1x256 : Shape := ⟨3, ![1, 1, 256]⟩
abbrev S1x256 : Shape := ⟨2, ![1, 256]⟩
abbrev S2184x256 : Shape := ⟨2, ![2184, 256]⟩
abbrev S8x256 : Shape := ⟨2, ![8, 256]⟩

abbrev nBuf : Space → Nat
  | .hbm => 9
  | .vmem => 11
  | .smem => 0
  | _ => 0

abbrev bufTy : (tb : Table) → Fin (tcTables nBuf tb) → BufTy
  | .hbm, ⟨0, _⟩ => ⟨S9216x6144, .f32⟩
  | .hbm, ⟨1, _⟩ => ⟨S4x6400, .f32⟩
  | .hbm, ⟨2, _⟩ => ⟨S6400, .f32⟩
  | .hbm, ⟨3, _⟩ => ⟨S4x6144, .f32⟩
  | .hbm, ⟨4, _⟩ => ⟨S6144, .f32⟩
  | .hbm, ⟨5, _⟩ => ⟨S4x1x6144, .f32⟩
  | .hbm, ⟨6, _⟩ => ⟨S1x6144, .f32⟩
  | .hbm, ⟨7, _⟩ => ⟨S8704x6144, .f32⟩
  | .hbm, ⟨8, _⟩ => ⟨S4x1x6144, .f32⟩
  | .local _ .vmem, ⟨0, _⟩ => ⟨S2176x256, .f32⟩
  | .local _ .vmem, ⟨1, _⟩ => ⟨S2176x256, .f32⟩
  | .local _ .vmem, ⟨2, _⟩ => ⟨S1x1x256, .f32⟩
  | .local _ .vmem, ⟨3, _⟩ => ⟨S1x1x256, .f32⟩
  | .local _ .vmem, ⟨4, _⟩ => ⟨S1x256, .f32⟩
  | .local _ .vmem, ⟨5, _⟩ => ⟨S1x256, .f32⟩
  | .local _ .vmem, ⟨6, _⟩ => ⟨S2176x256, .f32⟩
  | .local _ .vmem, ⟨7, _⟩ => ⟨S2176x256, .f32⟩
  | .local _ .vmem, ⟨8, _⟩ => ⟨S1x1x256, .f32⟩
  | .local _ .vmem, ⟨9, _⟩ => ⟨S1x1x256, .f32⟩
  | .local _ .vmem, ⟨10, _⟩ => ⟨S2184x256, .f32⟩
  | _, _ => ⟨S9216x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ShiftRefIdeal.lean ====
abbrev S9216x6144 : Shape := ⟨2, ![9216, 6144]⟩
abbrev S4x6400 : Shape := ⟨2, ![4, 6400]⟩
abbrev S6400 : Shape := ⟨1, ![6400]⟩
abbrev S8704x6144 : Shape := ⟨2, ![8704, 6144]⟩
abbrev S4x2176x6144 : Shape := ⟨3, ![4, 2176, 6144]⟩
abbrev S4x6144 : Shape := ⟨2, ![4, 6144]⟩
abbrev S6144 : Shape := ⟨1, ![6144]⟩
abbrev S4x1x6144 : Shape := ⟨3, ![4, 1, 6144]⟩
abbrev S4x2175x6144 : Shape := ⟨3, ![4, 2175, 6144]⟩
abbrev S1x1x6144 : Shape := ⟨3, ![1, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S9216x6144, .f32⟩
  | .hbm, ⟨1, _⟩ => ⟨S4x6400, .f32⟩
  | .hbm, ⟨2, _⟩ => ⟨S6400, .f32⟩
  | .hbm, ⟨3, _⟩ => ⟨S8704x6144, .f32⟩
  | .hbm, ⟨4, _⟩ => ⟨S4x2176x6144, .f32⟩
  | .hbm, ⟨5, _⟩ => ⟨S4x6144, .f32⟩
  | .hbm, ⟨6, _⟩ => ⟨S6144, .f32⟩
  | .hbm, ⟨7, _⟩ => ⟨S4x1x6144, .f32⟩
  | .hbm, ⟨8, _⟩ => ⟨S4x2175x6144, .f32⟩
  | .hbm, ⟨9, _⟩ => ⟨S4x2176x6144, .f32⟩
  | .hbm, ⟨10, _⟩ => ⟨S4x2176x6144, .f32⟩
  | .hbm, ⟨11, _⟩ => ⟨S1x1x6144, .f32⟩
  | .hbm, ⟨12, _⟩ => ⟨S4x2176x6144, .f32⟩
  | .hbm, ⟨13, _⟩ => ⟨S4x2176x6144, .f32⟩
  | .hbm, ⟨14, _⟩ => ⟨S4x2176x6144, .f32⟩
  | .hbm, ⟨15, _⟩ => ⟨S8704x6144, .f32⟩
  | .hbm, ⟨16, _⟩ => ⟨S4x1x6144, .f32⟩
  | _, _ => ⟨S9216x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== ShiftLora.lean ====
abbrev S9216x384 : Shape := ⟨2, ![9216, 384]⟩
abbrev S4x6400 : Shape := ⟨2, ![4, 6400]⟩
abbrev S6400 : Shape := ⟨1, ![6400]⟩
abbrev S4x256 : Shape := ⟨2, ![4, 256]⟩
abbrev S256 : Shape := ⟨1, ![256]⟩
abbrev S4x1x256 : Shape := ⟨3, ![4, 1, 256]⟩
abbrev S1x256 : Shape := ⟨2, ![1, 256]⟩
abbrev S8704x256 : Shape := ⟨2, ![8704, 256]⟩
abbrev S2176x256 : Shape := ⟨2, ![2176, 256]⟩
abbrev S1x1x256 : Shape := ⟨3, ![1, 1, 256]⟩
abbrev S2184x256 : Shape := ⟨2, ![2184, 256]⟩
abbrev S8x256 : Shape := ⟨2, ![8, 256]⟩

abbrev nBuf : Space → Nat
  | .hbm => 9
  | .vmem => 10
  | .smem => 0
  | _ => 0

abbrev bufTy : (tb : Table) → Fin (tcTables nBuf tb) → BufTy
  | .hbm, ⟨0, _⟩ => ⟨S9216x384, .f32⟩
  | .hbm, ⟨1, _⟩ => ⟨S4x6400, .f32⟩
  | .hbm, ⟨2, _⟩ => ⟨S6400, .f32⟩
  | .hbm, ⟨3, _⟩ => ⟨S4x256, .f32⟩
  | .hbm, ⟨4, _⟩ => ⟨S256, .f32⟩
  | .hbm, ⟨5, _⟩ => ⟨S4x1x256, .f32⟩
  | .hbm, ⟨6, _⟩ => ⟨S1x256, .f32⟩
  | .hbm, ⟨7, _⟩ => ⟨S8704x256, .f32⟩
  | .hbm, ⟨8, _⟩ => ⟨S4x1x256, .f32⟩
  | .local _ .vmem, ⟨0, _⟩ => ⟨S2176x256, .f32⟩
  | .local _ .vmem, ⟨1, _⟩ => ⟨S2176x256, .f32⟩
  | .local _ .vmem, ⟨2, _⟩ => ⟨S1x1x256, .f32⟩
  | .local _ .vmem, ⟨3, _⟩ => ⟨S1x1x256, .f32⟩
  | .local _ .vmem, ⟨4, _⟩ => ⟨S1x256, .f32⟩
  | .local _ .vmem, ⟨5, _⟩ => ⟨S2176x256, .f32⟩
  | .local _ .vmem, ⟨6, _⟩ => ⟨S2176x256, .f32⟩
  | .local _ .vmem, ⟨7, _⟩ => ⟨S1x1x256, .f32⟩
  | .local _ .vmem, ⟨8, _⟩ => ⟨S1x1x256, .f32⟩
  | .local _ .vmem, ⟨9, _⟩ => ⟨S2184x256, .f32⟩
  | _, _ => ⟨S9216x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ShiftLoraRefIdeal.lean ====
abbrev S9216x384 : Shape := ⟨2, ![9216, 384]⟩
abbrev S4x6400 : Shape := ⟨2, ![4, 6400]⟩
abbrev S6400 : Shape := ⟨1, ![6400]⟩
abbrev S8704x256 : Shape := ⟨2, ![8704, 256]⟩
abbrev S4x2176x256 : Shape := ⟨3, ![4, 2176, 256]⟩
abbrev S4x256 : Shape := ⟨2, ![4, 256]⟩
abbrev S256 : Shape := ⟨1, ![256]⟩
abbrev S4x1x256 : Shape := ⟨3, ![4, 1, 256]⟩
abbrev S4x2175x256 : Shape := ⟨3, ![4, 2175, 256]⟩
abbrev S1x1x256 : Shape := ⟨3, ![1, 1, 256]⟩

abbrev nBuf : Space → Nat
  | .hbm => 17
  | .vmem => 0
  | .smem => 0
  | _ => 0

abbrev bufTy : (tb : Table) → Fin (tcTables nBuf tb) → BufTy
  | .hbm, ⟨0, _⟩ => ⟨S9216x384, .f32⟩
  | .hbm, ⟨1, _⟩ => ⟨S4x6400, .f32⟩
  | .hbm, ⟨2, _⟩ => ⟨S6400, .f32⟩
  | .hbm, ⟨3, _⟩ => ⟨S8704x256, .f32⟩
  | .hbm, ⟨4, _⟩ => ⟨S4x2176x256, .f32⟩
  | .hbm, ⟨5, _⟩ => ⟨S4x256, .f32⟩
  | .hbm, ⟨6, _⟩ => ⟨S256, .f32⟩
  | .hbm, ⟨7, _⟩ => ⟨S4x1x256, .f32⟩
  | .hbm, ⟨8, _⟩ => ⟨S4x2175x256, .f32⟩
  | .hbm, ⟨9, _⟩ => ⟨S4x2176x256, .f32⟩
  | .hbm, ⟨10, _⟩ => ⟨S4x2176x256, .f32⟩
  | .hbm, ⟨11, _⟩ => ⟨S1x1x256, .f32⟩
  | .hbm, ⟨12, _⟩ => ⟨S4x2176x256, .f32⟩
  | .hbm, ⟨13, _⟩ => ⟨S4x2176x256, .f32⟩
  | .hbm, ⟨14, _⟩ => ⟨S4x2176x256, .f32⟩
  | .hbm, ⟨15, _⟩ => ⟨S8704x256, .f32⟩
  | .hbm, ⟨16, _⟩ => ⟨S4x1x256, .f32⟩
  | _, _ => ⟨S9216x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== RwkvOut.lean ====
abbrev S8704x2048 : Shape := ⟨2, ![8704, 2048]⟩
abbrev S2048 : Shape := ⟨1, ![2048]⟩
abbrev S1x2048 : Shape := ⟨2, ![1, 2048]⟩
abbrev S256x512 : Shape := ⟨2, ![256, 512]⟩
abbrev S1x512 : Shape := ⟨2, ![1, 512]⟩
abbrev S128x128 : Shape := ⟨2, ![128, 128]⟩
abbrev S256x128 : Shape := ⟨2, ![256, 128]⟩
abbrev S256x384 : Shape := ⟨2, ![256, 384]⟩
abbrev S384x128 : Shape := ⟨2, ![384, 128]⟩
abbrev S1x128 : Shape := ⟨2, ![1, 128]⟩

abbrev nBuf : Space → Nat
  | .hbm => 8
  | .vmem => 12
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S8704x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8704x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RwkvOutRefIdeal.lean ====
abbrev S8704x2048 : Shape := ⟨2, ![8704, 2048]⟩
abbrev S2048 : Shape := ⟨1, ![2048]⟩
abbrev S8704x32x64 : Shape := ⟨3, ![8704, 32, 64]⟩
abbrev S_ : Shape := ⟨0, ![]⟩
abbrev S8704x32 : Shape := ⟨2, ![8704, 32]⟩
abbrev S8704x32x1 : Shape := ⟨3, ![8704, 32, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S8704x2048, .f32⟩
  | .hbm, ⟨3, _⟩ => ⟨S2048, .f32⟩
  | .hbm, ⟨4, _⟩ => ⟨S2048, .f32⟩
  | .hbm, ⟨5, _⟩ => ⟨S8704x32x64, .f32⟩
  | .hbm, ⟨6, _⟩ => ⟨S_, .f32⟩
  | .hbm, ⟨7, _⟩ => ⟨S8704x32, .f32⟩
  | .hbm, ⟨8, _⟩ => ⟨S8704x32x1, .f32⟩
  | .hbm, ⟨9, _⟩ => ⟨S_, .f32⟩
  | .hbm, ⟨10, _⟩ => ⟨S8704x32x1, .f32⟩
  | .hbm, ⟨11, _⟩ => ⟨S8704x32x1, .f32⟩
  | .hbm, ⟨12, _⟩ => ⟨S8704x32x64, .f32⟩
  | .hbm, ⟨13, _⟩ => ⟨S8704x32x64, .f32⟩
  | .hbm, ⟨14, _⟩ => ⟨S8704x32x64, .f32⟩
  | .hbm, ⟨15, _⟩ => ⟨S8704x32x64, .f32⟩
  | .hbm, ⟨16, _⟩ => ⟨S8704x32x64, .f32⟩
  | .hbm, ⟨17, _⟩ => ⟨S_, .f32⟩
  | .hbm, ⟨18, _⟩ => ⟨S8704x32, .f32⟩
  | .hbm, ⟨19, _⟩ => ⟨S8704x32x1, .f32⟩
  | .hbm, ⟨20, _⟩ => ⟨S_, .f32⟩
  | .hbm, ⟨21, _⟩ => ⟨S8704x32x1, .f32⟩
  | .hbm, ⟨22, _⟩ => ⟨S8704x32x1, .f32⟩
  | .hbm, ⟨23, _⟩ => ⟨S8704x32x64, .f32⟩
  | .hbm, ⟨24, _⟩ => ⟨S8704x32x64, .f32⟩
  | .hbm, ⟨25, _⟩ => ⟨S_, .f32⟩
  | .hbm, ⟨26, _⟩ => ⟨S8704x32x1, .f32⟩
  | .hbm, ⟨27, _⟩ => ⟨S8704x32x1, .f32⟩
  | .hbm, ⟨28, _⟩ => ⟨S8704x32x1, .f32⟩
  | .hbm, ⟨29, _⟩ => ⟨S8704x32x64, .f32⟩
  | .hbm, ⟨30, _⟩ => ⟨S8704x32x64, .f32⟩
  | .hbm, ⟨31, _⟩ => ⟨S8704x2048, .f32⟩
  | .hbm, ⟨32, _⟩ => ⟨S1x2048, .f32⟩
  | .hbm, ⟨33, _⟩ => ⟨S8704x2048, .f32⟩
  | .hbm, ⟨34, _⟩ => ⟨S8704x2048, .f32⟩
  | .hbm, ⟨35, _⟩ => ⟨S1x2048, .f32⟩
  | .hbm, ⟨36, _⟩ => ⟨S8704x2048, .f32⟩
  | .hbm, ⟨37, _⟩ => ⟨S8704x2048, .f32⟩
  | .hbm, ⟨38, _⟩ => ⟨S8704x2048, .f32⟩
  | .hbm, ⟨39, _⟩ => ⟨S8704x2048, .f32⟩
  | .hbm, ⟨40, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Cumulative.lean ====
abbrev S16x9216 : Shape := ⟨2, ![16, 9216]⟩
abbrev S16x8704 : Shape := ⟨2, ![16, 8704]⟩
abbrev S16x128 : Shape := ⟨2, ![16, 128]⟩
abbrev S128x128 : Shape := ⟨2, ![128, 128]⟩
abbrev S16x384 : Shape := ⟨2, ![16, 384]⟩
abbrev S384x128 : Shape := ⟨2, ![384, 128]⟩
abbrev S16x1 : Shape := ⟨2, ![16, 1]⟩

abbrev nBuf : Space → Nat
  | .hbm => 2
  | .vmem => 5
  | .smem => 0
  | _ => 0

abbrev bufTy : (tb : Table) → Fin (tcTables nBuf tb) → BufTy
  | .hbm, ⟨0, _⟩ => ⟨S16x9216, .f32⟩
  | .hbm, ⟨1, _⟩ => ⟨S16x8704, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | _, _ => ⟨S16x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CumulativeRefIdeal.lean ====
abbrev S16x9216 : Shape := ⟨2, ![16, 9216]⟩
abbrev S16x8704 : Shape := ⟨2, ![16, 8704]⟩
abbrev S16x4x2176 : Shape := ⟨3, ![16, 4, 2176]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16x9216, .f32⟩
  | .hbm, ⟨1, _⟩ => ⟨S16x8704, .f32⟩
  | .hbm, ⟨2, _⟩ => ⟨S16x4x2176, .f32⟩
  | .hbm, ⟨3, _⟩ => ⟨S_, .f32⟩
  | .hbm, ⟨4, _⟩ => ⟨S_, .f32⟩
  | .hbm, ⟨5, _⟩ => ⟨S16x4x2176, .f32⟩
  | .hbm, ⟨6, _⟩ => ⟨S16x8704, .f32⟩
  | _, _ => ⟨S16x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_call0_cst : Ref sig .tc := ⟨.hbm, 3, rfl⟩
abbrev main_call0_call0_v0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Scan.lean ====
abbrev S512x2048 : Shape := ⟨2, ![512, 2048]⟩
abbrev S8x16x128x128 : Shape := ⟨4, ![8, 16, 128, 128]⟩
abbrev S64x1024 : Shape := ⟨2, ![64, 1024]⟩
abbrev S1x8x128x128 : Shape := ⟨4, ![1, 8, 128, 128]⟩
abbrev S8x128x128 : Shape := ⟨3, ![8, 128, 128]⟩
abbrev S1x128x128 : Shape := ⟨3, ![1, 128, 128]⟩
abbrev S128x128 : Shape := ⟨2, ![128, 128]⟩
abbrev S64x128 : Shape := ⟨2, ![64, 128]⟩
abbrev S64x384 : Shape := ⟨2, ![64, 384]⟩
abbrev S384x128 : Shape := ⟨2, ![384, 128]⟩
abbrev S1x1x128x128 : Shape := ⟨4, ![1, 1, 128, 128]⟩
abbrev S128x384 : Shape := ⟨2, ![128, 384]⟩

abbrev nBuf : Space → Nat
  | .hbm => 7
  | .vmem => 15
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S8x16x128x128, .f32⟩
  | .hbm, ⟨3, _⟩ => ⟨S8x16x128x128, .f32⟩
  | .hbm, ⟨4, _⟩ => ⟨S8x16x128x128, .f32⟩
  | .hbm, ⟨5, _⟩ => ⟨S512x2048, .f32⟩
  | .hbm, ⟨6, _⟩ => ⟨S8x16x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S1x8x128x128, .f32⟩
  | .local _ .vmem, ⟨5, _⟩ => ⟨S1x8x128x128, .f32⟩
  | .local _ .vmem, ⟨6, _⟩ => ⟨S1x8x128x128, .f32⟩
  | .local _ .vmem, ⟨7, _⟩ => ⟨S1x8x128x128, .f32⟩
  | .local _ .vmem, ⟨8, _⟩ => ⟨S1x8x128x128, .f32⟩
  | .local _ .vmem, ⟨9, _⟩ => ⟨S1x8x128x128, .f32⟩
  | .local _ .vmem, ⟨10, _⟩ => ⟨S64x1024, .f32⟩
  | .local _ .vmem, ⟨11, _⟩ => ⟨S64x1024, .f32⟩
  | .local _ .vmem, ⟨12, _⟩ => ⟨S1x8x128x128, .f32⟩
  | .local _ .vmem, ⟨13, _⟩ => ⟨S1x8x128x128, .f32⟩
  | .local _ .vmem, ⟨14, _⟩ => ⟨S8x128x128, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_161 : BitVec 32 := 0#32
  let v291 : BitVec 1 := Scalar.cmpi .eq arg2 c0_i32_161
  let v292 : BitVec 32 := Scalar.extui v291
  let c0_i32_162 : BitVec 32 := 0#32
  let v293 : BitVec 1 := Scalar.cmpi .ne v292 c0_i32_162
  v293

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ScanRefIdeal.lean ====
abbrev S512x2048 : Shape := ⟨2, ![512, 2048]⟩
abbrev S8x16x128x128 : Shape := ⟨4, ![8, 16, 128, 128]⟩
abbrev S8x64x16x128 : Shape := ⟨4, ![8, 64, 16, 128]⟩
abbrev S8x16x64x128 : Shape := ⟨4, ![8, 16, 64, 128]⟩

abbrev nBuf : Space → Nat
  | .hbm => 15
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S8x16x128x128, .f32⟩
  | .hbm, ⟨3, _⟩ => ⟨S8x16x128x128, .f32⟩
  | .hbm, ⟨4, _⟩ => ⟨S8x16x128x128, .f32⟩
  | .hbm, ⟨5, _⟩ => ⟨S8x64x16x128, .f32⟩
  | .hbm, ⟨6, _⟩ => ⟨S8x16x64x128, .f32⟩
  | .hbm, ⟨7, _⟩ => ⟨S8x64x16x128, .f32⟩
  | .hbm, ⟨8, _⟩ => ⟨S8x16x64x128, .f32⟩
  | .hbm, ⟨9, _⟩ => ⟨S8x16x64x128, .f32⟩
  | .hbm, ⟨10, _⟩ => ⟨S8x16x64x128, .f32⟩
  | .hbm, ⟨11, _⟩ => ⟨S8x64x16x128, .f32⟩
  | .hbm, ⟨12, _⟩ => ⟨S512x2048, .f32⟩
  | .hbm, ⟨13, _⟩ => ⟨S8x16x128x128, .f32⟩
  | .hbm, ⟨14, _⟩ => ⟨S8x16x128x128, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Carry.lean ====
abbrev S8704x2048 : Shape := ⟨2, ![8704, 2048]⟩
abbrev S136x16x128x128 : Shape := ⟨4, ![136, 16, 128, 128]⟩
abbrev S4x16x128x128 : Shape := ⟨4, ![4, 16, 128, 128]⟩
abbrev S64x1024 : Shape := ⟨2, ![64, 1024]⟩
abbrev S1x8x128x128 : Shape := ⟨4, ![1, 8, 128, 128]⟩
abbrev S8x128x128 : Shape := ⟨3, ![8, 128, 128]⟩
abbrev S1x128x128 : Shape := ⟨3, ![1, 128, 128]⟩
abbrev S128x128 : Shape := ⟨2, ![128, 128]⟩
abbrev S64x128 : Shape := ⟨2, ![64, 128]⟩
abbrev S64x384 : Shape := ⟨2, ![64, 384]⟩
abbrev S384x128 : Shape := ⟨2, ![384, 128]⟩
abbrev S1x1x128x128 : Shape := ⟨4, ![1, 1, 128, 128]⟩
abbrev S128x384 : Shape := ⟨2, ![128, 384]⟩

abbrev nBuf : Space → Nat
  | .hbm => 7
  | .vmem => 15
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S136x16x128x128, .f32⟩
  | .hbm, ⟨3, _⟩ => ⟨S136x16x128x128, .f32⟩
  | .hbm, ⟨4, _⟩ => ⟨S4x16x128x128, .f32⟩
  | .hbm, ⟨5, _⟩ => ⟨S8704x2048, .f32⟩
  | .hbm, ⟨6, _⟩ => ⟨S4x16x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S1x8x128x128, .f32⟩
  | .local _ .vmem, ⟨5, _⟩ => ⟨S1x8x128x128, .f32⟩
  | .local _ .vmem, ⟨6, _⟩ => ⟨S1x8x128x128, .f32⟩
  | .local _ .vmem, ⟨7, _⟩ => ⟨S1x8x128x128, .f32⟩
  | .local _ .vmem, ⟨8, _⟩ => ⟨S1x8x128x128, .f32⟩
  | .local _ .vmem, ⟨9, _⟩ => ⟨S1x8x128x128, .f32⟩
  | .local _ .vmem, ⟨10, _⟩ => ⟨S64x1024, .f32⟩
  | .local _ .vmem, ⟨11, _⟩ => ⟨S64x1024, .f32⟩
  | .local _ .vmem, ⟨12, _⟩ => ⟨S1x8x128x128, .f32⟩
  | .local _ .vmem, ⟨13, _⟩ => ⟨S1x8x128x128, .f32⟩
  | .local _ .vmem, ⟨14, _⟩ => ⟨S8x128x128, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 34], ![false, false, false]⟩

def k0_cond2 (i : grid0.Coords) : BitVec 1 :=
  let arg2 : BitVec 32 := BitVec.ofNat 32 (i 2).val
  let c33_i32 : BitVec 32 := 33#32
  let v291 : BitVec 1 := Scalar.cmpi .eq arg2 c33_i32
  let v292 : BitVec 32 := Scalar.extui v291
  let c0_i32_161 : BitVec 32 := 0#32
  let v293 : BitVec 1 := Scalar.cmpi .ne v292 c0_i32_161
  v293

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.muli arg0 c34_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.muli arg0 c34_i32
  let v1 : BitVec 32 := Scalar.addi v0 arg2
  let c0_i32 : BitVec 32 := 0#32
  ![v1.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.muli arg0 c34_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.muli arg0 c34_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.muli arg0 c34_i32
  let v1 : BitVec 32 := Scalar.addi v0 arg2
  let c0_i32 : BitVec 32 := 0#32
  ![v1.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== CarryRefIdeal.lean ====
abbrev S8704x2048 : Shape := ⟨2, ![8704, 2048]⟩
abbrev S136x16x128x128 : Shape := ⟨4, ![136, 16, 128, 128]⟩
abbrev S4x16x128x128 : Shape := ⟨4, ![4, 16, 128, 128]⟩
abbrev S4x34x64x16x128 : Shape := ⟨5, ![4, 34, 64, 16, 128]⟩
abbrev S34x4x16x64x128 : Shape := ⟨5, ![34, 4, 16, 64, 128]⟩
abbrev S4x34x16x128x128 : Shape := ⟨5, ![4, 34, 16, 128, 128]⟩
abbrev S34x4x16x128x128 : Shape := ⟨5, ![34, 4, 16, 128, 128]⟩
abbrev S_ : Shape := ⟨0, ![]⟩
abbrev S1x4x16x64x128 : Shape := ⟨5, ![1, 4, 16, 64, 128]⟩
abbrev S4x16x64x128 : Shape := ⟨4, ![4, 16, 64, 128]⟩
abbrev S1x4x16x128x128 : Shape := ⟨5, ![1, 4, 16, 128, 128]⟩

abbrev nBuf : Space → Nat
  | .hbm => 63
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S136x16x128x128, .f32⟩
  | .hbm, ⟨3, _⟩ => ⟨S136x16x128x128, .f32⟩
  | .hbm, ⟨4, _⟩ => ⟨S4x16x128x128, .f32⟩
  | .hbm, ⟨5, _⟩ => ⟨S4x34x64x16x128, .f32⟩
  | .hbm, ⟨6, _⟩ => ⟨S34x4x16x64x128, .f32⟩
  | .hbm, ⟨7, _⟩ => ⟨S4x34x64x16x128, .f32⟩
  | .hbm, ⟨8, _⟩ => ⟨S34x4x16x64x128, .f32⟩
  | .hbm, ⟨9, _⟩ => ⟨S4x34x16x128x128, .f32⟩
  | .hbm, ⟨10, _⟩ => ⟨S34x4x16x128x128, .f32⟩
  | .hbm, ⟨11, _⟩ => ⟨S4x34x16x128x128, .f32⟩
  | .hbm, ⟨12, _⟩ => ⟨S34x4x16x128x128, .f32⟩
  | .hbm, ⟨13, _⟩ => ⟨S_, .f32⟩
  | .hbm, ⟨14, _⟩ => ⟨S34x4x16x64x128, .f32⟩
  | .hbm, ⟨15, _⟩ => ⟨S_, .i32⟩
  | .hbm, ⟨16, _⟩ => ⟨S34x4x16x64x128, .f32⟩
  | .hbm, ⟨17, _⟩ => ⟨S34x4x16x64x128, .f32⟩
  | .hbm, ⟨18, _⟩ => ⟨S34x4x16x128x128, .f32⟩
  | .hbm, ⟨19, _⟩ => ⟨S34x4x16x128x128, .f32⟩
  | .hbm, ⟨20, _⟩ => ⟨S_, .i32⟩
  | .hbm, ⟨21, _⟩ => ⟨S4x16x128x128, .f32⟩
  | .hbm, ⟨22, _⟩ => ⟨S34x4x16x64x128, .f32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1x4x16x64x128, .f32⟩
  | .hbm, ⟨30, _⟩ => ⟨S4x16x64x128, .f32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x4x16x64x128, .f32⟩
  | .hbm, ⟨36, _⟩ => ⟨S4x16x64x128, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x4x16x128x128, .f32⟩
  | .hbm, ⟨42, _⟩ => ⟨S4x16x128x128, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x4x16x128x128, .f32⟩
  | .hbm, ⟨48, _⟩ => ⟨S4x16x128x128, .f32⟩
  | .hbm, ⟨49, _⟩ => ⟨S4x16x64x128, .f32⟩
  | .hbm, ⟨50, _⟩ => ⟨S4x16x64x128, .f32⟩
  | .hbm, ⟨51, _⟩ => ⟨S4x16x128x128, .f32⟩
  | .hbm, ⟨52, _⟩ => ⟨S4x16x128x128, .f32⟩
  | .hbm, ⟨53, _⟩ => ⟨S1x4x16x64x128, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S34x4x16x64x128, .f32⟩
  | .hbm, ⟨59, _⟩ => ⟨S_, .i32⟩
  | .hbm, ⟨60, _⟩ => ⟨S_, .i32⟩
  | .hbm, ⟨61, _⟩ => ⟨S4x34x64x16x128, .f32⟩
  | .hbm, ⟨62, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_c : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev main_while0c_c_6 : Ref sig .tc := ⟨.hbm, 23, rfl⟩
abbrev main_while0c_v12 : Ref sig .tc := ⟨.hbm, 24, rfl⟩
abbrev main_while0b_call0_c : Ref sig .tc := ⟨.hbm, 25, rfl⟩
abbrev main_while0b_call0_c_0 : Ref sig .tc := ⟨.hbm, 26, rfl⟩
abbrev main_while0b_call0_c_1 : Ref sig .tc := ⟨.hbm, 27, rfl⟩
abbrev main_while0b_call0_c_2 : Ref sig .tc := ⟨.hbm, 28, rfl⟩
abbrev main_while0b_call0_v0 : Ref sig .tc := ⟨.hbm, 29, rfl⟩
abbrev main_while0b_v12 : Ref sig .tc := ⟨.hbm, 30, rfl⟩
abbrev main_while0b_call1_c : Ref sig .tc := ⟨.hbm, 31, rfl⟩
abbrev main_while0b_call1_c_0 : Ref sig .tc := ⟨.hbm, 32, rfl⟩
abbrev main_while0b_call1_c_1 : Ref sig .tc := ⟨.hbm, 33, rfl⟩
abbrev main_while0b_call1_c_2 : Ref sig .tc := ⟨.hbm, 34, rfl⟩
abbrev main_while0b_call1_v0 : Ref sig .tc := ⟨.hbm, 35, rfl⟩
abbrev main_while0b_v13 : Ref sig .tc := ⟨.hbm, 36, rfl⟩
abbrev main_while0b_call2_c : Ref sig .tc := ⟨.hbm, 37, rfl⟩
abbrev main_while0b_call2_c_0 : Ref sig .tc := ⟨.hbm, 38, rfl⟩
abbrev main_while0b_call2_c_1 : Ref sig .tc := ⟨.hbm, 39, rfl⟩
abbrev main_while0b_call2_c_2 : Ref sig .tc := ⟨.hbm, 40, rfl⟩
abbrev main_while0b_call2_v0 : Ref sig .tc := ⟨.hbm, 41, rfl⟩
abbrev main_while0b_v14 : Ref sig .tc := ⟨.hbm, 42, rfl⟩
abbrev main_while0b_call3_c : Ref sig .tc := ⟨.hbm, 43, rfl⟩
abbrev main_while0b_call3_c_0 : Ref sig .tc := ⟨.hbm, 44, rfl⟩
abbrev main_while0b_call3_c_1 : Ref sig .tc := ⟨.hbm, 45, rfl⟩
abbrev main_while0b_call3_c_2 : Ref sig .tc := ⟨.hbm, 46, rfl⟩
abbrev main_while0b_call3_v0 : Ref sig .tc := ⟨.hbm, 47, rfl⟩
abbrev main_while0b_v15 : Ref sig .tc := ⟨.hbm, 48, rfl⟩
abbrev main_while0b_v16 : Ref sig .tc := ⟨.hbm, 49, rfl⟩
abbrev main_while0b_v17 : Ref sig .tc := ⟨.hbm, 50, rfl⟩
abbrev main_while0b_v18 : Ref sig .tc := ⟨.hbm, 51, rfl⟩
abbrev main_while0b_v19 : Ref sig .tc := ⟨.hbm, 52, rfl⟩
abbrev main_while0b_call4_v0 : Ref sig .tc := ⟨.hbm, 53, rfl⟩
abbrev main_while0b_call4_c : Ref sig .tc := ⟨.hbm, 54, rfl⟩
abbrev main_while0b_call4_c_0 : Ref sig .tc := ⟨.hbm, 55, rfl⟩
abbrev main_while0b_call4_c_1 : Ref sig .tc := ⟨.hbm, 56, rfl⟩
abbrev main_while0b_call4_c_2 : Ref sig .tc := ⟨.hbm, 57, rfl⟩
abbrev main_while0b_v20 : Ref sig .tc := ⟨.hbm, 58, rfl⟩
abbrev main_while0b_c_6 : Ref sig .tc := ⟨.hbm, 59, rfl⟩
abbrev main_while0b_v21 : Ref sig .tc := ⟨.hbm, 60, rfl⟩
abbrev main_v10 : Ref sig .tc := ⟨.hbm, 61, rfl⟩
abbrev main_v11 : Ref sig .tc := ⟨.hbm, 62, rfl⟩

abbrev nD : Nat := 1
abbrev τ : Topo := Topo.v7x

variable {F : FTy → Type} [FloatOps F]

abbrev main_while0_count : Scf.Loop 32 := ⟨0#32, 34#32, 1#32⟩
-- ==== Proof.Softmax.lean ====
/- Facts on rows of extended reals, as softmax attention needs them: a row that is -∞ past a prefix has the same attention value
   over the prefix as over the whole row, and dividing the weighted sum by the total equals weighting by the divided terms. -/
module

public import Idealize.ShloMosaic.PureOps.Ideal
public import Mathlib.Data.EReal.Inv

@[expose] public section

noncomputable section

namespace Cert.Softmax

open Idealize.ShloMosaic

/-- The maximum of a row. -/
def top {n : ℕ} (x : Fin n → EReal) : EReal := Finset.univ.fold max ⊥ x

/-- The weight of an entry of a row before the division: its exponential after the maximum is taken off. -/
def weight {n : ℕ} (x : Fin n → EReal) (k : Fin n) : EReal := Ideal.exp (x k - top x)

/-- Attention with the division last: the weighted sum of the values over the sum of the weights. -/
def attendLate {n : ℕ} (x v : Fin n → EReal) : EReal := Ideal.div (∑ k, weight x k * v k) (∑ k, weight x k)

/-- Attention with the division first: the sum of the values weighted by the softmax of the row. -/
def attendEarly {n : ℕ} (x v : Fin n → EReal) : EReal := ∑ k, Ideal.div (weight x k) (∑ j, weight x j) * v k

/-- The maximum as the supremum over the row. -/
theorem top_eq {n : ℕ} (x : Fin n → EReal) : top x = Finset.univ.sup x := rfl

/-- A row with a real entry and no +∞ has a real maximum. -/
theorem top_real {n : ℕ} (x : Fin n → EReal) (ht : ∀ k, x k ≠ ⊤) (k : Fin n) (hk : x k ≠ ⊥) : ∃ r : ℝ, top x = r := by
  have h1 : top x ≠ ⊤ := by
    rw [top_eq]
    exact ((Finset.sup_lt_iff (by exact bot_lt_top)).2 fun j _ => lt_top_iff_ne_top.2 (ht j)).ne
  have h2 : top x ≠ ⊥ := fun h => hk (le_bot_iff.1 (by rw [← h, top_eq]; exact Finset.le_sup (Finset.mem_univ k)))
  exact ⟨(top x).toReal, (EReal.coe_toReal h1 h2).symm⟩

/-- The weights of such a row are nonnegative reals, positive where the entry is not -∞ and zero where it is. -/
theorem weight_real {n : ℕ} (x : Fin n → EReal) (ht : ∀ k, x k ≠ ⊤) (k0 : Fin n) (hk : x k0 ≠ ⊥) :
    ∃ a : Fin n → ℝ, (∀ k, weight x k = a k) ∧ (∀ k, 0 ≤ a k) ∧ ∀ k, x k ≠ ⊥ → 0 < a k := by
  obtain ⟨r, hr⟩ := top_real x ht k0 hk
  have key : ∀ k, ∃ a : ℝ, weight x k = a ∧ 0 ≤ a ∧ (x k ≠ ⊥ → 0 < a) := fun k => by
    unfold weight
    rw [hr]
    by_cases hb : x k = ⊥
    · rw [hb]
      exact ⟨0, by rw [EReal.bot_sub]; rfl, le_refl _, fun h => absurd rfl h⟩
    · obtain ⟨s, hs⟩ : ∃ s : ℝ, x k = s := ⟨(x k).toReal, (EReal.coe_toReal (ht k) hb).symm⟩
      rw [hs, ← EReal.coe_sub]
      exact ⟨Real.exp (s - r), rfl, (Real.exp_pos _).le, fun _ => Real.exp_pos _⟩
  choose a ha using key
  exact ⟨a, fun k => (ha k).1, fun k => (ha k).2.1, fun k => (ha k).2.2⟩

/-- A nonnegative real moves into a finite sum of extended reals. -/
theorem sum_mul_real {n : ℕ} (y : Fin n → EReal) (c : ℝ) (hc : 0 ≤ c) : (∑ k, y k) * (c : EReal) = ∑ k, y k * (c : EReal) := by
  induction n with
  | zero => simp
  | succ n ih =>
    rw [Fin.sum_univ_castSucc, Fin.sum_univ_castSucc,
      EReal.right_distrib_of_nonneg_of_ne_top (by exact_mod_cast hc) (EReal.coe_ne_top c), ih]

/-- The two orders of the division agree on a row with a real entry and no +∞, whatever the values are. -/
theorem late_eq_early {n : ℕ} (x v : Fin n → EReal) (ht : ∀ k, x k ≠ ⊤) (k0 : Fin n) (hk : x k0 ≠ ⊥) :
    attendLate x v = attendEarly x v := by
  obtain ⟨a, ha, h0, hp⟩ := weight_real x ht k0 hk
  have hs : (∑ k, weight x k) = ((∑ k, a k : ℝ) : EReal) := by
    rw [show ((∑ k, a k : ℝ) : EReal) = ∑ k, (a k : EReal) from map_sum (⟨⟨fun r : ℝ => (r : EReal), rfl⟩, EReal.coe_add⟩ : ℝ →+ EReal) a _]
    exact Finset.sum_congr rfl fun k _ => ha k
  have hpos : 0 < ∑ k, a k := Finset.sum_pos' (fun k _ => h0 k) ⟨k0, Finset.mem_univ _, hp k0 hk⟩
  have hne : ((∑ k, a k : ℝ) : EReal) ≠ 0 := by exact_mod_cast hpos.ne'
  unfold attendLate attendEarly
  simp only [hs, Ideal.div, if_neg hne, ← EReal.coe_inv]
  rw [sum_mul_real _ _ (inv_nonneg.2 hpos.le)]
  exact Finset.sum_congr rfl fun k _ => by rw [mul_assoc, mul_comm (v k), mul_assoc]

/-- Over a row that is -∞ from position `n` on, attention over the first `n` entries with the division last is attention over
    the whole row with the division first. -/
theorem prefix_eq {n p : ℕ} (x v : Fin n → EReal) (X V : Fin (n + p) → EReal)
    (hx : ∀ k, x k = X (Fin.castAdd p k)) (hv : ∀ k, v k = V (Fin.castAdd p k)) (hb : ∀ k, X (Fin.natAdd n k) = ⊥)
    (ht : ∀ k, X k ≠ ⊤) (k0 : Fin n) (hk : x k0 ≠ ⊥) : attendLate x v = attendEarly X V := by
  obtain rfl : x = fun k => X (Fin.castAdd p k) := funext hx
  obtain rfl : v = fun k => V (Fin.castAdd p k) := funext hv
  have htop : top (fun k => X (Fin.castAdd p k)) = top X := by
    rw [top_eq, top_eq]
    apply le_antisymm
    · exact Finset.sup_le fun k _ => Finset.le_sup (f := X) (Finset.mem_univ _)
    · refine Finset.sup_le fun k _ => ?_
      induction k using Fin.addCases with
      | left k => exact Finset.le_sup (f := fun k => X (Fin.castAdd p k)) (Finset.mem_univ k)
      | right k => rw [hb]; exact bot_le
  obtain ⟨r, hr⟩ := top_real X ht _ hk
  have hw : ∀ k, weight (fun k => X (Fin.castAdd p k)) k = weight X (Fin.castAdd p k) := fun k => by
    unfold weight; rw [htop]
  have hz : ∀ k, weight X (Fin.natAdd n k) = 0 := fun k => by
    unfold weight; rw [hb, EReal.bot_sub]; rfl
  rw [← late_eq_early X V ht _ hk]
  unfold attendLate
  simp only [hw, Fin.sum_univ_add, hz, zero_mul, Finset.sum_const_zero, add_zero]

/-- The same with the whole row's length given rather than the rest's. -/
theorem prefix_le {n N : ℕ} (h : n ≤ N) (x v : Fin n → EReal) (X V : Fin N → EReal)
    (hx : ∀ k, x k = X (Fin.castLE h k)) (hv : ∀ k, v k = V (Fin.castLE h k)) (hb : ∀ k : Fin N, n ≤ k.val → X k = ⊥)
    (ht : ∀ k, X k ≠ ⊤) (k0 : Fin n) (hk : x k0 ≠ ⊥) : attendLate x v = attendEarly X V := by
  obtain ⟨p, rfl⟩ := Nat.exists_eq_add_of_le h
  exact prefix_eq x v X V hx hv (fun k => hb _ (Nat.le_add_right n k.val)) ht k0 hk

/-- The product of a row with the identity's row `r` is its entry `r`. -/
theorem sum_delta {n : ℕ} (d : Fin n → EReal) (f : Fin n → EReal) (r : Fin n) (h1 : d r = 1) (h0 : ∀ k, k ≠ r → d k = 0) :
    ∑ k, d k * f k = f r := by
  rw [Finset.sum_eq_single r (fun k _ hk => by rw [h0 k hk, zero_mul]) fun h => absurd (Finset.mem_univ r) h, h1, one_mul]

end Cert.Softmax

end
-- ==== Proof.FoxRef.lean ====
/- The reference of the prompt attention at an index: its masked logits, its row maximum, its exponentials and its result, and the
   facts on its logits that hold when no query, key or cumulative gate is an infinity. -/
module

public import proofs.«01_k».proof.Proof.Gen.ReferenceIdeal.Read
public import Idealize.ShloMosaic.Lib.Pipeline.ValueKit
public import Idealize.ShloMosaic.Lib.Pointwise
public import proofs.«01_k».proof.Proof.Softmax

@[expose] public section

set_option maxRecDepth 16384

noncomputable section

namespace Cert.ReferenceIdeal.Attention

open Cert.ReferenceIdeal Cert.ReferenceIdeal.Gen Idealize.ShloMosaic Idealize.ShloMosaic.TcCoe Idealize.SL.Sem
open Cert.ReferenceIdeal.Read Cert.Softmax

/-- The maximum over the last of four axes, started from the word of -∞. -/
theorem reduce_max {n0 n1 n2 n3 : ℕ} {u : Shape} (x : FVec Ideal ⟨4, ![n0, n1, n2, n3]⟩ .f32) (v : FVec Ideal u .f32)
    (h : (⟨4, ![n0, n1, n2, n3]⟩ : Shape).ReducesTo [3] ⟨3, ![n0, n1, n2]⟩) (hu : 0 < u.numel) (hv : ∀ i, v i = ⊥)
    (b : Fin n0) (c : Fin n1) (i : Fin n2) :
    Host.reduce FloatOps.maximumf x v h hu (ix3 b c i) = top fun k => x (ix4 b c i k) := by
  rw [Host.reduce_eq_fold, hv, Shape.ReducesTo.fold_fiber_r4_a3]
  rfl

/-- The word of -∞. -/
theorem ofBits_bot : Ideal.ofBits .f32 0xFF800000#32 = ⊥ := by simp [Ideal.ofBits, Ideal.ieee]

/-- The row maximum over the masked logits. -/
theorem v26 (A : (⟨S9216x6144, .f32⟩ : BufTy).Contents (Elt Ideal)) (F : (⟨S16x8704, .f32⟩ : BufTy).Contents (Elt Ideal))
   (b : Fin 4) (H : Fin 16) (i : Fin 2176) :
  val_main_v26 (F := Ideal) A F (ix3 b H i) = top fun k => val_main_v25 (F := Ideal) A F (ix4 b H i k) := by
  unfold val_main_v26
  generalize val_main_v25 (F := Ideal) A F = x
  exact reduce_max x _ _ _ (fun _ => ofBits_bot) b H i

/-- The logit of query row `i` against key row `k` of sequence `b` at head `H`, before the mask. -/
def score (A : (⟨S9216x6144, .f32⟩ : BufTy).Contents (Elt Ideal)) (F : (⟨S16x8704, .f32⟩ : BufTy).Contents (Elt Ideal))
    (b : Fin 4) (H : Fin 16) (i k : Fin 2176) : EReal :=
  (∑ x : Fin 128, A (ix2 ⟨b.val * 2176 + i.val, by omega⟩ ⟨H.val * 128 + x.val, by omega⟩)
      * A (ix2 ⟨b.val * 2176 + k.val, by omega⟩ ⟨2048 + H.val * 128 + x.val, by omega⟩)) * Ideal.ofBits .f32 0x3DB504F3#32
    + F (ix2 H ⟨b.val * 2176 + i.val, by omega⟩) - F (ix2 H ⟨b.val * 2176 + k.val, by omega⟩)

/-- The logit with the causal mask. -/
def logit (A : (⟨S9216x6144, .f32⟩ : BufTy).Contents (Elt Ideal)) (F : (⟨S16x8704, .f32⟩ : BufTy).Contents (Elt Ideal))
    (b : Fin 4) (H : Fin 16) (i k : Fin 2176) : EReal := if k.val ≤ i.val then score A F b H i k else ⊥

/-- The value at key row `k` and lane `d` of head `H`. -/
def value (A : (⟨S9216x6144, .f32⟩ : BufTy).Contents (Elt Ideal)) (b : Fin 4) (H : Fin 16) (d : Fin 128) (k : Fin 2176) : EReal :=
  A (ix2 ⟨b.val * 2176 + k.val, by omega⟩ ⟨4096 + H.val * 128 + d.val, by omega⟩)

/-- The words of two positions below 2176 compare as the positions do. -/
theorem sge_pos (i k : Fin 2176) : IntOp.cmpi .sge (BitVec.ofNat 32 i.val) (BitVec.ofNat 32 k.val) = if k.val ≤ i.val then 1#1 else 0#1 := by
  have hi := i.isLt
  have hk := k.isLt
  rcases Nat.lt_or_ge i.val k.val with h | h
  · rw [if_neg (by omega)]
    refine ((by decide : ∀ w : BitVec 1, w = 0#1 ∨ w = 1#1) _).resolve_right fun hn => ?_
    have := IntOp.cmpi_sge.1 hn
    rw [BitVec.toInt_ofNat', BitVec.toInt_ofNat'] at this
    simp only [Int.bmod_def] at this
    omega
  · rw [if_pos h]
    refine IntOp.cmpi_sge.2 ?_
    rw [BitVec.toInt_ofNat', BitVec.toInt_ofNat']
    simp only [Int.bmod_def]
    omega

/-- The reference's masked logits. -/
theorem v25 (A : (⟨S9216x6144, .f32⟩ : BufTy).Contents (Elt Ideal)) (F : (⟨S16x8704, .f32⟩ : BufTy).Contents (Elt Ideal))
    (b : Fin 4) (H : Fin 16) (i k : Fin 2176) : val_main_v25 (F := Ideal) A F (ix4 b H i k) = logit A F b H i k := by
  pointwise [val_main_v25_apply, val_main_call0_v2_apply, val_main_call0_v1_apply, val_main_call0_v0_apply,
    val_main_cst_0_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_v12_apply, val_main_v11_apply, val_main_cst_apply, val_main_v10_apply, val_main_v9_apply,
    val_main_v8_apply, val_main_v7_apply, val_main_v6_apply, val_main_v5_apply, val_main_v4_apply, val_main_v3_apply,
    val_main_v2_apply, val_main_v1_apply, val_main_v0_apply]
  rw [sge_pos]
  unfold logit
  by_cases h : k.val ≤ i.val
  · rw [if_pos h, if_pos h, show ∀ u v : EReal, Scalar.select (1#1) u v = u from fun _ _ => rfl]
    unfold score
    congr 1
    · congr 1
      · congr 1
        refine Finset.sum_congr rfl fun x _ => ?_
        congr 1 <;> blk_ext
      · blk_ext
    · blk_ext
  · rw [if_neg h, if_neg h, show ∀ u v : EReal, Scalar.select (0#1) u v = v from fun _ _ => rfl]
    exact ofBits_bot

/-- The row maximum the reference subtracts. -/
theorem v28 (A : (⟨S9216x6144, .f32⟩ : BufTy).Contents (Elt Ideal)) (F : (⟨S16x8704, .f32⟩ : BufTy).Contents (Elt Ideal))
    (b : Fin 4) (H : Fin 16) (i : Fin 2176) : val_main_v28 (F := Ideal) A F (ix3 b H i) = top (logit A F b H i) := by
  rw [val_main_v28_apply, v26, val_main_v27_apply, val_main_cst_2_apply]
  simp only [v25]
  show max (Ideal.ofBits .f32 0xFF800000#32) _ = _
  rw [ofBits_bot, max_eq_right bot_le]

/-- The reference's exponentials. -/
theorem v32 (A : (⟨S9216x6144, .f32⟩ : BufTy).Contents (Elt Ideal)) (F : (⟨S16x8704, .f32⟩ : BufTy).Contents (Elt Ideal))
    (b : Fin 4) (H : Fin 16) (i k : Fin 2176) : val_main_v32 (F := Ideal) A F (ix4 b H i k) = weight (logit A F b H i) k := by
  rw [val_main_v32_apply, val_main_v31_apply, val_main_v30_apply, val_main_v29_apply, v25,
    show idx_main_v29 (idx_main_v30 (ix4 b H i k)) = ix3 b H i by blk_ext, v28]
  rfl

/-- The reference's result, in row `i` of sequence `b` and lane `d` of head `H`: attention with the division first. -/
theorem v40 (A : (⟨S9216x6144, .f32⟩ : BufTy).Contents (Elt Ideal)) (F : (⟨S16x8704, .f32⟩ : BufTy).Contents (Elt Ideal))
    (b : Fin 4) (H : Fin 16) (i : Fin 2176) (d : Fin 128) :
    val_main_v40 (F := Ideal) A F (ix2 ⟨b.val * 2176 + i.val, by omega⟩ ⟨H.val * 128 + d.val, by omega⟩)
      = attendEarly (logit A F b H i) (value A b H d) := by
  rw [val_main_v40_apply, val_main_v39_apply, val_main_v38_apply,
    show idx_main_v38 (idx_main_v39 (ix2 (⟨b.val * 2176 + i.val, by omega⟩ : Fin 8704) (⟨H.val * 128 + d.val, by omega⟩ : Fin 2048)))
      = ix4 b H d i by blk_ext, val_main_v37_apply]
  refine Finset.sum_congr rfl fun k _ => (mul_comm _ _).trans ?_
  rw [show ridx_main_v37 (ix4 b H d i) k = ix4 b H i k by blk_ext, val_main_v36_apply, v32, val_main_v35_apply,
    val_main_v34_apply, val_main_v33_apply, val_main_cst_3_apply]
  rw [show idx_main_v34 (idx_main_v35 (ix4 b H i k)) = ix3 b H i by blk_ext]
  simp only [show ∀ j, idx_main_v33 (ix3 b H i) j = ix4 b H i j from fun j => by blk_ext, v32]
  rw [show (FloatOps.ofBits .f32 0#32 : Ideal .f32) = 0 from Ideal.ofBits_zero .f32, zero_add, val_main_v7_apply, val_main_v6_apply, val_main_v1_apply,
    val_main_v0_apply]
  refine congrArg₂ (· * ·) rfl ?_
  unfold value
  blk_ext

/-- No query, key or cumulative gate is an infinity. -/
def Bounded (A : (⟨S9216x6144, .f32⟩ : BufTy).Contents (Elt Ideal)) (F : (⟨S16x8704, .f32⟩ : BufTy).Contents (Elt Ideal)) : Prop :=
  (∀ (r : Fin 9216) (c : Fin 6144), r.val < 8704 → c.val < 4096 → ∃ x : ℝ, A (ix2 r c) = (x : EReal))
    ∧ ∀ (h : Fin 16) (j : Fin 8704), ∃ x : ℝ, F (ix2 h j) = (x : EReal)

/-- The scale's word is a real number. -/
theorem scale_real : ∃ s : ℝ, Ideal.ofBits .f32 0x3DB504F3#32 = (s : EReal) := by
  simp only [Ideal.ofBits, Ideal.ieee]
  norm_num
  exact ⟨_, rfl⟩

/-- A finite sum of reals is a real. -/
theorem sum_real {n : ℕ} (y : Fin n → EReal) (h : ∀ k, ∃ r : ℝ, y k = r) : ∃ r : ℝ, ∑ k, y k = r := by
  choose a ha using h
  refine ⟨∑ k, a k, ?_⟩
  rw [show ((∑ k, a k : ℝ) : EReal) = ∑ k, (a k : EReal) from
    map_sum (⟨⟨fun r : ℝ => (r : EReal), rfl⟩, EReal.coe_add⟩ : ℝ →+ EReal) a _]
  exact Finset.sum_congr rfl fun k _ => ha k

variable {A : (⟨S9216x6144, .f32⟩ : BufTy).Contents (Elt Ideal)} {F : (⟨S16x8704, .f32⟩ : BufTy).Contents (Elt Ideal)}

/-- Before the mask every logit is then a real number. -/
theorem score_real (hb : Bounded A F) (b : Fin 4) (H : Fin 16) (i k : Fin 2176) : ∃ r : ℝ, score A F b H i k = r := by
  obtain ⟨s, hs⟩ := scale_real
  obtain ⟨u, hu⟩ := hb.2 H ⟨b.val * 2176 + i.val, by omega⟩
  obtain ⟨w, hw⟩ := hb.2 H ⟨b.val * 2176 + k.val, by omega⟩
  obtain ⟨z, hz⟩ := sum_real (fun x : Fin 128 => A (ix2 ⟨b.val * 2176 + i.val, by omega⟩ ⟨H.val * 128 + x.val, by omega⟩)
      * A (ix2 ⟨b.val * 2176 + k.val, by omega⟩ ⟨2048 + H.val * 128 + x.val, by omega⟩)) fun x => by
    obtain ⟨p, hp⟩ := hb.1 ⟨b.val * 2176 + i.val, by omega⟩ ⟨H.val * 128 + x.val, by omega⟩ (by simp only; omega) (by simp only; omega)
    obtain ⟨q, hq⟩ := hb.1 ⟨b.val * 2176 + k.val, by omega⟩ ⟨2048 + H.val * 128 + x.val, by omega⟩ (by simp only; omega) (by simp only; omega)
    exact ⟨p * q, by rw [hp, hq, EReal.coe_mul]⟩
  refine ⟨z * s + u - w, ?_⟩
  unfold score
  rw [hz, hs, hu, hw, EReal.coe_sub, EReal.coe_add, EReal.coe_mul]

/-- No masked logit is +∞. -/
theorem logit_ne_top (hb : Bounded A F) (b : Fin 4) (H : Fin 16) (i k : Fin 2176) : logit A F b H i k ≠ ⊤ := by
  obtain ⟨r, hr⟩ := score_real hb b H i k
  unfold logit
  split
  · rw [hr]; exact EReal.coe_ne_top r
  · exact bot_ne_top

/-- The logit of a row against itself is not -∞. -/
theorem logit_self (hb : Bounded A F) (b : Fin 4) (H : Fin 16) (i : Fin 2176) : logit A F b H i i ≠ ⊥ := by
  obtain ⟨r, hr⟩ := score_real hb b H i i
  unfold logit
  rw [if_pos (le_refl _), hr]
  exact EReal.coe_ne_bot r

/-- The kernel's attention over a prefix of the keys that reaches past row `i`, with the division last, is the reference's result:
    the keys left out are masked there. -/
theorem prefix_result (hb : Bounded A F) (b : Fin 4) (H : Fin 16) (i : Fin 2176) (d : Fin 128) {n : ℕ} (hn : n ≤ 2176)
    (hi : i.val < n) (x v : Fin n → EReal) (hx : ∀ k, x k = logit A F b H i (Fin.castLE hn k))
    (hv : ∀ k, v k = value A b H d (Fin.castLE hn k)) :
    attendLate x v
      = val_main_v40 (F := Ideal) A F (ix2 ⟨b.val * 2176 + i.val, by omega⟩ ⟨H.val * 128 + d.val, by omega⟩) := by
  rw [v40]
  refine prefix_le hn x v _ _ hx hv (fun k hk => ?_) (logit_ne_top hb b H i) ⟨i.val, hi⟩ ?_
  · unfold logit
    rw [if_neg (by omega)]
  · rw [hx]
    exact logit_self hb b H i

end Cert.ReferenceIdeal.Attention

end
-- ==== Proof.FoxValue.lean ====
/- The prompt attention: each grid point takes 128 query rows of two heads, reads the keys and values of the whole sequence and
   attends over the shortest of four prefixes that reaches past its rows, dividing last. The reference masks the whole
   square of logits, takes the softmax and multiplies by the values. -/
module

public import proofs.«01_k».proof.Proof.Gen.KernelIdeal.Value
public import proofs.«01_k».proof.Proof.FoxRef
public import Idealize.ShloMosaic.Lib.Pipeline.ValueKit
public import Idealize.ShloMosaic.Lib.Pointwise

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Pipeline (Dat)
open Cert.ReferenceIdeal.Read Cert.ReferenceIdeal.Attention Cert.Softmax

variable (m : (ℓ : Loc nD τ sig) → Buf (Elt Ideal) ℓ)

/-- The launch contents of the kernel's arguments. -/
abbrev arg0 (c : Dev nD) : (⟨S9216x6144, .f32⟩ : BufTy).Contents (Elt Ideal) := m ((c : Thread nD τ).loc main_arg0)
abbrev arg1 (c : Dev nD) : (⟨S16x8704, .f32⟩ : BufTy).Contents (Elt Ideal) := m ((c : Thread nD τ).loc main_arg1)

/-- The block every window stages at grid point `t`, in closed form. -/
theorem idx : ∀ t : Fin cfg0.N, win0_0.index t = ![t.val / 136 * 17 + t.val % 17, t.val % 136 / 17]
    ∧ win0_1.index t = ![t.val / 136, 8 + t.val % 136 / 17] ∧ win0_2.index t = ![t.val / 136, 16 + t.val % 136 / 17]
    ∧ win0_3.index t = ![0, t.val / 136] ∧ win0_4.index t = ![0, t.val / 136 * 17 + t.val % 17]
    ∧ win0_5.index t = ![t.val / 136 * 17 + t.val % 17, t.val % 136 / 17] :=
  (by decide +kernel : ∀ t : Fin grid0.N, _)

/-- The query tile of a grid point. -/
theorem tile : ∀ t : Fin cfg0.N, (grid0.coords t 2).val = t.val % 17 := (by decide +kernel : ∀ t : Fin grid0.N, _)

/-- The row of the cumulative gates that each of the two heads of a grid point reads; every load computes the same row. -/
theorem row : ∀ t : Fin cfg0.N, k0_off1 (grid0.coords t) 0#32 = ![2 * (t.val % 136 / 17), 0]
    ∧ k0_off1 (grid0.coords t) 1#32 = ![2 * (t.val % 136 / 17) + 1, 0]
    ∧ k0_off2 (grid0.coords t) 0#32 = ![2 * (t.val % 136 / 17), 0] ∧ k0_off2 (grid0.coords t) 1#32 = ![2 * (t.val % 136 / 17) + 1, 0]
    ∧ k0_off3 (grid0.coords t) 0#32 = ![2 * (t.val % 136 / 17), 0] ∧ k0_off3 (grid0.coords t) 1#32 = ![2 * (t.val % 136 / 17) + 1, 0]
    ∧ k0_off4 (grid0.coords t) 0#32 = ![2 * (t.val % 136 / 17), 0] ∧ k0_off4 (grid0.coords t) 1#32 = ![2 * (t.val % 136 / 17) + 1, 0]
    ∧ k0_off5 (grid0.coords t) 0#32 = ![2 * (t.val % 136 / 17), 0] ∧ k0_off5 (grid0.coords t) 1#32 = ![2 * (t.val % 136 / 17) + 1, 0] :=
  (by decide +kernel : ∀ t : Fin grid0.N, _)

/-- The masked logits of row `r` of a tile over a prefix of `n` keys, as the kernel writes them. -/
def logits {n : ℕ} (a : BitVec 32) (r : Fin 128) (q : Fin 128 → EReal) (k : Fin n → Fin 128 → EReal) (f : EReal)
    (fk : Fin n → EReal) : Fin n → EReal := fun x =>
  Scalar.select (IntOp.cmpi .sle (BitVec.ofNat 32 x.val) (IntOp.addi (Scalar.muli a 128#32) (BitVec.ofNat 32 r.val)))
    ((∑ z, q z * k x z) * Ideal.ofBits .f32 0x3DB504F3#32 + f - fk x) ⊥

/-- The mask's named constant is -∞. -/
theorem mask : (Named.named κ "mask" 0xF149F2CA#32 : Ideal .f32) = ⊥ := IdealRules.named_const.ideal_named_scalar _ _ _ _ rfl

variable {a : BitVec 32} {f : FVec Ideal S128x1 .f32} {q : Vec Ideal S128x128 .f32} (r d : Fin 128)

/-- What the first head stores at each of the four prefixes: attention with the division last. -/
theorem first640 {k : Vec Ideal S640x128 .f32} {fk : Vec Ideal S1x640 .f32} {v : Vec Ideal S640x128 .f32} :
    k0_pay19 (F := Ideal) (k0_pay7 a f q k fk) v (ix2 r d) = attendLate (logits a r (fun z => q (ix2 r z))
      (fun x z => k (ix2 x z)) (f (ix2 r 0)) fun x => fk (ix2 0 x)) fun x => v (ix2 x d) := by
  pointwise [k0_pay19, k0_pay7, k0_pay5]
  rw [ofBits_bot, mask]; rfl
theorem first1152 {k : Vec Ideal S1152x128 .f32} {fk : Vec Ideal S1x1152 .f32} {v : Vec Ideal S1152x128 .f32} :
    k0_pay21 (F := Ideal) (k0_pay10 a f q k fk) v (ix2 r d) = attendLate (logits a r (fun z => q (ix2 r z))
      (fun x z => k (ix2 x z)) (f (ix2 r 0)) fun x => fk (ix2 0 x)) fun x => v (ix2 x d) := by
  pointwise [k0_pay21, k0_pay10, k0_pay8]
  rw [ofBits_bot, mask]; rfl
theorem first1664 {k : Vec Ideal S1664x128 .f32} {fk : Vec Ideal S1x1664 .f32} {v : Vec Ideal S1664x128 .f32} :
    k0_pay1 (F := Ideal) (k0_pay13 a f q k fk) v (ix2 r d) = attendLate (logits a r (fun z => q (ix2 r z))
      (fun x z => k (ix2 x z)) (f (ix2 r 0)) fun x => fk (ix2 0 x)) fun x => v (ix2 x d) := by
  pointwise [k0_pay1, k0_pay13, k0_pay11]
  rw [ofBits_bot, mask]; rfl
theorem first2176 {k : Vec Ideal S2176x128 .f32} {fk : Vec Ideal S1x2176 .f32} {v : Vec Ideal S2176x128 .f32} :
    k0_pay3 (F := Ideal) (k0_pay16 a f q k fk) v (ix2 r d) = attendLate (logits a r (fun z => q (ix2 r z))
      (fun x z => k (ix2 x z)) (f (ix2 r 0)) fun x => fk (ix2 0 x)) fun x => v (ix2 x d) := by
  pointwise [k0_pay3, k0_pay16, k0_pay14]
  rw [ofBits_bot, mask]; rfl

/-- What the second head stores at each of the four prefixes. -/
theorem second640 {k : Vec Ideal S640x128 .f32} {fk : Vec Ideal S1x640 .f32} {v : Vec Ideal S640x128 .f32} :
    k0_pay20 (F := Ideal) (k0_pay6 a f q k fk) v (ix2 r d) = attendLate (logits a r (fun z => q (ix2 r z))
      (fun x z => k (ix2 x z)) (f (ix2 r 0)) fun x => fk (ix2 0 x)) fun x => v (ix2 x d) := by
  pointwise [k0_pay20, k0_pay6, k0_pay5]
  rw [ofBits_bot, mask]; rfl
theorem second1152 {k : Vec Ideal S1152x128 .f32} {fk : Vec Ideal S1x1152 .f32} {v : Vec Ideal S1152x128 .f32} :
    k0_pay22 (F := Ideal) (k0_pay9 a f q k fk) v (ix2 r d) = attendLate (logits a r (fun z => q (ix2 r z))
      (fun x z => k (ix2 x z)) (f (ix2 r 0)) fun x => fk (ix2 0 x)) fun x => v (ix2 x d) := by
  pointwise [k0_pay22, k0_pay9, k0_pay8]
  rw [ofBits_bot, mask]; rfl
theorem second1664 {k : Vec Ideal S1664x128 .f32} {fk : Vec Ideal S1x1664 .f32} {v : Vec Ideal S1664x128 .f32} :
    k0_pay2 (F := Ideal) (k0_pay12 a f q k fk) v (ix2 r d) = attendLate (logits a r (fun z => q (ix2 r z))
      (fun x z => k (ix2 x z)) (f (ix2 r 0)) fun x => fk (ix2 0 x)) fun x => v (ix2 x d) := by
  pointwise [k0_pay2, k0_pay12, k0_pay11]
  rw [ofBits_bot, mask]; rfl
theorem second2176 {k : Vec Ideal S2176x128 .f32} {fk : Vec Ideal S1x2176 .f32} {v : Vec Ideal S2176x128 .f32} :
    k0_pay4 (F := Ideal) (k0_pay15 a f q k fk) v (ix2 r d) = attendLate (logits a r (fun z => q (ix2 r z))
      (fun x z => k (ix2 x z)) (f (ix2 r 0)) fun x => fk (ix2 0 x)) fun x => v (ix2 x d) := by
  pointwise [k0_pay4, k0_pay15, k0_pay14]
  rw [ofBits_bot, mask]; rfl

/-- The two words of lanes below 128 are equal only at the same lane. -/
theorem eq_lane (r x : Fin 128) : IntOp.cmpi .eq (BitVec.ofNat 32 r.val) (BitVec.ofNat 32 x.val) = if r = x then 1#1 else 0#1 := by
  have hr := r.isLt
  have hx := x.isLt
  show BitVec.ofBool (BitVec.ofNat 32 r.val == BitVec.ofNat 32 x.val) = _
  by_cases h : r = x
  · rw [h, beq_self_eq_true, if_pos rfl]; rfl
  · rw [if_neg h, beq_false_of_ne]
    · rfl
    · intro he
      have := congrArg BitVec.toNat he
      rw [BitVec.toNat_ofNat, BitVec.toNat_ofNat] at this
      exact h (Fin.ext (by omega))

/-- The product with the identity that turns a row of gates into a column gives the row's entries. -/
theorem delta (g : Fin 128 → EReal) : ∑ x : Fin 128, (FloatOps.sitofp .f32
    (BitVec.setWidth 32 (IntOp.cmpi .eq (BitVec.ofNat 32 r.val) (BitVec.ofNat 32 x.val))) : Ideal .f32) * g x = g r := by
  refine sum_delta (fun x : Fin 128 => (FloatOps.sitofp .f32
    (BitVec.setWidth 32 (IntOp.cmpi .eq (BitVec.ofNat 32 r.val) (BitVec.ofNat 32 x.val))) : Ideal .f32)) g r ?_ fun x hx => ?_
  · simp only [eq_lane, if_pos]
    show (((BitVec.setWidth 32 1#1).toInt : ℝ) : EReal) = 1
    norm_num
  · simp only [eq_lane, if_neg (Ne.symm hx)]
    show (((BitVec.setWidth 32 0#1).toInt : ℝ) : EReal) = 0
    norm_num

/-- The column of gates of the first head, and of the second. -/
theorem column1 {g : Vec Ideal S1x128 .f32} : k0_pay17 (F := Ideal) g (ix2 r 0) = g (ix2 0 r) := by
  pointwise [k0_pay17]
  exact delta r fun x => g (ix2 0 x)
theorem column2 {g : Vec Ideal S1x128 .f32} : k0_pay18 (F := Ideal) g (ix2 r 0) = g (ix2 0 r) := by
  pointwise [k0_pay18]
  exact delta r fun x => g (ix2 0 x)

/-- The word of a position in a tile is at least a key's word when the position is. -/
theorem sle_pos {n : ℕ} (hn : n ≤ 2176) (x : Fin n) (t r : ℕ) (ht : t < 17) (hr : r < 128) :
    IntOp.cmpi .sle (BitVec.ofNat 32 x.val) (IntOp.addi (Scalar.muli (BitVec.ofNat 32 t) 128#32) (BitVec.ofNat 32 r))
      = if x.val ≤ t * 128 + r then 1#1 else 0#1 := by
  have hx := x.isLt
  rw [show IntOp.addi (Scalar.muli (BitVec.ofNat 32 t) 128#32) (BitVec.ofNat 32 r) = BitVec.ofNat 32 (t * 128 + r) by
    show BitVec.ofNat 32 t * BitVec.ofNat 32 128 + BitVec.ofNat 32 r = _
    rw [BitVec.ofNat_add, BitVec.ofNat_mul]]
  exact sge_pos ⟨t * 128 + r, by omega⟩ ⟨x.val, by omega⟩

/-- There are 544 grid points. -/
theorem points (t : Fin cfg0.N) : t.val < 544 := lt_of_lt_of_eq t.isLt (show cfg0.N = 544 from N_0)

/-- The staged keys and values at an index: no block of theirs is cut, so they are the array's block. -/
theorem keys (c : Dev nD) (t : Fin cfg0.N) (k : Fin 2176) (z : Fin 256) : X0_1 m c t (ix2 k z)
    = arg0 m c (ix2 ⟨t.val / 136 * 2176 + k.val, by have := points t; omega⟩ ⟨2048 + t.val % 136 / 17 * 256 + z.val, by omega⟩) := by
  unfold X0_1 Pipeline.Window.fill
  rw [dif_pos (moved0_1 t _)]
  blk_point [iblk, V, idx t]
theorem vals (c : Dev nD) (t : Fin cfg0.N) (k : Fin 2176) (z : Fin 256) : X0_2 m c t (ix2 k z)
    = arg0 m c (ix2 ⟨t.val / 136 * 2176 + k.val, by have := points t; omega⟩ ⟨4096 + t.val % 136 / 17 * 256 + z.val, by omega⟩) := by
  unfold X0_2 Pipeline.Window.fill
  rw [dif_pos (moved0_2 t _)]
  blk_point [iblk, V, idx t]

/-- What a grid point computes for row `r` and lane `d` of its head `hh` over a prefix of `n` keys that reaches past its rows, from
    the reads of its blocks, is the reference's result at the index where it is stored. -/
theorem result {c : Dev nD} (hb : Bounded (arg0 m c) (arg1 m c)) (t : Fin cfg0.N) (ht : t.val < 544) (hh : ℕ) (h2 : hh < 2) {n : ℕ}
    (hn : n ≤ 2176) (hq : t.val % 17 * 128 + 128 ≤ n) {q : Fin 128 → EReal} {k : Fin n → Fin 128 → EReal} {f : EReal} {fk v : Fin n → EReal}
    (y : S8704x2048.Idx) (hy : y = ix2 ⟨(t.val / 136 * 17 + t.val % 17) * 128 + r.val, by omega⟩
      ⟨t.val % 136 / 17 * 256 + (hh * 128 + d.val), by omega⟩)
    (rq : ∀ z : Fin 128, q z = arg0 m c (ix2 ⟨(t.val / 136 * 17 + t.val % 17) * 128 + r.val, by omega⟩
      ⟨t.val % 136 / 17 * 256 + (hh * 128 + z.val), by omega⟩))
    (rk : ∀ x z, k x z = arg0 m c (ix2 ⟨t.val / 136 * 2176 + x.val, by omega⟩ ⟨2048 + t.val % 136 / 17 * 256 + (hh * 128 + z.val), by omega⟩))
    (rf : f = arg1 m c (ix2 ⟨2 * (t.val % 136 / 17) + hh, by omega⟩ ⟨(t.val / 136 * 17 + t.val % 17) * 128 + r.val, by omega⟩))
    (rfk : ∀ x : Fin n, fk x = arg1 m c (ix2 ⟨2 * (t.val % 136 / 17) + hh, by omega⟩ ⟨t.val / 136 * 2176 + x.val, by omega⟩))
    (rv : ∀ x, v x = arg0 m c (ix2 ⟨t.val / 136 * 2176 + x.val, by omega⟩ ⟨4096 + t.val % 136 / 17 * 256 + (hh * 128 + d.val), by omega⟩)) :
    attendLate (logits (BitVec.ofNat 32 (grid0.coords t 2).val) r q k f fk) v = val_main_v40 (F := Ideal) (arg0 m c) (arg1 m c) y := by
  have hi : t.val % 17 * 128 + r.val < 2176 := by omega
  rw [hy, show (ix2 _ _ : S8704x2048.Idx) = ix2 ⟨t.val / 136 * 2176 + (t.val % 17 * 128 + r.val), by omega⟩
    ⟨(2 * (t.val % 136 / 17) + hh) * 128 + d.val, by omega⟩ by blk_ext]
  refine prefix_result hb ⟨t.val / 136, by omega⟩ ⟨2 * (t.val % 136 / 17) + hh, by omega⟩ ⟨t.val % 17 * 128 + r.val, hi⟩ d hn
    (by simp only; omega) _ _ (fun x => ?_) fun x => ?_
  · unfold logits logit
    rw [tile, sle_pos hn x _ _ (Nat.mod_lt _ (by omega)) r.isLt]
    by_cases hx : x.val ≤ t.val % 17 * 128 + r.val
    · rw [if_pos hx, if_pos (by exact hx), show ∀ u v : EReal, Scalar.select (1#1) u v = u from fun _ _ => rfl]
      unfold score
      rw [rf, rfk]
      congr 1
      congr 1
      · congr 1
        refine Finset.sum_congr rfl fun z _ => ?_
        rw [rq, rk]
        congr 1 <;> blk_ext [Fin.val_castLE]
      · blk_ext
    · rw [if_neg hx, if_neg (by exact hx), show ∀ u v : EReal, Scalar.select (0#1) u v = v from fun _ _ => rfl]
  · rw [rv]
    unfold value
    blk_ext [Fin.val_castLE]

set_option maxHeartbeats 4000000 in
/-- The blocks the grid points write back tile the result array, so it is the reference's result. -/
theorem final (c : Dev nD) (hb : Bounded (arg0 m c) (arg1 m c)) :
    (dats m 0 c).arrAt 5 (cfgs 0).N = val_main_v40 (F := Ideal) (arg0 m c) (arg1 m c) := by
  refine (dats m 0 c).arrAt_eq_of_covers 5 _ (by decide +kernel) fun t _ y => ?_
  have ht := points t
  blk_simp
  rw [after0_5]
  have hcase : t.val % 17 ≤ 4 ∨ (5 ≤ t.val % 17 ∧ t.val % 17 ≤ 8) ∨ (9 ≤ t.val % 17 ∧ t.val % 17 ≤ 12) ∨ 13 ≤ t.val % 17 := by omega
  rcases hcase with h | h | h | h
  on_goal 1 => rw [outsAt0_A m c t h (by omega) (by omega) (by omega)]
  on_goal 2 => rw [outsAt0_B m c t (by omega) h (by omega) (by omega)]
  on_goal 3 => rw [outsAt0_C m c t (by omega) (by omega) h (by omega)]
  on_goal 4 => rw [outsAt0_D m c t (by omega) (by omega) (by omega) h]
  all_goals frame_out
  all_goals canon_tiles
  all_goals
    obtain ⟨r, d, rfl⟩ : ∃ r d : Fin 128, x = ix2 r d := ⟨x 0, x 1, by blk_ext⟩
    replace h0 : (y 0).val = r.val := h0
  all_goals first
    | first | rw [second640, column2] | rw [second1152, column2] | rw [second1664, column2] | rw [second2176, column2]
      replace h1 : (y 1).val = 128 + d.val := h1
      refine result m r d hb t ht 1 (by omega) (by omega) (by omega) _ ?_ (fun z => ?_) (fun x z => ?_) ?_ (fun x => ?_) fun x => ?_
    | first | rw [first640, column1] | rw [first1152, column1] | rw [first1664, column1] | rw [first2176, column1]
      replace h1 : (y 1).val = d.val := h1
      refine result m r d hb t ht 0 (by omega) (by omega) (by omega) _ ?_ (fun z => ?_) (fun x z => ?_) ?_ (fun x => ?_) fun x => ?_
  all_goals first
    | (blk_ext [idx t]; done)
    | (pointwise; rw [keys]; blk_ext; done)
    | (pointwise; rw [vals]; blk_ext; done)
    | (blk_point [iblk, V, idx t, row t]; done)

end Cert.KernelIdeal.RefValue

end
-- ==== Proof.FoxClaim.lean ====
/- The claims of the forgetting attention: what its precondition says, and the two programs' results. -/
module

public import proofs.«01_k».proof.Defs
public import proofs.«01_k».proof.Proof.FoxValue
public import proofs.«01_k».proof.Proof.Gen.ReferenceIdeal.Run
public import Idealize.ShloMosaic.Lib.Claim
public import Idealize.ShloMosaic.Lib.Pointwise

@[expose] public section

set_option maxRecDepth 16384

noncomputable section

namespace Cert.KernelIdeal.RefValue

open Cert.KernelIdeal Cert.KernelIdeal.Gen Idealize.ShloMosaic Idealize.ShloMosaic.TcCoe Idealize.SL.Sem
open Cert.ReferenceIdeal.Read Cert.ReferenceIdeal.Attention

/-- A value whose magnitude is below +∞ is a real number. -/
theorem real_of_lt (x : EReal) (h : BitVec.ofBool (decide (FloatOps.absf (F := Ideal) (φ := .f32) x < Ideal.ofBits .f32 0x7F800000#32)) = 1#1) :
    ∃ r : ℝ, x = r := by
  rw [show Ideal.ofBits .f32 0x7F800000#32 = ⊤ by simp [Ideal.ofBits, Ideal.ieee],
    show FloatOps.absf (F := Ideal) (φ := .f32) x = max x (-x) from rfl] at h
  induction x using EReal.rec with
  | coe r => exact ⟨r, rfl⟩
  | bot => simp at h
  | top => simp at h

/-- The precondition says that the logits' factors and offsets are real numbers. -/
theorem bounded [Cert.Pre_logits_finite.Facts] (m : (ℓ : Loc nD τ sig) → Buf (Elt Ideal) ℓ) (h : Cert.Pre_KernelIdeal_logits_finite m) (c : Dev nD) :
    Bounded (arg0 m c) (arg1 m c) := by
  obtain ⟨h0, h1⟩ := h c
  constructor
  · intro r k hr hk
    have e := congrFun h0 (ix2 ⟨r.val, hr⟩ ⟨k.val, hk⟩)
    unfold Cert.Pre_logits_finite.fn at e
    pointwise at e
    exact real_of_lt _ e
  · intro r k
    have e := congrFun h1 (ix2 r k)
    unfold Cert.Pre_logits_finite.fn at e
    pointwise at e
    exact real_of_lt _ e

/-- Over the extended reals the kernel and the reference, from the same arguments with finite logits, end with the
    same attention. -/
theorem algebraic [Cert.Pre_logits_finite.Facts] : Cert.algebraic_KernelIdeal_ReferenceIdeal_pre_logits_finite := by
  pair_intro
  · run_from Cert.KernelIdeal.Value.run_blocks m g
  · run_from Cert.ReferenceIdeal.Value.run m' g'
    refine (val_main_v40_eq _ _).trans ?_
    rw [(hagree c).1, (hagree c).2]
    exact (final m c (bounded m hpre c)).symm

/-- The idealized kernel is the kernel with the mask's finite constant named −∞. -/
theorem preserves : Cert.preserves_Kernel_KernelIdeal :=
  IdealRules.named_const.statement Cert.KernelIdeal.κ "mask" .f32 0xF149F2CA#32 ⊥ rfl

end Cert.KernelIdeal.RefValue

end
-- ==== Proof.InGdnValue.lean ====
/- The input projection of the delta-rule branch: each grid point multiplies a block of rows of the hidden states by a block of
   the weight's columns from 0 to 8192, over the whole contracted axis; the reference multiplies the whole arrays and
   keeps those columns. -/
module

public import proofs.«01_k».proof.Defs
public import proofs.«01_k».proof.Proof.Gen.InGdnIdeal.Value
public import proofs.«01_k».proof.Proof.Gen.InGdnRefIdeal.Run
public import proofs.«01_k».proof.Proof.Gen.InGdnRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.InGdnIdeal.RefValue

open Cert.InGdnIdeal Cert.InGdnIdeal.Gen Idealize.ShloMosaic Idealize.ShloMosaic.TcCoe Idealize.SL.Sem
open Idealize.ShloMosaic.Pipeline (Dat)
open Cert.InGdnRefIdeal.Read

variable (m : (ℓ : Loc nD τ sig) → Buf (Elt Ideal) ℓ)

/-- The launch contents of the kernel's arguments. -/
abbrev arg0 (c : Dev nD) : (⟨S9216x4096, .bf16⟩ : BufTy).Contents (Elt Ideal) := m ((c : Thread nD τ).loc main_arg0)
abbrev arg1 (c : Dev nD) : (⟨S4096x33072, .f32⟩ : BufTy).Contents (Elt Ideal) := m ((c : Thread nD τ).loc main_arg1)

/-- The block every window stages at grid point `t`, in closed form. -/
theorem idx : ∀ t : Fin cfg0.N, win0_0.index t = ![t.val / 16, 0] ∧ win0_1.index t = ![0, t.val % 16]
    ∧ win0_2.index t = ![t.val / 16, t.val % 16] :=
  (by decide +kernel : ∀ t : Fin grid0.N, _)

/-- What a grid point stores at an index of its block is the reference's result at the array index it sits at. -/
theorem point (c : Dev nD) (t : Fin cfg0.N) (y) : k0_pay1 (iblk m c 0 t) (iblk m c 1 t) y
    = val_main_v2 (F := Ideal) (arg0 m c) (arg1 m c) (((cfg0.win 2).blk t).view.emb y) := by
  rw [val_main_v2_apply, val_main_v1_apply]
  pointwise [k0_pay1, val_main_v0_apply]
  blk_point [iblk, V, idx t]

/-- The blocks the grid points write back tile the result array, so it is the reference's result. -/
theorem final (c : Dev nD) : (dats m 0 c).arrAt 2 (cfgs 0).N = val_main_v2 (F := Ideal) (arg0 m c) (arg1 m c) := by
  refine (dats m 0 c).arrAt_eq_of_covers 2 _ (by decide +kernel) fun t _ y => ?_
  blk_simp
  rw [after0_2]; frame_out
  exact point m c t y

/-- The idealized kernel and the reference, from the same arguments, end with the same result array. -/
theorem algebraic : Cert.algebraic_InGdnIdeal_InGdnRefIdeal := by
  pair_intro
  · run_from Cert.InGdnIdeal.Gen.run_main m g
  · run_from Cert.InGdnRefIdeal.Value.run m' g'
    exact (val_main_v2_eq _ _).trans (final m c).symm

end Cert.InGdnIdeal.RefValue

end
-- ==== Proof.InFoxValue.lean ====
/- The input projection of the softmax-attention branch: each grid point multiplies a block of rows of the hidden states by a block of
   the weight's columns from 8224 to 14368, over the whole contracted axis; the reference multiplies the whole arrays and
   keeps those columns. -/
module

public import proofs.«01_k».proof.Defs
public import proofs.«01_k».proof.Proof.Gen.InFoxIdeal.Value
public import proofs.«01_k».proof.Proof.Gen.InFoxRefIdeal.Run
public import proofs.«01_k».proof.Proof.Gen.InFoxRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.InFoxIdeal.RefValue

open Cert.InFoxIdeal Cert.InFoxIdeal.Gen Idealize.ShloMosaic Idealize.ShloMosaic.TcCoe Idealize.SL.Sem
open Idealize.ShloMosaic.Pipeline (Dat)
open Cert.InFoxRefIdeal.Read

variable (m : (ℓ : Loc nD τ sig) → Buf (Elt Ideal) ℓ)

/-- The launch contents of the kernel's arguments. -/
abbrev arg0 (c : Dev nD) : (⟨S9216x4096, .bf16⟩ : BufTy).Contents (Elt Ideal) := m ((c : Thread nD τ).loc main_arg0)
abbrev arg1 (c : Dev nD) : (⟨S4096x33072, .f32⟩ : BufTy).Contents (Elt Ideal) := m ((c : Thread nD τ).loc main_arg1)

/-- The block every window stages at grid point `t`, in closed form. -/
theorem idx : ∀ t : Fin cfg0.N, win0_0.index t = ![t.val / 12, 0] ∧ win0_1.index t = ![0, t.val % 12]
    ∧ win0_2.index t = ![t.val / 12, t.val % 12] :=
  (by decide +kernel : ∀ t : Fin grid0.N, _)

/-- What a grid point stores at an index of its block is the reference's result at the array index it sits at. -/
theorem point (c : Dev nD) (t : Fin cfg0.N) (y) : k0_pay1 (iblk m c 0 t) (iblk m c 1 t) y
    = val_main_v2 (F := Ideal) (arg0 m c) (arg1 m c) (((cfg0.win 2).blk t).view.emb y) := by
  rw [val_main_v2_apply, val_main_v1_apply]
  pointwise [k0_pay1, val_main_v0_apply]
  blk_point [iblk, V, idx t]

/-- The blocks the grid points write back tile the result array, so it is the reference's result. -/
theorem final (c : Dev nD) : (dats m 0 c).arrAt 2 (cfgs 0).N = val_main_v2 (F := Ideal) (arg0 m c) (arg1 m c) := by
  refine (dats m 0 c).arrAt_eq_of_covers 2 _ (by decide +kernel) fun t _ y => ?_
  blk_simp
  rw [after0_2]; frame_out
  exact point m c t y

/-- The idealized kernel and the reference, from the same arguments, end with the same result array. -/
theorem algebraic : Cert.algebraic_InFoxIdeal_InFoxRefIdeal := by
  pair_intro
  · run_from Cert.InFoxIdeal.Gen.run_main m g
  · run_from Cert.InFoxRefIdeal.Value.run m' g'
    exact (val_main_v2_eq _ _).trans (final m c).symm

end Cert.InFoxIdeal.RefValue

end
-- ==== Proof.InRwkvValue.lean ====
/- The input projection of the WKV branch: each grid point multiplies a block of rows of the hidden states by a block of
   the weight's columns from 14384 to 20528, over the whole contracted axis; the reference multiplies the whole arrays and
   keeps those columns. -/
module

public import proofs.«01_k».proof.Defs
public import proofs.«01_k».proof.Proof.Gen.InRwkvIdeal.Value
public import proofs.«01_k».proof.Proof.Gen.InRwkvRefIdeal.Run
public import proofs.«01_k».proof.Proof.Gen.InRwkvRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.InRwkvIdeal.RefValue

open Cert.InRwkvIdeal Cert.InRwkvIdeal.Gen Idealize.ShloMosaic Idealize.ShloMosaic.TcCoe Idealize.SL.Sem
open Idealize.ShloMosaic.Pipeline (Dat)
open Cert.InRwkvRefIdeal.Read

variable (m : (ℓ : Loc nD τ sig) → Buf (Elt Ideal) ℓ)

/-- The launch contents of the kernel's arguments. -/
abbrev arg0 (c : Dev nD) : (⟨S9216x4096, .bf16⟩ : BufTy).Contents (Elt Ideal) := m ((c : Thread nD τ).loc main_arg0)
abbrev arg1 (c : Dev nD) : (⟨S4096x33072, .f32⟩ : BufTy).Contents (Elt Ideal) := m ((c : Thread nD τ).loc main_arg1)

/-- The block every window stages at grid point `t`, in closed form. -/
theorem idx : ∀ t : Fin cfg0.N, win0_0.index t = ![t.val / 12, 0] ∧ win0_1.index t = ![0, t.val % 12]
    ∧ win0_2.index t = ![t.val / 12, t.val % 12] :=
  (by decide +kernel : ∀ t : Fin grid0.N, _)

/-- What a grid point stores at an index of its block is the reference's result at the array index it sits at. -/
theorem point (c : Dev nD) (t : Fin cfg0.N) (y) : k0_pay1 (iblk m c 0 t) (iblk m c 1 t) y
    = val_main_v2 (F := Ideal) (arg0 m c) (arg1 m c) (((cfg0.win 2).blk t).view.emb y) := by
  rw [val_main_v2_apply, val_main_v1_apply]
  pointwise [k0_pay1, val_main_v0_apply]
  blk_point [iblk, V, idx t]

/-- The blocks the grid points write back tile the result array, so it is the reference's result. -/
theorem final (c : Dev nD) : (dats m 0 c).arrAt 2 (cfgs 0).N = val_main_v2 (F := Ideal) (arg0 m c) (arg1 m c) := by
  refine (dats m 0 c).arrAt_eq_of_covers 2 _ (by decide +kernel) fun t _ y => ?_
  blk_simp
  rw [after0_2]; frame_out
  exact point m c t y

/-- The idealized kernel and the reference, from the same arguments, end with the same result array. -/
theorem algebraic : Cert.algebraic_InRwkvIdeal_InRwkvRefIdeal := by
  pair_intro
  · run_from Cert.InRwkvIdeal.Gen.run_main m g
  · run_from Cert.InRwkvRefIdeal.Value.run m' g'
    exact (val_main_v2_eq _ _).trans (final m c).symm

end Cert.InRwkvIdeal.RefValue

end
-- ==== Proof.InGatesValue.lean ====
/- The input projection of the branch gates: each grid point multiplies a block of rows of the hidden states by a block of
   the weight's columns from 20784 to 33072, over the whole contracted axis; the reference multiplies the whole arrays and
   keeps those columns. -/
module

public import proofs.«01_k».proof.Defs
public import proofs.«01_k».proof.Proof.Gen.InGatesIdeal.Value
public import proofs.«01_k».proof.Proof.Gen.InGatesRefIdeal.Run
public import proofs.«01_k».proof.Proof.Gen.InGatesRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.InGatesIdeal.RefValue

open Cert.InGatesIdeal Cert.InGatesIdeal.Gen Idealize.ShloMosaic Idealize.ShloMosaic.TcCoe Idealize.SL.Sem
open Idealize.ShloMosaic.Pipeline (Dat)
open Cert.InGatesRefIdeal.Read

variable (m : (ℓ : Loc nD τ sig) → Buf (Elt Ideal) ℓ)

/-- The launch contents of the kernel's arguments. -/
abbrev arg0 (c : Dev nD) : (⟨S9216x4096, .bf16⟩ : BufTy).Contents (Elt Ideal) := m ((c : Thread nD τ).loc main_arg0)
abbrev arg1 (c : Dev nD) : (⟨S4096x33072, .f32⟩ : BufTy).Contents (Elt Ideal) := m ((c : Thread nD τ).loc main_arg1)

/-- The block every window stages at grid point `t`, in closed form. -/
theorem idx : ∀ t : Fin cfg0.N, win0_0.index t = ![t.val / 24, 0] ∧ win0_1.index t = ![0, t.val % 24]
    ∧ win0_2.index t = ![t.val / 24, t.val % 24] :=
  (by decide +kernel : ∀ t : Fin grid0.N, _)

/-- What a grid point stores at an index of its block is the reference's result at the array index it sits at. -/
theorem point (c : Dev nD) (t : Fin cfg0.N) (y) : k0_pay1 (iblk m c 0 t) (iblk m c 1 t) y
    = val_main_v2 (F := Ideal) (arg0 m c) (arg1 m c) (((cfg0.win 2).blk t).view.emb y) := by
  rw [val_main_v2_apply, val_main_v1_apply]
  pointwise [k0_pay1, val_main_v0_apply]
  blk_point [iblk, V, idx t]

/-- The blocks the grid points write back tile the result array, so it is the reference's result. -/
theorem final (c : Dev nD) : (dats m 0 c).arrAt 2 (cfgs 0).N = val_main_v2 (F := Ideal) (arg0 m c) (arg1 m c) := by
  refine (dats m 0 c).arrAt_eq_of_covers 2 _ (by decide +kernel) fun t _ y => ?_
  blk_simp
  rw [after0_2]; frame_out
  exact point m c t y

/-- The idealized kernel and the reference, from the same arguments, end with the same result array. -/
theorem algebraic : Cert.algebraic_InGatesIdeal_InGatesRefIdeal := by
  pair_intro
  · run_from Cert.InGatesIdeal.Gen.run_main m g
  · run_from Cert.InGatesRefIdeal.Value.run m' g'
    exact (val_main_v2_eq _ _).trans (final m c).symm

end Cert.InGatesIdeal.RefValue

end
-- ==== Proof.MergeValue.lean ====
/- The merge of the three branches: each grid point adds three products of a block of branch rows and a block of branch
   weights, each times the logistic function of its gates. -/
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.MergeIdeal.RefValue

open Cert.MergeIdeal Cert.MergeIdeal.Gen Idealize.ShloMosaic Idealize.ShloMosaic.TcCoe Idealize.SL.Sem
open Idealize.ShloMosaic.Pipeline (Dat)
open Cert.MergeRefIdeal.Read

variable (m : (ℓ : Loc nD τ sig) → Buf (Elt Ideal) ℓ)

/-- The launch contents of the kernel's arguments. -/
abbrev arg0 (c : Dev nD) : (⟨S9216x2048, .bf16⟩ : BufTy).Contents (Elt Ideal) := m ((c : Thread nD τ).loc main_arg0)
abbrev arg1 (c : Dev nD) : (⟨S9216x2048, .bf16⟩ : BufTy).Contents (Elt Ideal) := m ((c : Thread nD τ).loc main_arg1)
abbrev arg2 (c : Dev nD) : (⟨S9216x2048, .bf16⟩ : BufTy).Contents (Elt Ideal) := m ((c : Thread nD τ).loc main_arg2)
abbrev arg3 (c : Dev nD) : (⟨S2048x4096, .f32⟩ : BufTy).Contents (Elt Ideal) := m ((c : Thread nD τ).loc main_arg3)
abbrev arg4 (c : Dev nD) : (⟨S2048x4096, .f32⟩ : BufTy).Contents (Elt Ideal) := m ((c : Thread nD τ).loc main_arg4)
abbrev arg5 (c : Dev nD) : (⟨S2048x4096, .f32⟩ : BufTy).Contents (Elt Ideal) := m ((c : Thread nD τ).loc main_arg5)
abbrev arg6 (c : Dev nD) : (⟨S9216x12288, .f32⟩ : BufTy).Contents (Elt Ideal) := m ((c : Thread nD τ).loc main_arg6)

/-- The block every window stages at grid point `t`, in closed form. -/
theorem idx : ∀ t : Fin cfg0.N, win0_0.index t = ![t.val / 8, 0] ∧ win0_1.index t = ![t.val / 8, 0] ∧ win0_2.index t = ![t.val / 8, 0]
    ∧ win0_3.index t = ![0, t.val % 8] ∧ win0_4.index t = ![0, t.val % 8] ∧ win0_5.index t = ![0, t.val % 8]
    ∧ win0_6.index t = ![t.val / 8, t.val % 8] ∧ win0_7.index t = ![t.val / 8, 8 + t.val % 8]
    ∧ win0_8.index t = ![t.val / 8, 16 + t.val % 8] ∧ win0_9.index t = ![t.val / 8, t.val % 8] :=
  (by decide +kernel : ∀ t : Fin grid0.N, _)

/-- What a grid point stores at an index of its block is the reference's result at the array index it sits at. -/
theorem point (c : Dev nD) (t : Fin cfg0.N) (y) : k0_pay1 (iblk m c 6 t) (iblk m c 0 t) (iblk m c 3 t) (iblk m c 7 t) (iblk m c 1 t) (iblk m c 4 t) (iblk m c 8 t) (iblk m c 2 t) (iblk m c 5 t) y
    = val_main_v24 (F := Ideal) (arg0 m c) (arg1 m c) (arg2 m c) (arg3 m c) (arg4 m c) (arg5 m c) (arg6 m c) (((cfg0.win 9).blk t).view.emb y) := by
  rw [val_main_v24_apply, val_main_v23_apply, val_main_v17_apply, val_main_v11_apply, val_main_v16_apply, val_main_v22_apply, val_main_v10_apply, val_main_v15_apply, val_main_v21_apply]
  pointwise [k0_pay1, val_main_v9_apply, val_main_v14_apply, val_main_v20_apply, val_main_v8_apply, val_main_v7_apply, val_main_v13_apply, val_main_v12_apply, val_main_v19_apply, val_main_v18_apply, val_main_v6_apply, val_main_v5_apply, val_main_v4_apply, val_main_v3_apply, val_main_v2_apply, val_main_v1_apply, val_main_v0_apply, val_main_cst_apply, val_main_cst_0_apply]
  simp only [Ideal.logistic]
  blk_point [iblk, V, idx t]

/-- The blocks the grid points write back tile the result array, so it is the reference's result. -/
theorem final (c : Dev nD) : (dats m 0 c).arrAt 9 (cfgs 0).N = val_main_v24 (F := Ideal) (arg0 m c) (arg1 m c) (arg2 m c) (arg3 m c) (arg4 m c) (arg5 m c) (arg6 m c) := by
  refine (dats m 0 c).arrAt_eq_of_covers 9 _ (by decide +kernel) fun t _ y => ?_
  blk_simp
  rw [after0_9]; frame_out
  exact point m c t y

/-- The idealized kernel and the reference, from the same arguments, end with the same result array. -/
theorem algebraic : Cert.algebraic_MergeIdeal_MergeRefIdeal := by
  pair_intro
  · run_from Cert.MergeIdeal.Gen.run_main m g
  · run_from Cert.MergeRefIdeal.Value.run m' g'
    exact (val_main_v24_eq _ _ _ _ _ _ _).trans (final m c).symm

end Cert.MergeIdeal.RefValue

end
-- ==== Proof.OutValue.lean ====
/- The output projection with the residual added: each grid point adds to a block of the residual stream the product of a
   block of merged rows and a block of the weight's columns. -/
module

public import proofs.«01_k».proof.Defs
public import proofs.«01_k».proof.Proof.Gen.OutIdeal.Value
public import proofs.«01_k».proof.Proof.Gen.OutRefIdeal.Run
public import proofs.«01_k».proof.Proof.Gen.OutRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.OutIdeal.RefValue

open Cert.OutIdeal Cert.OutIdeal.Gen Idealize.ShloMosaic Idealize.ShloMosaic.TcCoe Idealize.SL.Sem
open Idealize.ShloMosaic.Pipeline (Dat)
open Cert.OutRefIdeal.Read

variable (m : (ℓ : Loc nD τ sig) → Buf (Elt Ideal) ℓ)

/-- The launch contents of the kernel's arguments. -/
abbrev arg0 (c : Dev nD) : (⟨S9216x4096, .bf16⟩ : BufTy).Contents (Elt Ideal) := m ((c : Thread nD τ).loc main_arg0)
abbrev arg1 (c : Dev nD) : (⟨S4096x4096, .f32⟩ : BufTy).Contents (Elt Ideal) := m ((c : Thread nD τ).loc main_arg1)
abbrev arg2 (c : Dev nD) : (⟨S9216x4096, .f32⟩ : BufTy).Contents (Elt Ideal) := m ((c : Thread nD τ).loc main_arg2)

/-- The block every window stages at grid point `t`, in closed form. -/
theorem idx : ∀ t : Fin cfg0.N, win0_0.index t = ![t.val / 8, 0] ∧ win0_1.index t = ![0, t.val % 8]
    ∧ win0_2.index t = ![t.val / 8, t.val % 8] ∧ win0_3.index t = ![t.val / 8, t.val % 8] :=
  (by decide +kernel : ∀ t : Fin grid0.N, _)

/-- What a grid point stores at an index of its block is the reference's result at the array index it sits at. -/
theorem point (c : Dev nD) (t : Fin cfg0.N) (y) : k0_pay1 (iblk m c 0 t) (iblk m c 1 t) (iblk m c 2 t) y
    = val_main_v2 (F := Ideal) (arg0 m c) (arg1 m c) (arg2 m c) (((cfg0.win 3).blk t).view.emb y) := by
  rw [val_main_v2_apply, val_main_v1_apply]
  pointwise [k0_pay1, val_main_v0_apply]
  blk_point [iblk, V, idx t]

/-- The blocks the grid points write back tile the result array, so it is the reference's result. -/
theorem final (c : Dev nD) : (dats m 0 c).arrAt 3 (cfgs 0).N = val_main_v2 (F := Ideal) (arg0 m c) (arg1 m c) (arg2 m c) := by
  refine (dats m 0 c).arrAt_eq_of_covers 3 _ (by decide +kernel) fun t _ y => ?_
  blk_simp
  rw [after0_3]; frame_out
  exact point m c t y

/-- The idealized kernel and the reference, from the same arguments, end with the same result array. -/
theorem algebraic : Cert.algebraic_OutIdeal_OutRefIdeal := by
  pair_intro
  · run_from Cert.OutIdeal.Gen.run_main m g
  · run_from Cert.OutRefIdeal.Value.run m' g'
    exact (val_main_v2_eq _ _ _).trans (final m c).symm

end Cert.OutIdeal.RefValue

end
-- ==== Proof.QueryValue.lean ====
/- The query projection of the expert layer, tokens along the columns: each grid point multiplies a block of the transposed
   weight by a block of tokens, over the whole contracted axis. -/
module

public import proofs.«01_k».proof.Defs
public import proofs.«01_k».proof.Proof.Gen.QueryIdeal.Value
public import proofs.«01_k».proof.Proof.Gen.QueryRefIdeal.Run
public import proofs.«01_k».proof.Proof.Gen.QueryRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.QueryIdeal.RefValue

open Cert.QueryIdeal Cert.QueryIdeal.Gen Idealize.ShloMosaic Idealize.ShloMosaic.TcCoe Idealize.SL.Sem
open Idealize.ShloMosaic.Pipeline (Dat)
open Cert.QueryRefIdeal.Read

variable (m : (ℓ : Loc nD τ sig) → Buf (Elt Ideal) ℓ)

/-- The launch contents of the kernel's arguments. -/
abbrev arg0 (c : Dev nD) : (⟨S4096x9216, .bf16⟩ : BufTy).Contents (Elt Ideal) := m ((c : Thread nD τ).loc main_arg0)
abbrev arg1 (c : Dev nD) : (⟨S4096x2048, .f32⟩ : BufTy).Contents (Elt Ideal) := m ((c : Thread nD τ).loc main_arg1)

/-- The block every window stages at grid point `t`, in closed form. -/
theorem idx : ∀ t : Fin cfg0.N, win0_0.index t = ![t.val / 18, 0] ∧ win0_1.index t = ![0, t.val % 18]
    ∧ win0_2.index t = ![t.val / 18, t.val % 18] :=
  (by decide +kernel : ∀ t : Fin grid0.N, _)

/-- What a grid point stores at an index of its block is the reference's result at the array index it sits at. -/
theorem point (c : Dev nD) (t : Fin cfg0.N) (y) : k0_pay1 (iblk m c 0 t) (iblk m c 1 t) y
    = val_main_v3 (F := Ideal) (arg0 m c) (arg1 m c) (((cfg0.win 2).blk t).view.emb y) := by
  rw [val_main_v3_apply, val_main_v2_apply]
  refine Eq.trans ?_ (Finset.sum_congr rfl fun k _ => mul_comm _ _)
  pointwise [k0_pay1, val_main_v1_apply, val_main_v0_apply]
  blk_point [iblk, V, idx t]

/-- The blocks the grid points write back tile the result array, so it is the reference's result. -/
theorem final (c : Dev nD) : (dats m 0 c).arrAt 2 (cfgs 0).N = val_main_v3 (F := Ideal) (arg0 m c) (arg1 m c) := by
  refine (dats m 0 c).arrAt_eq_of_covers 2 _ (by decide +kernel) fun t _ y => ?_
  blk_simp
  rw [after0_2]; frame_out
  exact point m c t y

/-- The idealized kernel and the reference, from the same arguments, end with the same result array. -/
theorem algebraic : Cert.algebraic_QueryIdeal_QueryRefIdeal := by
  pair_intro
  · run_from Cert.QueryIdeal.Gen.run_main m g
  · run_from Cert.QueryRefIdeal.Value.run m' g'
    exact (val_main_v3_eq _ _).trans (final m c).symm

end Cert.QueryIdeal.RefValue

end
-- ==== Proof.ForgetValue.lean ====
/- The log forget gates, heads along the rows. -/
module

public import proofs.«01_k».proof.Defs
public import proofs.«01_k».proof.Proof.Gen.ForgetIdeal.Value
public import proofs.«01_k».proof.Proof.Gen.ForgetRefIdeal.Run
public import proofs.«01_k».proof.Proof.Gen.ForgetRefIdeal.Read
public import Idealize.ShloMosaic.Lib.Claim
public import Idealize.ShloMosaic.Lib.KernelVsHost
public import Idealize.ShloMosaic.Lib.Pipeline.ValueKit
public import Idealize.ShloMosaic.Lib.Pointwise

@[expose] public section

set_option maxRecDepth 16384

noncomputable section

namespace Cert.ForgetIdeal.RefValue

open Cert.ForgetIdeal Cert.ForgetIdeal.Gen Idealize.ShloMosaic Idealize.ShloMosaic.TcCoe Idealize.SL.Sem
open Idealize.ShloMosaic.Pipeline (Dat)
open Cert.ForgetRefIdeal.Read

variable (m : (ℓ : Loc nD τ sig) → Buf (Elt Ideal) ℓ)

/-- The launch contents of the kernel's arguments. -/
abbrev arg0 (c : Dev nD) : (⟨S4096x9216, .bf16⟩ : BufTy).Contents (Elt Ideal) := m ((c : Thread nD τ).loc main_arg0)
abbrev arg1 (c : Dev nD) : (⟨S4096x33072, .f32⟩ : BufTy).Contents (Elt Ideal) := m ((c : Thread nD τ).loc main_arg1)
abbrev arg2 (c : Dev nD) : (⟨S16, .f32⟩ : BufTy).Contents (Elt Ideal) := m ((c : Thread nD τ).loc main_arg2)

/-- The block every window stages at grid point `t`, in closed form. -/
theorem idx : ∀ t : Fin cfg0.N, win0_0.index t = ![0, 0] ∧ win0_1.index t = ![0, t.val]
    ∧ win0_2.index t = ![0, 0] ∧ win0_3.index t = ![0, t.val] :=
  (by decide +kernel : ∀ t : Fin grid0.N, _)

/-- The weights the region reads are sixteen columns of the projection matrix, transposed. -/
theorem weight (c : Dev nD) (r : Fin 16) (k : Fin 4096) :
    V m c main_v3 (ix2 r k) = arg1 m c (ix2 k ⟨14368 + r.val, by omega⟩) := by
  unfold V
  simp only [hostOps0, hostOps0_1, hostOps0_2, hostOps0_3, List.flatten_cons, List.flatten_nil,
    List.cons_append, List.nil_append, List.append_nil]
  after_results
  refine (pad_apply_of_inside _ _ _ _ _ pads_S16x4096_S16x4096_000_000 h_S_ (ix2 r k) (ix2 r k)
    (by intro a; fin_cases a <;> simp)).trans ?_
  simp -implicitDefEqProofs only [StableHlo.TRef.ofBuf, cast_eq]
  pointwise
  blk_ext

/-- The biases the region reads are the layer's, as a column. -/
theorem bias (c : Dev nD) (r : Fin 16) :
    V m c main_v5 (ix2 r 0) = arg2 m c (ix1 r) := by
  unfold V
  simp only [hostOps0, hostOps0_1, hostOps0_2, hostOps0_3, List.flatten_cons, List.flatten_nil,
    List.cons_append, List.nil_append, List.append_nil]
  after_results
  refine (pad_apply_of_inside _ _ _ _ _ pads_S16x1_S16x1_000_000 h_S_ (ix2 r 0) (ix2 r 0)
    (by intro a; fin_cases a <;> simp)).trans ?_
  simp -implicitDefEqProofs only [StableHlo.TRef.ofBuf, cast_eq]
  pointwise
  blk_ext

/-- What a grid point stores at an index of its block is the reference's result at the array index it sits at. -/
theorem point (c : Dev nD) (t : Fin cfg0.N) (y) : k0_pay1 (iblk m c 0 t) (iblk m c 1 t) (iblk m c 2 t) y
    = val_main_v8 (F := Ideal) (arg0 m c) (arg1 m c) (arg2 m c) (((cfg0.win 3).blk t).view.emb y) := by
  rw [val_main_v8_apply, val_main_v7_apply, val_main_call0_v1_apply]
  pointwise [k0_pay1, val_main_call0_call0_v11_apply, val_main_call0_call0_v10_apply, val_main_call0_call0_v9_apply, val_main_call0_call0_v8_apply, val_main_call0_call0_v7_apply,
    val_main_call0_call0_v6_apply, val_main_call0_call0_v5_apply, val_main_call0_call0_v4_apply, val_main_call0_call0_v3_apply, val_main_call0_call0_v2_apply,
    val_main_call0_call0_v1_apply, val_main_call0_call0_v0_apply, val_main_call0_v0_apply, val_main_v6_apply, val_main_v5_apply, val_main_v4_apply, val_main_v3_apply, val_main_v2_apply, val_main_v1_apply, val_main_v0_apply]
  simp only [show ∀ i, val_main_call0_call0_cst (F := Ideal) i = (0 : EReal) from fun _ => Ideal.ofBits_zero .f32, sub_zero, zero_sub,
    ne_eq, not_true, if_false]
  refine congrArg (fun z : EReal => -(max (-z) 0 + Ideal.log1p (Ideal.exp (-FloatOps.absf (F := Ideal) (φ := .f32) (-z))))) ?_
  refine congrArg₂ (· + ·) (Finset.sum_congr rfl fun k _ => (mul_comm _ _).trans (congrArg₂ (· * ·) ?_ ?_)) ?_
  · blk_point [iblk, V, idx t]
  · refine (congrArg (V m c main_v3) (?_ : _ = ix2 (y 0) k)).trans ((weight m c (y 0) k).trans ?_)
    · blk_ext [idx t]
    · blk_ext [idx t]
  · refine (congrArg (V m c main_v5) (?_ : _ = ix2 (y 0) 0)).trans ((bias m c (y 0)).trans ?_)
    · blk_ext [idx t]
    · blk_ext [idx t]

/-- The blocks the grid points write back tile the result array, so it is the reference's result. -/
theorem final (c : Dev nD) : (dats m 0 c).arrAt 3 (cfgs 0).N = val_main_v8 (F := Ideal) (arg0 m c) (arg1 m c) (arg2 m c) := by
  refine (dats m 0 c).arrAt_eq_of_covers 3 _ (by decide +kernel) fun t _ y => ?_
  blk_simp
  rw [after0_3]; frame_out
  exact point m c t y

/-- The idealized kernel and the reference, from the same arguments, end with the same result array. -/
theorem algebraic : Cert.algebraic_ForgetIdeal_ForgetRefIdeal := by
  pair_intro
  · run_from Cert.ForgetIdeal.Value.run_blocks m g
  · run_from Cert.ForgetRefIdeal.Value.run m' g'
    exact (val_main_v8_eq _ _ _).trans (final m c).symm

end Cert.ForgetIdeal.RefValue

end
-- ==== Proof.NormFinalValue.lean ====
/- The final norm: each grid point adds two blocks of rows and scales every row by the reciprocal of its root mean square
   and by the weight. -/
module

public import proofs.«01_k».proof.Defs
public import proofs.«01_k».proof.Proof.Gen.NormFinalIdeal.Value
public import proofs.«01_k».proof.Proof.Gen.NormFinalRefIdeal.Run
public import proofs.«01_k».proof.Proof.Gen.NormFinalRefIdeal.Read
public import Idealize.ShloMosaic.Lib.Claim
public import Idealize.ShloMosaic.Lib.Pipeline.ValueKit
public import Idealize.ShloMosaic.Lib.Pointwise
public import Idealize.ShloMosaic.Lib.KernelVsHost

@[expose] public section

set_option maxRecDepth 16384

noncomputable section

namespace Cert.NormFinalIdeal.RefValue

open Cert.NormFinalIdeal Cert.NormFinalIdeal.Gen Idealize.ShloMosaic Idealize.ShloMosaic.TcCoe Idealize.SL.Sem
open Idealize.ShloMosaic.Pipeline (Dat)
open Cert.NormFinalRefIdeal.Read

variable (m : (ℓ : Loc nD τ sig) → Buf (Elt Ideal) ℓ)

/-- The launch contents of the kernel's arguments. -/
abbrev arg0 (c : Dev nD) : (⟨S9216x4096, .f32⟩ : BufTy).Contents (Elt Ideal) := m ((c : Thread nD τ).loc main_arg0)
abbrev arg1 (c : Dev nD) : (⟨S4096, .f32⟩ : BufTy).Contents (Elt Ideal) := m ((c : Thread nD τ).loc main_arg1)
abbrev arg2 (c : Dev nD) : (⟨S9216x4096, .f32⟩ : BufTy).Contents (Elt Ideal) := m ((c : Thread nD τ).loc main_arg2)

/-- The block every window stages at grid point `t`, in closed form. -/
theorem idx : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

/-- The weight the region reads is the argument, as a row. -/
theorem weight (c : Dev nD) (k : Fin 4096) : V m c main_v0 (ix2 0 k) = arg1 m c (ix1 k) := by
  unfold V
  after_results
  pointwise
  blk_ext

/-- What a grid point stores at an index of its block is the reference's result at the array index it sits at. -/
theorem point (c : Dev nD) (t : Fin cfg0.N) (y) : k0_pay1 (iblk m c 0 t) (iblk m c 1 t) (iblk m c 2 t) y
    = val_main_v13 (F := Ideal) (arg0 m c) (arg1 m c) (arg2 m c) (((cfg0.win 3).blk t).view.emb y) := by
  rw [val_main_v13_apply, val_main_v10_apply, val_main_v9_apply, val_main_v8_apply, val_main_v7_apply,
    val_main_v5_apply, val_main_v3_apply, val_main_v2_apply]
  pointwise [k0_pay1, val_main_v12_apply, val_main_v11_apply, val_main_v6_apply, val_main_v4_apply, val_main_cst_1_apply, val_main_cst_0_apply, val_main_cst_apply, val_main_v1_apply, val_main_v0_apply]
  refine congrArg₂ (· * ·) ?_ ?_
  · blk_point [iblk, V, idx t]
  · refine (congrArg (V m c main_v0) (?_ : _ = ix2 0 (y 1))).trans ((weight m c (y 1)).trans ?_)
    · blk_ext [idx t]
    · blk_ext [idx t]

/-- The blocks the grid points write back tile the result array, so it is the reference's result. -/
theorem final (c : Dev nD) : (dats m 0 c).arrAt 3 (cfgs 0).N = val_main_v13 (F := Ideal) (arg0 m c) (arg1 m c) (arg2 m c) := by
  refine (dats m 0 c).arrAt_eq_of_covers 3 _ (by decide +kernel) fun t _ y => ?_
  blk_simp
  rw [after0_3]; frame_out
  exact point m c t y

/-- The idealized kernel and the reference, from the same arguments, end with the same result array. -/
theorem algebraic : Cert.algebraic_NormFinalIdeal_NormFinalRefIdeal := by
  pair_intro
  · run_from Cert.NormFinalIdeal.Value.run_blocks m g
  · run_from Cert.NormFinalRefIdeal.Value.run m' g'
    exact (val_main_v13_eq _ _ _).trans (final m c).symm

end Cert.NormFinalIdeal.RefValue

end
-- ==== Proof.NormMixValue.lean ====
/- The norm before the mixers: each grid point adds two blocks of rows, and stores the sum, the sum with every row scaled by the
   reciprocal of its root mean square and by the weight, and the transpose of that. -/
module

public import proofs.«01_k».proof.Defs
public import proofs.«01_k».proof.Proof.Gen.NormMixIdeal.Value
public import proofs.«01_k».proof.Proof.Gen.NormMixRefIdeal.Run
public import proofs.«01_k».proof.Proof.Gen.NormMixRefIdeal.Read
public import Idealize.ShloMosaic.Lib.Claim
public import Idealize.ShloMosaic.Lib.Pipeline.ValueKit
public import Idealize.ShloMosaic.Lib.Pointwise
public import Idealize.ShloMosaic.Lib.KernelVsHost

@[expose] public section

set_option maxRecDepth 16384

noncomputable section

namespace Cert.NormMixIdeal.RefValue

open Cert.NormMixIdeal Cert.NormMixIdeal.Gen Idealize.ShloMosaic Idealize.ShloMosaic.TcCoe Idealize.SL.Sem
open Idealize.ShloMosaic.Pipeline (Dat)
open Cert.NormMixRefIdeal.Read

variable (m : (ℓ : Loc nD τ sig) → Buf (Elt Ideal) ℓ)

/-- The launch contents of the kernel's arguments. -/
abbrev arg0 (c : Dev nD) : (⟨S9216x4096, .f32⟩ : BufTy).Contents (Elt Ideal) := m ((c : Thread nD τ).loc main_arg0)
abbrev arg1 (c : Dev nD) : (⟨S4096, .f32⟩ : BufTy).Contents (Elt Ideal) := m ((c : Thread nD τ).loc main_arg1)
abbrev arg2 (c : Dev nD) : (⟨S9216x4096, .f32⟩ : BufTy).Contents (Elt Ideal) := m ((c : Thread nD τ).loc main_arg2)

/-- The block every window stages at grid point `t`, in closed form. -/
theorem idx : ∀ t : Fin cfg0.N, win0_0.index t = ![t.val, 0] ∧ win0_1.index t = ![t.val, 0]
    ∧ win0_2.index t = ![0, 0] ∧ win0_3.index t = ![t.val, 0] ∧ win0_4.index t = ![t.val, 0] ∧ win0_5.index t = ![0, t.val] :=
  (by decide +kernel : ∀ t : Fin grid0.N, _)

/-- The weight the region reads is the argument, as a row. -/
theorem weight (c : Dev nD) (k : Fin 4096) : V m c main_v0 (ix2 0 k) = arg1 m c (ix1 k) := by
  unfold V
  after_results
  pointwise
  blk_ext

/-- What a grid point stores of the sum is the reference's sum. -/
theorem point_sum (c : Dev nD) (t : Fin cfg0.N) (y) : k0_pay1 (iblk m c 0 t) (iblk m c 1 t) y
    = val_main_v0 (F := Ideal) (arg0 m c) (arg2 m c) (((cfg0.win 3).blk t).view.emb y) := by
  rw [val_main_v0_apply]
  pointwise [k0_pay1]
  blk_point [iblk, V, idx t]

/-- What a grid point stores of the normed rows is the reference's. -/
theorem point_rows (c : Dev nD) (t : Fin cfg0.N) (y) : k0_pay3 (iblk m c 0 t) (iblk m c 1 t) (iblk m c 2 t) y
    = val_main_v14 (F := Ideal) (arg0 m c) (arg1 m c) (arg2 m c) (((cfg0.win 4).blk t).view.emb y) := by
  rw [val_main_v14_apply, val_main_v13_apply, val_main_v10_apply, val_main_v9_apply, val_main_v8_apply, val_main_v7_apply,
    val_main_v5_apply, val_main_v3_apply, val_main_v2_apply]
  pointwise [k0_pay3, k0_pay2, k0_pay1, val_main_v13_apply, val_main_v12_apply, val_main_v11_apply, val_main_v6_apply, val_main_v4_apply, val_main_cst_1_apply, val_main_cst_0_apply, val_main_cst_apply, val_main_v1_apply, val_main_v0_apply]
  refine congrArg₂ (· * ·) ?_ ?_
  · blk_point [iblk, V, idx t]
  · refine (congrArg (V m c main_v0) (?_ : _ = ix2 0 (y 1))).trans ((weight m c (y 1)).trans ?_)
    · blk_ext [idx t]
    · blk_ext [idx t]

/-- What a grid point stores of the normed rows transposed is the reference's. -/
theorem point_cols (c : Dev nD) (t : Fin cfg0.N) (y) : k0_pay4 (iblk m c 0 t) (iblk m c 1 t) (iblk m c 2 t) y
    = val_main_v15 (F := Ideal) (arg0 m c) (arg1 m c) (arg2 m c) (((cfg0.win 5).blk t).view.emb y) := by
  rw [val_main_v15_apply, val_main_v14_apply, val_main_v13_apply, val_main_v10_apply, val_main_v9_apply, val_main_v8_apply, val_main_v7_apply,
    val_main_v5_apply, val_main_v3_apply, val_main_v2_apply]
  pointwise [k0_pay4, k0_pay2, k0_pay1, val_main_v13_apply, val_main_v12_apply, val_main_v11_apply, val_main_v6_apply, val_main_v4_apply, val_main_cst_1_apply, val_main_cst_0_apply, val_main_cst_apply, val_main_v1_apply, val_main_v0_apply]
  refine congrArg₂ (· * ·) ?_ ?_
  · blk_point [iblk, V, idx t]
  · refine (congrArg (V m c main_v0) (?_ : _ = ix2 0 (y 0))).trans ((weight m c (y 0)).trans ?_)
    · blk_ext [idx t]
    · blk_ext [idx t]

/-- The blocks the grid points write back tile the result array, so it is the reference's result. -/
theorem final_sum (c : Dev nD) : (dats m 0 c).arrAt 3 (cfgs 0).N = val_main_v0 (F := Ideal) (arg0 m c) (arg2 m c) := by
  refine (dats m 0 c).arrAt_eq_of_covers 3 _ (by decide +kernel) fun t _ y => ?_
  blk_simp
  rw [after0_3]; frame_out
  exact point_sum m c t y

/-- The same of the normed rows. -/
theorem final_rows (c : Dev nD) : (dats m 0 c).arrAt 4 (cfgs 0).N = val_main_v14 (F := Ideal) (arg0 m c) (arg1 m c) (arg2 m c) := by
  refine (dats m 0 c).arrAt_eq_of_covers 4 _ (by decide +kernel) fun t _ y => ?_
  blk_simp
  rw [after0_4]; frame_out
  exact point_rows m c t y

/-- The same of the normed rows transposed. -/
theorem final_cols (c : Dev nD) : (dats m 0 c).arrAt 5 (cfgs 0).N = val_main_v15 (F := Ideal) (arg0 m c) (arg1 m c) (arg2 m c) := by
  refine (dats m 0 c).arrAt_eq_of_covers 5 _ (by decide +kernel) fun t _ y => ?_
  blk_simp
  rw [after0_5]; frame_out
  exact point_cols m c t y

/-- The idealized kernel and the reference, from the same arguments, end with the same result arrays. -/
theorem algebraic : Cert.algebraic_NormMixIdeal_NormMixRefIdeal := by
  pair_intro
  · run_from Cert.NormMixIdeal.Value.run_blocks m g
  · run_from Cert.NormMixRefIdeal.Value.run m' g'
    · exact (val_main_v0_eq _ _).trans (final_sum m c).symm
    · exact (val_main_v14_eq _ _ _).trans (final_rows m c).symm
    · exact (val_main_v15_eq _ _ _).trans (final_cols m c).symm

end Cert.NormMixIdeal.RefValue

end
-- ==== Proof.NormFfnValue.lean ====
/- The norm before the feed-forward layer: each grid point scales every row of a block by the reciprocal of its root mean square
   and by the weight, and stores the transpose. -/
module

public import proofs.«01_k».proof.Defs
public import proofs.«01_k».proof.Proof.Gen.NormFfnIdeal.Value
public import proofs.«01_k».proof.Proof.Gen.NormFfnRefIdeal.Run
public import proofs.«01_k».proof.Proof.Gen.NormFfnRefIdeal.Read
public import Idealize.ShloMosaic.Lib.Claim
public import Idealize.ShloMosaic.Lib.Pipeline.ValueKit
public import Idealize.ShloMosaic.Lib.Pointwise
public import Idealize.ShloMosaic.Lib.KernelVsHost

@[expose] public section

set_option maxRecDepth 16384

noncomputable section

namespace Cert.NormFfnIdeal.RefValue

open Cert.NormFfnIdeal Cert.NormFfnIdeal.Gen Idealize.ShloMosaic Idealize.ShloMosaic.TcCoe Idealize.SL.Sem
open Idealize.ShloMosaic.Pipeline (Dat)
open Cert.NormFfnRefIdeal.Read

variable (m : (ℓ : Loc nD τ sig) → Buf (Elt Ideal) ℓ)

/-- The launch contents of the kernel's arguments. -/
abbrev arg0 (c : Dev nD) : (⟨S9216x4096, .f32⟩ : BufTy).Contents (Elt Ideal) := m ((c : Thread nD τ).loc main_arg0)
abbrev arg1 (c : Dev nD) : (⟨S4096, .f32⟩ : BufTy).Contents (Elt Ideal) := m ((c : Thread nD τ).loc main_arg1)

/-- The block every window stages at grid point `t`, in closed form. -/
theorem idx : ∀ t : Fin cfg0.N, win0_0.index t = ![t.val, 0]
    ∧ win0_1.index t = ![0, 0] ∧ win0_2.index t = ![0, t.val] :=
  (by decide +kernel : ∀ t : Fin grid0.N, _)

/-- The weight the region reads is the argument, as a row. -/
theorem weight (c : Dev nD) (k : Fin 4096) : V m c main_v0 (ix2 0 k) = arg1 m c (ix1 k) := by
  unfold V
  after_results
  pointwise
  blk_ext

/-- What a grid point stores at an index of its block is the reference's result at the array index it sits at. -/
theorem point (c : Dev nD) (t : Fin cfg0.N) (y) : k0_pay1 (iblk m c 0 t) (iblk m c 1 t) y
    = val_main_v14 (F := Ideal) (arg0 m c) (arg1 m c) (((cfg0.win 2).blk t).view.emb y) := by
  rw [val_main_v14_apply, val_main_v13_apply, val_main_v12_apply, val_main_v9_apply, val_main_v8_apply, val_main_v7_apply, val_main_v6_apply,
    val_main_v4_apply, val_main_v2_apply, val_main_v1_apply]
  pointwise [k0_pay1, val_main_v11_apply, val_main_v10_apply, val_main_v5_apply, val_main_v3_apply, val_main_cst_1_apply, val_main_cst_0_apply, val_main_cst_apply, val_main_v0_apply]
  refine congrArg₂ (· * ·) ?_ ?_
  · blk_point [iblk, V, idx t]
  · refine (congrArg (V m c main_v0) (?_ : _ = ix2 0 (y 0))).trans ((weight m c (y 0)).trans ?_)
    · blk_ext [idx t]
    · blk_ext [idx t]

/-- The blocks the grid points write back tile the result array, so it is the reference's result. -/
theorem final (c : Dev nD) : (dats m 0 c).arrAt 2 (cfgs 0).N = val_main_v14 (F := Ideal) (arg0 m c) (arg1 m c) := by
  refine (dats m 0 c).arrAt_eq_of_covers 2 _ (by decide +kernel) fun t _ y => ?_
  blk_simp
  rw [after0_2]; frame_out
  exact point m c t y

/-- The idealized kernel and the reference, from the same arguments, end with the same result array. -/
theorem algebraic : Cert.algebraic_NormFfnIdeal_NormFfnRefIdeal := by
  pair_intro
  · run_from Cert.NormFfnIdeal.Value.run_blocks m g
  · run_from Cert.NormFfnRefIdeal.Value.run m' g'
    exact (val_main_v14_eq _ _).trans (final m c).symm

end Cert.NormFfnIdeal.RefValue

end
-- ==== Proof.InLoraValue.lean ====
/- The thin projections: each grid point multiplies a block of rows by three groups of the projection's columns, put side by side
   and filled up with columns of zeros. -/
module

public import proofs.«01_k».proof.Defs
public import proofs.«01_k».proof.Proof.Gen.InLoraIdeal.Value
public import proofs.«01_k».proof.Proof.Gen.InLoraRefIdeal.Run
public import proofs.«01_k».proof.Proof.Gen.InLoraRefIdeal.Read
public import Idealize.ShloMosaic.Lib.Claim
public import Idealize.ShloMosaic.Lib.Pipeline.ValueKit
public import Idealize.ShloMosaic.Lib.Pointwise
public import Idealize.ShloMosaic.Lib.KernelVsHost

@[expose] public section

set_option maxRecDepth 16384

noncomputable section

namespace Cert.InLoraIdeal.RefValue

open Cert.InLoraIdeal Cert.InLoraIdeal.Gen Idealize.ShloMosaic Idealize.ShloMosaic.TcCoe Idealize.SL.Sem
open Idealize.ShloMosaic.Pipeline (Dat)
open Cert.InLoraRefIdeal.Read

variable (m : (ℓ : Loc nD τ sig) → Buf (Elt Ideal) ℓ)

/-- The launch contents of the kernel's arguments. -/
abbrev arg0 (c : Dev nD) : (⟨S9216x4096, .bf16⟩ : BufTy).Contents (Elt Ideal) := m ((c : Thread nD τ).loc main_arg0)
abbrev arg1 (c : Dev nD) : (⟨S4096x33072, .f32⟩ : BufTy).Contents (Elt Ideal) := m ((c : Thread nD τ).loc main_arg1)

/-- The block every window stages at grid point `t`, in closed form. -/
theorem idx : ∀ t : Fin cfg0.N, win0_0.index t = ![t.val, 0] ∧ win0_1.index t = ![0, 0] ∧ win0_2.index t = ![t.val, 0] :=
  (by decide +kernel : ∀ t : Fin grid0.N, _)

/-- The columns of the weight the region reads. -/
def col (w : (⟨S4096x33072, .f32⟩ : BufTy).Contents (Elt Ideal)) (k : Fin 4096) (j : Fin 384) : EReal :=
  if h : j.val < 256 then w (ix2 k ⟨20528 + j.val, by omega⟩)
  else if h : j.val < 272 then w (ix2 k ⟨14368 + (j.val - 256), by omega⟩)
  else if h : j.val < 304 then w (ix2 k ⟨8192 + (j.val - 272), by omega⟩)
  else 0

/-- Four groups of columns side by side, read at an index. -/
theorem side (u0 : Vec Ideal S4096x256 .f32) (u1 : Vec Ideal S4096x16 .f32) (u2 : Vec Ideal S4096x32 .f32) (u3 : Vec Ideal S4096x80 .f32)
    (k : Fin 4096) (j : Fin 384) :
    concatenate S4096x384 1 [⟨S4096x256, u0⟩, ⟨S4096x16, u1⟩, ⟨S4096x32, u2⟩, ⟨S4096x80, u3⟩]
        concatenates_S4096x256_S4096x16_S4096x32_S4096x80_S4096x384_d1 (ix2 k j)
      = if h : j.val < 256 then u0 (ix2 k ⟨j.val, h⟩) else if h : j.val - 256 < 16 then u1 (ix2 k ⟨j.val - 256, h⟩)
        else if h : j.val - 256 - 16 < 32 then u2 (ix2 k ⟨j.val - 256 - 16, h⟩) else u3 (ix2 k ⟨j.val - 256 - 16 - 32, by omega⟩) := by
  pointwise

theorem weight (c : Dev nD) (k : Fin 4096) (j : Fin 384) : V m c main_v5 (ix2 k j) = col (arg1 m c) k j := by
  unfold V
  after_results
  refine (side _ _ _ _ k j).trans ?_
  unfold col
  by_cases h1 : j.val < 256
  · refine (dif_pos h1).trans (Eq.trans ?_ (dif_pos h1).symm)
    pointwise
    after_results_simp
    pointwise
    blk_ext
  refine (dif_neg h1).trans (Eq.trans ?_ (dif_neg h1).symm)
  by_cases h2 : j.val < 272
  · refine (dif_pos (by omega)).trans (Eq.trans ?_ (dif_pos h2).symm)
    pointwise
    after_results_simp
    pointwise
    blk_ext
  refine (dif_neg (by omega)).trans (Eq.trans ?_ (dif_neg h2).symm)
  by_cases h3 : j.val < 304
  · refine (dif_pos (by omega)).trans (Eq.trans ?_ (dif_pos h3).symm)
    pointwise
    after_results_simp
    pointwise
    blk_ext
  refine (dif_neg (by omega)).trans (Eq.trans ?_ (dif_neg h3).symm)
  pointwise
  after_results_simp
  pointwise

/-- The reference's result is the product by the same columns. -/
theorem ref (x : (⟨S9216x4096, .bf16⟩ : BufTy).Contents (Elt Ideal)) (w : (⟨S4096x33072, .f32⟩ : BufTy).Contents (Elt Ideal)) (i) :
    val_main_v6 (F := Ideal) x w i = ∑ k : Fin 4096, x (ix2 (i 0) k) * col w k (i 1) := by
  unfold val_main_v6 col
  pointwise [val_main_v0_apply, val_main_v1_apply, val_main_v2_apply, val_main_v3_apply, val_main_v4_apply, val_main_v5_apply, val_main_cst_apply]
  by_cases h1 : (i 1).val < 256
  · simp only [dif_pos h1]
    blk_point
  simp only [dif_neg h1]
  by_cases h2 : (i 1).val < 272
  · rw [dif_pos (by omega)]; simp only [dif_pos h2]
    blk_point
  rw [dif_neg (by omega)]; simp only [dif_neg h2]
  by_cases h3 : (i 1).val < 304
  · rw [dif_pos (by omega)]; simp only [dif_pos h3]
    blk_point
  rw [dif_neg (by omega)]; simp only [dif_neg h3, mul_zero, Finset.sum_const_zero]

/-- What a grid point stores at an index of its block is the reference's result at the array index it sits at. -/
theorem point (c : Dev nD) (t : Fin cfg0.N) (y) : k0_pay1 (iblk m c 0 t) (iblk m c 1 t) y
    = val_main_v6 (F := Ideal) (arg0 m c) (arg1 m c) (((cfg0.win 2).blk t).view.emb y) := by
  rw [ref]
  pointwise [k0_pay1]
  refine Finset.sum_congr rfl fun k _ => congrArg₂ (· * ·) ?_ ?_
  · blk_point [iblk, V, idx t]
  · refine (congrArg (V m c main_v5) (?_ : _ = ix2 k (y 1))).trans ((weight m c k (y 1)).trans ?_)
    · blk_ext [idx t]
    · refine congrArg (col _ k) (Fin.ext ?_)
      blk_simp [idx t]

/-- The blocks the grid points write back tile the result array, so it is the reference's result. -/
theorem final (c : Dev nD) : (dats m 0 c).arrAt 2 (cfgs 0).N = val_main_v6 (F := Ideal) (arg0 m c) (arg1 m c) := by
  refine (dats m 0 c).arrAt_eq_of_covers 2 _ (by decide +kernel) fun t _ y => ?_
  blk_simp
  rw [after0_2]; frame_out
  exact point m c t y

/-- The idealized kernel and the reference, from the same arguments, end with the same result array. -/
theorem algebraic : Cert.algebraic_InLoraIdeal_InLoraRefIdeal := by
  pair_intro
  · run_from Cert.InLoraIdeal.Value.run_blocks m g
  · run_from Cert.InLoraRefIdeal.Value.run m' g'
    exact (val_main_v6_eq _ _).trans (final m c).symm

end Cert.InLoraIdeal.RefValue

end
-- ==== Proof.ScratchValue.lean ====
/- A scratch array whose rows before row 8 carry a state and whose rows from row 8 on carry a block: what a load of it reads. -/
module

public import Idealize.ShloMosaic.Lib.Pipeline.ValueKit

@[expose] public section

noncomputable section

namespace Cert.Scratch

open Idealize.ShloMosaic Idealize.ShloMosaic.TcCoe

variable {Val : EltTy → Type} [∀ e, Nonempty (Val e)] {e : EltTy} {n w l k o o' : ℕ}

/-- A row inside the last piece stored reads that piece. -/
theorem last {inb : ∀ a, (![o, 0] : Fin 2 → ℕ) a + (![l, w] : Fin 2 → ℕ) a ≤ (⟨2, ![n, w]⟩ : Shape).size a}
    (A : (Rect.unit (s := ⟨2, ![n, w]⟩) ![o, 0] ![l, w] inb).shape.Idx → Val e) (L : List (View.Piece Val ⟨2, ![n, w]⟩ e))
    (y : (⟨2, ![n, w]⟩ : Shape).Idx) (x : (⟨2, ![l, w]⟩ : Shape).Idx) (h0 : (y 0).val = o + (x 0).val)
    (h1 : (y 1).val = (x 1).val) :
    View.canon (⟨Rect.unit (s := ⟨2, ![n, w]⟩) ![o, 0] ![l, w] inb, A⟩ :: L) y = A x := by
  have h : (Rect.unit (s := ⟨2, ![n, w]⟩) ![o, 0] ![l, w] inb).emb x = y :=
    funext fun a => Fin.ext (by
      refine (Rect.idx_unit_val _ _ _ _ a).trans ?_
      fin_cases a
      · exact h0.symm
      · simp [h1])
  rw [← h]
  exact View.canon_cons_emb _ _ _ _

/-- A row above the last piece stored reads the one stored before it. -/
theorem before {inb : ∀ a, (![o, 0] : Fin 2 → ℕ) a + (![l, w] : Fin 2 → ℕ) a ≤ (⟨2, ![n, w]⟩ : Shape).size a}
    {inb' : ∀ a, (![o', 0] : Fin 2 → ℕ) a + (![k, w] : Fin 2 → ℕ) a ≤ (⟨2, ![n, w]⟩ : Shape).size a}
    (A : (Rect.unit (s := ⟨2, ![n, w]⟩) ![o, 0] ![l, w] inb).shape.Idx → Val e)
    (B : (Rect.unit (s := ⟨2, ![n, w]⟩) ![o', 0] ![k, w] inb').shape.Idx → Val e) (L : List (View.Piece Val ⟨2, ![n, w]⟩ e))
    (y : (⟨2, ![n, w]⟩ : Shape).Idx) (x : (⟨2, ![k, w]⟩ : Shape).Idx) (hy : (y 0).val < o) (h0 : (y 0).val = o' + (x 0).val)
    (h1 : (y 1).val = (x 1).val) :
    View.canon (⟨Rect.unit (s := ⟨2, ![n, w]⟩) ![o, 0] ![l, w] inb, A⟩ :: ⟨Rect.unit (s := ⟨2, ![n, w]⟩) ![o', 0] ![k, w] inb', B⟩ :: L) y
      = B x := by
  rw [View.canon_cons_of_not_mem]
  · exact last B L y x h0 h1
  · intro h
    have := ((Rect.mem_set_unit (s := ⟨2, ![n, w]⟩) (off := ![o, 0]) (size := ![l, w]) (inb := inb)).mp h (0 : Fin 2)).1
    simp at this
    omega

/-- So a row of the two pieces together reads the one that holds it. -/
theorem two {inb : ∀ a, (![o, 0] : Fin 2 → ℕ) a + (![l, w] : Fin 2 → ℕ) a ≤ (⟨2, ![n, w]⟩ : Shape).size a}
    {inb' : ∀ a, (![o', 0] : Fin 2 → ℕ) a + (![k, w] : Fin 2 → ℕ) a ≤ (⟨2, ![n, w]⟩ : Shape).size a}
    (A : (Rect.unit (s := ⟨2, ![n, w]⟩) ![o, 0] ![l, w] inb).shape.Idx → Val e)
    (B : (Rect.unit (s := ⟨2, ![n, w]⟩) ![o', 0] ![k, w] inb').shape.Idx → Val e) (L : List (View.Piece Val ⟨2, ![n, w]⟩ e))
    (hk : o' + k = o) (hl : o + l = n) (y : (⟨2, ![n, w]⟩ : Shape).Idx) (r : ℕ) (hr : r < k + l) (c : Fin w)
    (h0 : (y 0).val = o' + r) (h1 : (y 1).val = c.val) :
    View.canon (⟨Rect.unit (s := ⟨2, ![n, w]⟩) ![o, 0] ![l, w] inb, A⟩ :: ⟨Rect.unit (s := ⟨2, ![n, w]⟩) ![o', 0] ![k, w] inb', B⟩ :: L) y
      = if h : r < k then B (ix2 ⟨r, h⟩ c : (⟨2, ![k, w]⟩ : Shape).Idx)
        else A (ix2 ⟨r - k, by omega⟩ c : (⟨2, ![l, w]⟩ : Shape).Idx) := by
  by_cases h : r < k
  · rw [dif_pos h]
    exact before A B L y (ix2 ⟨r, h⟩ c) (by omega) h0 h1
  · rw [dif_neg h]
    exact last A _ y (ix2 ⟨r - k, by omega⟩ c) (h0.trans (by show o' + r = o + (r - k); omega)) h1

end Cert.Scratch

end
-- ==== Proof.ConvRefValue.lean ====
/- The convolution of the prompt, as the reference computes it: four rows weighted and summed, gated by their own logistic, and every head of the queries and of
   the keys scaled to unit length. -/
module

public import proofs.«01_k».proof.Defs
public import proofs.«01_k».proof.Proof.Gen.ConvIdeal.Value
public import proofs.«01_k».proof.Proof.Gen.ConvRefIdeal.Run
public import proofs.«01_k».proof.Proof.Gen.ConvRefIdeal.Read
public import Idealize.ShloMosaic.Lib.Claim
public import Idealize.ShloMosaic.Lib.Pipeline.ValueKit
public import Idealize.ShloMosaic.Lib.Pointwise
public import Idealize.ShloMosaic.Lib.KernelVsHost

@[expose] public section

set_option maxRecDepth 16384

noncomputable section

namespace Cert.ConvIdeal.RefValue

open Cert.ConvIdeal Cert.ConvIdeal.Gen Idealize.ShloMosaic Idealize.ShloMosaic.TcCoe Idealize.SL.Sem
open Idealize.ShloMosaic.Pipeline (Dat)
open Cert.ConvRefIdeal.Read

/-- Row `j` of sequence `s` with the three rows of the state before it, in column `k`. -/
def ext (x0 : (⟨S9216x8192, .f32⟩ : BufTy).Contents (Elt Ideal)) (x1 : (⟨S4x3x6144, .f32⟩ : BufTy).Contents (Elt Ideal))
    (s : Fin 4) (j : ℕ) (hj : j < 2179) (k : Fin 6144) : EReal :=
  if h : j < 3 then x1 (ix3 s ⟨j, h⟩ k) else x0 (ix2 ⟨2176 * s.val + (j - 3), by omega⟩ ⟨k.val, by omega⟩)

/-- A value times its logistic. -/
def act (z : EReal) : EReal := z * Ideal.logistic z

/-- Four weighted rows, gated. -/
def conv (x0 : (⟨S9216x8192, .f32⟩ : BufTy).Contents (Elt Ideal)) (x1 : (⟨S4x3x6144, .f32⟩ : BufTy).Contents (Elt Ideal))
    (x2 : (⟨S4x6144, .f32⟩ : BufTy).Contents (Elt Ideal)) (s : Fin 4) (r : Fin 2176) (k : Fin 6144) : EReal :=
  act (ext x0 x1 s r.val (by omega) k * x2 (ix2 0 k) + ext x0 x1 s (r.val + 1) (by omega) k * x2 (ix2 1 k)
    + ext x0 x1 s (r.val + 2) (by omega) k * x2 (ix2 2 k) + ext x0 x1 s (r.val + 3) (by omega) k * x2 (ix2 3 k))

/-- The reciprocal of the length of a head. -/
def len (a : Fin 128 → EReal) : EReal := Ideal.rsqrt (∑ x, a x * a x + Ideal.ofBits .f32 0x358637BD#32)

/-- One head at one index: queries and keys at unit length, queries scaled, values as they are. -/
def unit (g : ℕ) (a : Fin 128 → EReal) (k : Fin 128) : EReal :=
  if g = 0 then a k * len a * Ideal.ofBits .f32 0x3DB504F3#32 else if g = 1 then a k * len a else a k

/-- The column of element `k` of head `h` of kind `g`. -/
abbrev col (g : Fin 3) (h : Fin 16) (k : Fin 128) : Fin 6144 := ⟨2048 * g.val + 128 * h.val + k.val, by omega⟩

theorem ref3 (x0 : (⟨S9216x8192, .f32⟩ : BufTy).Contents (Elt Ideal)) (x1 : (⟨S4x3x6144, .f32⟩ : BufTy).Contents (Elt Ideal))
    (s : Fin 4) (j : Fin 2067) (k : Fin 6144) : val_main_v3 (F := Ideal) x0 x1 (ix3 s j k) = ext x0 x1 s j.val (by omega) k := by
  unfold val_main_v3 ext
  pointwise
  by_cases h : j.val < 3
  · rw [dif_pos h, dif_pos h]
  · rw [dif_neg h, dif_neg h, val_main_v2_apply, val_main_v1_apply, val_main_v0_apply]
    exact congrArg x0 (by blk_ext)

theorem ref31 (x0 : (⟨S9216x8192, .f32⟩ : BufTy).Contents (Elt Ideal)) (x1 : (⟨S4x3x6144, .f32⟩ : BufTy).Contents (Elt Ideal))
    (x2 : (⟨S4x6144, .f32⟩ : BufTy).Contents (Elt Ideal)) (s : Fin 4) (r : Fin 2064) (k : Fin 6144) :
    val_main_v31 (F := Ideal) x0 x1 x2 (ix3 s r k) = conv x0 x1 x2 s ⟨r.val, by omega⟩ k := by
  have e4 : idx_main_v4 (ix3 s r k) = ix3 s ⟨r.val, by omega⟩ k := by blk_ext
  have e10 : idx_main_v10 (ix3 s r k) = ix3 s ⟨r.val + 1, by omega⟩ k := by blk_ext
  have e17 : idx_main_v17 (ix3 s r k) = ix3 s ⟨r.val + 2, by omega⟩ k := by blk_ext
  have e24 : idx_main_v24 (ix3 s r k) = ix3 s ⟨r.val + 3, by omega⟩ k := by blk_ext
  have w0 : idx_main_v5 (idx_main_v6 (idx_main_v7 (idx_main_v8 (ix3 s r k)))) = ix2 0 k := by blk_ext
  have w1 : idx_main_v11 (idx_main_v12 (idx_main_v13 (idx_main_v14 (ix3 s r k)))) = ix2 1 k := by blk_ext
  have w2 : idx_main_v18 (idx_main_v19 (idx_main_v20 (idx_main_v21 (ix3 s r k)))) = ix2 2 k := by blk_ext
  have w3 : idx_main_v25 (idx_main_v26 (idx_main_v27 (idx_main_v28 (ix3 s r k)))) = ix2 3 k := by blk_ext
  have e30 : val_main_v30 (F := Ideal) x0 x1 x2 (ix3 s r k) = ext x0 x1 s r.val (by omega) k * x2 (ix2 0 k)
      + ext x0 x1 s (r.val + 1) (by omega) k * x2 (ix2 1 k) + ext x0 x1 s (r.val + 2) (by omega) k * x2 (ix2 2 k)
      + ext x0 x1 s (r.val + 3) (by omega) k * x2 (ix2 3 k) := by
    rw [val_main_v30_apply, val_main_v29_apply, val_main_v28_apply, val_main_v27_apply, val_main_v26_apply, val_main_v25_apply,
      val_main_v24_apply, val_main_v23_apply, val_main_v22_apply, val_main_v21_apply, val_main_v20_apply, val_main_v19_apply,
      val_main_v18_apply, val_main_v17_apply, val_main_v16_apply, val_main_v15_apply, val_main_v14_apply, val_main_v13_apply,
      val_main_v12_apply, val_main_v11_apply, val_main_v10_apply, val_main_v9_apply, val_main_v8_apply, val_main_v7_apply,
      val_main_v6_apply, val_main_v5_apply, val_main_v4_apply, e4, e10, e17, e24, w0, w1, w2, w3, ref3, ref3, ref3, ref3]
    pointwise
  rw [val_main_v31_apply]
  pointwise [val_main_call0_v5_apply, val_main_call0_v4_apply, val_main_call0_v3_apply, val_main_call0_v2_apply,
    val_main_call0_v1_apply, val_main_call0_v0_apply, val_main_call0_cst_apply, val_main_call0_cst_0_apply]
  rw [e30]
  rfl

theorem ref32 (x0 : (⟨S9216x8192, .f32⟩ : BufTy).Contents (Elt Ideal)) (x1 : (⟨S4x3x6144, .f32⟩ : BufTy).Contents (Elt Ideal))
    (x2 : (⟨S4x6144, .f32⟩ : BufTy).Contents (Elt Ideal)) (s : Fin 4) (r : Fin 2064) (g : Fin 3) (h : Fin 16) (k : Fin 128) :
    val_main_v32 (F := Ideal) x0 x1 x2 (ix5 s r g h k) = conv x0 x1 x2 s ⟨r.val, by omega⟩ (col g h k) := by
  have e : idx_main_v32 (ix5 s r g h k) = ix3 s r (col g h k) := by blk_ext
  rw [val_main_v32_apply, e, ref31]

theorem ref34 (x0 : (⟨S9216x8192, .f32⟩ : BufTy).Contents (Elt Ideal)) (x1 : (⟨S4x3x6144, .f32⟩ : BufTy).Contents (Elt Ideal))
    (x2 : (⟨S4x6144, .f32⟩ : BufTy).Contents (Elt Ideal)) (s : Fin 4) (r : Fin 2064) (h : Fin 16) (k : Fin 128) :
    val_main_v34 (F := Ideal) x0 x1 x2 (ix4 s r h k) = conv x0 x1 x2 s ⟨r.val, by omega⟩ (col 0 h k) := by
  have e : idx_main_v33 (idx_main_v34 (ix4 s r h k)) = ix5 s r 0 h k := by
    have e' : idx_main_v34 (ix4 s r h k) = ix5 s r 0 h k := by blk_ext
    rw [e']
    blk_ext
  rw [val_main_v34_apply, val_main_v33_apply, e, ref32]

theorem ref46 (x0 : (⟨S9216x8192, .f32⟩ : BufTy).Contents (Elt Ideal)) (x1 : (⟨S4x3x6144, .f32⟩ : BufTy).Contents (Elt Ideal))
    (x2 : (⟨S4x6144, .f32⟩ : BufTy).Contents (Elt Ideal)) (s : Fin 4) (r : Fin 2064) (h : Fin 16) (k : Fin 128) :
    val_main_v46 (F := Ideal) x0 x1 x2 (ix4 s r h k) = conv x0 x1 x2 s ⟨r.val, by omega⟩ (col 1 h k) := by
  have e : idx_main_v45 (idx_main_v46 (ix4 s r h k)) = ix5 s r 1 h k := by
    have e' : idx_main_v46 (ix4 s r h k) = ix5 s r 0 h k := by blk_ext
    rw [e']
    blk_ext
  rw [val_main_v46_apply, val_main_v45_apply, e, ref32]

theorem ref56 (x0 : (⟨S9216x8192, .f32⟩ : BufTy).Contents (Elt Ideal)) (x1 : (⟨S4x3x6144, .f32⟩ : BufTy).Contents (Elt Ideal))
    (x2 : (⟨S4x6144, .f32⟩ : BufTy).Contents (Elt Ideal)) (s : Fin 4) (r : Fin 2064) (h : Fin 16) (k : Fin 128) :
    val_main_v56 (F := Ideal) x0 x1 x2 (ix4 s r h k) = conv x0 x1 x2 s ⟨r.val, by omega⟩ (col 2 h k) := by
  have e : idx_main_v55 (idx_main_v56 (ix4 s r h k)) = ix5 s r 2 h k := by
    have e' : idx_main_v56 (ix4 s r h k) = ix5 s r 0 h k := by blk_ext
    rw [e']
    blk_ext
  rw [val_main_v56_apply, val_main_v55_apply, e, ref32]

theorem ref42 (x0 : (⟨S9216x8192, .f32⟩ : BufTy).Contents (Elt Ideal)) (x1 : (⟨S4x3x6144, .f32⟩ : BufTy).Contents (Elt Ideal))
    (x2 : (⟨S4x6144, .f32⟩ : BufTy).Contents (Elt Ideal)) (s : Fin 4) (r : Fin 2064) (h : Fin 16) (k : Fin 128) :
    val_main_v42 (F := Ideal) x0 x1 x2 (ix4 s r h k)
      = conv x0 x1 x2 s ⟨r.val, by omega⟩ (col 0 h k) * len (fun k => conv x0 x1 x2 s ⟨r.val, by omega⟩ (col 0 h k)) := by
  have i : ∀ x : Fin 128, idx_main_v36 (idx_main_v37 (idx_main_v41 (ix4 s r h k))) x = ix4 s r h x := fun x => by blk_ext
  have hs : ∀ x : Fin 128, val_main_v35 (F := Ideal) x0 x1 x2 (idx_main_v36 (idx_main_v37 (idx_main_v41 (ix4 s r h k))) x)
      = conv x0 x1 x2 s ⟨r.val, by omega⟩ (col 0 h x) * conv x0 x1 x2 s ⟨r.val, by omega⟩ (col 0 h x) := fun x => by
    rw [i, val_main_v35_apply, ref34]
    pointwise
  rw [val_main_v42_apply, val_main_v41_apply, val_main_v40_apply, val_main_v39_apply, val_main_v38_apply, val_main_v37_apply, val_main_v36_apply, ref34]
  rw [Finset.sum_congr rfl fun x _ => hs x, val_main_cst_apply, val_main_cst_0_apply]
  unfold len
  pointwise

theorem ref54 (x0 : (⟨S9216x8192, .f32⟩ : BufTy).Contents (Elt Ideal)) (x1 : (⟨S4x3x6144, .f32⟩ : BufTy).Contents (Elt Ideal))
    (x2 : (⟨S4x6144, .f32⟩ : BufTy).Contents (Elt Ideal)) (s : Fin 4) (r : Fin 2064) (h : Fin 16) (k : Fin 128) :
    val_main_v54 (F := Ideal) x0 x1 x2 (ix4 s r h k)
      = conv x0 x1 x2 s ⟨r.val, by omega⟩ (col 1 h k) * len (fun k => conv x0 x1 x2 s ⟨r.val, by omega⟩ (col 1 h k)) := by
  have i : ∀ x : Fin 128, idx_main_v48 (idx_main_v49 (idx_main_v53 (ix4 s r h k))) x = ix4 s r h x := fun x => by blk_ext
  have hs : ∀ x : Fin 128, val_main_v47 (F := Ideal) x0 x1 x2 (idx_main_v48 (idx_main_v49 (idx_main_v53 (ix4 s r h k))) x)
      = conv x0 x1 x2 s ⟨r.val, by omega⟩ (col 1 h x) * conv x0 x1 x2 s ⟨r.val, by omega⟩ (col 1 h x) := fun x => by
    rw [i, val_main_v47_apply, ref46]
    pointwise
  rw [val_main_v54_apply, val_main_v53_apply, val_main_v52_apply, val_main_v51_apply, val_main_v50_apply, val_main_v49_apply, val_main_v48_apply, ref46]
  rw [Finset.sum_congr rfl fun x _ => hs x, val_main_cst_2_apply, val_main_cst_3_apply]
  unfold len
  pointwise

/-- The three kinds joined. -/
theorem ref60 (x0 : (⟨S9216x8192, .f32⟩ : BufTy).Contents (Elt Ideal)) (x1 : (⟨S4x3x6144, .f32⟩ : BufTy).Contents (Elt Ideal))
    (x2 : (⟨S4x6144, .f32⟩ : BufTy).Contents (Elt Ideal)) (s : Fin 4) (r : Fin 2064) (g : Fin 3) (h : Fin 16) (k : Fin 128) :
    val_main_v60 (F := Ideal) x0 x1 x2 (ix5 s r g h k)
      = unit g.val (fun k => conv x0 x1 x2 s ⟨r.val, by omega⟩ (col g h k)) k := by
  have i57 : idx_main_v57 (ix5 s r 0 h k) = ix4 s r h k := by blk_ext
  have i58 : idx_main_v58 (ix5 s r 0 h k) = ix4 s r h k := by blk_ext
  have i59 : idx_main_v59 (ix5 s r 0 h k) = ix4 s r h k := by blk_ext
  unfold val_main_v60 unit
  pointwise
  by_cases h0 : g.val = 0
  · obtain rfl : g = 0 := Fin.ext h0
    rw [dif_pos (by omega), if_pos h0]
    refine (val_main_v57_apply _ _ _ _).trans ((congrArg (val_main_v44 (F := Ideal) x0 x1 x2) i57).trans ?_)
    rw [val_main_v44_apply, val_main_v43_apply, ref42]
    pointwise [val_main_cst_1_apply]
  · rw [dif_neg (by omega), if_neg h0]
    by_cases h1 : g.val = 1
    · obtain rfl : g = 1 := Fin.ext h1
      rw [dif_pos (by omega), if_pos h1]
      exact (val_main_v58_apply _ _ _ _).trans ((congrArg (val_main_v54 (F := Ideal) x0 x1 x2) i58).trans (ref54 _ _ _ _ _ _ _))
    · obtain rfl : g = 2 := Fin.ext (by show g.val = 2; omega)
      rw [dif_neg (by omega), if_neg h1]
      exact (val_main_v59_apply _ _ _ _).trans ((congrArg (val_main_v56 (F := Ideal) x0 x1 x2) i59).trans (ref56 _ _ _ _ _ _ _))

/-- The reference's two results at an index. -/
theorem ref63 (x0 : (⟨S9216x8192, .f32⟩ : BufTy).Contents (Elt Ideal)) (x1 : (⟨S4x3x6144, .f32⟩ : BufTy).Contents (Elt Ideal))
    (x2 : (⟨S4x6144, .f32⟩ : BufTy).Contents (Elt Ideal)) (s : Fin 4) (r : Fin 2176) (g : Fin 3) (h : Fin 16) (k : Fin 128) :
    val_main_v63 (F := Ideal) x0 x1 x2 (ix2 ⟨2176 * s.val + r.val, by omega⟩ (col g h k))
      = if r.val < 2064 then unit g.val (fun k => conv x0 x1 x2 s r (col g h k)) k else 0 := by
  have e63 : idx_main_v63 (ix2 ⟨2176 * s.val + r.val, by omega⟩ (col g h k)) = ix3 s r (col g h k) := by blk_ext
  rw [val_main_v63_apply, e63]
  unfold val_main_v62
  pointwise [val_main_call1_v0_apply, val_main_c_apply]
  have hc : 2048 * g.val + 128 * h.val + k.val < 6144 := by omega
  by_cases hr : r.val < 2064
  · rw [dif_pos ⟨hr, hc⟩, if_pos hr, val_main_v61_apply]
    have e61 : idx_main_v61 (ix3 s ⟨r.val, hr⟩ (col g h k)) = ix5 s ⟨r.val, hr⟩ g h k := by blk_ext
    rw [e61, ref60]
  · rw [dif_neg (fun hh => hr hh.1), if_neg hr]
    exact sitofp_zero (φ := .f32)

theorem ref64 (x0 : (⟨S9216x8192, .f32⟩ : BufTy).Contents (Elt Ideal)) (x1 : (⟨S4x3x6144, .f32⟩ : BufTy).Contents (Elt Ideal)) (s : Fin 4) (j : Fin 3) (k : Fin 6144) :
    val_main_v64 (F := Ideal) x0 x1 (ix3 s j k) = ext x0 x1 s (2064 + j.val) (by omega) k := by
  have e : idx_main_v64 (ix3 s j k) = ix3 s ⟨2064 + j.val, by omega⟩ k := by blk_ext
  rw [val_main_v64_apply, e, ref3]

end Cert.ConvIdeal.RefValue

end
-- ==== Proof.ConvValue.lean ====
/- The convolution of the prompt: four rows weighted and summed, gated by their own logistic, and every head of the queries and of
   the keys scaled to unit length. -/
module

public import proofs.«01_k».proof.Defs
public import proofs.«01_k».proof.Proof.Gen.ConvIdeal.Value
public import proofs.«01_k».proof.Proof.Gen.ConvRefIdeal.Run
public import proofs.«01_k».proof.Proof.Gen.ConvRefIdeal.Read
public import proofs.«01_k».proof.Proof.ScratchValue
public import proofs.«01_k».proof.Proof.ConvRefValue
public import Idealize.ShloMosaic.Lib.Claim
public import Idealize.ShloMosaic.Lib.Pipeline.ValueKit
public import Idealize.ShloMosaic.Lib.Pointwise
public import Idealize.ShloMosaic.Lib.KernelVsHost

@[expose] public section

set_option maxRecDepth 16384

noncomputable section

namespace Cert.ConvIdeal.RefValue

open Cert.ConvIdeal Cert.ConvIdeal.Gen Idealize.ShloMosaic Idealize.ShloMosaic.TcCoe Idealize.SL.Sem
open Idealize.ShloMosaic.Pipeline (Dat)
open Cert.ConvRefIdeal.Read

variable (m : (ℓ : Loc nD τ sig) → Buf (Elt Ideal) ℓ)

/-- The launch contents of the kernel's arguments. -/
abbrev arg0 (c : Dev nD) : (⟨S9216x8192, .f32⟩ : BufTy).Contents (Elt Ideal) := m ((c : Thread nD τ).loc main_arg0)
abbrev arg1 (c : Dev nD) : (⟨S4x3x6144, .f32⟩ : BufTy).Contents (Elt Ideal) := m ((c : Thread nD τ).loc main_arg1)
abbrev arg2 (c : Dev nD) : (⟨S4x6144, .f32⟩ : BufTy).Contents (Elt Ideal) := m ((c : Thread nD τ).loc main_arg2)

/-- The block every window stages at grid point `t`, in closed form, -/
theorem idx : ∀ t : Fin cfg0.N, win0_0.index t = ![t.val / 48, t.val % 48] ∧ win0_1.index t = ![t.val / 48, 0, t.val % 48]
    ∧ win0_2.index t = ![0, t.val % 48] ∧ win0_3.index t = ![t.val / 48, t.val % 48] ∧ win0_4.index t = ![t.val / 48, 0, t.val % 48] :=
  (by decide +kernel : ∀ t : Fin grid0.N, _)

/-- and which of queries, keys and values it computes. -/
theorem kind : ∀ t : Fin cfg0.N, (grid0.coords t 1).val = t.val % 48 / 16 := (by decide +kernel : ∀ t : Fin grid0.N, _)

theorem pay6 (v0 : Vec Ideal S2176x128 .f32) (v13 : Vec Ideal S4x128 .f32) (v17 : Vec Ideal S2176x128 .f32)
    (v22 : Vec Ideal S2176x128 .f32) (v27 : Vec Ideal S2176x128 .f32) (x : S2176x128.Idx) : k0_pay6 v0 v13 v17 v22 v27 x
      = act (v17 x * v13 (ix2 0 (x 1)) + v22 x * v13 (ix2 1 (x 1)) + v27 x * v13 (ix2 2 (x 1)) + v0 x * v13 (ix2 3 (x 1))) := by
  have e : ∀ a b c d : EReal, a + b + c + d = b + c + d + a := fun a b c d => by
    rw [add_assoc a, add_assoc a, add_comm a]
  pointwise [k0_pay6]
  unfold act
  rw [e]

theorem pay1 (g : ℕ) (hg : g < 3) (v : FVec Ideal S2176x128 .f32) (x : S2176x128.Idx) : k0_pay1 (BitVec.ofNat 32 g) v x
      = if (x 0).val < 2064 then unit g (fun k => v (ix2 (x 0) k)) (x 1) else 0 := by
  have ex : v x = v (ix2 (x 0) (x 1)) := congrArg v (by blk_ext)
  pointwise [k0_pay1]
  rw [ex]
  have e1 : ∀ u v : EReal, Scalar.select (1#1) u v = u := fun _ _ => rfl
  have e0 : ∀ u v : EReal, Scalar.select (0#1) u v = v := fun _ _ => rfl
  rw [WordCmp.cmpi_slt_ofNat (by have : (x 0).val < 2176 := (x 0).isLt; omega) (by omega)]
  by_cases hr : (x 0).val < 2064
  · rw [if_pos hr, decide_eq_true hr]
    refine (e1 _ _).trans ?_
    unfold unit len
    interval_cases g
    · refine (congrArg _ (e1 _ _)).trans ?_
      exact (mul_assoc _ _ _).symm
    · refine (congrArg _ ((e0 _ _).trans (e1 _ _))).trans ?_
      rfl
    · refine (congrArg _ ((e0 _ _).trans (e0 _ _))).trans ?_
      exact mul_one _
  · rw [if_neg hr, decide_eq_false hr]
    exact e0 _ _

/-- The rows window, at an index of the argument. -/
theorem rows (c : Dev nD) (t : Fin cfg0.N) (r : Fin 2176) (k : Fin 128) : X0_0 m c t (ix2 r k)
    = arg0 m c (ix2 ⟨2176 * (t.val / 48) + r.val, by have : t.val < 192 := t.isLt; omega⟩ ⟨128 * (t.val % 48) + k.val, by omega⟩) := by
  unfold X0_0 Pipeline.Window.fill
  rw [dif_pos (moved0_0 t _)]
  blk_point [iblk, V, idx t]
  blk_ext

/-- A row of the scratch array from the state's first on is a row of the sequence after the state. -/
theorem joined (c : Dev nD) (t : Fin cfg0.N) (j : ℕ) (hj : j < 3 + 2176) (k : Fin 128) :
    (if h : j < 3 then k0_pay4 (iblk m c 1 t) (ix2 ⟨j, h⟩ k) else k0_pay5 (X0_0 m c t) (ix2 ⟨j - 3, by omega⟩ k))
      = ext (arg0 m c) (arg1 m c) ⟨t.val / 48, by have : t.val < 192 := t.isLt; omega⟩ j hj ⟨128 * (t.val % 48) + k.val, by omega⟩ := by
  unfold ext
  by_cases h : j < 3
  · rw [dif_pos h, dif_pos h]
    pointwise [k0_pay4]
    blk_point [iblk, V, idx t]
    blk_ext
  · rw [dif_neg h, dif_neg h]
    pointwise [k0_pay5]
    exact rows m c t _ k

theorem point3 (c : Dev nD) (t : Fin cfg0.N) (r : Fin 2176) (k : Fin 128) : (outsAt0 m c t).1 (ix2 r k)
    = if r.val < 2064 then unit (t.val % 48 / 16) (fun k => conv (arg0 m c) (arg1 m c) (arg2 m c)
        ⟨t.val / 48, by have : t.val < 192 := t.isLt; omega⟩ r ⟨128 * (t.val % 48) + k.val, by omega⟩) k else 0 := by
  unfold outsAt0 out0_A_3 kernelRun0_A
  dsimp only
  frame_out
  rw [kind]
  refine (pay1 _ (by omega) _ _).trans ?_
  refine congrArg (fun f => if r.val < 2064 then unit (t.val % 48 / 16) f k else 0) (funext fun k => ?_)
  refine (pay6 _ _ _ _ _ _).trans ?_
  unfold conv
  simp only [View.readCov_eq_canon']
  have w : ∀ i : Fin 4, iblk m c 2 t (ix2 i k) = arg2 m c (ix2 i ⟨128 * (t.val % 48) + k.val, by omega⟩) := fun i => by
    blk_point [iblk, V, idx t]
    blk_ext
  refine congrArg act (congrArg₂ (· + ·) (congrArg₂ (· + ·) (congrArg₂ (· + ·) (congrArg₂ (· * ·) ?_ (w 0))
    (congrArg₂ (· * ·) ?_ (w 1))) (congrArg₂ (· * ·) ?_ (w 2))) (congrArg₂ (· * ·) ?_ (w 3)))
  · exact (Scratch.two (o := 8) (o' := 5) (k := 3) (l := 2176) (n := 2184) _ _ _ rfl rfl _ r.val (by omega) k (by simp <;> omega)
      (by simp)).trans (joined m c t r.val (by omega) k)
  · exact (Scratch.two (o := 8) (o' := 5) (k := 3) (l := 2176) (n := 2184) _ _ _ rfl rfl _ (r.val + 1) (by omega) k (by simp <;> omega)
      (by simp)).trans (joined m c t (r.val + 1) (by omega) k)
  · exact (Scratch.two (o := 8) (o' := 5) (k := 3) (l := 2176) (n := 2184) _ _ _ rfl rfl _ (r.val + 2) (by omega) k (by simp <;> omega)
      (by simp)).trans (joined m c t (r.val + 2) (by omega) k)
  · refine (rows m c t r k).trans ?_
    unfold ext
    rw [dif_neg (by omega)]
    exact congrArg (arg0 m c) (by blk_ext)

theorem point4 (c : Dev nD) (t : Fin cfg0.N) (j : Fin 3) (k : Fin 128) : (outsAt0 m c t).2 (ix3 0 j k)
    = ext (arg0 m c) (arg1 m c) ⟨t.val / 48, by have : t.val < 192 := t.isLt; omega⟩ (2064 + j.val) (by omega)
        ⟨128 * (t.val % 48) + k.val, by omega⟩ := by
  unfold outsAt0 out0_A_4 kernelRun0_A
  dsimp only
  frame_out
  pointwise [k0_pay2]
  rw [View.readCov_eq_canon']
  exact (Scratch.two (o := 8) (o' := 5) (k := 3) (l := 2176) (n := 2184) _ _ _ rfl rfl _ (2064 + j.val) (by omega) k
    (by simp <;> omega) (by simp)).trans (joined m c t (2064 + j.val) (by omega) k)

/-- The blocks the grid points write back tile the two result arrays, so they are the reference's results. -/
theorem final3 (c : Dev nD) : (dats m 0 c).arrAt 3 (cfgs 0).N = val_main_v63 (F := Ideal) (arg0 m c) (arg1 m c) (arg2 m c) := by
  refine (dats m 0 c).arrAt_eq_of_covers 3 _ (by decide +kernel) fun t _ y => ?_
  blk_simp
  rw [after0_3]; frame_out
  have ht : t.val < 192 := t.isLt
  have h0 : (y 0).val < 2176 := (y 0).isLt
  have h1 : (y 1).val < 128 := (y 1).isLt
  have ey : (y : S2176x128.Idx) = ix2 (y 0) (y 1) := by blk_ext
  have ee : ((View.whole main_v0_0).slice (win0_3.rect t)).emb y = ix2 ⟨2176 * (t.val / 48) + (y 0).val, by omega⟩
      (col ⟨t.val % 48 / 16, by omega⟩ ⟨t.val % 16, by omega⟩ ⟨(y 1).val, h1⟩) := by
    blk_ext [idx t]
  have ec : ∀ k : Fin 128, col ⟨t.val % 48 / 16, by omega⟩ ⟨t.val % 16, by omega⟩ k = ⟨128 * (t.val % 48) + k.val, by omega⟩ :=
    fun k => Fin.ext (by show 2048 * (t.val % 48 / 16) + 128 * (t.val % 16) + k.val = 128 * (t.val % 48) + k.val; omega)
  rw [ee]
  refine ((congrArg (outsAt0 m c t).1 ey).trans (point3 m c t (y 0) (y 1))).trans
    (Eq.trans ?_ (ref63 _ _ _ ⟨t.val / 48, by omega⟩ ⟨(y 0).val, h0⟩ ⟨t.val % 48 / 16, by omega⟩ ⟨t.val % 16, by omega⟩ ⟨(y 1).val, h1⟩).symm)
  simp only [ec]
  rfl

theorem final4 (c : Dev nD) : (dats m 0 c).arrAt 4 (cfgs 0).N = val_main_v64 (F := Ideal) (arg0 m c) (arg1 m c) := by
  refine (dats m 0 c).arrAt_eq_of_covers 4 _ (by decide +kernel) fun t _ y => ?_
  blk_simp
  rw [after0_4]; frame_out
  have ht : t.val < 192 := t.isLt
  have h0 : (y 0).val < 1 := (y 0).isLt
  have h1 : (y 1).val < 3 := (y 1).isLt
  have h2 : (y 2).val < 128 := (y 2).isLt
  have ey : (y : S1x3x128.Idx) = ix3 0 (y 1) (y 2) := by blk_ext
  have ee : ((View.whole main_v0_1).slice (win0_4.rect t)).emb y
      = ix3 ⟨t.val / 48, by omega⟩ ⟨(y 1).val, h1⟩ ⟨128 * (t.val % 48) + (y 2).val, by omega⟩ := by
    blk_ext [idx t]
  rw [ee]
  exact ((congrArg (outsAt0 m c t).2 ey).trans (point4 m c t (y 1) (y 2))).trans
    (ref64 _ _ ⟨t.val / 48, by omega⟩ ⟨(y 1).val, h1⟩ ⟨128 * (t.val % 48) + (y 2).val, by omega⟩).symm

/-- The idealized kernel and the reference, from the same arguments, end with the same result arrays. -/
theorem algebraic : Cert.algebraic_ConvIdeal_ConvRefIdeal := by
  pair_intro
  · run_from Cert.ConvIdeal.Value.run_blocks m g
  · run_from Cert.ConvRefIdeal.Value.run m' g'
    · refine (val_main_v63_eq m' c).trans ?_
      obtain ⟨a0, a1, a2⟩ := hagree c
      rw [a0, a1, a2]
      exact (final3 m c).symm
    · exact (val_main_v64_eq _ _).trans (final4 m c).symm

end Cert.ConvIdeal.RefValue

end
-- ==== Proof.GdnOutValue.lean ====
/- The output of the gated recurrence: every head of a block of rows is scaled by the reciprocal of its root mean square, by the
   weight and by the gate. -/
module

public import proofs.«01_k».proof.Defs
public import proofs.«01_k».proof.Proof.Gen.GdnOutIdeal.Value
public import proofs.«01_k».proof.Proof.Gen.GdnOutRefIdeal.Run
public import proofs.«01_k».proof.Proof.Gen.GdnOutRefIdeal.Read
public import Idealize.ShloMosaic.Lib.Claim
public import Idealize.ShloMosaic.Lib.Pipeline.ValueKit
public import Idealize.ShloMosaic.Lib.Pointwise
public import Idealize.ShloMosaic.Lib.KernelVsHost

@[expose] public section

set_option maxRecDepth 16384

noncomputable section

namespace Cert.GdnOutIdeal.RefValue

open Cert.GdnOutIdeal Cert.GdnOutIdeal.Gen Idealize.ShloMosaic Idealize.ShloMosaic.TcCoe Idealize.SL.Sem
open Idealize.ShloMosaic.Pipeline (Dat)
open Cert.GdnOutRefIdeal.Read

variable (m : (ℓ : Loc nD τ sig) → Buf (Elt Ideal) ℓ)

/-- The launch contents of the kernel's arguments. -/
abbrev arg0 (c : Dev nD) : (⟨S8704x2048, .f32⟩ : BufTy).Contents (Elt Ideal) := m ((c : Thread nD τ).loc main_arg0)
abbrev arg1 (c : Dev nD) : (⟨S9216x8192, .f32⟩ : BufTy).Contents (Elt Ideal) := m ((c : Thread nD τ).loc main_arg1)
abbrev arg2 (c : Dev nD) : (⟨S128, .f32⟩ : BufTy).Contents (Elt Ideal) := m ((c : Thread nD τ).loc main_arg2)

/-- The block every window stages at grid point `t`, in closed form. -/
theorem idx : ∀ t : Fin cfg0.N, win0_0.index t = ![t.val, 0] ∧ win0_1.index t = ![t.val, 3]
    ∧ win0_2.index t = ![0, 0] ∧ win0_3.index t = ![t.val, 0] :=
  (by decide +kernel : ∀ t : Fin grid0.N, _)

/-- The weight the region reads is the argument, as a row. -/
theorem weight (c : Dev nD) (k : Fin 128) : V m c main_v0 (ix2 0 k) = arg2 m c (ix1 k) := by
  unfold V
  after_results
  pointwise
  blk_ext

/-- One head at one index: its rows normed, weighted and gated. -/
def head (a b w : Fin 128 → EReal) (k : Fin 128) : EReal :=
  a k * Ideal.rsqrt (Ideal.div (∑ x, a x * a x) (Ideal.ofBits .f32 0x43000000#32) + Ideal.ofBits .f32 0x358637BD#32) * w k
    * (b k * Ideal.logistic (b k))

theorem pay (a b : Vec Ideal S256x128 .f32) (w : Vec Ideal S1x128 .f32) (x : S256x128.Idx) :
    k0_pay2 a b w x = head (fun k => a (ix2 (x 0) k)) (fun k => b (ix2 (x 0) k)) (fun k => w (ix2 0 k)) (x 1) := by
  pointwise [k0_pay2]
  unfold head
  have ex : x = ix2 (x 0) (x 1) := by blk_ext
  rw [show a x = a (ix2 (x 0) (x 1)) from congrArg a ex, show b x = b (ix2 (x 0) (x 1)) from congrArg b ex]

/-- The reference's result at an index. -/
theorem ref (x0 : (⟨S8704x2048, .f32⟩ : BufTy).Contents (Elt Ideal)) (x1 : (⟨S9216x8192, .f32⟩ : BufTy).Contents (Elt Ideal))
    (x2 : (⟨S128, .f32⟩ : BufTy).Contents (Elt Ideal)) (r : Fin 8704) (h : Fin 16) (k : Fin 128) :
    val_main_v19 (F := Ideal) x0 x1 x2 (ix2 r ⟨128 * h.val + k.val, by omega⟩)
      = head (fun k => x0 (ix2 r ⟨128 * h.val + k.val, by omega⟩)) (fun k => x1 (ix2 ⟨r.val, by omega⟩ ⟨6144 + (128 * h.val + k.val), by omega⟩))
          (fun k => x2 (ix1 k)) k := by
  rw [val_main_v19_apply, val_main_v18_apply, val_main_v17_apply, val_main_v15_apply, val_main_v12_apply, val_main_v11_apply,
    val_main_v10_apply, val_main_v9_apply, val_main_v7_apply, val_main_v5_apply, val_main_v4_apply]
  pointwise [val_main_v16_apply, val_main_call0_v5_apply, val_main_call0_v4_apply, val_main_call0_v3_apply, val_main_call0_v2_apply,
    val_main_call0_v1_apply, val_main_call0_v0_apply, val_main_call0_cst_apply, val_main_call0_cst_0_apply,
    val_main_v14_apply, val_main_v13_apply, val_main_v8_apply, val_main_v6_apply, val_main_cst_apply, val_main_cst_0_apply, val_main_cst_1_apply,
    val_main_v3_apply, val_main_v2_apply, val_main_v1_apply, val_main_v0_apply]
  unfold head Ideal.logistic
  have e1 : idx_main_v1 (idx_main_v2 (idx_main_v18 (ix2 r ⟨128 * h.val + k.val, by omega⟩)))
      = ix2 ⟨r.val, by omega⟩ ⟨6144 + (128 * h.val + k.val), by omega⟩ := by blk_ext
  have e2 : idx_main_v13 (idx_main_v14 (idx_main_v18 (ix2 r ⟨128 * h.val + k.val, by omega⟩))) = ix1 k := by blk_ext
  have e0 : idx_main_v0 (idx_main_v18 (ix2 r ⟨128 * h.val + k.val, by omega⟩)) = ix2 r ⟨128 * h.val + k.val, by omega⟩ := by blk_ext
  have e3 : ∀ x : Fin 128, idx_main_v0 (idx_main_v4 (idx_main_v5 (idx_main_v11 (idx_main_v18 (ix2 r ⟨128 * h.val + k.val, by omega⟩)))) x)
      = ix2 r ⟨128 * h.val + x.val, by omega⟩ := fun x => by blk_ext
  rw [e0, e1, e2]
  simp only [e3]

theorem arr (c : Dev nD) (t : Fin cfg0.N) (y : S256x2048.Idx) :
    val_main_v19 (F := Ideal) (arg0 m c) (arg1 m c) (arg2 m c) (((cfg0.win 3).blk t).view.emb y)
      = head (fun k => iblk m c 0 t (ix2 (y 0) ⟨128 * ((y 1).val / 128) + k.val, by have : (y 1).val < 2048 := (y 1).isLt; omega⟩))
          (fun k => iblk m c 1 t (ix2 (y 0) ⟨128 * ((y 1).val / 128) + k.val, by have : (y 1).val < 2048 := (y 1).isLt; omega⟩))
          (fun k => iblk m c 2 t (ix2 0 k)) ⟨(y 1).val % 128, by omega⟩ := by
  have e : ((cfg0.win 3).blk t).view.emb y = ix2 ⟨256 * t.val + (y 0).val, by have : t.val < 34 := lt_of_lt_of_eq t.isLt N_0; have : (y 0).val < 256 := (y 0).isLt; omega⟩
      ⟨128 * ((y 1).val / 128) + (y 1).val % 128, by have : (y 1).val < 2048 := (y 1).isLt; omega⟩ := by
    blk_ext [idx t]
  rw [e]
  refine (ref _ _ _ _ ⟨(y 1).val / 128, by have : (y 1).val < 2048 := (y 1).isLt; omega⟩ ⟨(y 1).val % 128, by omega⟩).trans ?_
  refine congr (congr (congrArg₂ head (funext fun k => ?_) (funext fun k => ?_)) (funext fun k => ?_)) rfl
  · blk_point [iblk, V, idx t]
  · blk_point [iblk, V, idx t]
  · refine ((congrArg (V m c main_v0) (?_ : _ = ix2 0 k)).trans (weight m c k)).symm
    blk_ext [idx t]

theorem point (c : Dev nD) (t : Fin cfg0.N) (y : S256x2048.Idx) : out0_3 (iblk m c 0 t) (iblk m c 1 t) (iblk m c 2 t) y
    = val_main_v19 (F := Ideal) (arg0 m c) (arg1 m c) (arg2 m c) (((cfg0.win 3).blk t).view.emb y) := by
  rw [arr]
  unfold out0_3
  canon_tiles x h
  all_goals
    refine (pay _ _ _ _).trans ?_
    refine congr (congr (congrArg₂ head (funext fun k => ?_) (funext fun k => ?_)) (funext fun k => ?_)) (Fin.ext (by show _ = (y 1).val % 128; omega))
    · refine congrArg (iblk m c 0 t) (funext fun a => Fin.ext ((Rect.idx_unit_val _ _ _ _ a).trans ?_))
      fin_cases a <;> simp <;> omega
    · refine congrArg (iblk m c 1 t) (funext fun a => Fin.ext ((Rect.idx_unit_val _ _ _ _ a).trans ?_))
      fin_cases a <;> simp <;> omega
    · refine congrArg (iblk m c 2 t) (funext fun a => Fin.ext ((Rect.idx_unit_val _ _ _ _ a).trans ?_))
      fin_cases a <;> simp

/-- The blocks the grid points write back tile the result array, so it is the reference's result. -/
theorem final (c : Dev nD) : (dats m 0 c).arrAt 3 (cfgs 0).N = val_main_v19 (F := Ideal) (arg0 m c) (arg1 m c) (arg2 m c) := by
  refine (dats m 0 c).arrAt_eq_of_covers 3 _ (by decide +kernel) fun t _ y => ?_
  blk_simp
  rw [after0_3]
  exact point m c t y

/-- The idealized kernel and the reference, from the same arguments, end with the same result array. -/
theorem algebraic : Cert.algebraic_GdnOutIdeal_GdnOutRefIdeal := by
  pair_intro
  · run_from Cert.GdnOutIdeal.Value.run_blocks m g
  · run_from Cert.GdnOutRefIdeal.Value.run m' g'
    exact (val_main_v19_eq _ _ _).trans (final m c).symm

end Cert.GdnOutIdeal.RefValue

end
-- ==== Proof.ShiftValue.lean ====
/- The prompt shifted by one row: every row of the wide projections is moved towards the row before it, by a weight. -/
module

public import proofs.«01_k».proof.Defs
public import proofs.«01_k».proof.Proof.Gen.ShiftIdeal.Value
public import proofs.«01_k».proof.Proof.Gen.ShiftRefIdeal.Run
public import proofs.«01_k».proof.Proof.Gen.ShiftRefIdeal.Read
public import proofs.«01_k».proof.Proof.ScratchValue
public import Idealize.ShloMosaic.Lib.Claim
public import Idealize.ShloMosaic.Lib.Pipeline.ValueKit
public import Idealize.ShloMosaic.Lib.Pointwise
public import Idealize.ShloMosaic.Lib.KernelVsHost

@[expose] public section

set_option maxRecDepth 16384

noncomputable section

namespace Cert.ShiftIdeal.RefValue

open Cert.ShiftIdeal Cert.ShiftIdeal.Gen Idealize.ShloMosaic Idealize.ShloMosaic.TcCoe Idealize.SL.Sem
open Idealize.ShloMosaic.Pipeline (Dat)
open Cert.ShiftRefIdeal.Read

variable (m : (ℓ : Loc nD τ sig) → Buf (Elt Ideal) ℓ)

/-- The launch contents of the kernel's arguments. -/
abbrev arg0 (c : Dev nD) : (⟨S9216x6144, .f32⟩ : BufTy).Contents (Elt Ideal) := m ((c : Thread nD τ).loc main_arg0)
abbrev arg1 (c : Dev nD) : (⟨S4x6400, .f32⟩ : BufTy).Contents (Elt Ideal) := m ((c : Thread nD τ).loc main_arg1)
abbrev arg2 (c : Dev nD) : (⟨S6400, .f32⟩ : BufTy).Contents (Elt Ideal) := m ((c : Thread nD τ).loc main_arg2)

/-- The block every window stages at grid point `t`, in closed form. -/
theorem idx : ∀ t : Fin cfg0.N, win0_0.index t = ![t.val / 24, t.val % 24] ∧ win0_1.index t = ![t.val / 24, 0, t.val % 24]
    ∧ win0_2.index t = ![0, t.val % 24] ∧ win0_3.index t = ![t.val / 24, t.val % 24] ∧ win0_4.index t = ![t.val / 24, 0, t.val % 24] :=
  (by decide +kernel : ∀ t : Fin grid0.N, _)

/-- The state rows the region reads are the argument's columns, -/
theorem state (c : Dev nD) (s : Fin 4) (k : Fin 6144) :
    V m c main_v2 (ix3 s 0 k) = arg1 m c (ix2 s ⟨k.val, by omega⟩) := by
  unfold V
  after_results
  pointwise
  blk_ext

/-- and so are the weights. -/
theorem weight (c : Dev nD) (k : Fin 6144) :
    V m c main_v3 (ix2 0 k) = arg2 m c (ix1 ⟨k.val, by omega⟩) := by
  unfold V
  after_results
  pointwise
  blk_ext

/-- An element moved towards the one before it, by a weight. -/
def mix (x p w : EReal) : EReal := x + w * (p - x)

/-- The element before row `r` of sequence `s` in column `k`: the state for the first row, the row before for every other. -/
def prev (x0 : (⟨S9216x6144, .f32⟩ : BufTy).Contents (Elt Ideal)) (x1 : (⟨S4x6400, .f32⟩ : BufTy).Contents (Elt Ideal))
    (s : Fin 4) (r : Fin 2176) (k : Fin 6144) : EReal :=
  if r.val = 0 then x1 (ix2 s ⟨k.val, by omega⟩) else x0 (ix2 ⟨2176 * s.val + (r.val - 1), by omega⟩ ⟨k.val, by omega⟩)

/-- The reference's two results at an index. -/
theorem ref12 (x0 : (⟨S9216x6144, .f32⟩ : BufTy).Contents (Elt Ideal)) (x1 : (⟨S4x6400, .f32⟩ : BufTy).Contents (Elt Ideal))
    (x2 : (⟨S6400, .f32⟩ : BufTy).Contents (Elt Ideal)) (s : Fin 4) (r : Fin 2176) (k : Fin 6144) :
    val_main_v12 (F := Ideal) x0 x1 x2 (ix2 ⟨2176 * s.val + r.val, by omega⟩ k)
      = mix (x0 (ix2 ⟨2176 * s.val + r.val, by omega⟩ ⟨k.val, by omega⟩)) (prev x0 x1 s r k) (x2 (ix1 ⟨k.val, by omega⟩)) := by
  have e12 : idx_main_v12 (ix2 ⟨2176 * s.val + r.val, by omega⟩ k) = ix3 s r k := by blk_ext
  have e1 : val_main_v1 (F := Ideal) x0 (ix3 s r k) = x0 (ix2 ⟨2176 * s.val + r.val, by omega⟩ ⟨k.val, by omega⟩) := by
    rw [val_main_v1_apply, val_main_v0_apply]
    exact congrArg x0 (by blk_ext)
  have e6 : val_main_v6 (F := Ideal) x0 x1 (ix3 s r k) = prev x0 x1 s r k := by
    unfold prev val_main_v6
    pointwise
    by_cases h : r.val = 0
    · rw [dif_pos (by omega), if_pos h, val_main_v4_apply, val_main_v2_apply]
      exact congrArg x1 (by blk_ext)
    · rw [dif_neg (by omega), if_neg h, val_main_v5_apply, val_main_v1_apply, val_main_v0_apply]
      exact congrArg x0 (by blk_ext)
  rw [val_main_v12_apply, e12, val_main_v11_apply, val_main_v10_apply, val_main_v9_apply, val_main_v8_apply, val_main_v7_apply,
    val_main_v3_apply, e1, e6]
  pointwise
  unfold mix
  rw [show idx_main_v3 (idx_main_v8 (idx_main_v9 (ix3 s r k))) = ix1 ⟨k.val, by omega⟩ from by blk_ext]

theorem ref13 (x0 : (⟨S9216x6144, .f32⟩ : BufTy).Contents (Elt Ideal)) (s : Fin 4) (k : Fin 6144) :
    val_main_v13 (F := Ideal) x0 (ix3 s 0 k) = x0 (ix2 ⟨2176 * s.val + 2063, by omega⟩ ⟨k.val, by omega⟩) := by
  rw [val_main_v13_apply, val_main_v1_apply, val_main_v0_apply]
  exact congrArg x0 (by blk_ext)

theorem point3 (c : Dev nD) (t : Fin cfg0.N) (y : S2176x256.Idx) :
    (outsAt0 m c t).1 y = mix (X0_0 m c t y) (if h : (y 0).val = 0 then iblk m c 1 t (ix3 0 0 (y 1)) else
        X0_0 m c t (ix2 ⟨(y 0).val - 1, by have : (y 0).val < 2176 := (y 0).isLt; omega⟩ (y 1))) (iblk m c 2 t (ix2 0 (y 1))) := by
  have y0 : (y 0).val < 2176 := (y 0).isLt
  unfold outsAt0 out0_A_3 kernelRun0_A
  dsimp only
  frame_out
  rw [View.readCov_eq_canon']
  pointwise [k0_pay4]
  unfold mix
  by_cases h : (y 0).val = 0
  · rw [dif_pos h]
    rw [Scratch.before _ _ _ _ (ix2 0 (y 1) : S1x256.Idx) ?_ ?_ ?_]
    · pointwise [k0_pay2]
      blk_ext
    · simp
      omega
    · simp; omega
    · simp
  · rw [dif_neg h]
    rw [Scratch.last _ _ _ (ix2 ⟨(y 0).val - 1, by omega⟩ (y 1) : S2176x256.Idx) ?_ ?_]
    · pointwise [k0_pay3]
    · simp
      omega
    · simp

theorem point4 (c : Dev nD) (t : Fin cfg0.N) (y : S1x1x256.Idx) :
    (outsAt0 m c t).2 y = X0_0 m c t (ix2 2063 (y 2)) := by
  unfold outsAt0 out0_A_4 kernelRun0_A
  dsimp only
  frame_out
  pointwise [k0_pay5]

/-- The rows window, at an index of the argument. -/
theorem rows (c : Dev nD) (t : Fin cfg0.N) (r : Fin 2176) (k : Fin 256) : X0_0 m c t (ix2 r k)
    = arg0 m c (ix2 ⟨2176 * (t.val / 24) + r.val, by have : t.val < 96 := t.isLt; omega⟩ ⟨256 * (t.val % 24) + k.val, by omega⟩) := by
  unfold X0_0 Pipeline.Window.fill
  rw [dif_pos (moved0_0 t _)]
  blk_point [iblk, V, idx t]
  blk_ext

/-- The blocks the grid points write back tile the two result arrays, so they are the reference's results. -/
theorem final3 (c : Dev nD) : (dats m 0 c).arrAt 3 (cfgs 0).N = val_main_v12 (F := Ideal) (arg0 m c) (arg1 m c) (arg2 m c) := by
  refine (dats m 0 c).arrAt_eq_of_covers 3 _ (by decide +kernel) fun t _ y => ?_
  blk_simp
  rw [after0_3]; frame_out
  have ht : t.val < 96 := t.isLt
  have h0 : (y 0).val < 2176 := (y 0).isLt
  have h1 : (y 1).val < 256 := (y 1).isLt
  have ey : (y : S2176x256.Idx) = ix2 (y 0) (y 1) := by blk_ext
  have ee : ((View.whole main_v4_0).slice (win0_3.rect t)).emb y
      = ix2 ⟨2176 * (t.val / 24) + (y 0).val, by omega⟩ ⟨256 * (t.val % 24) + (y 1).val, by omega⟩ := by
    blk_ext [idx t]
  rw [ee]
  refine (point3 m c t y).trans (Eq.trans ?_ (ref12 _ _ _ ⟨t.val / 24, by omega⟩ ⟨(y 0).val, h0⟩ ⟨256 * (t.val % 24) + (y 1).val, by omega⟩).symm)
  have e1 : iblk m c 1 t (ix3 0 0 (y 1)) = arg1 m c (ix2 ⟨t.val / 24, by omega⟩ ⟨(256 * (t.val % 24) + (y 1).val), by omega⟩) := by
    refine Eq.trans ?_ (state m c ⟨t.val / 24, by omega⟩ ⟨256 * (t.val % 24) + (y 1).val, by omega⟩)
    blk_point [iblk, idx t]
    blk_ext
  have e2 : iblk m c 2 t (ix2 0 (y 1)) = arg2 m c (ix1 ⟨(256 * (t.val % 24) + (y 1).val), by omega⟩) := by
    refine Eq.trans ?_ (weight m c ⟨256 * (t.val % 24) + (y 1).val, by omega⟩)
    blk_point [iblk, idx t]
    blk_ext
  have e0 : X0_0 m c t y = _ := (congrArg (X0_0 m c t) ey).trans (rows m c t (y 0) (y 1))
  rw [e0, e1, e2]
  refine congrArg (fun p => mix _ p _) ?_
  unfold prev
  by_cases h : (y 0).val = 0
  · rw [dif_pos h, if_pos h]
  · rw [dif_neg h, if_neg h]
    exact rows m c t ⟨(y 0).val - 1, by omega⟩ (y 1)

theorem final4 (c : Dev nD) : (dats m 0 c).arrAt 4 (cfgs 0).N = val_main_v13 (F := Ideal) (arg0 m c) := by
  refine (dats m 0 c).arrAt_eq_of_covers 4 _ (by decide +kernel) fun t _ y => ?_
  blk_simp
  rw [after0_4]; frame_out
  have ht : t.val < 96 := t.isLt
  have h0 : (y 0).val < 1 := (y 0).isLt
  have h1 : (y 1).val < 1 := (y 1).isLt
  have h2 : (y 2).val < 256 := (y 2).isLt
  have ee : ((View.whole main_v4_1).slice (win0_4.rect t)).emb y
      = ix3 ⟨t.val / 24, by omega⟩ 0 ⟨256 * (t.val % 24) + (y 2).val, by omega⟩ := by
    blk_ext [idx t]
  rw [ee]
  refine (point4 m c t y).trans (Eq.trans ?_ (ref13 _ ⟨t.val / 24, by omega⟩ ⟨256 * (t.val % 24) + (y 2).val, by omega⟩).symm)
  exact rows m c t 2063 (y 2)

/-- The idealized kernel and the reference, from the same arguments, end with the same result arrays. -/
theorem algebraic : Cert.algebraic_ShiftIdeal_ShiftRefIdeal := by
  pair_intro
  · run_from Cert.ShiftIdeal.Value.run_blocks m g
  · run_from Cert.ShiftRefIdeal.Value.run m' g'
    · exact (val_main_v12_eq _ _ _).trans (final3 m c).symm
    · exact (val_main_v13_eq _).trans (final4 m c).symm

end Cert.ShiftIdeal.RefValue

end
-- ==== Proof.ShiftLoraValue.lean ====
/- The prompt shifted by one row: every row of the narrow projection is moved towards the row before it, by a weight. -/
module

public import proofs.«01_k».proof.Defs
public import proofs.«01_k».proof.Proof.Gen.ShiftLoraIdeal.Value
public import proofs.«01_k».proof.Proof.Gen.ShiftLoraRefIdeal.Run
public import proofs.«01_k».proof.Proof.Gen.ShiftLoraRefIdeal.Read
public import proofs.«01_k».proof.Proof.ScratchValue
public import Idealize.ShloMosaic.Lib.Claim
public import Idealize.ShloMosaic.Lib.Pipeline.ValueKit
public import Idealize.ShloMosaic.Lib.Pointwise
public import Idealize.ShloMosaic.Lib.KernelVsHost

@[expose] public section

set_option maxRecDepth 16384

noncomputable section

namespace Cert.ShiftLoraIdeal.RefValue

open Cert.ShiftLoraIdeal Cert.ShiftLoraIdeal.Gen Idealize.ShloMosaic Idealize.ShloMosaic.TcCoe Idealize.SL.Sem
open Idealize.ShloMosaic.Pipeline (Dat)
open Cert.ShiftLoraRefIdeal.Read

variable (m : (ℓ : Loc nD τ sig) → Buf (Elt Ideal) ℓ)

/-- The launch contents of the kernel's arguments. -/
abbrev arg0 (c : Dev nD) : (⟨S9216x384, .f32⟩ : BufTy).Contents (Elt Ideal) := m ((c : Thread nD τ).loc main_arg0)
abbrev arg1 (c : Dev nD) : (⟨S4x6400, .f32⟩ : BufTy).Contents (Elt Ideal) := m ((c : Thread nD τ).loc main_arg1)
abbrev arg2 (c : Dev nD) : (⟨S6400, .f32⟩ : BufTy).Contents (Elt Ideal) := m ((c : Thread nD τ).loc main_arg2)

/-- The block every window stages at grid point `t`, in closed form. -/
theorem idx : ∀ t : Fin cfg0.N, win0_0.index t = ![t.val, 0] ∧ win0_1.index t = ![t.val, 0, 0]
    ∧ win0_2.index t = ![0, 0] ∧ win0_3.index t = ![t.val, 0] ∧ win0_4.index t = ![t.val, 0, 0] :=
  (by decide +kernel : ∀ t : Fin grid0.N, _)

/-- The state rows the region reads are the argument's columns, -/
theorem state (c : Dev nD) (s : Fin 4) (k : Fin 256) :
    V m c main_v2 (ix3 s 0 k) = arg1 m c (ix2 s ⟨6144 + k.val, by omega⟩) := by
  unfold V
  after_results
  pointwise
  blk_ext

/-- and so are the weights. -/
theorem weight (c : Dev nD) (k : Fin 256) :
    V m c main_v3 (ix2 0 k) = arg2 m c (ix1 ⟨6144 + k.val, by omega⟩) := by
  unfold V
  after_results
  pointwise
  blk_ext

/-- An element moved towards the one before it, by a weight. -/
def mix (x p w : EReal) : EReal := x + w * (p - x)

/-- The element before row `r` of sequence `s` in column `k`: the state for the first row, the row before for every other. -/
def prev (x0 : (⟨S9216x384, .f32⟩ : BufTy).Contents (Elt Ideal)) (x1 : (⟨S4x6400, .f32⟩ : BufTy).Contents (Elt Ideal))
    (s : Fin 4) (r : Fin 2176) (k : Fin 256) : EReal :=
  if r.val = 0 then x1 (ix2 s ⟨6144 + k.val, by omega⟩) else x0 (ix2 ⟨2176 * s.val + (r.val - 1), by omega⟩ ⟨k.val, by omega⟩)

/-- The reference's two results at an index. -/
theorem ref12 (x0 : (⟨S9216x384, .f32⟩ : BufTy).Contents (Elt Ideal)) (x1 : (⟨S4x6400, .f32⟩ : BufTy).Contents (Elt Ideal))
    (x2 : (⟨S6400, .f32⟩ : BufTy).Contents (Elt Ideal)) (s : Fin 4) (r : Fin 2176) (k : Fin 256) :
    val_main_v12 (F := Ideal) x0 x1 x2 (ix2 ⟨2176 * s.val + r.val, by omega⟩ k)
      = mix (x0 (ix2 ⟨2176 * s.val + r.val, by omega⟩ ⟨k.val, by omega⟩)) (prev x0 x1 s r k) (x2 (ix1 ⟨6144 + k.val, by omega⟩)) := by
  have e12 : idx_main_v12 (ix2 ⟨2176 * s.val + r.val, by omega⟩ k) = ix3 s r k := by blk_ext
  have e1 : val_main_v1 (F := Ideal) x0 (ix3 s r k) = x0 (ix2 ⟨2176 * s.val + r.val, by omega⟩ ⟨k.val, by omega⟩) := by
    rw [val_main_v1_apply, val_main_v0_apply]
    exact congrArg x0 (by blk_ext)
  have e6 : val_main_v6 (F := Ideal) x0 x1 (ix3 s r k) = prev x0 x1 s r k := by
    unfold prev val_main_v6
    pointwise
    by_cases h : r.val = 0
    · rw [dif_pos (by omega), if_pos h, val_main_v4_apply, val_main_v2_apply]
      exact congrArg x1 (by blk_ext)
    · rw [dif_neg (by omega), if_neg h, val_main_v5_apply, val_main_v1_apply, val_main_v0_apply]
      exact congrArg x0 (by blk_ext)
  rw [val_main_v12_apply, e12, val_main_v11_apply, val_main_v10_apply, val_main_v9_apply, val_main_v8_apply, val_main_v7_apply,
    val_main_v3_apply, e1, e6]
  pointwise
  unfold mix
  rw [show idx_main_v3 (idx_main_v8 (idx_main_v9 (ix3 s r k))) = ix1 ⟨6144 + k.val, by omega⟩ from by blk_ext]

theorem ref13 (x0 : (⟨S9216x384, .f32⟩ : BufTy).Contents (Elt Ideal)) (s : Fin 4) (k : Fin 256) :
    val_main_v13 (F := Ideal) x0 (ix3 s 0 k) = x0 (ix2 ⟨2176 * s.val + 2063, by omega⟩ ⟨k.val, by omega⟩) := by
  rw [val_main_v13_apply, val_main_v1_apply, val_main_v0_apply]
  exact congrArg x0 (by blk_ext)

theorem point3 (c : Dev nD) (t : Fin cfg0.N) (y : S2176x256.Idx) :
    (outsAt0 m c t).1 y = mix (X0_0 m c t y) (if h : (y 0).val = 0 then iblk m c 1 t (ix3 0 0 (y 1)) else
        X0_0 m c t (ix2 ⟨(y 0).val - 1, by have : (y 0).val < 2176 := (y 0).isLt; omega⟩ (y 1))) (iblk m c 2 t (ix2 0 (y 1))) := by
  have y0 : (y 0).val < 2176 := (y 0).isLt
  unfold outsAt0 out0_A_3 kernelRun0_A
  dsimp only
  frame_out
  rw [View.readCov_eq_canon']
  pointwise [k0_pay4]
  unfold mix
  by_cases h : (y 0).val = 0
  · rw [dif_pos h]
    rw [Scratch.before _ _ _ _ (ix2 0 (y 1) : S1x256.Idx) ?_ ?_ ?_]
    · pointwise [k0_pay2]
      blk_ext
    · simp
      omega
    · simp; omega
    · simp
  · rw [dif_neg h]
    rw [Scratch.last _ _ _ (ix2 ⟨(y 0).val - 1, by omega⟩ (y 1) : S2176x256.Idx) ?_ ?_]
    · pointwise [k0_pay3]
    · simp
      omega
    · simp

theorem point4 (c : Dev nD) (t : Fin cfg0.N) (y : S1x1x256.Idx) :
    (outsAt0 m c t).2 y = X0_0 m c t (ix2 2063 (y 2)) := by
  unfold outsAt0 out0_A_4 kernelRun0_A
  dsimp only
  frame_out
  pointwise [k0_pay5]

/-- The rows window, at an index of the argument. -/
theorem rows (c : Dev nD) (t : Fin cfg0.N) (r : Fin 2176) (k : Fin 256) : X0_0 m c t (ix2 r k)
    = arg0 m c (ix2 ⟨2176 * (t.val) + r.val, by have : t.val < 4 := t.isLt; omega⟩ ⟨256 * (0) + k.val, by omega⟩) := by
  unfold X0_0 Pipeline.Window.fill
  rw [dif_pos (moved0_0 t _)]
  blk_point [iblk, V, idx t]
  blk_ext

/-- The blocks the grid points write back tile the two result arrays, so they are the reference's results. -/
theorem final3 (c : Dev nD) : (dats m 0 c).arrAt 3 (cfgs 0).N = val_main_v12 (F := Ideal) (arg0 m c) (arg1 m c) (arg2 m c) := by
  refine (dats m 0 c).arrAt_eq_of_covers 3 _ (by decide +kernel) fun t _ y => ?_
  blk_simp
  rw [after0_3]; frame_out
  have ht : t.val < 4 := t.isLt
  have h0 : (y 0).val < 2176 := (y 0).isLt
  have h1 : (y 1).val < 256 := (y 1).isLt
  have ey : (y : S2176x256.Idx) = ix2 (y 0) (y 1) := by blk_ext
  have ee : ((View.whole main_v4_0).slice (win0_3.rect t)).emb y
      = ix2 ⟨2176 * (t.val) + (y 0).val, by omega⟩ ⟨256 * (0) + (y 1).val, by omega⟩ := by
    blk_ext [idx t]
  rw [ee]
  refine (point3 m c t y).trans (Eq.trans ?_ (ref12 _ _ _ ⟨t.val, by omega⟩ ⟨(y 0).val, h0⟩ ⟨256 * (0) + (y 1).val, by omega⟩).symm)
  have e1 : iblk m c 1 t (ix3 0 0 (y 1)) = arg1 m c (ix2 ⟨t.val, by omega⟩ ⟨6144 + (256 * (0) + (y 1).val), by omega⟩) := by
    refine Eq.trans ?_ (state m c ⟨t.val, by omega⟩ ⟨256 * (0) + (y 1).val, by omega⟩)
    blk_point [iblk, idx t]
    blk_ext
  have e2 : iblk m c 2 t (ix2 0 (y 1)) = arg2 m c (ix1 ⟨6144 + (256 * (0) + (y 1).val), by omega⟩) := by
    refine Eq.trans ?_ (weight m c ⟨256 * (0) + (y 1).val, by omega⟩)
    blk_point [iblk, idx t]
    blk_ext
  have e0 : X0_0 m c t y = _ := (congrArg (X0_0 m c t) ey).trans (rows m c t (y 0) (y 1))
  rw [e0, e1, e2]
  refine congrArg (fun p => mix _ p _) ?_
  unfold prev
  by_cases h : (y 0).val = 0
  · rw [dif_pos h, if_pos h]
  · rw [dif_neg h, if_neg h]
    exact rows m c t ⟨(y 0).val - 1, by omega⟩ (y 1)

theorem final4 (c : Dev nD) : (dats m 0 c).arrAt 4 (cfgs 0).N = val_main_v13 (F := Ideal) (arg0 m c) := by
  refine (dats m 0 c).arrAt_eq_of_covers 4 _ (by decide +kernel) fun t _ y => ?_
  blk_simp
  rw [after0_4]; frame_out
  have ht : t.val < 4 := t.isLt
  have h0 : (y 0).val < 1 := (y 0).isLt
  have h1 : (y 1).val < 1 := (y 1).isLt
  have h2 : (y 2).val < 256 := (y 2).isLt
  have ee : ((View.whole main_v4_1).slice (win0_4.rect t)).emb y
      = ix3 ⟨t.val, by omega⟩ 0 ⟨256 * (0) + (y 2).val, by omega⟩ := by
    blk_ext [idx t]
  rw [ee]
  refine (point4 m c t y).trans (Eq.trans ?_ (ref13 _ ⟨t.val, by omega⟩ ⟨256 * (0) + (y 2).val, by omega⟩).symm)
  exact rows m c t 2063 (y 2)

/-- The idealized kernel and the reference, from the same arguments, end with the same result arrays. -/
theorem algebraic : Cert.algebraic_ShiftLoraIdeal_ShiftLoraRefIdeal := by
  pair_intro
  · run_from Cert.ShiftLoraIdeal.Value.run_blocks m g
  · run_from Cert.ShiftLoraRefIdeal.Value.run m' g'
    · exact (val_main_v12_eq _ _ _).trans (final3 m c).symm
    · exact (val_main_v13_eq _).trans (final4 m c).symm

end Cert.ShiftLoraIdeal.RefValue

end
-- ==== Proof.SplitValue.lean ====
/- A product with a matrix of zeros and ones, the left factor split into a rounded part and the two remainders of the
   rounding: over the extended reals the remainders of a real number are zero and the product is the plain one. -/
module

public import Idealize.ShloMosaic.Lib.Pipeline.ValueKit
public import Idealize.ShloMosaic.Lib.Pointwise

@[expose] public section

noncomputable section

namespace Cert.Split

open Idealize.ShloMosaic

/-- A value whose magnitude is below +∞ is a real number. -/
theorem real_of_lt (x : EReal) (h : BitVec.ofBool (decide (FloatOps.absf (F := Ideal) (φ := .f32) x < Ideal.ofBits .f32 0x7F800000#32)) = 1#1) :
    ∃ r : ℝ, x = r := by
  rw [show Ideal.ofBits .f32 0x7F800000#32 = ⊤ by simp [Ideal.ofBits, Ideal.ieee],
    show FloatOps.absf (F := Ideal) (φ := .f32) x = max x (-x) from rfl] at h
  induction x using EReal.rec with
  | coe r => exact ⟨r, rfl⟩
  | bot => simp at h
  | top => simp at h

/-- A real number less itself is zero. -/
theorem sub_real {x : EReal} (h : ∃ r : ℝ, x = r) : x - x = 0 := by
  obtain ⟨r, rfl⟩ := h
  rw [← EReal.coe_sub, sub_self]; rfl

/-- The product of the split rows with the stacked matrix, at one column. -/
theorem product (a s : Fin 128 → EReal) (ha : ∀ x, ∃ r : ℝ, a x = r) :
    (∑ x : Fin 384, (if h : x.val < 128 then a ⟨x.val, h⟩
        else if h' : x.val - 128 < 128 then a ⟨x.val - 128, h'⟩ - a ⟨x.val - 128, h'⟩
        else a ⟨x.val - 128 - 128, by omega⟩ - a ⟨x.val - 128 - 128, by omega⟩
          - (a ⟨x.val - 128 - 128, by omega⟩ - a ⟨x.val - 128 - 128, by omega⟩))
      * (if h : x.val < 128 then s ⟨x.val, h⟩ else if h' : x.val - 128 < 128 then s ⟨x.val - 128, h'⟩
        else s ⟨x.val - 128 - 128, by omega⟩)) = ∑ k, a k * s k := by
  have hz : ∀ x, a x - a x = 0 := fun x => sub_real (ha x)
  rw [Fin.sum_univ_add (a := 128) (b := 256)]
  refine (congrArg₂ (· + ·) (Finset.sum_congr rfl fun k _ => ?_) (Finset.sum_eq_zero fun k _ => ?_)).trans (add_zero _)
  · have hk : (Fin.castAdd 256 k).val < 128 := k.isLt
    rw [dif_pos hk, dif_pos hk]; rfl
  · have hk : ¬ (Fin.natAdd 128 k).val < 128 := by rw [Fin.val_natAdd]; omega
    rw [dif_neg hk]
    split
    · rw [hz, zero_mul]
    · rw [hz, sub_zero, zero_mul]

/-- The float a comparison's bit becomes: one or zero. -/
theorem bit (p : Prop) [Decidable p] : (FloatOps.sitofp .f32 (BitVec.setWidth 32 (if p then 1#1 else 0#1)) : Ideal .f32) = if p then 1 else 0 := by
  split
  · show (((BitVec.setWidth 32 1#1).toInt : ℝ) : EReal) = 1
    norm_num
  · show (((BitVec.setWidth 32 0#1).toInt : ℝ) : EReal) = 0
    norm_num

/-- A product with a row of ones and zeros adds the entries at the ones. -/
theorem select (a : Fin 128 → EReal) (p : Fin 128 → Prop) [DecidablePred p] :
    (∑ k, a k * (if p k then 1 else 0)) = ∑ k, if p k then a k else 0 :=
  Finset.sum_congr rfl fun k _ => by split <;> simp

end Cert.Split

end
-- ==== Proof.RwkvOutValue.lean ====
/- The RWKV output of the prompt: each head of 64 lanes normed by its mean and variance, which a product with the 0/1 matrix
   of lanes in one head sums, weighted, shifted, with the bonus added and gated. -/
module

public import proofs.«01_k».proof.Defs
public import proofs.«01_k».proof.Proof.Gen.RwkvOutIdeal.Value
public import proofs.«01_k».proof.Proof.Gen.RwkvOutRefIdeal.Run
public import proofs.«01_k».proof.Proof.Gen.RwkvOutRefIdeal.Read
public import proofs.«01_k».proof.Proof.SplitValue
public import Idealize.ShloMosaic.Lib.Claim
public import Idealize.ShloMosaic.Lib.Pipeline.ValueKit
public import Idealize.ShloMosaic.Lib.Pointwise
public import Idealize.ShloMosaic.Lib.KernelVsHost

@[expose] public section

set_option maxRecDepth 16384

noncomputable section

namespace Cert.RwkvOutIdeal.RefValue

open Cert.RwkvOutIdeal Cert.RwkvOutIdeal.Gen Idealize.ShloMosaic Idealize.ShloMosaic.TcCoe Idealize.SL.Sem
open Idealize.ShloMosaic.Pipeline (Dat)
open Cert.RwkvOutRefIdeal.Read

variable (m : (ℓ : Loc nD τ sig) → Buf (Elt Ideal) ℓ)

/-- The launch contents of the kernel's arguments. -/
abbrev arg0 (c : Dev nD) : (⟨S8704x2048, .f32⟩ : BufTy).Contents (Elt Ideal) := m ((c : Thread nD τ).loc main_arg0)
abbrev arg1 (c : Dev nD) : (⟨S8704x2048, .f32⟩ : BufTy).Contents (Elt Ideal) := m ((c : Thread nD τ).loc main_arg1)
abbrev arg2 (c : Dev nD) : (⟨S8704x2048, .f32⟩ : BufTy).Contents (Elt Ideal) := m ((c : Thread nD τ).loc main_arg2)
abbrev arg3 (c : Dev nD) : (⟨S2048, .f32⟩ : BufTy).Contents (Elt Ideal) := m ((c : Thread nD τ).loc main_arg3)
abbrev arg4 (c : Dev nD) : (⟨S2048, .f32⟩ : BufTy).Contents (Elt Ideal) := m ((c : Thread nD τ).loc main_arg4)

/-- Two lanes of a tile are in one head of 64. -/
abbrev same (x k : Fin 128) : Prop := x.val / 64 = k.val / 64

/-- A row's head, as the kernel's signed floor division computes it. -/
theorem rowHead (x k : Fin 128) : k0_pay2 (ix2 x k) = BitVec.ofNat 32 (x.val / 64) := by
  pointwise [k0_pay2]
  revert x
  decide +kernel

/-- The matrix of lanes in one head. -/
abbrev heads : IVec S128x128 1 := k0_pay7 k0_pay2 k0_pay3 k0_pay4 k0_pay5 k0_pay6

theorem heads_at (x k : Fin 128) : heads (ix2 x k) = if same x k then 1#1 else 0#1 := by
  unfold heads
  pointwise [k0_pay7, k0_pay3, k0_pay4, k0_pay5, k0_pay6]
  rw [rowHead]
  refine (congrArg (IntOp.cmpi .eq _) (?_ : _ = BitVec.ofNat 32 (k.val / 64))).trans ?_
  · revert k
    decide +kernel
  · have h : ∀ a b : Fin 2, IntOp.cmpi .eq (BitVec.ofNat 32 a.val) (BitVec.ofNat 32 b.val) = if a.val = b.val then 1#1 else 0#1 := by
      decide
    exact h ⟨x.val / 64, by omega⟩ ⟨k.val / 64, by omega⟩

/-- The mean over a lane's head. -/
def mean (f : Fin 128 → EReal) (k : Fin 128) : EReal :=
  Ideal.div (∑ x : Fin 64, f ⟨64 * (k.val / 64) + x.val, by omega⟩) (Ideal.ofBits .f32 0x42800000#32)

theorem sixty_four : Ideal.ofBits .f32 0x42800000#32 = ((64 : ℝ) : EReal) := by
  simp [Ideal.ofBits, Ideal.ieee]
  rw [← EReal.coe_mul]; norm_num

theorem inv_sixty_four : Ideal.ofBits .f32 0x3C800000#32 = ((1 / 64 : ℝ) : EReal) := by
  simp [Ideal.ofBits, Ideal.ieee]
  rw [← EReal.coe_mul]; norm_num

/-- The sum over a lane's head, scaled, is the mean. -/
theorem mean_eq (f : Fin 128 → EReal) (k : Fin 128) :
    (∑ x, if same x k then f x else 0) * Ideal.ofBits .f32 0x3C800000#32 = mean f k := by
  rw [mean, sixty_four, Ideal.div_coe (by norm_num), inv_sixty_four]
  refine congrArg (· * _) ?_
  rw [Fin.sum_univ_add (a := 64) (b := 64)]
  have hk : k.val / 64 = 0 ∨ k.val / 64 = 1 := by omega
  rcases hk with hk | hk
  · refine (congrArg₂ (· + ·) (Finset.sum_congr rfl fun x _ => ?_) (Finset.sum_eq_zero fun x _ => ?_)).trans (add_zero _)
    · rw [if_pos (by simp only [same, Fin.val_castAdd]; omega)]
      exact congrArg f (Fin.ext (by simp only [Fin.val_castAdd]; omega))
    · exact if_neg (by simp only [same, Fin.val_natAdd]; omega)
  · refine (congrArg₂ (· + ·) (Finset.sum_eq_zero fun x _ => ?_) (Finset.sum_congr rfl fun x _ => ?_)).trans (zero_add _)
    · exact if_neg (by simp only [same, Fin.val_castAdd]; omega)
    · rw [if_pos (by simp only [same, Fin.val_natAdd]; omega)]
      exact congrArg f (Fin.ext (by simp only [Fin.val_natAdd]; omega))

/-- The mean of real numbers is one. -/
theorem mean_real (f : Fin 128 → EReal) (hf : ∀ x, ∃ r : ℝ, f x = r) (k : Fin 128) : ∃ r : ℝ, mean f k = r := by
  choose g hg using hf
  refine ⟨(∑ x : Fin 64, g ⟨64 * (k.val / 64) + x.val, by omega⟩) * (1 / 64), ?_⟩
  rw [mean, sixty_four, Ideal.div_coe (by norm_num)]
  simp only [hg]
  rw [EReal.coe_mul]
  exact congrArg (· * _) (map_sum (⟨⟨Real.toEReal, rfl⟩, EReal.coe_add⟩ : ℝ →+ EReal) _ _).symm

theorem sub_coe {x y : EReal} (hx : ∃ r : ℝ, x = r) (hy : ∃ r : ℝ, y = r) : ∃ r : ℝ, x - y = r := by
  obtain ⟨a, rfl⟩ := hx
  obtain ⟨b, rfl⟩ := hy
  exact ⟨a - b, rfl⟩

/-- The split product with the matrix of heads, scaled, is the mean. -/
theorem split_mean (f : Fin 128 → EReal) (hf : ∀ x, ∃ r : ℝ, f x = r) (k : Fin 128) :
    (∑ x : Fin 384, (if h : x.val < 128 then f ⟨x.val, h⟩
        else if h' : x.val - 128 < 128 then f ⟨x.val - 128, h'⟩ - f ⟨x.val - 128, h'⟩
        else f ⟨x.val - 128 - 128, by omega⟩ - f ⟨x.val - 128 - 128, by omega⟩
          - (f ⟨x.val - 128 - 128, by omega⟩ - f ⟨x.val - 128 - 128, by omega⟩))
      * (if h : x.val < 128 then FloatOps.sitofp (F := Ideal) FTy.f32 (BitVec.setWidth 32 (heads (ix2 ⟨x.val, h⟩ k)))
        else if h' : x.val - 128 < 128 then FloatOps.sitofp (F := Ideal) FTy.f32 (BitVec.setWidth 32 (heads (ix2 ⟨x.val - 128, h'⟩ k)))
        else FloatOps.sitofp (F := Ideal) FTy.f32 (BitVec.setWidth 32 (heads (ix2 ⟨x.val - 128 - 128, by omega⟩ k))))) * Ideal.ofBits .f32 0x3C800000#32
      = mean f k := by
  rw [← mean_eq, ← Split.select, ← Split.product f (fun x => if same x k then 1 else 0) hf]
  refine congrArg (· * _) (Finset.sum_congr rfl fun x _ => congrArg₂ (· * ·) rfl ?_)
  simp only [heads_at, Split.bit]

/-- The first product of a tile: its means. -/
theorem pay22 (o : Vec Ideal S256x128 .f32) (r : Fin 256) (ho : ∀ k, ∃ v : ℝ, o (ix2 r k) = v) (k : Fin 128) :
    k0_pay22 heads o (ix2 r k) = mean (fun k => o (ix2 r k)) k := by
  refine Eq.trans ?_ (split_mean _ ho k)
  pointwise [k0_pay22]

/-- The norm of a head's lane. -/
def normed (f : Fin 128 → EReal) (k : Fin 128) : EReal :=
  (f k - mean f k) * Ideal.rsqrt (mean (fun x => (f x - mean f x) * (f x - mean f x)) k + Ideal.ofBits .f32 0x3A27C5AC#32)

theorem pay1 (o b1 g : Vec Ideal S256x128 .f32) (w b : Vec Ideal S1x128 .f32) (r : Fin 256) (ho : ∀ k, ∃ v : ℝ, o (ix2 r k) = v) (k : Fin 128) :
    k0_pay1 heads o (k0_pay22 heads o) w b b1 g (ix2 r k)
      = (normed (fun k => o (ix2 r k)) k * w (ix2 0 k) + b (ix2 0 k) + b1 (ix2 r k)) * g (ix2 r k) := by
  have hd : ∀ x, ∃ v : ℝ, (o (ix2 r x) - mean (fun k => o (ix2 r k)) x) * (o (ix2 r x) - mean (fun k => o (ix2 r k)) x) = v := fun x => by
    obtain ⟨v, hv⟩ := sub_coe (ho x) (mean_real _ ho x)
    exact ⟨v * v, by rw [hv, EReal.coe_mul]⟩
  dsimp only [normed]
  rw [← split_mean _ hd k]
  have hp := pay22 o r ho
  generalize k0_pay22 heads o = mu at *
  simp only [← hp]
  pointwise [k0_pay1]

/-- The block every window stages at grid point `t`, in closed form. -/
theorem idx : ∀ t : Fin cfg0.N, win0_0.index t = ![t.val / 4, t.val % 4] ∧ win0_1.index t = ![t.val / 4, t.val % 4]
    ∧ win0_2.index t = ![t.val / 4, t.val % 4] ∧ win0_3.index t = ![0, t.val % 4] ∧ win0_4.index t = ![0, t.val % 4]
    ∧ win0_5.index t = ![t.val / 4, t.val % 4] :=
  (by decide +kernel : ∀ t : Fin grid0.N, _)

/-- The weight and the shift the region reads are the arguments, as rows. -/
theorem weight (c : Dev nD) (k : Fin 2048) : V m c main_v0 (ix2 0 k) = arg3 m c (ix1 k) := by
  unfold V
  after_results
  pointwise
  blk_ext

theorem shift (c : Dev nD) (k : Fin 2048) : V m c main_v1 (ix2 0 k) = arg4 m c (ix1 k) := by
  unfold V
  after_results
  pointwise
  blk_ext

/-- The reference's mean and norm at an index, by the tile of 128 lanes that holds it. -/
theorem ref4 (x : (⟨S8704x2048, .f32⟩ : BufTy).Contents (Elt Ideal)) (r : Fin 8704) (q : Fin 16) (k : Fin 128) :
    val_main_v4 (F := Ideal) x (ix3 r ⟨2 * q.val + k.val / 64, by omega⟩ 0) = mean (fun k => x (ix2 r ⟨128 * q.val + k.val, by omega⟩)) k := by
  pointwise [val_main_v4_apply, val_main_v3_apply, val_main_v2_apply, val_main_v1_apply, val_main_v0_apply, val_main_cst_apply, val_main_cst_0_apply]
  unfold mean
  have e : ∀ y : Fin 64, idx_main_v0 (idx_main_v1 (idx_main_v2 (ix3 r ⟨2 * q.val + k.val / 64, by omega⟩ 0)) y)
      = ix2 r ⟨128 * q.val + (64 * (k.val / 64) + y.val), by omega⟩ := fun y => by blk_ext
  simp only [e]

theorem ref20 (x : (⟨S8704x2048, .f32⟩ : BufTy).Contents (Elt Ideal)) (r : Fin 8704) (q : Fin 16) (k : Fin 128) :
    val_main_v20 (F := Ideal) x (ix3 r ⟨2 * q.val + k.val / 64, by omega⟩ ⟨k.val % 64, by omega⟩)
      = normed (fun k => x (ix2 r ⟨128 * q.val + k.val, by omega⟩)) k := by
  pointwise [val_main_v20_apply, val_main_v15_apply, val_main_v14_apply, val_main_v19_apply, val_main_v18_apply, val_main_v17_apply,
    val_main_v16_apply, val_main_v13_apply, val_main_v12_apply, val_main_v11_apply, val_main_v10_apply, val_main_v9_apply,
    val_main_v8_apply, val_main_v7_apply, val_main_v6_apply, val_main_v5_apply, val_main_cst_1_apply, val_main_cst_2_apply, val_main_cst_3_apply,
    val_main_v0_apply]
  unfold normed
  have i0 : idx_main_v0 (ix3 r ⟨2 * q.val + k.val / 64, by omega⟩ ⟨k.val % 64, by omega⟩) = ix2 r ⟨128 * q.val + k.val, by omega⟩ := by blk_ext
  have i14 : idx_main_v14 (ix3 r ⟨2 * q.val + k.val / 64, by omega⟩ ⟨k.val % 64, by omega⟩) = ix3 r ⟨2 * q.val + k.val / 64, by omega⟩ 0 := by
    blk_ext
  have j0 : ∀ y : Fin 64, idx_main_v0 (idx_main_v10 (idx_main_v11 (idx_main_v19 (ix3 r ⟨2 * q.val + k.val / 64, by omega⟩ ⟨k.val % 64, by omega⟩))) y)
      = ix2 r ⟨128 * q.val + (64 * (k.val / 64) + y.val), by omega⟩ := fun y => by blk_ext
  have j5 : ∀ y : Fin 64, idx_main_v5 (idx_main_v10 (idx_main_v11 (idx_main_v19 (ix3 r ⟨2 * q.val + k.val / 64, by omega⟩ ⟨k.val % 64, by omega⟩))) y)
      = ix3 r ⟨2 * q.val + k.val / 64, by omega⟩ 0 := fun y => by blk_ext
  have j7 : ∀ y : Fin 64, idx_main_v7 (idx_main_v10 (idx_main_v11 (idx_main_v19 (ix3 r ⟨2 * q.val + k.val / 64, by omega⟩ ⟨k.val % 64, by omega⟩))) y)
      = ix3 r ⟨2 * q.val + k.val / 64, by omega⟩ 0 := fun y => by blk_ext
  rw [i0, i14]
  simp only [j0, j5, j7, ref4]
  have hm : ∀ y : Fin 64, mean (fun k => x (ix2 r ⟨128 * q.val + k.val, by omega⟩)) ⟨64 * (k.val / 64) + y.val, by omega⟩
      = mean (fun k => x (ix2 r ⟨128 * q.val + k.val, by omega⟩)) k := fun y => by
    unfold mean
    simp only [show (64 * (k.val / 64) + y.val) / 64 = k.val / 64 by omega]
  refine congrArg₂ (· * ·) rfl (congrArg Ideal.rsqrt (congrArg₂ (· + ·) (congrArg₂ Ideal.div (Finset.sum_congr rfl fun y _ => ?_) rfl) rfl))
  dsimp only
  rw [hm y]

theorem ref (x0 x1 x2 : (⟨S8704x2048, .f32⟩ : BufTy).Contents (Elt Ideal)) (x3 x4 : (⟨S2048, .f32⟩ : BufTy).Contents (Elt Ideal))
    (r : Fin 8704) (q : Fin 16) (k : Fin 128) :
    val_main_v30 (F := Ideal) x0 x1 x2 x3 x4 (ix2 r ⟨128 * q.val + k.val, by omega⟩)
      = (normed (fun k => x0 (ix2 r ⟨128 * q.val + k.val, by omega⟩)) k * x3 (ix1 ⟨128 * q.val + k.val, by omega⟩)
          + x4 (ix1 ⟨128 * q.val + k.val, by omega⟩) + x1 (ix2 r ⟨128 * q.val + k.val, by omega⟩)) * x2 (ix2 r ⟨128 * q.val + k.val, by omega⟩) := by
  pointwise [val_main_v30_apply, val_main_v29_apply, val_main_v28_apply, val_main_v27_apply, val_main_v26_apply, val_main_v25_apply,
    val_main_v24_apply, val_main_v23_apply, val_main_v22_apply, val_main_v21_apply]
  have e : idx_main_v21 (ix2 r ⟨128 * q.val + k.val, by omega⟩) = ix3 r ⟨2 * q.val + k.val / 64, by omega⟩ ⟨k.val % 64, by omega⟩ := by blk_ext
  have e2 : idx_main_v22 (idx_main_v23 (ix2 r ⟨128 * q.val + k.val, by omega⟩)) = ix1 ⟨128 * q.val + k.val, by omega⟩ := by blk_ext
  have e5 : idx_main_v25 (idx_main_v26 (ix2 r ⟨128 * q.val + k.val, by omega⟩)) = ix1 ⟨128 * q.val + k.val, by omega⟩ := by blk_ext
  rw [e, ref20, e2, e5]

/-- The recurrence's outputs are real numbers. -/
abbrev Bounded (x : (⟨S8704x2048, .f32⟩ : BufTy).Contents (Elt Ideal)) : Prop := ∀ i, ∃ v : ℝ, x i = v

theorem arr (c : Dev nD) (t : Fin cfg0.N) (y : S256x512.Idx) :
    val_main_v30 (F := Ideal) (arg0 m c) (arg1 m c) (arg2 m c) (arg3 m c) (arg4 m c) (((cfg0.win 5).blk t).view.emb y)
      = (normed (fun k => iblk m c 0 t (ix2 (y 0) ⟨128 * ((y 1).val / 128) + k.val, by have : (y 1).val < 512 := (y 1).isLt; omega⟩))
            ⟨(y 1).val % 128, by omega⟩ * iblk m c 3 t (ix2 0 (y 1)) + iblk m c 4 t (ix2 0 (y 1)) + iblk m c 1 t (ix2 (y 0) (y 1)))
          * iblk m c 2 t (ix2 (y 0) (y 1)) := by
  have ht : t.val < 136 := lt_of_lt_of_eq t.isLt N_0
  have h0 : (y 0).val < 256 := (y 0).isLt
  have h1 : (y 1).val < 512 := (y 1).isLt
  have e : ((cfg0.win 5).blk t).view.emb y = ix2 ⟨256 * (t.val / 4) + (y 0).val, by omega⟩
      ⟨128 * (4 * (t.val % 4) + (y 1).val / 128) + (y 1).val % 128, by omega⟩ := by
    blk_ext [idx t]
  rw [e]
  refine (ref _ _ _ _ _ _ ⟨4 * (t.val % 4) + (y 1).val / 128, by omega⟩ ⟨(y 1).val % 128, by omega⟩).trans ?_
  refine congrArg₂ (· * ·) (congrArg₂ (· + ·) (congrArg₂ (· + ·) (congrArg₂ (· * ·) (congrFun (congrArg normed (funext fun k => ?_)) _) ?_) ?_) ?_) ?_
  · blk_point [iblk, V, idx t]
  · refine ((congrArg (V m c main_v0) (?_ : _ = ix2 0 ⟨128 * (4 * (t.val % 4) + (y 1).val / 128) + (y 1).val % 128, by omega⟩)).trans (weight m c _)).symm
    blk_ext [idx t]
  · refine ((congrArg (V m c main_v1) (?_ : _ = ix2 0 ⟨128 * (4 * (t.val % 4) + (y 1).val / 128) + (y 1).val % 128, by omega⟩)).trans (shift m c _)).symm
    blk_ext [idx t]
  · blk_point [iblk, V, idx t]
  · blk_point [iblk, V, idx t]

theorem tile0 (o b1 g : Vec Ideal S256x128 .f32) (w b : Vec Ideal S1x128 .f32) :
    k0_pay9 (k0_pay8 k0_pay2 k0_pay3 k0_pay4 k0_pay5 k0_pay6 o w) b b1 g = k0_pay1 heads o (k0_pay22 heads o) w b b1 g := rfl

theorem tile1 (o b1 g : Vec Ideal S256x128 .f32) (w b : Vec Ideal S1x128 .f32) :
    k0_pay13 (k0_pay11 heads o) (k0_pay12 heads o) (Scalar.ofBits .f32 0x3A27C5AC#32) w b b1 g = k0_pay1 heads o (k0_pay22 heads o) w b b1 g := rfl

theorem tile2 (o b1 g : Vec Ideal S256x128 .f32) (w b : Vec Ideal S1x128 .f32) :
    k0_pay21 o (k0_pay14 heads o) (k0_pay16 heads) (k0_pay17 heads o) (k0_pay18 heads o) (k0_pay19 heads o) (k0_pay20 heads o) w b b1 g
      = k0_pay1 heads o (k0_pay22 heads o) w b b1 g := rfl

/-- A tile of the block, at an index of it. -/
theorem tile (c : Dev nD) (hc : Bounded (arg0 m c)) (t : Fin cfg0.N) (o b1 g : Vec Ideal S256x128 .f32) (w b : Vec Ideal S1x128 .f32)
    (y : S256x512.Idx) (x : S256x128.Idx) (j : ℕ) (h0 : (y 0).val = (x 0).val) (h1 : (y 1).val = 128 * j + (x 1).val)
    (ho : ∀ k : Fin 128, o (ix2 (x 0) k) = iblk m c 0 t (ix2 (y 0) ⟨128 * j + k.val, by have : (y 1).val < 512 := (y 1).isLt; omega⟩))
    (hb1 : b1 x = iblk m c 1 t (ix2 (y 0) (y 1))) (hg : g x = iblk m c 2 t (ix2 (y 0) (y 1)))
    (hw : w (ix2 0 (x 1)) = iblk m c 3 t (ix2 0 (y 1))) (hb : b (ix2 0 (x 1)) = iblk m c 4 t (ix2 0 (y 1))) :
    k0_pay1 heads o (k0_pay22 heads o) w b b1 g x
      = val_main_v30 (F := Ideal) (arg0 m c) (arg1 m c) (arg2 m c) (arg3 m c) (arg4 m c) (((cfg0.win 5).blk t).view.emb y) := by
  have hx : (x 1).val < 128 := (x 1).isLt
  have hy : (y 1).val < 512 := (y 1).isLt
  have ex : x = ix2 (x 0) (x 1) := by blk_ext
  have hr : ∀ i : S256x512.Idx, ∃ v : ℝ, (iblk m c 0 t i : EReal) = (v : EReal) := fun i => by
    have e : iblk m c 0 t i = arg0 m c (((cfg0.win 0).blk t).view.emb i) := by blk_point [iblk, V, idx t]
    rw [e]
    exact hc _
  have hj : j = (y 1).val / 128 := by omega
  subst hj
  rw [arr, ← hb1, ← hg, ← hw, ← hb]
  refine (congrArg _ ex).trans ((pay1 o b1 g w b (x 0) (fun k => by rw [ho]; exact hr _) (x 1)).trans ?_)
  refine congrArg₂ (· * ·) (congrArg₂ (· + ·) (congrArg₂ (· + ·) (congrArg₂ (· * ·) ?_ rfl) rfl) (congrArg b1 ex.symm)) (congrArg g ex.symm)
  exact congrArg₂ normed (funext ho) (Fin.ext (by show _ = (y 1).val % 128; omega))

theorem point (c : Dev nD) (hc : Bounded (arg0 m c)) (t : Fin cfg0.N) (y : S256x512.Idx) :
    out0_5 (iblk m c 0 t) (iblk m c 1 t) (iblk m c 2 t) (iblk m c 3 t) (iblk m c 4 t) y
      = val_main_v30 (F := Ideal) (arg0 m c) (arg1 m c) (arg2 m c) (arg3 m c) (arg4 m c) (((cfg0.win 5).blk t).view.emb y) := by
  unfold_out out0_5
  rw [tile0, tile1, tile2]
  canon_tiles x h
  case' piece0 => refine tile m c hc t _ _ _ _ _ y x 3 h0 h1 (fun k => ?_) ?_ ?_ ?_ ?_
  case' piece1 => refine tile m c hc t _ _ _ _ _ y x 2 h0 h1 (fun k => ?_) ?_ ?_ ?_ ?_
  case' piece2 => refine tile m c hc t _ _ _ _ _ y x 1 h0 (by omega) (fun k => ?_) ?_ ?_ ?_ ?_
  case' piece3 => refine tile m c hc t _ _ _ _ _ y x 0 h0 (by omega) (fun k => ?_) ?_ ?_ ?_ ?_
  all_goals
    refine congrArg (iblk m c _ t) (funext fun a => Fin.ext ((Rect.idx_unit_val _ _ _ _ a).trans ?_))
    fin_cases a <;> simp <;> omega

/-- The blocks the grid points write back tile the result array, so it is the reference's result. -/
theorem final (c : Dev nD) (hc : Bounded (arg0 m c)) :
    (dats m 0 c).arrAt 5 (cfgs 0).N = val_main_v30 (F := Ideal) (arg0 m c) (arg1 m c) (arg2 m c) (arg3 m c) (arg4 m c) := by
  refine (dats m 0 c).arrAt_eq_of_covers 5 _ (by decide +kernel) fun t _ y => ?_
  blk_simp
  rw [after0_5]
  exact point m c hc t y

/-- The precondition says that the recurrence's outputs are real numbers. -/
theorem bounded [Cert.Pre_heads_finite.Facts] (h : Cert.Pre_RwkvOutIdeal_heads_finite m) (c : Dev nD) : Bounded (arg0 m c) := by
  intro i
  have e := congrFun (h c) i
  unfold Cert.Pre_heads_finite.fn at e
  pointwise at e
  exact Split.real_of_lt _ e

/-- The idealized kernel and the reference, from the same arguments with real heads, end with the same result array. -/
theorem algebraic [Cert.Pre_heads_finite.Facts] : Cert.algebraic_RwkvOutIdeal_RwkvOutRefIdeal_pre_heads_finite := by
  pair_intro
  · run_from Cert.RwkvOutIdeal.Value.run_blocks m g
  · run_from Cert.RwkvOutRefIdeal.Value.run m' g'
    exact (val_main_v30_eq _ _ _ _ _).trans (final m c (bounded m hpre c)).symm

end Cert.RwkvOutIdeal.RefValue

end
-- ==== Proof.CumulativeValue.lean ====
/- The cumulative log gates of the prompt: each grid point sums a tile of 128 gates by a product with the upper triangle and
   adds what the tiles before it summed to. -/
module

public import proofs.«01_k».proof.Defs
public import proofs.«01_k».proof.Proof.Gen.CumulativeIdeal.Value
public import proofs.«01_k».proof.Proof.Gen.CumulativeRefIdeal.Run
public import proofs.«01_k».proof.Proof.Gen.CumulativeRefIdeal.Read
public import proofs.«01_k».proof.Proof.SplitValue
public import Idealize.ShloMosaic.Lib.Claim
public import Idealize.ShloMosaic.Lib.Pipeline.ValueKit
public import Idealize.ShloMosaic.Lib.Pointwise
public import Idealize.ShloMosaic.Lib.KernelVsHost

@[expose] public section

set_option maxRecDepth 16384

noncomputable section

namespace Cert.CumulativeIdeal.RefValue

open Cert.CumulativeIdeal Cert.CumulativeIdeal.Gen Idealize.ShloMosaic Idealize.ShloMosaic.TcCoe Idealize.SL.Sem
open Idealize.ShloMosaic.Pipeline (Dat)
open Cert.CumulativeRefIdeal.Read

variable (m : (ℓ : Loc nD τ sig) → Buf (Elt Ideal) ℓ)

/-- The launch contents of the kernel's argument. -/
abbrev arg0 (c : Dev nD) : (⟨S16x9216, .f32⟩ : BufTy).Contents (Elt Ideal) := m ((c : Thread nD τ).loc main_arg0)

/-- The word of a lane is at most another lane's word when the lane is. -/
theorem sle_lane (x k : Fin 128) : IntOp.cmpi .sle (BitVec.ofNat 32 x.val) (BitVec.ofNat 32 k.val) = if x.val ≤ k.val then 1#1 else 0#1 := by
  have hx := x.isLt
  have hk := k.isLt
  show BitVec.ofBool (BitVec.sle _ _) = _
  rw [show BitVec.sle (BitVec.ofNat 32 x.val) (BitVec.ofNat 32 k.val) = decide (x.val ≤ k.val) by
    rw [BitVec.sle_eq_decide]
    congr 1
    rw [BitVec.toInt_eq_toNat_of_lt (by rw [BitVec.toNat_ofNat]; omega), BitVec.toInt_eq_toNat_of_lt (by rw [BitVec.toNat_ofNat]; omega),
      BitVec.toNat_ofNat, BitVec.toNat_ofNat]
    rw [eq_iff_iff]; omega]
  split <;> simp [*]

/-- The sums of a tile: at each lane the gates up to it, and what was carried. -/
theorem pay (a b : Vec Ideal S16x128 .f32) (r : Fin 16) (k : Fin 128) (ha : ∀ x, ∃ v : ℝ, a (ix2 r x) = v) :
    k0_pay2 a b (ix2 r k) = (∑ x : Fin 128, if x.val ≤ k.val then a (ix2 r x) else 0) + b (ix2 r k) := by
  have h := Split.product (fun x => a (ix2 r x)) (fun x => if x.val ≤ k.val then 1 else 0) ha
  rw [Split.select] at h
  rw [← h]
  pointwise [k0_pay2]
  refine congrArg (· + b (ix2 r k)) (Finset.sum_congr rfl fun x _ => ?_)
  have hx := x.isLt
  refine congrArg₂ (· * ·) rfl ?_
  split
  · rename_i h1
    exact (congrArg (fun w => FloatOps.sitofp (F := Ideal) FTy.f32 (BitVec.setWidth 32 w)) (sle_lane ⟨x.val, h1⟩ k)).trans (Split.bit _)
  · split
    · rename_i h1 h2
      exact (congrArg (fun w => FloatOps.sitofp (F := Ideal) FTy.f32 (BitVec.setWidth 32 w)) (sle_lane ⟨x.val - 128, h2⟩ k)).trans (Split.bit _)
    · exact (congrArg (fun w => FloatOps.sitofp (F := Ideal) FTy.f32 (BitVec.setWidth 32 w)) (sle_lane ⟨x.val - 128 - 128, by omega⟩ k)).trans (Split.bit _)

/-- The sum of a tile, carried to the next. -/
theorem carry (a b : Vec Ideal S16x128 .f32) (r : Fin 16) (k : Fin 128) : k0_pay3 a b (ix2 r k) = k0_pay2 a b (ix2 r 127) := by
  pointwise [k0_pay3]

/-- The first tile of a sequence starts from zero. -/
theorem start (r : Fin 16) (k : Fin 128) : (k0_pay1 (F := Ideal)) (ix2 r k) = 0 := by
  pointwise [k0_pay1]

/-- A row of `n` gates as a function of the position. -/
def row {n : ℕ} (x : Fin n → EReal) (i : ℕ) : EReal := if h : i < n then x ⟨i, h⟩ else 0

/-- The sum over a tile's lanes up to one of them, over positions. -/
theorem tile (g : ℕ → EReal) (k : Fin 128) : (∑ x : Fin 128, if x.val ≤ k.val then g x.val else 0) = ∑ i ∈ Finset.range (k.val + 1), g i := by
  have hk := k.isLt
  rw [Fin.sum_univ_eq_sum_range (fun i => if i ≤ k.val then g i else 0) 128]
  symm
  refine (Finset.sum_congr rfl fun i hi => ?_).trans (Finset.sum_subset (Finset.range_mono (by omega : k.val + 1 ≤ 128)) fun i _ hi => ?_)
  · rw [if_pos (by rw [Finset.mem_range] at hi; omega)]
  · rw [if_neg (by rw [Finset.mem_range] at hi; omega)]

/-- The reference's window sum is the sum of the row up to the position. -/
theorem window (x : (⟨3, ![16, 4, 2176]⟩ : Shape).Idx → EReal)
    (h : (⟨3, ![16, 4, 2176]⟩ : Shape).ReduceWindows ![1, 1, 2176] ![1, 1, 1] ![0, 0, 2175] ![0, 0, 0] ⟨3, ![16, 4, 2176]⟩)
    (r : Fin 16) (s : Fin 4) (k : Fin 2176) :
    Ideal.hostReduceWindowAdd ![1, 1, 2176] ![1, 1, 1] ![0, 0, 2175] ![0, 0, 0] h x 0 (ix3 r s k)
      = ∑ i ∈ Finset.range (k.val + 1), row (fun j => x (ix3 r s j)) i := by
  have hk := k.isLt
  have hf : ∀ (f : ℕ → EReal), (∑ n : Fin (⟨3, ![1, 1, 2176]⟩ : Shape).numel, f n.val) = ∑ i ∈ Finset.range 2176, f i := fun f =>
    Fin.sum_univ_eq_sum_range f _
  have hsum : ∀ (n : ℕ) (f : Fin n → EReal), (List.finRange n).foldl (fun a i => a + f i) 0 = ∑ i, f i := fun n f => by
    rw [← List.sum_ofFn, List.ofFn_eq_map, List.sum_eq_foldl, List.foldl_map]
  have hv : ∀ n : Fin (⟨3, ![1, 1, 2176]⟩ : Shape).numel, ∀ a : Fin 3,
      ((⟨3, ![1, 1, 2176]⟩ : Shape).rowMajor.symm n a).val = ![0, 0, n.val] a := fun n a => by
    have e := Shape.rowMajor_val_three ((⟨3, ![1, 1, 2176]⟩ : Shape).rowMajor.symm n)
    have h0 := ((⟨3, ![1, 1, 2176]⟩ : Shape).rowMajor.symm n 0).isLt
    have h1 := ((⟨3, ![1, 1, 2176]⟩ : Shape).rowMajor.symm n 1).isLt
    rw [Equiv.apply_symm_apply] at e
    simp only [Matrix.cons_val] at h0 h1 e
    fin_cases a
    · simp only [Matrix.cons_val, Fin.zero_eta]; omega
    · simp only [Matrix.cons_val, Fin.mk_one]; omega
    · simp only [Matrix.cons_val, Fin.reduceFinMk]; omega
  unfold Ideal.hostReduceWindowAdd Host.reduceWindow
  dsimp only
  refine (hsum _ _).trans ?_
  simp only [hv]
  have ht : ∀ n : Fin (⟨3, ![1, 1, 2176]⟩ : Shape).numel, (if hin : ∀ (a : Fin 3), ![0, 0, 2175] a ≤ (ix3 r s k a).val * ![1, 1, 1] a + ![0, 0, n.val] a ∧
          (ix3 r s k a).val * ![1, 1, 1] a + ![0, 0, n.val] a - ![0, 0, 2175] a < ![16, 4, 2176] a then
        x fun a => ⟨(ix3 r s k a).val * ![1, 1, 1] a + ![0, 0, n.val] a - ![0, 0, 2175] a, (hin a).2⟩ else 0)
      = (fun i => if 2175 ≤ k.val + i then row (fun j => x (ix3 r s j)) (k.val + i - 2175) else 0) n.val := fun n => by
    have hn : n.val < 2176 := n.isLt
    by_cases hc : 2175 ≤ k.val + n.val
    · rw [dif_pos (by
        intro a
        have hr := r.isLt
        have hs := s.isLt
        fin_cases a <;> simp [ix3] <;> omega)]
      dsimp only
      rw [if_pos hc, row, dif_pos (by omega)]
      refine congrArg x (funext fun a => ?_)
      fin_cases a <;> simp [ix3]
    · rw [dif_neg (fun h => hc (by simpa [ix3] using (h 2).1))]
      exact (if_neg hc).symm
  refine (Finset.sum_congr rfl fun n _ => ht n).trans ((hf (fun i => if 2175 ≤ k.val + i then row (fun j => x (ix3 r s j)) (k.val + i - 2175) else 0)).trans ?_)
  refine (congrArg (fun n => ∑ i ∈ Finset.range n, if 2175 ≤ k.val + i then row (fun j => x (ix3 r s j)) (k.val + i - 2175) else 0)
    (show 2176 = (2175 - k.val) + (k.val + 1) by omega)).trans ?_
  rw [Finset.sum_range_add]
  refine (congrArg₂ (· + ·) (Finset.sum_eq_zero fun i hi => ?_) (Finset.sum_congr rfl fun i hi => ?_)).trans (zero_add _)
  · rw [Finset.mem_range] at hi
    exact if_neg (by omega)
  · rw [if_pos (by omega)]
    exact congrArg _ (by omega)

/-- The same, of the host's window sum from an initial zero. -/
theorem hostWindow (x : Vec Ideal (⟨3, ![16, 4, 2176]⟩ : Shape) .f32) (v : (⟨0, ![]⟩ : Shape).Idx → EReal) (hv : ∀ i, v i = 0)
    (h : (⟨3, ![16, 4, 2176]⟩ : Shape).ReduceWindows ![1, 1, 2176] ![1, 1, 1] ![0, 0, 2175] ![0, 0, 0] ⟨3, ![16, 4, 2176]⟩)
    (hu : 0 < (⟨0, ![]⟩ : Shape).numel) (r : Fin 16) (s : Fin 4) (k : Fin 2176) :
    Host.reduceWindowAdd (F := Ideal) (φ := .f32) ![1, 1, 2176] ![1, 1, 1] ![0, 0, 2175] ![0, 0, 0] x v h hu (ix3 r s k)
      = ∑ i ∈ Finset.range (k.val + 1), row (fun j => x (ix3 r s j)) i := by
  have e := window x h r s k
  rw [← hv (Shape.Idx.first hu)] at e
  exact e

/-- The gates of sequence `s`, row `r`, by position. -/
abbrev gates (x : (⟨S16x9216, .f32⟩ : BufTy).Contents (Elt Ideal)) (r : Fin 16) (s : Fin 4) : ℕ → EReal :=
  row (n := 2176) fun j => x (ix2 r ⟨2176 * s.val + j.val, by omega⟩)

/-- The reference's cumulative gate is the sum of its sequence's gates up to it. -/
theorem ref (x : (⟨S16x9216, .f32⟩ : BufTy).Contents (Elt Ideal)) (r : Fin 16) (s : Fin 4) (k : Fin 2176) :
    val_main_v3 (F := Ideal) x (ix2 r ⟨2176 * s.val + k.val, by omega⟩) = ∑ i ∈ Finset.range (k.val + 1), gates x r s i := by
  have hr := r.isLt
  have hk := k.isLt
  have ei : idx_main_v3 (ix2 r ⟨2176 * s.val + k.val, by omega⟩) = ix3 r s k := by
    blk_ext
  rw [val_main_v3_apply, ei]
  unfold val_main_v2
  refine (hostWindow (val_main_v1 x) _ (fun i => ?_) _ _ r s k).trans ?_
  · rw [val_main_call0_call0_v0_apply, val_main_call0_call0_cst_apply]
    show Ideal.ofBits .f32 0x00000000#32 = 0
    simp [Ideal.ofBits, Ideal.ieee]
  refine Finset.sum_congr rfl fun i _ => congrArg (fun f => row f i) (funext fun j => ?_)
  have hj := j.isLt
  rw [val_main_v1_apply, val_main_v0_apply]
  exact congrArg x (by blk_ext)

/-- The block each grid point works on. -/
theorem idx : ∀ t : Fin cfg0.N, win0_0.index t = ![0, t.val] ∧ win0_1.index t = ![0, t.val] :=
  (by decide +kernel : ∀ t : Fin grid0.N, _)

/-- The tile a grid point reads. -/
theorem block (c : Dev nD) (t : Fin cfg0.N) (r : Fin 16) (k : Fin 128) :
    iblk m c 0 t (ix2 r k) = arg0 m c (ix2 r ⟨128 * t.val + k.val, by have : t.val < 68 := t.isLt; omega⟩) := by
  blk_point [iblk, V, idx t]
  blk_ext

/-- The sums up to a lane of the tile from the sums of the tiles before it. -/
theorem tiled (g : ℕ → EReal) (j : ℕ) (k : Fin 128) :
    (∑ x : Fin 128, if x.val ≤ k.val then g (128 * j + x.val) else 0) + ∑ i ∈ Finset.range (128 * j), g i
      = ∑ i ∈ Finset.range (128 * j + k.val + 1), g i := by
  rw [add_assoc (128 * j), Finset.sum_range_add, add_comm, tile (fun i => g (128 * j + i)) k]

/-- The prompt's gates are real numbers. -/
abbrev Bounded (x : (⟨S16x9216, .f32⟩ : BufTy).Contents (Elt Ideal)) : Prop :=
  ∀ (r : Fin 16) (k : Fin 8704), ∃ v : ℝ, x (ix2 r ⟨k.val, by omega⟩) = v

/-- A tile's sums, when what was carried is the sum of the tiles before it. -/
theorem step (c : Dev nD) (hc : Bounded (arg0 m c)) (t : Fin cfg0.N) (s : Fin 4) (hs : t.val / 17 = s.val) (r : Fin 16) (k : Fin 128)
    (b : Vec Ideal S16x128 .f32) (hb : b (ix2 r k) = ∑ i ∈ Finset.range (128 * (t.val % 17)), gates (arg0 m c) r s i) :
    k0_pay2 (iblk m c 0 t) b (ix2 r k) = ∑ i ∈ Finset.range (128 * (t.val % 17) + k.val + 1), gates (arg0 m c) r s i := by
  have ht : t.val < 68 := t.isLt
  rw [pay _ _ r k fun x => by rw [block]; exact hc r ⟨128 * t.val + x.val, by omega⟩, hb]
  refine Eq.trans (congrArg (· + _) (Finset.sum_congr rfl fun x _ => ?_)) (tiled (gates (arg0 m c) r s) (t.val % 17) k)
  have hx := x.isLt
  rw [block, gates, row, dif_pos (by omega)]
  refine if_congr Iff.rfl (congrArg (arg0 m c) ?_) rfl
  blk_ext

/-- What a grid point leaves in its block and in the carried sums. -/
theorem point (c : Dev nD) (hc : Bounded (arg0 m c)) (r : Fin 16) (n : ℕ) : ∀ (hn : n < cfg0.N) (s : Fin 4) (_ : n / 17 = s.val) (k : Fin 128),
    (outsAt0 m c n hn).1 (ix2 r k) = ∑ i ∈ Finset.range (128 * (n % 17) + k.val + 1), gates (arg0 m c) r s i
    ∧ (outsAt0 m c n hn).2 (ix2 r k) = ∑ i ∈ Finset.range (128 * (n % 17) + 128), gates (arg0 m c) r s i := by
  induction n with
  | zero =>
    intro hn s hs k
    have hb : ∀ k : Fin 128, (k0_pay1 (F := Ideal)) (ix2 r k) = ∑ i ∈ Finset.range (128 * (0 % 17)), gates (arg0 m c) r s i := fun k => start r k
    rw [outsAt0_A m c ⟨0, hn⟩ rfl]
    unfold out0_A_1 sout0_A_0 kernelRun0_A
    dsimp only
    frame_out
    rw [carry]
    exact ⟨step m c hc ⟨0, hn⟩ s hs r k _ (hb k), step m c hc ⟨0, hn⟩ s hs r 127 _ (hb 127)⟩
  | succ n ih =>
    intro hn s hs k
    by_cases h0 : (n + 1) % 17 = 0
    · have hb : ∀ k : Fin 128, (k0_pay1 (F := Ideal)) (ix2 r k) = ∑ i ∈ Finset.range (128 * ((n + 1) % 17)), gates (arg0 m c) r s i := fun k => by
        rw [h0]; exact start r k
      rw [outsAt0_A m c ⟨n + 1, hn⟩ h0]
      unfold out0_A_1 sout0_A_0 kernelRun0_A
      dsimp only
      frame_out
      rw [carry]
      exact ⟨step m c hc ⟨n + 1, hn⟩ s hs r k _ (hb k), step m c hc ⟨n + 1, hn⟩ s hs r 127 _ (hb 127)⟩
    · have hb : ∀ k : Fin 128, (outsAt0 m c n (Nat.lt_of_succ_lt hn)).2 (ix2 r k)
          = ∑ i ∈ Finset.range (128 * ((n + 1) % 17)), gates (arg0 m c) r s i := fun k => by
        rw [(ih (Nat.lt_of_succ_lt hn) s (by omega) k).2]
        exact congrArg (fun n => ∑ i ∈ Finset.range n, gates (arg0 m c) r s i) (by omega)
      rw [outsAt0_B m c ⟨n + 1, hn⟩ h0]
      unfold out0_B_1 sout0_B_0 kernelRun0_B
      dsimp only
      frame_out
      rw [carry]
      refine ⟨step m c hc ⟨n + 1, hn⟩ s hs r k _ ?_, step m c hc ⟨n + 1, hn⟩ s hs r 127 _ ?_⟩
      · exact (congrFun ((Memref.isWhole_whole _).read_unread _) _).trans (hb k)
      · exact (congrFun ((Memref.isWhole_whole _).read_unread _) _).trans (hb 127)

/-- The blocks the grid points write back tile the result array, so it is the reference's result. -/
theorem final (c : Dev nD) (hc : Bounded (arg0 m c)) : (dats m 0 c).arrAt 1 (cfgs 0).N = val_main_v3 (F := Ideal) (arg0 m c) := by
  refine (dats m 0 c).arrAt_eq_of_covers 1 _ (by decide +kernel) fun t _ y => ?_
  blk_simp
  rw [after0_1]; frame_out
  have ht : t.val < 68 := t.isLt
  have h0 : (y 0).val < 16 := (y 0).isLt
  have h1 : (y 1).val < 128 := (y 1).isLt
  have ey : (y : S16x128.Idx) = ix2 (y 0) (y 1) := by blk_ext
  have ee : ((View.whole main_v0).slice (win0_1.rect t)).emb y
      = ix2 ⟨(y 0).val, h0⟩ ⟨2176 * (t.val / 17) + (128 * (t.val % 17) + (y 1).val), by omega⟩ := by
    blk_ext [idx t]
  rw [ee]
  exact ((congrArg (outsAt0 m c t.val t.isLt).1 ey).trans (point m c hc (y 0) t.val t.isLt ⟨t.val / 17, by omega⟩ rfl (y 1)).1).trans
    (ref _ ⟨(y 0).val, h0⟩ ⟨t.val / 17, by omega⟩ ⟨128 * (t.val % 17) + (y 1).val, by omega⟩).symm

/-- The precondition says that the prompt's gates are real numbers. -/
theorem bounded [Cert.Pre_gates_finite.Facts] (h : Cert.Pre_CumulativeIdeal_gates_finite m) (c : Dev nD) : Bounded (arg0 m c) := by
  intro r k
  have e := congrFun (h c) (ix2 r k)
  unfold Cert.Pre_gates_finite.fn at e
  pointwise at e
  exact Split.real_of_lt _ e

/-- The idealized kernel and the reference, from the same real gates, end with the same sums. -/
theorem algebraic [Cert.Pre_gates_finite.Facts] : Cert.algebraic_CumulativeIdeal_CumulativeRefIdeal_pre_gates_finite := by
  pair_intro
  · run_from Cert.CumulativeIdeal.Value.run_blocks m g
  · refine Idealize.ShloMosaic.θ_run_mono (Cert.CumulativeRefIdeal.Value.run m' g') fun r hr c => ⟨(hr c).1.trans ?_, (hr c).2⟩
    refine (val_main_v3_eq _).trans ?_
    rw [hagree c]
    exact (final m c (bounded m hpre c)).symm

end Cert.CumulativeIdeal.RefValue

end
-- ==== Proof.ScanValue.lean ====
/- The scan of the sample: what the rows of a sequence's one chunk read of its state, and the state after the chunk. -/
module

public import proofs.«01_k».proof.Defs
public import proofs.«01_k».proof.Proof.Gen.ScanIdeal.Value
public import proofs.«01_k».proof.Proof.Gen.ScanRefIdeal.Run
public import proofs.«01_k».proof.Proof.Gen.ScanRefIdeal.Read
public import proofs.«01_k».proof.Proof.SplitValue
public import Idealize.ShloMosaic.Lib.Claim
public import Idealize.ShloMosaic.Lib.Pipeline.ValueKit
public import Idealize.ShloMosaic.Lib.Pointwise
public import Idealize.ShloMosaic.Lib.KernelVsHost

@[expose] public section

set_option maxRecDepth 16384

noncomputable section

namespace Cert.ScanIdeal.RefValue

open Cert.ScanIdeal Cert.ScanIdeal.Gen Idealize.ShloMosaic Idealize.ShloMosaic.TcCoe Idealize.SL.Sem
open Idealize.ShloMosaic.Pipeline (Dat)
open Cert.ScanRefIdeal.Read

variable (m : (ℓ : Loc nD τ sig) → Buf (Elt Ideal) ℓ)

/-- The launch contents of the kernel's arguments. -/
abbrev arg0 (c : Dev nD) : (⟨S512x2048, .f32⟩ : BufTy).Contents (Elt Ideal) := m ((c : Thread nD τ).loc main_arg0)
abbrev arg1 (c : Dev nD) : (⟨S512x2048, .f32⟩ : BufTy).Contents (Elt Ideal) := m ((c : Thread nD τ).loc main_arg1)
abbrev arg2 (c : Dev nD) : (⟨S8x16x128x128, .f32⟩ : BufTy).Contents (Elt Ideal) := m ((c : Thread nD τ).loc main_arg2)
abbrev arg3 (c : Dev nD) : (⟨S8x16x128x128, .f32⟩ : BufTy).Contents (Elt Ideal) := m ((c : Thread nD τ).loc main_arg3)
abbrev arg4 (c : Dev nD) : (⟨S8x16x128x128, .f32⟩ : BufTy).Contents (Elt Ideal) := m ((c : Thread nD τ).loc main_arg4)

/-- A product of a row with a column, each split into a rounded part and the remainder of the rounding: over the extended
    reals the remainders of real numbers are zero and the product is the plain one. -/
theorem product (a b : Fin 128 → EReal) (ha : ∀ x, ∃ r : ℝ, a x = r) (hb : ∀ x, ∃ r : ℝ, b x = r) :
    (∑ x : Fin 384, (if h : x.val < 128 then a ⟨x.val, h⟩
        else if h' : x.val - 128 < 128 then a ⟨x.val - 128, h'⟩
        else a ⟨x.val - 128 - 128, by omega⟩ - a ⟨x.val - 128 - 128, by omega⟩)
      * (if h : x.val < 128 then b ⟨x.val, h⟩ else if h' : x.val - 128 < 128 then b ⟨x.val - 128, h'⟩ - b ⟨x.val - 128, h'⟩
        else b ⟨x.val - 128 - 128, by omega⟩)) = ∑ k, a k * b k := by
  have hz : ∀ x, a x - a x = 0 := fun x => Split.sub_real (ha x)
  have hy : ∀ x, b x - b x = 0 := fun x => Split.sub_real (hb x)
  rw [Fin.sum_univ_add (a := 128) (b := 256)]
  refine (congrArg₂ (· + ·) (Finset.sum_congr rfl fun k _ => ?_) (Finset.sum_eq_zero fun k _ => ?_)).trans (add_zero _)
  · have hk : (Fin.castAdd 256 k).val < 128 := k.isLt
    rw [dif_pos hk, dif_pos hk]; rfl
  · have hk : ¬ (Fin.natAdd 128 k).val < 128 := by rw [Fin.val_natAdd]; omega
    rw [dif_neg hk, dif_neg hk]
    split
    · rw [hy, mul_zero]
    · rw [hz, zero_mul]

/-- What a chunk's rows read of the state. -/
theorem rows (v3 : Vec Ideal S1x128x128 .f32) (v5 v6 : Vec Ideal S64x128 .f32) (r : Fin 64) (v : Fin 128)
    (h6 : ∀ k, ∃ x : ℝ, v6 (ix2 r k) = x) (h3 : ∀ k, ∃ x : ℝ, v3 (ix3 0 k v) = x) :
    k0_pay5 v3 v5 v6 (ix2 r v) = v5 (ix2 r v) + ∑ k : Fin 128, v6 (ix2 r k) * v3 (ix3 0 k v) := by
  rw [← product (fun k => v6 (ix2 r k)) (fun k => v3 (ix3 0 k v)) h6 h3]
  pointwise [k0_pay5, k0_pay4]

/-- The state after a chunk. -/
theorem next (v3 : Vec Ideal S1x128x128 .f32) (v20 v33 : Vec Ideal S1x1x128x128 .f32) (i v : Fin 128)
    (h6 : ∀ k, ∃ x : ℝ, v20 (ix4 0 0 i k) = x) (h3 : ∀ k, ∃ x : ℝ, v3 (ix3 0 k v) = x) :
    k0_pay7 (k0_pay6 v3 v20) v33 (ix3 0 i v) = (∑ k : Fin 128, v20 (ix4 0 0 i k) * v3 (ix3 0 k v)) + v33 (ix4 0 0 i v) := by
  rw [← product (fun k => v20 (ix4 0 0 i k)) (fun k => v3 (ix3 0 k v)) h6 h3]
  pointwise [k0_pay7, k0_pay6, k0_pay4]

/-- The block each grid point works on: a sequence and a half of its heads. -/
theorem idx : ∀ t : Fin cfg0.N, win0_0.index t = ![t.val / 2, t.val % 2] ∧ win0_1.index t = ![t.val / 2, t.val % 2]
    ∧ win0_2.index t = ![t.val / 2, t.val % 2, 0, 0] ∧ win0_3.index t = ![t.val / 2, t.val % 2, 0, 0]
    ∧ win0_4.index t = ![t.val / 2, t.val % 2, 0, 0] ∧ win0_5.index t = ![t.val / 2, t.val % 2]
    ∧ win0_6.index t = ![t.val / 2, t.val % 2, 0, 0] :=
  (by decide +kernel : ∀ t : Fin grid0.N, _)

/-- The reference's outputs: a chunk's own rows and what they read of the state. -/
theorem refRows (c : Dev nD) (s : Fin 8) (r : Fin 64) (h : Fin 16) (v : Fin 128) :
    val_main_v7 (F := Ideal) (arg0 m c) (arg1 m c) (arg4 m c) (ix2 ⟨64 * s.val + r.val, by omega⟩ ⟨128 * h.val + v.val, by omega⟩)
      = arg0 m c (ix2 ⟨64 * s.val + r.val, by omega⟩ ⟨128 * h.val + v.val, by omega⟩)
        + ∑ k : Fin 128, arg1 m c (ix2 ⟨64 * s.val + r.val, by omega⟩ ⟨128 * h.val + k.val, by omega⟩) * arg4 m c (ix4 s h k v) := by
  rw [val_main_v7_apply, val_main_v6_apply, val_main_v5_apply, val_main_v1_apply, val_main_v0_apply, val_main_v4_apply]
  refine congrArg₂ (· + ·) (congrArg (arg0 m c) ?_) (Finset.sum_congr rfl fun k _ => ?_)
  · blk_ext
  · rw [val_main_v3_apply, val_main_v2_apply]
    refine congrArg₂ (· * ·) (congrArg (arg1 m c) ?_) (congrArg (arg4 m c) ?_)
    · blk_ext
    · blk_ext

/-- The reference's state after the chunk. -/
theorem refNext (c : Dev nD) (s : Fin 8) (h : Fin 16) (i v : Fin 128) :
    val_main_v9 (F := Ideal) (arg2 m c) (arg3 m c) (arg4 m c) (ix4 s h i v)
      = (∑ k : Fin 128, arg2 m c (ix4 s h i k) * arg4 m c (ix4 s h k v)) + arg3 m c (ix4 s h i v) := by
  rw [val_main_v9_apply, val_main_v8_apply]
  refine congrArg₂ (· + ·) (Finset.sum_congr rfl fun k _ => ?_) rfl
  refine congrArg₂ (· * ·) (congrArg (arg2 m c) ?_) (congrArg (arg4 m c) ?_)
  · blk_ext
  · blk_ext

section Stores

/-- The stores so far leave the heads from head `j` on as the first state `w`, -/
def Kept (L : List (View.Piece (Elt Ideal) S8x128x128 .f32)) (w : Vec Ideal S8x128x128 .f32) (j : ℕ) : Prop :=
  ∀ h : Fin 8, j ≤ h.val → ∀ i v : Fin 128, View.canon L (ix3 h i v) = w (ix3 h i v)

/-- and the heads before head `j` as `f`. -/
def Done (L : List (View.Piece (Elt Ideal) S8x128x128 .f32)) (f : Fin 8 → Fin 128 → Fin 128 → EReal) (j : ℕ) : Prop :=
  ∀ h : Fin 8, h.val < j → ∀ i v : Fin 128, View.canon L (ix3 h i v) = f h i v

variable {L : List (View.Piece (Elt Ideal) S8x128x128 .f32)} {w : Vec Ideal S8x128x128 .f32} {f : Fin 8 → Fin 128 → Fin 128 → EReal} {j : ℕ}
  {inb : ∀ a, (![j, 0, 0] : Fin 3 → ℕ) a + (![1, 128, 128] : Fin 3 → ℕ) a ≤ S8x128x128.size a}

theorem kept_first {inb : ∀ a, (![0, 0, 0] : Fin 3 → ℕ) a + (![8, 128, 128] : Fin 3 → ℕ) a ≤ S8x128x128.size a} :
    Kept [⟨Rect.unit (s := S8x128x128) ![0, 0, 0] ![8, 128, 128] inb, w⟩] w 0 := by
  intro h _ i v
  have e : (Rect.unit (s := S8x128x128) ![0, 0, 0] ![8, 128, 128] inb).emb (ix3 h i v : S8x128x128.Idx) = ix3 h i v :=
    funext fun a => Fin.ext (by
      refine (Rect.idx_unit_val _ _ _ _ a).trans ?_
      fin_cases a <;> simp)
  conv_lhs => rw [← e]
  exact View.canon_cons_emb _ _ _ _

/-- The store of one head keeps every other head. -/
theorem other (p : (Rect.unit (s := S8x128x128) ![j, 0, 0] ![1, 128, 128] inb).shape.Idx → EReal) (h : Fin 8) (hj : h.val ≠ j) (i v : Fin 128) :
    View.canon ((⟨Rect.unit (s := S8x128x128) ![j, 0, 0] ![1, 128, 128] inb, p⟩ : View.Piece (Elt Ideal) S8x128x128 .f32) :: L) (ix3 h i v)
      = View.canon L (ix3 h i v) := by
  refine View.canon_cons_of_not_mem _ _ fun hm => ?_
  have := (Rect.mem_set_unit (s := S8x128x128) (off := ![j, 0, 0]) (size := ![1, 128, 128]) (inb := inb)).mp hm (0 : Fin 3)
  simp at this
  omega

theorem kept_next {p : (Rect.unit (s := S8x128x128) ![j, 0, 0] ![1, 128, 128] inb).shape.Idx → EReal} (hL : Kept L w j) :
    Kept ((⟨Rect.unit (s := S8x128x128) ![j, 0, 0] ![1, 128, 128] inb, p⟩ : View.Piece (Elt Ideal) S8x128x128 .f32) :: L) w (j + 1) :=
  fun h hj i v => (other p h (by omega) i v).trans (hL h (by omega) i v)

theorem done_first : Done L f 0 := fun h hj => absurd hj (Nat.not_lt_zero _)

theorem done_next {p : (Rect.unit (s := S8x128x128) ![j, 0, 0] ![1, 128, 128] inb).shape.Idx → EReal} (hL : Done L f j) (hj : j < 8)
    (hp : ∀ i v : Fin 128, p (ix3 0 i v : S1x128x128.Idx) = f ⟨j, hj⟩ i v) :
    Done ((⟨Rect.unit (s := S8x128x128) ![j, 0, 0] ![1, 128, 128] inb, p⟩ : View.Piece (Elt Ideal) S8x128x128 .f32) :: L) f (j + 1) := by
  intro h hh i v
  by_cases he : h.val = j
  · obtain rfl : h = ⟨j, hj⟩ := Fin.ext he
    rw [← hp]
    have e : (Rect.unit (s := S8x128x128) ![j, 0, 0] ![1, 128, 128] inb).emb (ix3 0 i v : S1x128x128.Idx) = ix3 ⟨j, hj⟩ i v :=
      funext fun a => Fin.ext (by
        refine (Rect.idx_unit_val _ _ _ _ a).trans ?_
        fin_cases a <;> simp)
    rw [← e]
    exact View.canon_cons_emb _ _ _ _
  · exact (other p h he i v).trans (hL h (by omega) i v)

/-- A load of head `j` reads the first state. -/
theorem load {σ : RefSig} {κ : Kind} {sp : Space} {V : View σ κ sp S8x128x128 .f32} (hL : Kept L w j) (hj : j < 8) (i v : Fin 128) :
    V.readCov L (Rect.unit (s := S8x128x128) ![j, 0, 0] ![1, 128, 128] inb).toLoadRect (ix3 0 i v : S1x128x128.Idx)
      = w (ix3 ⟨j, hj⟩ i v) := by
  rw [View.readCov_eq_canon', ← hL ⟨j, hj⟩ (Nat.le_refl _)]
  refine congrArg (View.canon L) (funext fun a => Fin.ext ?_)
  refine (Rect.idx_unit_val _ _ _ _ a).trans ?_
  fin_cases a <;> simp

end Stores

/-- A load of the heads, at an index. -/
theorem heads (w : Vec Ideal S1x8x128x128 .f32) (h : Fin 8) (i v : Fin 128) : k0_pay3 w (ix3 h i v) = w (ix4 0 h i v) := by
  pointwise [k0_pay3]

/-- The eight heads are computed alike. -/
theorem rows1 : k0_pay9 (F := Ideal) = k0_pay5 := rfl
theorem rows2 : k0_pay13 (F := Ideal) = k0_pay5 := rfl
theorem rows3 : k0_pay17 (F := Ideal) = k0_pay5 := rfl
theorem rows4 : k0_pay21 (F := Ideal) = k0_pay5 := rfl
theorem rows5 : k0_pay25 (F := Ideal) = k0_pay5 := rfl
theorem rows6 : k0_pay29 (F := Ideal) = k0_pay5 := rfl
theorem rows7 : k0_pay33 (F := Ideal) = k0_pay5 := rfl

/-- The factors of the chunks' products are real numbers. -/
structure Bounded (q : (⟨S512x2048, .f32⟩ : BufTy).Contents (Elt Ideal)) (n s : (⟨S8x16x128x128, .f32⟩ : BufTy).Contents (Elt Ideal)) : Prop where
  q : ∀ i, ∃ x : ℝ, (q i : EReal) = x
  n : ∀ i, ∃ x : ℝ, (n i : EReal) = x
  s : ∀ i, ∃ x : ℝ, (s i : EReal) = x

/-- The windows' blocks, at an index of the argument. -/
theorem blk0 (c : Dev nD) (t : Fin cfg0.N) (r : Fin 64) (x : Fin 1024) : iblk m c 0 t (ix2 r x)
    = arg0 m c (ix2 ⟨64 * (t.val / 2) + r.val, by have : t.val < 16 := t.isLt; omega⟩ ⟨1024 * (t.val % 2) + x.val, by omega⟩) := by
  blk_point [iblk, V, idx t]
  blk_ext

theorem blk1 (c : Dev nD) (t : Fin cfg0.N) (r : Fin 64) (x : Fin 1024) : iblk m c 1 t (ix2 r x)
    = arg1 m c (ix2 ⟨64 * (t.val / 2) + r.val, by have : t.val < 16 := t.isLt; omega⟩ ⟨1024 * (t.val % 2) + x.val, by omega⟩) := by
  blk_point [iblk, V, idx t]
  blk_ext

theorem blk2 (c : Dev nD) (t : Fin cfg0.N) (h : Fin 8) (i v : Fin 128) : iblk m c 2 t (ix4 0 h i v)
    = arg2 m c (ix4 ⟨t.val / 2, by have : t.val < 16 := t.isLt; omega⟩ ⟨8 * (t.val % 2) + h.val, by omega⟩ i v) := by
  blk_point [iblk, V, idx t]
  blk_ext

theorem blk3 (c : Dev nD) (t : Fin cfg0.N) (h : Fin 8) (i v : Fin 128) : iblk m c 3 t (ix4 0 h i v)
    = arg3 m c (ix4 ⟨t.val / 2, by have : t.val < 16 := t.isLt; omega⟩ ⟨8 * (t.val % 2) + h.val, by omega⟩ i v) := by
  blk_point [iblk, V, idx t]
  blk_ext

theorem blk4 (c : Dev nD) (t : Fin cfg0.N) (h : Fin 8) (i v : Fin 128) : iblk m c 4 t (ix4 0 h i v)
    = arg4 m c (ix4 ⟨t.val / 2, by have : t.val < 16 := t.isLt; omega⟩ ⟨8 * (t.val % 2) + h.val, by omega⟩ i v) := by
  blk_point [iblk, V, idx t]
  blk_ext

/-- A head's tile of the rows, at an index of the block. -/
theorem tileRows (c : Dev nD) (hc : Bounded (arg1 m c) (arg2 m c) (arg4 m c)) (t : Fin cfg0.N) (v3 : Vec Ideal S1x128x128 .f32)
    (v5 v6 : Vec Ideal S64x128 .f32) (y : S64x1024.Idx) (x : S64x128.Idx) (j : ℕ) (hj : j < 8) (h0 : (y 0).val = (x 0).val)
    (h1 : (y 1).val = 128 * j + (x 1).val) (h3 : ∀ i v, v3 (ix3 0 i v) = k0_pay3 (iblk m c 4 t) (ix3 ⟨j, hj⟩ i v))
    (h5 : v5 x = iblk m c 0 t y) (h6 : ∀ k : Fin 128, v6 (ix2 (x 0) k) = iblk m c 1 t (ix2 (y 0) ⟨128 * j + k.val, by omega⟩)) :
    k0_pay5 v3 v5 v6 x = val_main_v7 (F := Ideal) (arg0 m c) (arg1 m c) (arg4 m c)
      (ix2 ⟨64 * (t.val / 2) + (y 0).val, by have : t.val < 16 := t.isLt; have : (y 0).val < 64 := (y 0).isLt; omega⟩
        ⟨1024 * (t.val % 2) + (y 1).val, by have : (y 1).val < 1024 := (y 1).isLt; omega⟩) := by
  have hx : (x 1).val < 128 := (x 1).isLt
  have hy : (y 0).val < 64 := (y 0).isLt
  have ht : t.val < 16 := t.isLt
  have e3 : ∀ i v, v3 (ix3 0 i v) = arg4 m c (ix4 ⟨t.val / 2, by omega⟩ ⟨8 * (t.val % 2) + j, by omega⟩ i v) := fun i v => by
    rw [h3, heads, blk4]
  have e6 : ∀ k : Fin 128, v6 (ix2 (x 0) k) = arg1 m c (ix2 ⟨64 * (t.val / 2) + (y 0).val, by omega⟩ ⟨128 * (8 * (t.val % 2) + j) + k.val, by omega⟩) :=
    fun k => by
      refine (h6 k).trans ((blk1 m c t (y 0) ⟨128 * j + k.val, by omega⟩).trans (congrArg (arg1 m c) ?_))
      exact congrArg₂ ix2 rfl (Fin.ext (by show 1024 * (t.val % 2) + (128 * j + k.val) = 128 * (8 * (t.val % 2) + j) + k.val; omega))
  have ey : (y : S64x1024.Idx) = ix2 (y 0) (y 1) := by blk_ext
  have ex : (x : S64x128.Idx) = ix2 (x 0) (x 1) := by blk_ext
  have ec : (⟨128 * (8 * (t.val % 2) + j) + (x 1).val, by omega⟩ : Fin 2048) = ⟨1024 * (t.val % 2) + (y 1).val, by omega⟩ :=
    Fin.ext (by show 128 * (8 * (t.val % 2) + j) + (x 1).val = 1024 * (t.val % 2) + (y 1).val; omega)
  refine (congrArg (k0_pay5 v3 v5 v6) ex).trans ((rows v3 v5 v6 (x 0) (x 1) (fun k => ?_) (fun k => ?_)).trans ?_)
  · exact (hc.q _).imp fun _ hz => (e6 k).trans hz
  · exact (hc.s _).imp fun _ hz => (e3 k (x 1)).trans hz
  · refine Eq.trans ?_ ((refRows m c ⟨t.val / 2, by omega⟩ (y 0) ⟨8 * (t.val % 2) + j, by omega⟩ (x 1)).symm.trans
      (congrArg (val_main_v7 (F := Ideal) (arg0 m c) (arg1 m c) (arg4 m c)) (congrArg₂ ix2 rfl ec)))
    refine congrArg₂ (· + ·) ?_ (Finset.sum_congr rfl fun k _ => congrArg₂ (· * ·) (e6 k) (e3 k (x 1)))
    refine (congrArg v5 ex).symm.trans (h5.trans ((congrArg _ ey).trans ((blk0 m c t (y 0) (y 1)).trans (congrArg (arg0 m c) ?_))))
    exact congrArg₂ ix2 rfl ec.symm

/-- A head's state after the chunk. -/
theorem tileNext (c : Dev nD) (hc : Bounded (arg1 m c) (arg2 m c) (arg4 m c)) (t : Fin cfg0.N) (v3 : Vec Ideal S1x128x128 .f32)
    (v20 v33 : Vec Ideal S1x1x128x128 .f32) (h : Fin 8) (i v : Fin 128)
    (h3 : ∀ i v, v3 (ix3 0 i v) = k0_pay3 (iblk m c 4 t) (ix3 h i v))
    (h20 : ∀ i v, v20 (ix4 0 0 i v) = iblk m c 2 t (ix4 0 h i v)) (h33 : ∀ i v, v33 (ix4 0 0 i v) = iblk m c 3 t (ix4 0 h i v)) :
    k0_pay7 (k0_pay6 v3 v20) v33 (ix3 0 i v) = val_main_v9 (F := Ideal) (arg2 m c) (arg3 m c) (arg4 m c)
      (ix4 ⟨t.val / 2, by have : t.val < 16 := t.isLt; omega⟩ ⟨8 * (t.val % 2) + h.val, by omega⟩ i v) := by
  have e3 := fun i v => (h3 i v).trans ((heads _ h i v).trans (blk4 m c t h i v))
  have e20 := fun i v => (h20 i v).trans (blk2 m c t h i v)
  rw [refNext, next v3 v20 v33 i v (fun k => by rw [e20]; exact hc.n _) (fun k => by rw [e3]; exact hc.s _)]
  exact congrArg₂ (· + ·) (Finset.sum_congr rfl fun k _ => congrArg₂ (· * ·) (e20 i k) (e3 k v)) ((h33 i v).trans (blk3 m c t h i v))

/-- What a grid point's stores of the rows leave. -/
theorem point5 (c : Dev nD) (hc : Bounded (arg1 m c) (arg2 m c) (arg4 m c)) (t : Fin cfg0.N) (y : S64x1024.Idx) : (outsAt0 m c t).1 y
    = val_main_v7 (F := Ideal) (arg0 m c) (arg1 m c) (arg4 m c)
      (ix2 ⟨64 * (t.val / 2) + (y 0).val, by have : t.val < 16 := t.isLt; have : (y 0).val < 64 := (y 0).isLt; omega⟩
        ⟨1024 * (t.val % 2) + (y 1).val, by have : (y 1).val < 1024 := (y 1).isLt; omega⟩) := by
  unfold outsAt0 out0_A_5 kernelRun0_A
  dsimp only
  frame_out
  rw [rows1, rows2, rows3, rows4, rows5, rows6, rows7]
  canon_tiles x h
  case' piece0 => refine tileRows m c hc t _ _ _ y x 7 (by omega) h0 (by omega) (fun i v => load ?_ _ i v) ?_ (fun k => ?_)
  case' piece1 => refine tileRows m c hc t _ _ _ y x 6 (by omega) h0 (by omega) (fun i v => load ?_ _ i v) ?_ (fun k => ?_)
  case' piece2 => refine tileRows m c hc t _ _ _ y x 5 (by omega) h0 (by omega) (fun i v => load ?_ _ i v) ?_ (fun k => ?_)
  case' piece3 => refine tileRows m c hc t _ _ _ y x 4 (by omega) h0 (by omega) (fun i v => load ?_ _ i v) ?_ (fun k => ?_)
  case' piece4 => refine tileRows m c hc t _ _ _ y x 3 (by omega) h0 (by omega) (fun i v => load ?_ _ i v) ?_ (fun k => ?_)
  case' piece5 => refine tileRows m c hc t _ _ _ y x 2 (by omega) h0 (by omega) (fun i v => load ?_ _ i v) ?_ (fun k => ?_)
  case' piece6 => refine tileRows m c hc t _ _ _ y x 1 (by omega) h0 (by omega) (fun i v => load ?_ _ i v) ?_ (fun k => ?_)
  case' piece7 => refine tileRows m c hc t _ _ _ y x 0 (by omega) h0 (by omega) (fun i v => load ?_ _ i v) ?_ (fun k => ?_)
  all_goals first
    | repeat first | exact kept_first | refine kept_next ?_
      done
    | refine congrArg (iblk m c _ t) (funext fun a => Fin.ext ((Rect.idx_unit_val _ _ _ _ a).trans ?_))
      fin_cases a <;> simp <;> omega

theorem next1 : k0_pay11 (F := Ideal) = k0_pay7 := rfl
theorem next2 : k0_pay15 (F := Ideal) = k0_pay7 := rfl
theorem next3 : k0_pay19 (F := Ideal) = k0_pay7 := rfl
theorem next4 : k0_pay23 (F := Ideal) = k0_pay7 := rfl
theorem next5 : k0_pay27 (F := Ideal) = k0_pay7 := rfl
theorem next6 : k0_pay31 (F := Ideal) = k0_pay7 := rfl
theorem next7 : k0_pay1 (F := Ideal) = k0_pay7 := rfl
theorem prod1 : k0_pay10 (F := Ideal) = k0_pay6 := rfl
theorem prod2 : k0_pay14 (F := Ideal) = k0_pay6 := rfl
theorem prod3 : k0_pay18 (F := Ideal) = k0_pay6 := rfl
theorem prod4 : k0_pay22 (F := Ideal) = k0_pay6 := rfl
theorem prod5 : k0_pay26 (F := Ideal) = k0_pay6 := rfl
theorem prod6 : k0_pay30 (F := Ideal) = k0_pay6 := rfl
theorem prod7 : k0_pay34 (F := Ideal) = k0_pay6 := rfl

/-- The last state stored, at an index, is what the heads' stores left. -/
theorem last (v : Vec Ideal S8x128x128 .f32) (h : Fin 8) (i k : Fin 128) : k0_pay2 v (ix4 0 h i k) = v (ix3 h i k) := by
  pointwise [k0_pay2]

/-- What a grid point's store of the state leaves. -/
theorem point6 (c : Dev nD) (hc : Bounded (arg1 m c) (arg2 m c) (arg4 m c)) (t : Fin cfg0.N) (h : Fin 8) (i v : Fin 128) :
    (outsAt0 m c t).2 (ix4 0 h i v) = val_main_v9 (F := Ideal) (arg2 m c) (arg3 m c) (arg4 m c)
      (ix4 ⟨t.val / 2, by have : t.val < 16 := t.isLt; omega⟩ ⟨8 * (t.val % 2) + h.val, by omega⟩ i v) := by
  unfold outsAt0 out0_A_6 kernelRun0_A
  dsimp only
  frame_out
  rw [next1, next2, next3, next4, next5, next6, next7, prod1, prod2, prod3, prod4, prod5, prod6, prod7]
  refine (last _ h i v).trans ?_
  rw [View.readCov_eq_canon']
  refine Eq.trans (congrArg (View.canon _) (funext fun a => Fin.ext ((Rect.idx_unit_val _ _ _ _ a).trans ?_)))
    ((?_ : Done _ (fun h i v => val_main_v9 (F := Ideal) (arg2 m c) (arg3 m c) (arg4 m c)
      (ix4 ⟨t.val / 2, by have : t.val < 16 := t.isLt; omega⟩ ⟨8 * (t.val % 2) + h.val, by omega⟩ i v)) 8) h h.isLt i v)
  · fin_cases a <;> simp
  repeat' first | exact done_first | refine done_next ?_ (by omega) fun i v => tileNext m c hc t _ _ _ _ i v (fun i v => load ?_ (by omega) i v) (fun i v => ?_) (fun i v => ?_)
  all_goals first
    | repeat first | exact kept_first | refine kept_next ?_
      done
    | refine congrArg (iblk m c _ t) (funext fun a => Fin.ext ((Rect.idx_unit_val _ _ _ _ a).trans ?_))
      fin_cases a <;> simp

/-- The blocks the grid points write back tile the two result arrays, so they are the reference's results. -/
theorem final5 (c : Dev nD) (hc : Bounded (arg1 m c) (arg2 m c) (arg4 m c)) :
    (dats m 0 c).arrAt 5 (cfgs 0).N = val_main_v7 (F := Ideal) (arg0 m c) (arg1 m c) (arg4 m c) := by
  refine (dats m 0 c).arrAt_eq_of_covers 5 _ (by decide +kernel) fun t _ y => ?_
  blk_simp
  rw [after0_5]; frame_out
  refine (point5 m c hc t y).trans (congrArg (val_main_v7 (F := Ideal) (arg0 m c) (arg1 m c) (arg4 m c)) ?_)
  blk_ext [idx t]

theorem final6 (c : Dev nD) (hc : Bounded (arg1 m c) (arg2 m c) (arg4 m c)) :
    (dats m 0 c).arrAt 6 (cfgs 0).N = val_main_v9 (F := Ideal) (arg2 m c) (arg3 m c) (arg4 m c) := by
  refine (dats m 0 c).arrAt_eq_of_covers 6 _ (by decide +kernel) fun t _ y => ?_
  blk_simp
  rw [after0_6]; frame_out
  have ey : (y : S1x8x128x128.Idx) = ix4 0 (y 1) (y 2) (y 3) := by blk_ext
  refine (congrArg (outsAt0 m c t).2 ey).trans ((point6 m c hc t (y 1) (y 2) (y 3)).trans
    (congrArg (val_main_v9 (F := Ideal) (arg2 m c) (arg3 m c) (arg4 m c)) ?_))
  blk_ext [idx t]

/-- The precondition says that the factors of the chunks' products are real numbers. -/
theorem bounded [Cert.Pre_chunks_finite.Facts] (h : Cert.Pre_ScanIdeal_chunks_finite m) (c : Dev nD) :
    Bounded (arg1 m c) (arg2 m c) (arg4 m c) := by
  obtain ⟨h1, h2, h4⟩ := h c
  refine ⟨fun i => ?_, fun i => ?_, fun i => ?_⟩
  · have e := congrFun h1 i
    unfold Cert.Pre_chunks_finite.fn at e
    pointwise at e
    exact Split.real_of_lt _ e
  · have e := congrFun h2 i
    unfold Cert.Pre_chunks_finite.fn at e
    pointwise at e
    exact Split.real_of_lt _ e
  · have e := congrFun h4 i
    unfold Cert.Pre_chunks_finite.fn at e
    pointwise at e
    exact Split.real_of_lt _ e

/-- The idealized kernel and the reference, from the same arguments with real factors, end with the same rows and states. -/
theorem algebraic [Cert.Pre_chunks_finite.Facts] : Cert.algebraic_ScanIdeal_ScanRefIdeal_pre_chunks_finite := by
  pair_intro
  · run_from Cert.ScanIdeal.Value.run_blocks m g
  · run_from Cert.ScanRefIdeal.Value.run m' g'
    · exact (val_main_v7_eq _ _ _).trans (final5 m c (bounded m hpre c)).symm
    · exact (val_main_v9_eq _ _ _).trans (final6 m c (bounded m hpre c)).symm

end Cert.ScanIdeal.RefValue

end
-- ==== Proof.CarryRun.lean ====
/- The reference's loop over the chunks of the prompt: every trip of its run is one step of the state, so its results are the last
   state's. -/
module

public import proofs.«01_k».proof.Proof.Gen.CarryRefIdeal.Run
public import proofs.«01_k».proof.Proof.Gen.CarryRefIdeal.Step

@[expose] public section

noncomputable section

namespace Cert.CarryRefIdeal.Carried

open Idealize.ShloMosaic Idealize.ShloMosaic.TcCoe Idealize.SL.Sem Idealize.ShloMosaic.StableHlo
open Cert.CarryRefIdeal Cert.CarryRefIdeal.Gen Cert.CarryRefIdeal.Value
open Cert.CarryRefIdeal.Step

variable {F : FTy → Type} [FloatOps F]

/-- The buffers hold the state and the trip's number. -/
structure Holds (V0 : Valuation τ sig (Elt F)) (s : State F) (j : ℕ) : Prop where
  carried : V0 (Proc.devRef .tc main_v9_5) = s.main_v9_5
  outputs : V0 (Proc.devRef .tc main_v9_6) = s.main_v9_6
  own : V0 (Proc.devRef .tc main_v9_0) = s.main_v9_0
  queries : V0 (Proc.devRef .tc main_v9_1) = s.main_v9_1
  matrices : V0 (Proc.devRef .tc main_v9_2) = s.main_v9_2
  offsets : V0 (Proc.devRef .tc main_v9_3) = s.main_v9_3
  number : V0 (Proc.devRef .tc main_v9_4) = constantI S_ 32 (BitVec.ofNat 32 j)

variable {V0 : Valuation τ sig (Elt F)} {s : State F} {j : ℕ}

theorem carried_step (h : Holds V0 s j) : Value.step_main_v9_5 V0 = (step j s).main_v9_5 := by
  obtain ⟨h5, h6, h0, h1, h2, h3, h4⟩ := h
  cases s
  dsimp only at h5 h6 h0 h1 h2 h3
  subst h5 h6 h0 h1 h2 h3
  unfold Value.step_main_v9_5
  rw [h4]
  rfl

theorem outputs_step (h : Holds V0 s j) : Value.step_main_v9_6 V0 = (step j s).main_v9_6 := by
  obtain ⟨h5, h6, h0, h1, h2, h3, h4⟩ := h
  cases s
  dsimp only at h5 h6 h0 h1 h2 h3
  subst h5 h6 h0 h1 h2 h3
  unfold Value.step_main_v9_6
  rw [h4]
  rfl

theorem number_step (h : Holds V0 s j) : Value.step_main_v9_4 V0 = constantI S_ 32 (BitVec.ofNat 32 (j + 1)) := by
  unfold Value.step_main_v9_4
  rw [h.number]
  funext i
  show BitVec.ofNat 32 j + 1#32 = BitVec.ofNat 32 (j + 1)
  simp only [BitVec.ofNat_add]

/-- One trip keeps that. -/
theorem holds_step (h : Holds V0 s j) : Holds (STEP V0) (step j s) (j + 1) where
  carried := (STEP_main_v9_5 V0).trans (carried_step h)
  outputs := (STEP_main_v9_6 V0).trans (outputs_step h)
  number := (STEP_main_v9_4 V0).trans (number_step h)
  own := (STEP_main_v9_0 V0).trans h.own
  queries := (STEP_main_v9_1 V0).trans h.queries
  matrices := (STEP_main_v9_2 V0).trans h.matrices
  offsets := (STEP_main_v9_3 V0).trans h.offsets

variable (m : (ℓ : Loc nD τ sig) → Buf (Elt F) ℓ) (c : Dev nD)

/-- The state after `n` trips. -/
def after : ℕ → State F
  | 0 => init (m ((c.tc : Thread nD τ).loc main_arg4)) (m ((c.tc : Thread nD τ).loc main_arg0)) (m ((c.tc : Thread nD τ).loc main_arg1))
      (m ((c.tc : Thread nD τ).loc main_arg2)) (m ((c.tc : Thread nD τ).loc main_arg3))
  | n + 1 => step n (after n)

set_option maxRecDepth 65536 in
theorem entry : Holds (entryContents preI m c) (after m c 0) 0 := by
  constructor <;> (simp only [entryContents, afterL_cons, afterL_nil]; after_reads_simp) <;> rfl

theorem holds : ∀ n, Holds (STEP^[n] (entryContents preI m c)) (after m c n) n
  | 0 => entry m c
  | n + 1 => by
    rw [Function.iterate_succ_apply']
    exact holds_step (holds n)

/-- The run ends with the rows of the last state's outputs and with the last state. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v11) = R_main_v11 (after m c 34)
      ∧ r.2.mem ((c.tc : Thread nD τ).loc main_v9_5) = (after m c 34).main_v9_5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans (holds m c 34).carried, (h c).2.2⟩) (Value.run m ρ)
  unfold out_main_v11
  rw [(holds m c 34).outputs]
  rfl

end Cert.CarryRefIdeal.Carried

end
-- ==== Proof.CarryValue.lean ====
/- The scan of the prompt: a state carried over the chunks of a sequence, what the rows of each chunk read of it, and the last state. -/
module

public import proofs.«01_k».proof.Defs
public import proofs.«01_k».proof.Proof.Gen.CarryIdeal.Value
public import proofs.«01_k».proof.Proof.Gen.CarryRefIdeal.Step
public import proofs.«01_k».proof.Proof.CarryRun
public import proofs.«01_k».proof.Proof.ScanValue
public import proofs.«01_k».proof.Proof.FoxRef
public import Idealize.ShloMosaic.Lib.Claim
public import Idealize.ShloMosaic.Lib.WordCmp
public import Idealize.ShloMosaic.Lib.Pipeline.ValueKit
public import Idealize.ShloMosaic.Lib.Pointwise
public import Idealize.ShloMosaic.Lib.KernelVsHost

@[expose] public section

set_option maxRecDepth 16384

noncomputable section

namespace Cert.CarryIdeal.RefValue

open Cert.CarryIdeal Cert.CarryIdeal.Gen Idealize.ShloMosaic Idealize.ShloMosaic.TcCoe Idealize.SL.Sem
open Idealize.ShloMosaic.Pipeline (Dat)
open Cert.ScanIdeal.RefValue (Kept Done kept_first kept_next done_first done_next)
open Cert.CarryRefIdeal.Step (State step init)

variable (m : (ℓ : Loc nD τ sig) → Buf (Elt Ideal) ℓ)

/-- The launch contents of the kernel's arguments. -/
abbrev arg0 (c : Dev nD) : (⟨S8704x2048, .f32⟩ : BufTy).Contents (Elt Ideal) := m ((c : Thread nD τ).loc main_arg0)
abbrev arg1 (c : Dev nD) : (⟨S8704x2048, .f32⟩ : BufTy).Contents (Elt Ideal) := m ((c : Thread nD τ).loc main_arg1)
abbrev arg2 (c : Dev nD) : (⟨S136x16x128x128, .f32⟩ : BufTy).Contents (Elt Ideal) := m ((c : Thread nD τ).loc main_arg2)
abbrev arg3 (c : Dev nD) : (⟨S136x16x128x128, .f32⟩ : BufTy).Contents (Elt Ideal) := m ((c : Thread nD τ).loc main_arg3)
abbrev arg4 (c : Dev nD) : (⟨S4x16x128x128, .f32⟩ : BufTy).Contents (Elt Ideal) := m ((c : Thread nD τ).loc main_arg4)

/-- The kernel's operations, the same for each of the eight heads, are the sample's. -/
theorem rows0 : k0_pay5 (F := Ideal) = Cert.ScanIdeal.Gen.k0_pay5 := rfl
theorem rows1 : k0_pay9 (F := Ideal) = k0_pay5 := rfl
theorem rows2 : k0_pay13 (F := Ideal) = k0_pay5 := rfl
theorem rows3 : k0_pay17 (F := Ideal) = k0_pay5 := rfl
theorem rows4 : k0_pay21 (F := Ideal) = k0_pay5 := rfl
theorem rows5 : k0_pay25 (F := Ideal) = k0_pay5 := rfl
theorem rows6 : k0_pay29 (F := Ideal) = k0_pay5 := rfl
theorem rows7 : k0_pay33 (F := Ideal) = k0_pay5 := rfl
theorem next0 : k0_pay7 (F := Ideal) = Cert.ScanIdeal.Gen.k0_pay7 := rfl
theorem next1 : k0_pay11 (F := Ideal) = k0_pay7 := rfl
theorem next2 : k0_pay15 (F := Ideal) = k0_pay7 := rfl
theorem next3 : k0_pay19 (F := Ideal) = k0_pay7 := rfl
theorem next4 : k0_pay23 (F := Ideal) = k0_pay7 := rfl
theorem next5 : k0_pay27 (F := Ideal) = k0_pay7 := rfl
theorem next6 : k0_pay31 (F := Ideal) = k0_pay7 := rfl
theorem next7 : k0_pay1 (F := Ideal) = k0_pay7 := rfl
theorem prod0 : k0_pay6 (F := Ideal) = Cert.ScanIdeal.Gen.k0_pay6 := rfl
theorem prod1 : k0_pay10 (F := Ideal) = k0_pay6 := rfl
theorem prod2 : k0_pay14 (F := Ideal) = k0_pay6 := rfl
theorem prod3 : k0_pay18 (F := Ideal) = k0_pay6 := rfl
theorem prod4 : k0_pay22 (F := Ideal) = k0_pay6 := rfl
theorem prod5 : k0_pay26 (F := Ideal) = k0_pay6 := rfl
theorem prod6 : k0_pay30 (F := Ideal) = k0_pay6 := rfl
theorem prod7 : k0_pay34 (F := Ideal) = k0_pay6 := rfl

section Carried

variable (a0 a1 : (⟨S8704x2048, .f32⟩ : BufTy).Contents (Elt Ideal)) (a2 a3 : (⟨S136x16x128x128, .f32⟩ : BufTy).Contents (Elt Ideal))
  (a4 : (⟨S4x16x128x128, .f32⟩ : BufTy).Contents (Elt Ideal))

/-- The number of a sequence's chunk, and of a row of it. -/
abbrev chunk (s : Fin 4) (n : ℕ) : Fin 136 := ⟨34 * s.val + n % 34, by omega⟩
abbrev row (s : Fin 4) (n : ℕ) (r : Fin 64) : Fin 8704 := ⟨64 * (34 * s.val + n % 34) + r.val, by omega⟩
abbrev col (h : Fin 16) (v : Fin 128) : Fin 2048 := ⟨128 * h.val + v.val, by omega⟩

/-- The state of a head of a sequence before chunk `n`, -/
def st (s : Fin 4) (h : Fin 16) : ℕ → Fin 128 → Fin 128 → EReal
  | 0 => fun i v => a4 (ix4 s h i v)
  | n + 1 => fun i v => (∑ k : Fin 128, a2 (ix4 (chunk s n) h i k) * st s h n k v) + a3 (ix4 (chunk s n) h i v)

/-- and what the rows of that chunk read of it, added to their own. -/
def out (s : Fin 4) (h : Fin 16) (n : ℕ) (r : Fin 64) (v : Fin 128) : EReal :=
  a0 (ix2 (row s n r) (col h v)) + ∑ k : Fin 128, a1 (ix2 (row s n r) (col h k)) * st a2 a3 a4 s h n k v

/-- The factors of the chunks' products are real numbers, -/
structure Bounded : Prop where
  q : ∀ i, ∃ x : ℝ, (a1 i : EReal) = x
  n : ∀ i, ∃ x : ℝ, (a2 i : EReal) = x
  d : ∀ i, ∃ x : ℝ, (a3 i : EReal) = x
  s : ∀ i, ∃ x : ℝ, (a4 i : EReal) = x

/-- and so are the carried states. -/
theorem st_real (hc : Bounded a1 a2 a3 a4) (s : Fin 4) (h : Fin 16) (n : ℕ) : ∀ i v, ∃ x : ℝ, st a2 a3 a4 s h n i v = x := by
  induction n with
  | zero => exact fun i v => hc.s _
  | succ n ih =>
    intro i v
    obtain ⟨x, hx⟩ := Cert.ReferenceIdeal.Attention.sum_real (fun k => a2 (ix4 (chunk s n) h i k) * st a2 a3 a4 s h n k v) fun k => by
      obtain ⟨a, ha⟩ := hc.n (ix4 (chunk s n) h i k)
      obtain ⟨b, hb⟩ := ih k v
      exact ⟨a * b, by rw [ha, hb, EReal.coe_mul]⟩
    obtain ⟨y, hy⟩ := hc.d (ix4 (chunk s n) h i v)
    exact ⟨x + y, (congrArg₂ (· + ·) hx hy).trans (EReal.coe_add x y).symm⟩

end Carried

/-- The block each grid point works on: a sequence's chunk and a half of its heads. -/
theorem idx : ∀ t : Fin cfg0.N, win0_0.index t = ![34 * (t.val / 68) + t.val % 34, t.val / 34 % 2] ∧ win0_1.index t = ![34 * (t.val / 68) + t.val % 34, t.val / 34 % 2]
    ∧ win0_2.index t = ![34 * (t.val / 68) + t.val % 34, t.val / 34 % 2, 0, 0] ∧ win0_3.index t = ![34 * (t.val / 68) + t.val % 34, t.val / 34 % 2, 0, 0]
    ∧ win0_4.index t = ![t.val / 68, t.val / 34 % 2, 0, 0] ∧ win0_5.index t = ![34 * (t.val / 68) + t.val % 34, t.val / 34 % 2]
    ∧ win0_6.index t = ![t.val / 68, t.val / 34 % 2, 0, 0] :=
  (by decide +kernel : ∀ t : Fin grid0.N, _)

/-- A grid point's sequence and head. -/
abbrev sq (t : Fin cfg0.N) : Fin 4 := ⟨t.val / 68, by have : t.val < 272 := t.isLt; omega⟩
abbrev hd (t : Fin cfg0.N) (h : Fin 8) : Fin 16 := ⟨8 * (t.val / 34 % 2) + h.val, by omega⟩

/-- The windows' blocks, at an index of the argument. -/
theorem blk0 (c : Dev nD) (t : Fin cfg0.N) (h : Fin 8) (r : Fin 64) (v : Fin 128) : iblk m c 0 t (ix2 r ⟨128 * h.val + v.val, by omega⟩)
    = arg0 m c (ix2 (row (sq t) (t.val % 34) r) (col (hd t h) v)) := by
  blk_point [iblk, V, idx t]
  blk_ext

theorem blk1 (c : Dev nD) (t : Fin cfg0.N) (h : Fin 8) (r : Fin 64) (v : Fin 128) : iblk m c 1 t (ix2 r ⟨128 * h.val + v.val, by omega⟩)
    = arg1 m c (ix2 (row (sq t) (t.val % 34) r) (col (hd t h) v)) := by
  blk_point [iblk, V, idx t]
  blk_ext

theorem blk2 (c : Dev nD) (t : Fin cfg0.N) (h : Fin 8) (i v : Fin 128) : iblk m c 2 t (ix4 0 h i v)
    = arg2 m c (ix4 (chunk (sq t) (t.val % 34)) (hd t h) i v) := by
  blk_point [iblk, V, idx t]
  blk_ext

theorem blk3 (c : Dev nD) (t : Fin cfg0.N) (h : Fin 8) (i v : Fin 128) : iblk m c 3 t (ix4 0 h i v)
    = arg3 m c (ix4 (chunk (sq t) (t.val % 34)) (hd t h) i v) := by
  blk_point [iblk, V, idx t]
  blk_ext

theorem blk4 (c : Dev nD) (t : Fin cfg0.N) (h : Fin 8) (i v : Fin 128) : iblk m c 4 t (ix4 0 h i v)
    = arg4 m c (ix4 (sq t) (hd t h) i v) := by
  blk_point [iblk, V, idx t]
  blk_ext

/-- A head's state before chunk `n`, at a grid point. -/
abbrev held (c : Dev nD) (t : Fin cfg0.N) (n : ℕ) (h : Fin 8) : Fin 128 → Fin 128 → EReal :=
  st (arg2 m c) (arg3 m c) (arg4 m c) (sq t) (hd t h) n

/-- A loaded head is the state before the grid point's chunk. -/
def Before (c : Dev nD) (t : Fin cfg0.N) (u : Vec Ideal S1x128x128 .f32) (h : Fin 8) : Prop :=
  ∀ i v : Fin 128, u (ix3 0 i v) = held m c t (t.val % 34) h i v

/-- A head's tile of the rows, at an index of the block. -/
theorem tileRows (c : Dev nD) (hc : Bounded (arg1 m c) (arg2 m c) (arg3 m c) (arg4 m c)) (t : Fin cfg0.N) (v3 : Vec Ideal S1x128x128 .f32)
    (v5 v6 : Vec Ideal S64x128 .f32) (y : S64x1024.Idx) (x : S64x128.Idx) (j : ℕ) (hj : j < 8) (h0 : (y 0).val = (x 0).val)
    (h1 : (y 1).val = 128 * j + (x 1).val) (h3 : Before m c t v3 ⟨j, hj⟩)
    (h5 : v5 x = iblk m c 0 t y) (h6 : ∀ k : Fin 128, v6 (ix2 (x 0) k) = iblk m c 1 t (ix2 (y 0) ⟨128 * j + k.val, by omega⟩)) :
    k0_pay5 v3 v5 v6 x = out (arg0 m c) (arg1 m c) (arg2 m c) (arg3 m c) (arg4 m c) (sq t)
      (hd t ⟨(y 1).val / 128, by have : (y 1).val < 1024 := (y 1).isLt; omega⟩) (t.val % 34) (y 0) ⟨(y 1).val % 128, by omega⟩ := by
  have hx : (x 1).val < 128 := (x 1).isLt
  obtain rfl : j = (y 1).val / 128 := by omega
  have e1 : (⟨(y 1).val % 128, by omega⟩ : Fin 128) = x 1 := Fin.ext (by show (y 1).val % 128 = (x 1).val; omega)
  have e6 : ∀ k : Fin 128, v6 (ix2 (x 0) k) = arg1 m c (ix2 (row (sq t) (t.val % 34) (y 0)) (col (hd t ⟨(y 1).val / 128, hj⟩) k)) := fun k =>
    (h6 k).trans (blk1 m c t ⟨(y 1).val / 128, hj⟩ (y 0) k)
  have ey : (y : S64x1024.Idx) = ix2 (y 0) ⟨128 * ((y 1).val / 128) + (x 1).val, by omega⟩ := by blk_ext
  have ex : (x : S64x128.Idx) = ix2 (x 0) (x 1) := by blk_ext
  rw [e1, rows0]
  unfold out
  refine (congrArg (Cert.ScanIdeal.Gen.k0_pay5 v3 v5 v6) ex).trans ((Cert.ScanIdeal.RefValue.rows v3 v5 v6 (x 0) (x 1) (fun k => ?_) (fun k => ?_)).trans ?_)
  · exact (hc.q _).imp fun _ hz => (e6 k).trans hz
  · exact (st_real _ _ _ _ hc _ _ _ k (x 1)).imp fun _ hz => (h3 k (x 1)).trans hz
  · refine congrArg₂ (· + ·) ?_ (Finset.sum_congr rfl fun k _ => congrArg₂ (· * ·) (e6 k) (h3 k (x 1)))
    exact (congrArg v5 ex).symm.trans (h5.trans ((congrArg _ ey).trans (blk0 m c t ⟨(y 1).val / 128, hj⟩ (y 0) (x 1))))

/-- A head's state after the chunk. -/
theorem tileNext (c : Dev nD) (hc : Bounded (arg1 m c) (arg2 m c) (arg3 m c) (arg4 m c)) (t : Fin cfg0.N) (v3 : Vec Ideal S1x128x128 .f32)
    (v20 v33 : Vec Ideal S1x1x128x128 .f32) (h : Fin 8) (i v : Fin 128) (h3 : Before m c t v3 h)
    (h20 : ∀ i v, v20 (ix4 0 0 i v) = iblk m c 2 t (ix4 0 h i v)) (h33 : ∀ i v, v33 (ix4 0 0 i v) = iblk m c 3 t (ix4 0 h i v)) :
    k0_pay7 (k0_pay6 v3 v20) v33 (ix3 0 i v) = held m c t (t.val % 34 + 1) h i v := by
  have e20 := fun i v => (h20 i v).trans (blk2 m c t h i v)
  rw [next0, prod0]
  refine (Cert.ScanIdeal.RefValue.next v3 v20 v33 i v (fun k => ?_) (fun k => ?_)).trans ?_
  · exact (hc.n _).imp fun _ hz => (e20 i k).trans hz
  · exact (st_real _ _ _ _ hc _ _ _ k v).imp fun _ hz => (h3 k v).trans hz
  · exact congrArg₂ (· + ·) (Finset.sum_congr rfl fun k _ => congrArg₂ (· * ·) (e20 i k) (h3 k v)) ((h33 i v).trans (blk3 m c t h i v))

/-- The loaded heads are the states before the grid point's chunk. -/
structure Heads (c : Dev nD) (t : Fin cfg0.N) (u0 u1 u2 u3 u4 u5 u6 u7 : Vec Ideal S1x128x128 .f32) : Prop where
  h0 : Before m c t u0 0
  h1 : Before m c t u1 1
  h2 : Before m c t u2 2
  h3 : Before m c t u3 3
  h4 : Before m c t u4 4
  h5 : Before m c t u5 5
  h6 : Before m c t u6 6
  h7 : Before m c t u7 7

/-- The stores of the eight heads' rows, the last one first, -/
abbrev rowPieces (c : Dev nD) (t : Fin cfg0.N) (u0 u1 u2 u3 u4 u5 u6 u7 : Vec Ideal S1x128x128 .f32) :
    List (View.Piece (Elt Ideal) S64x1024 .f32) :=
  [⟨Rect.unit ![0, 896] ![64, 128] inb_S64x1024_S64x128_0_896, k0_pay33 u7 (View.ld (iblk m c 0 t) (Rect.unit ![0, 896] ![64, 128] inb_S64x1024_S64x128_0_896))
      (View.ld (iblk m c 1 t) (Rect.unit ![0, 896] ![64, 128] inb_S64x1024_S64x128_0_896))⟩,
    ⟨Rect.unit ![0, 768] ![64, 128] inb_S64x1024_S64x128_0_768, k0_pay29 u6 (View.ld (iblk m c 0 t) (Rect.unit ![0, 768] ![64, 128] inb_S64x1024_S64x128_0_768))
      (View.ld (iblk m c 1 t) (Rect.unit ![0, 768] ![64, 128] inb_S64x1024_S64x128_0_768))⟩,
    ⟨Rect.unit ![0, 640] ![64, 128] inb_S64x1024_S64x128_0_640, k0_pay25 u5 (View.ld (iblk m c 0 t) (Rect.unit ![0, 640] ![64, 128] inb_S64x1024_S64x128_0_640))
      (View.ld (iblk m c 1 t) (Rect.unit ![0, 640] ![64, 128] inb_S64x1024_S64x128_0_640))⟩,
    ⟨Rect.unit ![0, 512] ![64, 128] inb_S64x1024_S64x128_0_512, k0_pay21 u4 (View.ld (iblk m c 0 t) (Rect.unit ![0, 512] ![64, 128] inb_S64x1024_S64x128_0_512))
      (View.ld (iblk m c 1 t) (Rect.unit ![0, 512] ![64, 128] inb_S64x1024_S64x128_0_512))⟩,
    ⟨Rect.unit ![0, 384] ![64, 128] inb_S64x1024_S64x128_0_384, k0_pay17 u3 (View.ld (iblk m c 0 t) (Rect.unit ![0, 384] ![64, 128] inb_S64x1024_S64x128_0_384))
      (View.ld (iblk m c 1 t) (Rect.unit ![0, 384] ![64, 128] inb_S64x1024_S64x128_0_384))⟩,
    ⟨Rect.unit ![0, 256] ![64, 128] inb_S64x1024_S64x128_0_256, k0_pay13 u2 (View.ld (iblk m c 0 t) (Rect.unit ![0, 256] ![64, 128] inb_S64x1024_S64x128_0_256))
      (View.ld (iblk m c 1 t) (Rect.unit ![0, 256] ![64, 128] inb_S64x1024_S64x128_0_256))⟩,
    ⟨Rect.unit ![0, 128] ![64, 128] inb_S64x1024_S64x128_0_128, k0_pay9 u1 (View.ld (iblk m c 0 t) (Rect.unit ![0, 128] ![64, 128] inb_S64x1024_S64x128_0_128))
      (View.ld (iblk m c 1 t) (Rect.unit ![0, 128] ![64, 128] inb_S64x1024_S64x128_0_128))⟩,
    ⟨Rect.unit ![0, 0] ![64, 128] inb_S64x1024_S64x128_0_0, k0_pay5 u0 (View.ld (iblk m c 0 t) (Rect.unit ![0, 0] ![64, 128] inb_S64x1024_S64x128_0_0))
      (View.ld (iblk m c 1 t) (Rect.unit ![0, 0] ![64, 128] inb_S64x1024_S64x128_0_0))⟩]

/-- and of their states. -/
abbrev nextPieces (c : Dev nD) (t : Fin cfg0.N) (u0 u1 u2 u3 u4 u5 u6 u7 : Vec Ideal S1x128x128 .f32)
    (L : List (View.Piece (Elt Ideal) S8x128x128 .f32)) : List (View.Piece (Elt Ideal) S8x128x128 .f32) :=
  ⟨Rect.unit ![7, 0, 0] ![1, 128, 128] inb_S8x128x128_S1x128x128_7_0_0, k0_pay1 (k0_pay34 u7 (View.ld (iblk m c 2 t) (Rect.unit ![0, 7, 0, 0] ![1, 1, 128, 128] inb_S1x8x128x128_S1x1x128x128_0_7_0_0)))
      (View.ld (iblk m c 3 t) (Rect.unit ![0, 7, 0, 0] ![1, 1, 128, 128] inb_S1x8x128x128_S1x1x128x128_0_7_0_0))⟩ ::
    ⟨Rect.unit ![6, 0, 0] ![1, 128, 128] inb_S8x128x128_S1x128x128_6_0_0, k0_pay31 (k0_pay30 u6 (View.ld (iblk m c 2 t) (Rect.unit ![0, 6, 0, 0] ![1, 1, 128, 128] inb_S1x8x128x128_S1x1x128x128_0_6_0_0)))
      (View.ld (iblk m c 3 t) (Rect.unit ![0, 6, 0, 0] ![1, 1, 128, 128] inb_S1x8x128x128_S1x1x128x128_0_6_0_0))⟩ ::
    ⟨Rect.unit ![5, 0, 0] ![1, 128, 128] inb_S8x128x128_S1x128x128_5_0_0, k0_pay27 (k0_pay26 u5 (View.ld (iblk m c 2 t) (Rect.unit ![0, 5, 0, 0] ![1, 1, 128, 128] inb_S1x8x128x128_S1x1x128x128_0_5_0_0)))
      (View.ld (iblk m c 3 t) (Rect.unit ![0, 5, 0, 0] ![1, 1, 128, 128] inb_S1x8x128x128_S1x1x128x128_0_5_0_0))⟩ ::
    ⟨Rect.unit ![4, 0, 0] ![1, 128, 128] inb_S8x128x128_S1x128x128_4_0_0, k0_pay23 (k0_pay22 u4 (View.ld (iblk m c 2 t) (Rect.unit ![0, 4, 0, 0] ![1, 1, 128, 128] inb_S1x8x128x128_S1x1x128x128_0_4_0_0)))
      (View.ld (iblk m c 3 t) (Rect.unit ![0, 4, 0, 0] ![1, 1, 128, 128] inb_S1x8x128x128_S1x1x128x128_0_4_0_0))⟩ ::
    ⟨Rect.unit ![3, 0, 0] ![1, 128, 128] inb_S8x128x128_S1x128x128_3_0_0, k0_pay19 (k0_pay18 u3 (View.ld (iblk m c 2 t) (Rect.unit ![0, 3, 0, 0] ![1, 1, 128, 128] inb_S1x8x128x128_S1x1x128x128_0_3_0_0)))
      (View.ld (iblk m c 3 t) (Rect.unit ![0, 3, 0, 0] ![1, 1, 128, 128] inb_S1x8x128x128_S1x1x128x128_0_3_0_0))⟩ ::
    ⟨Rect.unit ![2, 0, 0] ![1, 128, 128] inb_S8x128x128_S1x128x128_2_0_0, k0_pay15 (k0_pay14 u2 (View.ld (iblk m c 2 t) (Rect.unit ![0, 2, 0, 0] ![1, 1, 128, 128] inb_S1x8x128x128_S1x1x128x128_0_2_0_0)))
      (View.ld (iblk m c 3 t) (Rect.unit ![0, 2, 0, 0] ![1, 1, 128, 128] inb_S1x8x128x128_S1x1x128x128_0_2_0_0))⟩ ::
    ⟨Rect.unit ![1, 0, 0] ![1, 128, 128] inb_S8x128x128_S1x128x128_1_0_0, k0_pay11 (k0_pay10 u1 (View.ld (iblk m c 2 t) (Rect.unit ![0, 1, 0, 0] ![1, 1, 128, 128] inb_S1x8x128x128_S1x1x128x128_0_1_0_0)))
      (View.ld (iblk m c 3 t) (Rect.unit ![0, 1, 0, 0] ![1, 1, 128, 128] inb_S1x8x128x128_S1x1x128x128_0_1_0_0))⟩ ::
    ⟨Rect.unit ![0, 0, 0] ![1, 128, 128] inb_S8x128x128_S1x128x128_0_0_0, k0_pay7 (k0_pay6 u0 (View.ld (iblk m c 2 t) (Rect.unit ![0, 0, 0, 0] ![1, 1, 128, 128] inb_S1x8x128x128_S1x1x128x128_0_0_0_0)))
      (View.ld (iblk m c 3 t) (Rect.unit ![0, 0, 0, 0] ![1, 1, 128, 128] inb_S1x8x128x128_S1x1x128x128_0_0_0_0))⟩ :: L

variable {m} in
theorem rowsTiles {c : Dev nD} (hc : Bounded (arg1 m c) (arg2 m c) (arg3 m c) (arg4 m c)) {t : Fin cfg0.N}
    {u0 u1 u2 u3 u4 u5 u6 u7 : Vec Ideal S1x128x128 .f32} (hu : Heads m c t u0 u1 u2 u3 u4 u5 u6 u7) (y : S64x1024.Idx) :
    View.canon (rowPieces m c t u0 u1 u2 u3 u4 u5 u6 u7) y = out (arg0 m c) (arg1 m c) (arg2 m c) (arg3 m c) (arg4 m c) (sq t)
      (hd t ⟨(y 1).val / 128, by have : (y 1).val < 1024 := (y 1).isLt; omega⟩) (t.val % 34) (y 0) ⟨(y 1).val % 128, by omega⟩ := by
  obtain ⟨h0, h1, h2, h3, h4, h5, h6, h7⟩ := hu
  rw [rowPieces, rows1, rows2, rows3, rows4, rows5, rows6, rows7]
  canon_tiles x e
  case' piece0 => refine tileRows m c hc t _ _ _ y x 7 (by omega) e0 (by omega) h7 ?_ (fun k => ?_)
  case' piece1 => refine tileRows m c hc t _ _ _ y x 6 (by omega) e0 (by omega) h6 ?_ (fun k => ?_)
  case' piece2 => refine tileRows m c hc t _ _ _ y x 5 (by omega) e0 (by omega) h5 ?_ (fun k => ?_)
  case' piece3 => refine tileRows m c hc t _ _ _ y x 4 (by omega) e0 (by omega) h4 ?_ (fun k => ?_)
  case' piece4 => refine tileRows m c hc t _ _ _ y x 3 (by omega) e0 (by omega) h3 ?_ (fun k => ?_)
  case' piece5 => refine tileRows m c hc t _ _ _ y x 2 (by omega) e0 (by omega) h2 ?_ (fun k => ?_)
  case' piece6 => refine tileRows m c hc t _ _ _ y x 1 (by omega) e0 (by omega) h1 ?_ (fun k => ?_)
  case' piece7 => refine tileRows m c hc t _ _ _ y x 0 (by omega) e0 (by omega) h0 ?_ (fun k => ?_)
  all_goals
    refine congrArg (iblk m c _ t) (funext fun a => Fin.ext ((Rect.idx_unit_val _ _ _ _ a).trans ?_))
    fin_cases a <;> simp <;> omega

variable {m} in
theorem nextTiles {c : Dev nD} (hc : Bounded (arg1 m c) (arg2 m c) (arg3 m c) (arg4 m c)) {t : Fin cfg0.N}
    {u0 u1 u2 u3 u4 u5 u6 u7 : Vec Ideal S1x128x128 .f32} (hu : Heads m c t u0 u1 u2 u3 u4 u5 u6 u7)
    (L : List (View.Piece (Elt Ideal) S8x128x128 .f32)) :
    Done (nextPieces m c t u0 u1 u2 u3 u4 u5 u6 u7 L) (held m c t (t.val % 34 + 1)) 8 := by
  obtain ⟨h0, h1, h2, h3, h4, h5, h6, h7⟩ := hu
  rw [nextPieces, next1, next2, next3, next4, next5, next6, next7, prod1, prod2, prod3, prod4, prod5, prod6, prod7]
  repeat' first
    | exact done_first
    | refine done_next ?_ (by omega) fun i v => tileNext m c hc t _ _ _ _ i v (by assumption) (fun i v => ?_) (fun i v => ?_)
  all_goals
    refine congrArg (iblk m c _ t) (funext fun a => Fin.ext ((Rect.idx_unit_val _ _ _ _ a).trans ?_))
    fin_cases a <;> simp

/-- A vector of heads that are the states before the grid point's chunk. -/
def Enters (c : Dev nD) (t : Fin cfg0.N) (w : Vec Ideal S8x128x128 .f32) : Prop :=
  ∀ (h : Fin 8) (i v : Fin 128), w (ix3 h i v) = held m c t (t.val % 34) h i v

variable {m}

/-- A load of a head of it. -/
theorem loads {c : Dev nD} {t : Fin cfg0.N} {w : Vec Ideal S8x128x128 .f32} (hw : Enters m c t w) (h : Fin 8)
    {hh : (Memref.whole (sig := sig) cc0_scratch0).IsWhole} {inb : ∀ a, (![h.val, 0, 0] : Fin 3 → ℕ) a + (![1, 128, 128] : Fin 3 → ℕ) a ≤ S8x128x128.size a} :
    Before m c t (View.ld (View.read (Elt Ideal) (View.whole cc0_scratch0) (hh.unread w))
      (Rect.unit (s := S8x128x128) ![h.val, 0, 0] ![1, 128, 128] inb)) h := by
  intro i v
  refine (congrFun (hh.read_unread w) _).trans ((congrArg w (funext fun a => Fin.ext ((Rect.idx_unit_val _ _ _ _ a).trans ?_))).trans (hw h i v))
  fin_cases a <;> simp

/-- The eight loads of it are the states before the grid point's chunk. -/
theorem entered {c : Dev nD} {t : Fin cfg0.N} {w : Vec Ideal S8x128x128 .f32} (hw : Enters m c t w)
    (hh : (Memref.whole (sig := sig) cc0_scratch0).IsWhole) : Heads m c t
    (View.ld (View.read (Elt Ideal) (View.whole cc0_scratch0) (hh.unread w)) (Rect.unit ![0, 0, 0] ![1, 128, 128] inb_S8x128x128_S1x128x128_0_0_0))
    (View.ld (View.read (Elt Ideal) (View.whole cc0_scratch0) (hh.unread w)) (Rect.unit ![1, 0, 0] ![1, 128, 128] inb_S8x128x128_S1x128x128_1_0_0))
    (View.ld (View.read (Elt Ideal) (View.whole cc0_scratch0) (hh.unread w)) (Rect.unit ![2, 0, 0] ![1, 128, 128] inb_S8x128x128_S1x128x128_2_0_0))
    (View.ld (View.read (Elt Ideal) (View.whole cc0_scratch0) (hh.unread w)) (Rect.unit ![3, 0, 0] ![1, 128, 128] inb_S8x128x128_S1x128x128_3_0_0))
    (View.ld (View.read (Elt Ideal) (View.whole cc0_scratch0) (hh.unread w)) (Rect.unit ![4, 0, 0] ![1, 128, 128] inb_S8x128x128_S1x128x128_4_0_0))
    (View.ld (View.read (Elt Ideal) (View.whole cc0_scratch0) (hh.unread w)) (Rect.unit ![5, 0, 0] ![1, 128, 128] inb_S8x128x128_S1x128x128_5_0_0))
    (View.ld (View.read (Elt Ideal) (View.whole cc0_scratch0) (hh.unread w)) (Rect.unit ![6, 0, 0] ![1, 128, 128] inb_S8x128x128_S1x128x128_6_0_0))
    (View.ld (View.read (Elt Ideal) (View.whole cc0_scratch0) (hh.unread w)) (Rect.unit ![7, 0, 0] ![1, 128, 128] inb_S8x128x128_S1x128x128_7_0_0)) :=
  ⟨loads hw 0, loads hw 1, loads hw 2, loads hw 3, loads hw 4, loads hw 5, loads hw 6, loads hw 7⟩

/-- A load of a head stored over by the heads before it only. -/
theorem loaded {c : Dev nD} {t : Fin cfg0.N} {w : Vec Ideal S8x128x128 .f32} (hw : Enters m c t w) {L : List (View.Piece (Elt Ideal) S8x128x128 .f32)}
    (h : Fin 8) (hL : Kept L w h.val) {inb : ∀ a, (![h.val, 0, 0] : Fin 3 → ℕ) a + (![1, 128, 128] : Fin 3 → ℕ) a ≤ S8x128x128.size a} :
    Before m c t ((View.whole (sig := sig) cc0_scratch0).readCov L (Rect.unit (s := S8x128x128) ![h.val, 0, 0] ![1, 128, 128] inb).toLoadRect) h :=
  fun i v => (Cert.ScanIdeal.RefValue.load hL h.isLt i v).trans (hw h i v)

/-- The argument's block is the state before a sequence's first chunk. -/
theorem enters_first (c : Dev nD) (t : Fin cfg0.N) (h0 : t.val % 34 = 0) : Enters m c t (k0_pay3 (iblk m c 4 t)) := by
  intro h i v
  rw [held, h0]
  exact (Cert.ScanIdeal.RefValue.heads (iblk m c 4 t) h i v).trans (blk4 m c t h i v)

/-- What a grid point leaves: the states after its chunk, and its chunk's rows. -/
structure Leaves (c : Dev nD) (t : Fin cfg0.N) : Prop where
  state : ∀ (h : Fin 8) (i v : Fin 128), (outsAt0 m c t.val t.isLt).2.2 (ix3 h i v) = held m c t (t.val % 34 + 1) h i v
  rows : ∀ y : S64x1024.Idx, (outsAt0 m c t.val t.isLt).1 y = out (arg0 m c) (arg1 m c) (arg2 m c) (arg3 m c) (arg4 m c) (sq t)
      (hd t ⟨(y 1).val / 128, by have : (y 1).val < 1024 := (y 1).isLt; omega⟩) (t.val % 34) (y 0) ⟨(y 1).val % 128, by omega⟩
  last : t.val % 34 = 33 → ∀ (h : Fin 8) (i v : Fin 128), (outsAt0 m c t.val t.isLt).2.1 (ix4 0 h i v) = held m c t (t.val % 34 + 1) h i v

theorem leaves_first (c : Dev nD) (hc : Bounded (arg1 m c) (arg2 m c) (arg3 m c) (arg4 m c)) (t : Fin cfg0.N) (h0 : t.val % 34 = 0) :
    Leaves (m := m) c t := by
  have h1 : ¬t.val % 34 = 33 := by omega
  have hw := enters_first (m := m) c t h0
  constructor
  · rw [outsAt0_A m c t h0 h1]
    unfold sout0_A_0 kernelRun0_A
    dsimp only
    frame_out
    intro h i v
    refine nextTiles hc ⟨loaded hw 0 ?_, loaded hw 1 ?_, loaded hw 2 ?_, loaded hw 3 ?_, loaded hw 4 ?_, loaded hw 5 ?_, loaded hw 6 ?_, loaded hw 7 ?_⟩ _ h h.isLt i v
    all_goals repeat first | exact kept_first | refine kept_next ?_
  · rw [outsAt0_A m c t h0 h1]
    unfold out0_A_5 kernelRun0_A
    dsimp only
    frame_out
    intro y
    refine rowsTiles hc ⟨loaded hw 0 ?_, loaded hw 1 ?_, loaded hw 2 ?_, loaded hw 3 ?_, loaded hw 4 ?_, loaded hw 5 ?_, loaded hw 6 ?_, loaded hw 7 ?_⟩ y
    all_goals repeat first | exact kept_first | refine kept_next ?_
  · exact fun h => absurd h h1

/-- The states entering a later chunk are those the chunk before it left. -/
theorem leaves_next (c : Dev nD) (hc : Bounded (arg1 m c) (arg2 m c) (arg3 m c) (arg4 m c)) (t : Fin cfg0.N) (h0 : ¬t.val % 34 = 0)
    (hw : Enters m c t (outsAt0 m c (t.val - 1) (Nat.lt_of_le_of_lt (Nat.sub_le _ _) t.isLt)).2.2) : Leaves (m := m) c t := by
  have hu := entered hw (Memref.isWhole_whole _)
  by_cases h1 : t.val % 34 = 33
  · constructor
    · rw [outsAt0_C m c t h0 h1]
      unfold sout0_C_0 kernelRun0_C
      dsimp only
      frame_out
      exact fun h i v => nextTiles hc hu _ h h.isLt i v
    · rw [outsAt0_C m c t h0 h1]
      unfold out0_C_5 kernelRun0_C
      dsimp only
      frame_out
      exact rowsTiles hc hu
    · intro _ h i v
      rw [outsAt0_C m c t h0 h1]
      unfold out0_C_6 kernelRun0_C
      dsimp only
      frame_out
      refine (Cert.ScanIdeal.RefValue.last _ h i v).trans ?_
      rw [View.readCov_eq_canon']
      refine Eq.trans (congrArg (View.canon _) (funext fun a => Fin.ext ((Rect.idx_unit_val _ _ _ _ a).trans ?_)))
        (nextTiles hc hu _ h h.isLt i v)
      fin_cases a <;> simp
  · constructor
    · rw [outsAt0_B m c t h0 h1]
      unfold sout0_B_0 kernelRun0_B
      dsimp only
      frame_out
      exact fun h i v => nextTiles hc hu _ h h.isLt i v
    · rw [outsAt0_B m c t h0 h1]
      unfold out0_B_5 kernelRun0_B
      dsimp only
      frame_out
      exact rowsTiles hc hu
    · exact fun h => absurd h h1

theorem leaves (c : Dev nD) (hc : Bounded (arg1 m c) (arg2 m c) (arg3 m c) (arg4 m c)) (n : ℕ) : ∀ hn : n < cfg0.N, Leaves (m := m) c ⟨n, hn⟩ := by
  induction n with
  | zero => exact fun hn => leaves_first c hc ⟨0, hn⟩ rfl
  | succ n ih =>
    intro hn
    by_cases h0 : (n + 1) % 34 = 0
    · exact leaves_first c hc ⟨n + 1, hn⟩ h0
    · refine leaves_next c hc ⟨n + 1, hn⟩ h0 fun h i v => ((ih (Nat.lt_of_succ_lt hn)).state h i v).trans ?_
      have e1 : n % 34 + 1 = (n + 1) % 34 := by omega
      have e2 : sq ⟨n, Nat.lt_of_succ_lt hn⟩ = sq ⟨n + 1, hn⟩ := Fin.ext (by show n / 68 = (n + 1) / 68; omega)
      have e3 : hd ⟨n, Nat.lt_of_succ_lt hn⟩ h = hd ⟨n + 1, hn⟩ h := Fin.ext (by show 8 * (n / 34 % 2) + h.val = 8 * ((n + 1) / 34 % 2) + h.val; omega)
      unfold held
      rw [e1, e2, e3]

section Reference

open Cert.CarryRefIdeal.Step
open Cert.CarryRefIdeal (S34x4x16x64x128 S34x4x16x128x128 S4x16x64x128 S1x4x16x64x128 S1x4x16x128x128)

/-- A trip's slices start at the trip's number. -/
theorem start (j : ℕ) (hj : j < 34) (k : Fin 5) : ((![constantI Cert.CarryRefIdeal.S_ 32 (BitVec.ofNat 32 j), constantI Cert.CarryRefIdeal.S_ 32 0#32,
    constantI Cert.CarryRefIdeal.S_ 32 0#32, constantI Cert.CarryRefIdeal.S_ 32 0#32, constantI Cert.CarryRefIdeal.S_ 32 0#32] :
    Fin 5 → (⟨Cert.CarryRefIdeal.S_, .i32⟩ : BufTy).Contents (Elt Ideal)) k (Shape.Idx.first Cert.CarryRefIdeal.Gen.h_S_)).toInt = ((![j, 0, 0, 0, 0] : Fin 5 → ℕ) k : Int) := by
  have e : (BitVec.ofNat 32 j).toInt = (j : Int) := WordCmp.toInt_ofNat_of_lt (by omega)
  fin_cases k
  · exact e
  all_goals rfl

variable (a0 a1 : (⟨S8704x2048, .f32⟩ : BufTy).Contents (Elt Ideal)) (a2 a3 : (⟨S136x16x128x128, .f32⟩ : BufTy).Contents (Elt Ideal))
  (a4 : (⟨S4x16x128x128, .f32⟩ : BufTy).Contents (Elt Ideal))

theorem fits64 (j : ℕ) (hj : j < 34) : S34x4x16x64x128.Slices ![j, 0, 0, 0, 0] S1x4x16x64x128 :=
  ⟨rfl, fun k => by fin_cases k <;> simp <;> omega⟩

theorem fits128 (j : ℕ) (hj : j < 34) : S34x4x16x128x128.Slices ![j, 0, 0, 0, 0] S1x4x16x128x128 :=
  ⟨rfl, fun k => by fin_cases k <;> simp <;> omega⟩

/-- A trip's slices of the arguments: the rows' own values, -/
theorem own (j : ℕ) (hj : j < 34) (s : State Ideal) (h : s.main_v9_0 = A_main_v1 a0 a1 a2 a3) (a : Fin 4) (b : Fin 16) (r : Fin 64) (v : Fin 128) :
    b5 j s (ix4 a b r v) = a0 (ix2 (row a j r) (col b v)) := by
  have e : b4 j s = extractStridedSlice S1x4x16x64x128 ![j, 0, 0, 0, 0] s.main_v9_0 (fits64 j hj) :=
    WordCmp.dynamicSlice_eq_extract _ _ _ _ _ (fits64 j hj) (start j hj)
  unfold b5
  rw [e, h]
  pointwise [A_main_v1, A_main_v0]
  refine congrArg a0 ?_
  blk_ext

/-- the queries, -/
theorem queries (j : ℕ) (hj : j < 34) (s : State Ideal) (h : s.main_v9_1 = A_main_v3 a0 a1 a2 a3) (a : Fin 4) (b : Fin 16) (r : Fin 64) (v : Fin 128) :
    b11 j s (ix4 a b r v) = a1 (ix2 (row a j r) (col b v)) := by
  have e : b10 j s = extractStridedSlice S1x4x16x64x128 ![j, 0, 0, 0, 0] s.main_v9_1 (fits64 j hj) :=
    WordCmp.dynamicSlice_eq_extract _ _ _ _ _ (fits64 j hj) (start j hj)
  unfold b11
  rw [e, h]
  pointwise [A_main_v3, A_main_v2]
  refine congrArg a1 ?_
  blk_ext

/-- the matrices, -/
theorem matrices (j : ℕ) (hj : j < 34) (s : State Ideal) (h : s.main_v9_2 = A_main_v5 a0 a1 a2 a3) (a : Fin 4) (b : Fin 16) (i v : Fin 128) :
    b17 j s (ix4 a b i v) = a2 (ix4 (chunk a j) b i v) := by
  have e : b16 j s = extractStridedSlice S1x4x16x128x128 ![j, 0, 0, 0, 0] s.main_v9_2 (fits128 j hj) :=
    WordCmp.dynamicSlice_eq_extract _ _ _ _ _ (fits128 j hj) (start j hj)
  unfold b17
  rw [e, h]
  pointwise [A_main_v5, A_main_v4]
  refine congrArg a2 ?_
  blk_ext

/-- and what is added to the next state. -/
theorem offsets (j : ℕ) (hj : j < 34) (s : State Ideal) (h : s.main_v9_3 = A_main_v7 a0 a1 a2 a3) (a : Fin 4) (b : Fin 16) (i v : Fin 128) :
    b23 j s (ix4 a b i v) = a3 (ix4 (chunk a j) b i v) := by
  have e : b22 j s = extractStridedSlice S1x4x16x128x128 ![j, 0, 0, 0, 0] s.main_v9_3 (fits128 j hj) :=
    WordCmp.dynamicSlice_eq_extract _ _ _ _ _ (fits128 j hj) (start j hj)
  unfold b23
  rw [e, h]
  pointwise [A_main_v7, A_main_v6]
  refine congrArg a3 ?_
  blk_ext

/-- The products of a trip, at an index. -/
theorem reads (j : ℕ) (s : State Ideal) (a : Fin 4) (b : Fin 16) (r : Fin 64) (v : Fin 128) :
    b25 j s (ix4 a b r v) = b5 j s (ix4 a b r v) + ∑ k : Fin 128, b11 j s (ix4 a b r k) * s.main_v9_5 (ix4 a b k v) := by
  unfold b25 b24
  generalize b5 j s = x
  generalize b11 j s = y
  pointwise

theorem moves (j : ℕ) (s : State Ideal) (a : Fin 4) (b : Fin 16) (i v : Fin 128) :
    b27 j s (ix4 a b i v) = (∑ k : Fin 128, b17 j s (ix4 a b i k) * s.main_v9_5 (ix4 a b k v)) + b23 j s (ix4 a b i v) := by
  unfold b27 b26
  generalize b17 j s = x
  generalize b23 j s = y
  pointwise

/-- A trip writes its own rows and keeps the others. -/
theorem writes (j : ℕ) (hj : j < 34) (s : State Ideal) (n : Fin 34) (a : Fin 4) (b : Fin 16) (r : Fin 64) (v : Fin 128) :
    b33 j s (ix5 n a b r v) = if n.val = j then b25 j s (ix4 a b r v) else s.main_v9_6 (ix5 n a b r v) := by
  have e : b33 j s = updateSlice s.main_v9_6 (b28 j s) ![j, 0, 0, 0, 0] (fits64 j hj) :=
    WordCmp.dynamicUpdateSlice_eq_update _ _ _ _ _ (fits64 j hj) (start j hj)
  rw [e]
  unfold b28
  generalize b25 j s = y
  pointwise
  split <;> split <;> first | rfl | omega

/-- The loop's state after `n` trips. -/
structure Ran (s : State Ideal) (n : ℕ) : Prop where
  carried : ∀ a b i v, s.main_v9_5 (ix4 a b i v) = st a2 a3 a4 a b n i v
  outputs : ∀ (k : Fin 34) a b r v, k.val < n → s.main_v9_6 (ix5 k a b r v) = out a0 a1 a2 a3 a4 a b k.val r v
  own : s.main_v9_0 = A_main_v1 a0 a1 a2 a3
  queries : s.main_v9_1 = A_main_v3 a0 a1 a2 a3
  matrices : s.main_v9_2 = A_main_v5 a0 a1 a2 a3
  offsets : s.main_v9_3 = A_main_v7 a0 a1 a2 a3

theorem ran_step {s : State Ideal} {j : ℕ} (hj : j < 34) (h : Ran a0 a1 a2 a3 a4 s j) : Ran a0 a1 a2 a3 a4 (step j s) (j + 1) where
  carried a b i v := by
    rw [step_main_v9_5, moves]
    simp only [matrices a0 a1 a2 a3 j hj s h.matrices, offsets a0 a1 a2 a3 j hj s h.offsets, h.carried]
    rfl
  outputs k a b r v hk := by
    rw [step_main_v9_6, writes j hj]
    split
    next e =>
      rw [reads, e]
      simp only [own a0 a1 a2 a3 j hj s h.own, queries a0 a1 a2 a3 j hj s h.queries, h.carried]
      rfl
    next e => exact h.outputs k a b r v (by omega)
  own := h.own
  queries := h.queries
  matrices := h.matrices
  offsets := h.offsets

theorem ran (m : (ℓ : Loc Cert.CarryRefIdeal.nD Cert.CarryRefIdeal.τ Cert.CarryRefIdeal.sig) → Buf (Elt Ideal) ℓ) (c : Dev Cert.CarryRefIdeal.nD)
    (h0 : m ((c.tc : Thread Cert.CarryRefIdeal.nD Cert.CarryRefIdeal.τ).loc Cert.CarryRefIdeal.main_arg0) = a0)
    (h1 : m ((c.tc : Thread Cert.CarryRefIdeal.nD Cert.CarryRefIdeal.τ).loc Cert.CarryRefIdeal.main_arg1) = a1)
    (h2 : m ((c.tc : Thread Cert.CarryRefIdeal.nD Cert.CarryRefIdeal.τ).loc Cert.CarryRefIdeal.main_arg2) = a2)
    (h3 : m ((c.tc : Thread Cert.CarryRefIdeal.nD Cert.CarryRefIdeal.τ).loc Cert.CarryRefIdeal.main_arg3) = a3)
    (h4 : m ((c.tc : Thread Cert.CarryRefIdeal.nD Cert.CarryRefIdeal.τ).loc Cert.CarryRefIdeal.main_arg4) = a4) :
    ∀ n, n ≤ 34 → Ran a0 a1 a2 a3 a4 (Cert.CarryRefIdeal.Carried.after m c n) n
  | 0 => fun _ => by
    subst h0 h1 h2 h3 h4
    exact ⟨fun _ _ _ _ => rfl, fun _ _ _ _ _ hk => absurd hk (Nat.not_lt_zero _), rfl, rfl, rfl, rfl⟩
  | n + 1 => fun hn => ran_step a0 a1 a2 a3 a4 (Nat.lt_of_succ_le hn) (ran m c h0 h1 h2 h3 h4 n (Nat.le_of_succ_le hn))

/-- The rows the reference returns, at an index. -/
theorem result {s : State Ideal} (h : Ran a0 a1 a2 a3 a4 s 34) (a : Fin 4) (b : Fin 16) (k : Fin 34) (r : Fin 64) (v : Fin 128) :
    R_main_v11 s (ix2 (row a k.val r) (col b v)) = out a0 a1 a2 a3 a4 a b k.val r v := by
  refine Eq.trans ?_ (h.outputs k a b r v k.isLt)
  unfold R_main_v11
  generalize s.main_v9_6 = x
  pointwise
  refine congrArg x ?_
  blk_ext

end Reference

/-- The blocks the grid points write back tile the two result arrays, so they are the reference's results. -/
theorem final5 (c : Dev nD) (hc : Bounded (arg1 m c) (arg2 m c) (arg3 m c) (arg4 m c)) {s : State Ideal}
    (hs : Ran (arg0 m c) (arg1 m c) (arg2 m c) (arg3 m c) (arg4 m c) s 34) :
    (dats m 0 c).arrAt 5 (cfgs 0).N = Cert.CarryRefIdeal.Step.R_main_v11 s := by
  refine (dats m 0 c).arrAt_eq_of_covers 5 _ (by decide +kernel) fun t _ y => ?_
  blk_simp
  rw [after0_5]; frame_out
  refine ((leaves c hc t.val t.isLt).rows y).trans ((result _ _ _ _ _ hs (sq t) (hd t ⟨(y 1).val / 128, by have : (y 1).val < 1024 := (y 1).isLt; omega⟩)
    ⟨t.val % 34, by omega⟩ (y 0) ⟨(y 1).val % 128, by omega⟩).symm.trans (congrArg (Cert.CarryRefIdeal.Step.R_main_v11 s) ?_))
  blk_ext [idx t]

theorem final6 (c : Dev nD) (hc : Bounded (arg1 m c) (arg2 m c) (arg3 m c) (arg4 m c)) {s : State Ideal}
    (hs : Ran (arg0 m c) (arg1 m c) (arg2 m c) (arg3 m c) (arg4 m c) s 34) :
    (dats m 0 c).arrAt 6 (cfgs 0).N = s.main_v9_5 := by
  refine (dats m 0 c).arrAt_eq_of_covers 6 _ (by decide +kernel) fun t ht y => ?_
  have h1 : t.val % 34 = 33 := (by decide +kernel : ∀ t : Fin cfg0.grid.N, (cfg0.win 6).flush t = true → t.val % 34 = 33) t ht
  blk_simp
  rw [after0_6]; frame_out
  have ey : (y : S1x8x128x128.Idx) = ix4 0 (y 1) (y 2) (y 3) := by blk_ext
  refine (congrArg (outsAt0 m c t.val t.isLt).2.1 ey).trans (((leaves c hc t.val t.isLt).last h1 (y 1) (y 2) (y 3)).trans ?_)
  unfold held
  rw [h1]
  refine (hs.carried (sq t) (hd t (y 1)) (y 2) (y 3)).symm.trans (congrArg s.main_v9_5 ?_)
  blk_ext [idx t]

/-- The precondition says that the factors of the chunks' products are real numbers. -/
theorem bounded [Cert.Pre_carried_finite.Facts] (h : Cert.Pre_CarryIdeal_carried_finite m) (c : Dev nD) :
    Bounded (arg1 m c) (arg2 m c) (arg3 m c) (arg4 m c) := by
  obtain ⟨h1, h2, h3, h4⟩ := h c
  refine ⟨fun i => ?_, fun i => ?_, fun i => ?_, fun i => ?_⟩
  · have e := congrFun h1 i
    unfold Cert.Pre_carried_finite.fn at e
    pointwise at e
    exact Split.real_of_lt _ e
  · have e := congrFun h2 i
    unfold Cert.Pre_carried_finite.fn at e
    pointwise at e
    exact Split.real_of_lt _ e
  · have e := congrFun h3 i
    unfold Cert.Pre_carried_finite.fn at e
    pointwise at e
    exact Split.real_of_lt _ e
  · have e := congrFun h4 i
    unfold Cert.Pre_carried_finite.fn at e
    pointwise at e
    exact Split.real_of_lt _ e

/-- The idealized kernel and the reference, from the same arguments with real factors, end with the same rows and states. -/
theorem algebraic [Cert.Pre_carried_finite.Facts] : Cert.algebraic_CarryIdeal_CarryRefIdeal_pre_carried_finite := by
  pair_intro
  · run_from Cert.CarryIdeal.Value.run_blocks m g
  · refine Idealize.ShloMosaic.θ_run_mono (Cert.CarryRefIdeal.Carried.run m' g') fun r hr c => ?_
    obtain ⟨h0, h1, h2, h3, h4⟩ := hagree c
    have hs := ran _ _ _ _ _ m' c h0 h1 h2 h3 h4 34 (le_refl 34)
    obtain ⟨e5, e6, he⟩ := hr c
    exact ⟨e5.trans (final5 c (bounded hpre c) hs).symm, e6.trans (final6 c (bounded hpre c) hs).symm, he⟩

end Cert.CarryIdeal.RefValue

end
-- ==== Proof.lean ====
/- It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame`, `conforms` or `preserves` claim has no disproof.
   idealize/tests/proofs/README.md, "A value claim that is FALSE", says how; 02_vector_ops
   `Proof/Disproof.lean` and 10_ideal_fields `Proof/Widths.lean` are worked examples. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InGdn
public import proofs.«01_k».proof.Proof.Gen.InGdn.Skeleton
public import proofs.«01_k».proof.Proof.Gen.InGdn.Launch
public import proofs.«01_k».proof.Proof.Gen.InGdn.Points
public import proofs.«01_k».proof.Proof.Gen.InGdn.Frame
public import proofs.«01_k».proof.Proof.Gen.InGdnIdeal
public import proofs.«01_k».proof.Proof.Gen.InGdnIdeal.Skeleton
public import proofs.«01_k».proof.Proof.Gen.InGdnIdeal.Launch
public import proofs.«01_k».proof.Proof.Gen.InGdnIdeal.Points
public import proofs.«01_k».proof.Proof.Gen.InGdnIdeal.Frame
public import proofs.«01_k».proof.Proof.Gen.InGdnRefIdeal
public import proofs.«01_k».proof.Proof.Gen.InFox
public import proofs.«01_k».proof.Proof.Gen.InFox.Skeleton
public import proofs.«01_k».proof.Proof.Gen.InFox.Launch
public import proofs.«01_k».proof.Proof.Gen.InFox.Points
public import proofs.«01_k».proof.Proof.Gen.InFox.Frame
public import proofs.«01_k».proof.Proof.Gen.InFoxIdeal
public import proofs.«01_k».proof.Proof.Gen.InFoxIdeal.Skeleton
public import proofs.«01_k».proof.Proof.Gen.InFoxIdeal.Launch
public import proofs.«01_k».proof.Proof.Gen.InFoxIdeal.Points
public import proofs.«01_k».proof.Proof.Gen.InFoxIdeal.Frame
public import proofs.«01_k».proof.Proof.Gen.InFoxRefIdeal
public import proofs.«01_k».proof.Proof.Gen.InRwkv
public import proofs.«01_k».proof.Proof.Gen.InRwkv.Skeleton
public import proofs.«01_k».proof.Proof.Gen.InRwkv.Launch
public import proofs.«01_k».proof.Proof.Gen.InRwkv.Points
public import proofs.«01_k».proof.Proof.Gen.InRwkv.Frame
public import proofs.«01_k».proof.Proof.Gen.InRwkvIdeal
public import proofs.«01_k».proof.Proof.Gen.InRwkvIdeal.Skeleton
public import proofs.«01_k».proof.Proof.Gen.InRwkvIdeal.Launch
public import proofs.«01_k».proof.Proof.Gen.InRwkvIdeal.Points
public import proofs.«01_k».proof.Proof.Gen.InRwkvIdeal.Frame
public import proofs.«01_k».proof.Proof.Gen.InRwkvRefIdeal
public import proofs.«01_k».proof.Proof.Gen.InGates
public import proofs.«01_k».proof.Proof.Gen.InGates.Skeleton
public import proofs.«01_k».proof.Proof.Gen.InGates.Launch
public import proofs.«01_k».proof.Proof.Gen.InGates.Points
public import proofs.«01_k».proof.Proof.Gen.InGates.Frame
public import proofs.«01_k».proof.Proof.Gen.InGatesIdeal
public import proofs.«01_k».proof.Proof.Gen.InGatesIdeal.Skeleton
public import proofs.«01_k».proof.Proof.Gen.InGatesIdeal.Launch
public import proofs.«01_k».proof.Proof.Gen.InGatesIdeal.Points
public import proofs.«01_k».proof.Proof.Gen.InGatesIdeal.Frame
public import proofs.«01_k».proof.Proof.Gen.InGatesRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryRefIdeal
public import proofs.«01_k».proof.Proof.Gen.Forget
public import proofs.«01_k».proof.Proof.Gen.Forget.Skeleton
public import proofs.«01_k».proof.Proof.Gen.Forget.Launch
public import proofs.«01_k».proof.Proof.Gen.Forget.Points
public import proofs.«01_k».proof.Proof.Gen.Forget.Frame
public import proofs.«01_k».proof.Proof.Gen.ForgetIdeal
public import proofs.«01_k».proof.Proof.Gen.ForgetIdeal.Skeleton
public import proofs.«01_k».proof.Proof.Gen.ForgetIdeal.Launch
public import proofs.«01_k».proof.Proof.Gen.ForgetIdeal.Points
public import proofs.«01_k».proof.Proof.Gen.ForgetIdeal.Frame
public import proofs.«01_k».proof.Proof.Gen.ForgetRefIdeal
public import proofs.«01_k».proof.Proof.Gen.Pre_logits_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InGdnIdeal.Value
public import proofs.«01_k».proof.Proof.Gen.InGdnRefIdeal.Run
public import proofs.«01_k».proof.Proof.Gen.InGdnRefIdeal.Read
public import proofs.«01_k».proof.Proof.Gen.InFoxIdeal.Value
public import proofs.«01_k».proof.Proof.Gen.InFoxRefIdeal.Run
public import proofs.«01_k».proof.Proof.Gen.InFoxRefIdeal.Read
public import proofs.«01_k».proof.Proof.Gen.InRwkvIdeal.Value
public import proofs.«01_k».proof.Proof.Gen.InRwkvRefIdeal.Run
public import proofs.«01_k».proof.Proof.Gen.InRwkvRefIdeal.Read
public import proofs.«01_k».proof.Proof.Gen.InGatesIdeal.Value
public import proofs.«01_k».proof.Proof.Gen.InGatesRefIdeal.Run
public import proofs.«01_k».proof.Proof.Gen.InGatesRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.QueryIdeal.Value
public import proofs.«01_k».proof.Proof.Gen.QueryRefIdeal.Run
public import proofs.«01_k».proof.Proof.Gen.QueryRefIdeal.Read
public import proofs.«01_k».proof.Proof.Gen.ForgetIdeal.Value
public import proofs.«01_k».proof.Proof.Gen.ForgetRefIdeal.Run
public import proofs.«01_k».proof.Proof.Gen.ForgetRefIdeal.Read
public import proofs.«01_k».proof.Proof.FoxClaim
public import proofs.«01_k».proof.Proof.InGdnValue
public import proofs.«01_k».proof.Proof.InFoxValue
public import proofs.«01_k».proof.Proof.InRwkvValue
public import proofs.«01_k».proof.Proof.InGatesValue
public import proofs.«01_k».proof.Proof.MergeValue
public import proofs.«01_k».proof.Proof.OutValue
public import proofs.«01_k».proof.Proof.QueryValue
public import proofs.«01_k».proof.Proof.ForgetValue
public import proofs.«01_k».proof.Proof.Gen.NormFinal
public import proofs.«01_k».proof.Proof.Gen.NormFinal.Skeleton
public import proofs.«01_k».proof.Proof.Gen.NormFinal.Launch
public import proofs.«01_k».proof.Proof.Gen.NormFinal.Points
public import proofs.«01_k».proof.Proof.Gen.NormFinal.Frame
public import proofs.«01_k».proof.Proof.Gen.NormFinalIdeal
public import proofs.«01_k».proof.Proof.Gen.NormFinalIdeal.Skeleton
public import proofs.«01_k».proof.Proof.Gen.NormFinalIdeal.Launch
public import proofs.«01_k».proof.Proof.Gen.NormFinalIdeal.Points
public import proofs.«01_k».proof.Proof.Gen.NormFinalIdeal.Frame
public import proofs.«01_k».proof.Proof.Gen.NormFinalIdeal.Value
public import proofs.«01_k».proof.Proof.Gen.NormFinalRefIdeal
public import proofs.«01_k».proof.Proof.Gen.NormFinalRefIdeal.Run
public import proofs.«01_k».proof.Proof.Gen.NormFinalRefIdeal.Read
public import proofs.«01_k».proof.Proof.NormFinalValue
public import proofs.«01_k».proof.Proof.Gen.NormMix
public import proofs.«01_k».proof.Proof.Gen.NormMix.Skeleton
public import proofs.«01_k».proof.Proof.Gen.NormMix.Launch
public import proofs.«01_k».proof.Proof.Gen.NormMix.Points
public import proofs.«01_k».proof.Proof.Gen.NormMix.Frame
public import proofs.«01_k».proof.Proof.Gen.NormMixIdeal
public import proofs.«01_k».proof.Proof.Gen.NormMixIdeal.Skeleton
public import proofs.«01_k».proof.Proof.Gen.NormMixIdeal.Launch
public import proofs.«01_k».proof.Proof.Gen.NormMixIdeal.Points
public import proofs.«01_k».proof.Proof.Gen.NormMixIdeal.Frame
public import proofs.«01_k».proof.Proof.Gen.NormMixIdeal.Value
public import proofs.«01_k».proof.Proof.Gen.NormMixRefIdeal
public import proofs.«01_k».proof.Proof.Gen.NormMixRefIdeal.Run
public import proofs.«01_k».proof.Proof.Gen.NormMixRefIdeal.Read
public import proofs.«01_k».proof.Proof.NormMixValue
public import proofs.«01_k».proof.Proof.Gen.NormFfn
public import proofs.«01_k».proof.Proof.Gen.NormFfn.Skeleton
public import proofs.«01_k».proof.Proof.Gen.NormFfn.Launch
public import proofs.«01_k».proof.Proof.Gen.NormFfn.Points
public import proofs.«01_k».proof.Proof.Gen.NormFfn.Frame
public import proofs.«01_k».proof.Proof.Gen.NormFfnIdeal
public import proofs.«01_k».proof.Proof.Gen.NormFfnIdeal.Skeleton
public import proofs.«01_k».proof.Proof.Gen.NormFfnIdeal.Launch
public import proofs.«01_k».proof.Proof.Gen.NormFfnIdeal.Points
public import proofs.«01_k».proof.Proof.Gen.NormFfnIdeal.Frame
public import proofs.«01_k».proof.Proof.Gen.NormFfnIdeal.Value
public import proofs.«01_k».proof.Proof.Gen.NormFfnRefIdeal
public import proofs.«01_k».proof.Proof.Gen.NormFfnRefIdeal.Run
public import proofs.«01_k».proof.Proof.Gen.NormFfnRefIdeal.Read
public import proofs.«01_k».proof.Proof.NormFfnValue
public import proofs.«01_k».proof.Proof.Gen.InLora
public import proofs.«01_k».proof.Proof.Gen.InLora.Skeleton
public import proofs.«01_k».proof.Proof.Gen.InLora.Launch
public import proofs.«01_k».proof.Proof.Gen.InLora.Points
public import proofs.«01_k».proof.Proof.Gen.InLora.Frame
public import proofs.«01_k».proof.Proof.Gen.InLoraIdeal
public import proofs.«01_k».proof.Proof.Gen.InLoraIdeal.Skeleton
public import proofs.«01_k».proof.Proof.Gen.InLoraIdeal.Launch
public import proofs.«01_k».proof.Proof.Gen.InLoraIdeal.Points
public import proofs.«01_k».proof.Proof.Gen.InLoraIdeal.Frame
public import proofs.«01_k».proof.Proof.Gen.InLoraIdeal.Value
public import proofs.«01_k».proof.Proof.Gen.InLoraRefIdeal
public import proofs.«01_k».proof.Proof.Gen.InLoraRefIdeal.Run
public import proofs.«01_k».proof.Proof.Gen.InLoraRefIdeal.Read
public import proofs.«01_k».proof.Proof.InLoraValue
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.ConvValue
public import proofs.«01_k».proof.Proof.Gen.GdnOut
public import proofs.«01_k».proof.Proof.Gen.GdnOut.Skeleton
public import proofs.«01_k».proof.Proof.Gen.GdnOut.Launch
public import proofs.«01_k».proof.Proof.Gen.GdnOut.Points
public import proofs.«01_k».proof.Proof.Gen.GdnOut.Frame
public import proofs.«01_k».proof.Proof.Gen.GdnOutIdeal
public import proofs.«01_k».proof.Proof.Gen.GdnOutIdeal.Skeleton
public import proofs.«01_k».proof.Proof.Gen.GdnOutIdeal.Launch
public import proofs.«01_k».proof.Proof.Gen.GdnOutIdeal.Points
public import proofs.«01_k».proof.Proof.Gen.GdnOutIdeal.Frame
public import proofs.«01_k».proof.Proof.Gen.GdnOutIdeal.Value
public import proofs.«01_k».proof.Proof.Gen.GdnOutRefIdeal
public import proofs.«01_k».proof.Proof.Gen.GdnOutRefIdeal.Run
public import proofs.«01_k».proof.Proof.Gen.GdnOutRefIdeal.Read
public import proofs.«01_k».proof.Proof.GdnOutValue
public import proofs.«01_k».proof.Proof.Gen.Shift
public import proofs.«01_k».proof.Proof.Gen.Shift.Skeleton
public import proofs.«01_k».proof.Proof.Gen.Shift.Launch
public import proofs.«01_k».proof.Proof.Gen.Shift.Points
public import proofs.«01_k».proof.Proof.Gen.Shift.Frame
public import proofs.«01_k».proof.Proof.Gen.ShiftIdeal
public import proofs.«01_k».proof.Proof.Gen.ShiftIdeal.Skeleton
public import proofs.«01_k».proof.Proof.Gen.ShiftIdeal.Launch
public import proofs.«01_k».proof.Proof.Gen.ShiftIdeal.Points
public import proofs.«01_k».proof.Proof.Gen.ShiftIdeal.Frame
public import proofs.«01_k».proof.Proof.Gen.ShiftIdeal.Value
public import proofs.«01_k».proof.Proof.Gen.ShiftRefIdeal
public import proofs.«01_k».proof.Proof.Gen.ShiftRefIdeal.Run
public import proofs.«01_k».proof.Proof.Gen.ShiftRefIdeal.Read
public import proofs.«01_k».proof.Proof.ShiftValue
public import proofs.«01_k».proof.Proof.Gen.ShiftLora
public import proofs.«01_k».proof.Proof.Gen.ShiftLora.Skeleton
public import proofs.«01_k».proof.Proof.Gen.ShiftLora.Launch
public import proofs.«01_k».proof.Proof.Gen.ShiftLora.Points
public import proofs.«01_k».proof.Proof.Gen.ShiftLora.Frame
public import proofs.«01_k».proof.Proof.Gen.ShiftLoraIdeal
public import proofs.«01_k».proof.Proof.Gen.ShiftLoraIdeal.Skeleton
public import proofs.«01_k».proof.Proof.Gen.ShiftLoraIdeal.Launch
public import proofs.«01_k».proof.Proof.Gen.ShiftLoraIdeal.Points
public import proofs.«01_k».proof.Proof.Gen.ShiftLoraIdeal.Frame
public import proofs.«01_k».proof.Proof.Gen.ShiftLoraIdeal.Value
public import proofs.«01_k».proof.Proof.Gen.ShiftLoraRefIdeal
public import proofs.«01_k».proof.Proof.Gen.ShiftLoraRefIdeal.Run
public import proofs.«01_k».proof.Proof.Gen.ShiftLoraRefIdeal.Read
public import proofs.«01_k».proof.Proof.ShiftLoraValue
public import proofs.«01_k».proof.Proof.Gen.RwkvOut
public import proofs.«01_k».proof.Proof.Gen.RwkvOut.Skeleton
public import proofs.«01_k».proof.Proof.Gen.RwkvOut.Launch
public import proofs.«01_k».proof.Proof.Gen.RwkvOut.Points
public import proofs.«01_k».proof.Proof.Gen.RwkvOut.Frame
public import proofs.«01_k».proof.Proof.Gen.RwkvOutIdeal
public import proofs.«01_k».proof.Proof.Gen.RwkvOutIdeal.Skeleton
public import proofs.«01_k».proof.Proof.Gen.RwkvOutIdeal.Launch
public import proofs.«01_k».proof.Proof.Gen.RwkvOutIdeal.Points
public import proofs.«01_k».proof.Proof.Gen.RwkvOutIdeal.Frame
public import proofs.«01_k».proof.Proof.Gen.RwkvOutIdeal.Value
public import proofs.«01_k».proof.Proof.Gen.RwkvOutRefIdeal
public import proofs.«01_k».proof.Proof.Gen.RwkvOutRefIdeal.Run
public import proofs.«01_k».proof.Proof.Gen.RwkvOutRefIdeal.Read
public import proofs.«01_k».proof.Proof.Gen.Pre_heads_finite
public import proofs.«01_k».proof.Proof.RwkvOutValue
public import proofs.«01_k».proof.Proof.Gen.Cumulative
public import proofs.«01_k».proof.Proof.Gen.Cumulative.Skeleton
public import proofs.«01_k».proof.Proof.Gen.Cumulative.Launch
public import proofs.«01_k».proof.Proof.Gen.Cumulative.Points
public import proofs.«01_k».proof.Proof.Gen.Cumulative.Frame
public import proofs.«01_k».proof.Proof.Gen.CumulativeIdeal
public import proofs.«01_k».proof.Proof.Gen.CumulativeIdeal.Skeleton
public import proofs.«01_k».proof.Proof.Gen.CumulativeIdeal.Launch
public import proofs.«01_k».proof.Proof.Gen.CumulativeIdeal.Points
public import proofs.«01_k».proof.Proof.Gen.CumulativeIdeal.Frame
public import proofs.«01_k».proof.Proof.Gen.CumulativeIdeal.Value
public import proofs.«01_k».proof.Proof.Gen.CumulativeRefIdeal
public import proofs.«01_k».proof.Proof.Gen.CumulativeRefIdeal.Run
public import proofs.«01_k».proof.Proof.Gen.CumulativeRefIdeal.Read
public import proofs.«01_k».proof.Proof.Gen.Pre_gates_finite
public import proofs.«01_k».proof.Proof.CumulativeValue
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Points
public import proofs.«01_k».proof.Proof.Gen.ScanIdeal.Frame
public import proofs.«01_k».proof.Proof.Gen.ScanIdeal.Value
public import proofs.«01_k».proof.Proof.Gen.ScanRefIdeal
public import proofs.«01_k».proof.Proof.Gen.ScanRefIdeal.Run
public import proofs.«01_k».proof.Proof.Gen.ScanRefIdeal.Read
public import proofs.«01_k».proof.Proof.Gen.Pre_chunks_finite
public import proofs.«01_k».proof.Proof.ScanValue
public import proofs.«01_k».proof.Proof.Gen.Carry
public import proofs.«01_k».proof.Proof.Gen.Carry.Skeleton
public import proofs.«01_k».proof.Proof.Gen.Carry.Launch
public import proofs.«01_k».proof.Proof.Gen.Carry.Points
public import proofs.«01_k».proof.Proof.Gen.Carry.Frame
public import proofs.«01_k».proof.Proof.Gen.CarryIdeal
public import proofs.«01_k».proof.Proof.Gen.CarryIdeal.Skeleton
public import proofs.«01_k».proof.Proof.Gen.CarryIdeal.Launch
public import proofs.«01_k».proof.Proof.Gen.CarryIdeal.Points
public import proofs.«01_k».proof.Proof.Gen.CarryIdeal.Frame
public import proofs.«01_k».proof.Proof.Gen.CarryIdeal.Value
public import proofs.«01_k».proof.Proof.Gen.CarryRefIdeal
public import proofs.«01_k».proof.Proof.Gen.CarryRefIdeal.Run
public import proofs.«01_k».proof.Proof.Gen.CarryRefIdeal.Step
public import proofs.«01_k».proof.Proof.Gen.Pre_carried_finite
public import proofs.«01_k».proof.Proof.CarryValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference `ReferenceIdeal` terminates and leaves its arguments unchanged. -/
theorem frame_Reference [Cert.ReferenceIdeal.Facts] : Cert.quiescent_ReferenceIdeal := by
  intro m g _
  exact (θ_run _ _ _).mono (fun r h => ⟨fun c => (h c).2, sem_eq_zero_of_no_sems (by decide) r.2⟩)
    (Cert.ReferenceIdeal.Value.run m g)

/-- The reference `InGdnRefIdeal` terminates and leaves its arguments unchanged. -/
theorem frame_InGdnRef [Cert.InGdnRefIdeal.Facts] : Cert.quiescent_InGdnRefIdeal := by
  intro m g _
  exact (θ_run _ _ _).mono (fun r h => ⟨fun c => (h c).2, sem_eq_zero_of_no_sems (by decide) r.2⟩)
    (Cert.InGdnRefIdeal.Value.run m g)

/-- The reference `InFoxRefIdeal` terminates and leaves its arguments unchanged. -/
theorem frame_InFoxRef [Cert.InFoxRefIdeal.Facts] : Cert.quiescent_InFoxRefIdeal := by
  intro m g _
  exact (θ_run _ _ _).mono (fun r h => ⟨fun c => (h c).2, sem_eq_zero_of_no_sems (by decide) r.2⟩)
    (Cert.InFoxRefIdeal.Value.run m g)

/-- The reference `InRwkvRefIdeal` terminates and leaves its arguments unchanged. -/
theorem frame_InRwkvRef [Cert.InRwkvRefIdeal.Facts] : Cert.quiescent_InRwkvRefIdeal := by
  intro m g _
  exact (θ_run _ _ _).mono (fun r h => ⟨fun c => (h c).2, sem_eq_zero_of_no_sems (by decide) r.2⟩)
    (Cert.InRwkvRefIdeal.Value.run m g)

/-- The reference `InGatesRefIdeal` terminates and leaves its arguments unchanged. -/
theorem frame_InGatesRef [Cert.InGatesRefIdeal.Facts] : Cert.quiescent_InGatesRefIdeal := by
  intro m g _
  exact (θ_run _ _ _).mono (fun r h => ⟨fun c => (h c).2, sem_eq_zero_of_no_sems (by decide) r.2⟩)
    (Cert.InGatesRefIdeal.Value.run m g)

/-- The reference `MergeRefIdeal` terminates and leaves its arguments unchanged. -/
theorem frame_MergeRef [Cert.MergeRefIdeal.Facts] : Cert.quiescent_MergeRefIdeal := by
  intro m g _
  exact (θ_run _ _ _).mono (fun r h => ⟨fun c => (h c).2, sem_eq_zero_of_no_sems (by decide) r.2⟩)
    (Cert.MergeRefIdeal.Value.run m g)

/-- The reference `OutRefIdeal` terminates and leaves its arguments unchanged. -/
theorem frame_OutRef [Cert.OutRefIdeal.Facts] : Cert.quiescent_OutRefIdeal := by
  intro m g _
  exact (θ_run _ _ _).mono (fun r h => ⟨fun c => (h c).2, sem_eq_zero_of_no_sems (by decide) r.2⟩)
    (Cert.OutRefIdeal.Value.run m g)

/-- The reference `QueryRefIdeal` terminates and leaves its arguments unchanged. -/
theorem frame_QueryRef [Cert.QueryRefIdeal.Facts] : Cert.quiescent_QueryRefIdeal := by
  intro m g _
  exact (θ_run _ _ _).mono (fun r h => ⟨fun c => (h c).2, sem_eq_zero_of_no_sems (by decide) r.2⟩)
    (Cert.QueryRefIdeal.Value.run m g)

/-- The reference `ForgetRefIdeal` terminates and leaves its arguments unchanged. -/
theorem frame_ForgetRef [Cert.ForgetRefIdeal.Facts] : Cert.quiescent_ForgetRefIdeal := by
  intro m g _
  exact (θ_run _ _ _).mono (fun r h => ⟨fun c => (h c).2, sem_eq_zero_of_no_sems (by decide) r.2⟩)
    (Cert.ForgetRefIdeal.Value.run m g)

/-- The reference `NormFinalRefIdeal` terminates and leaves its arguments unchanged. -/
theorem frame_NormFinalRef [Cert.NormFinalRefIdeal.Facts] : Cert.quiescent_NormFinalRefIdeal := by
  intro m g _
  exact (θ_run _ _ _).mono (fun r h => ⟨fun c => (h c).2, sem_eq_zero_of_no_sems (by decide) r.2⟩)
    (Cert.NormFinalRefIdeal.Value.run m g)

/-- The reference `NormMixRefIdeal` terminates and leaves its arguments unchanged. -/
theorem frame_NormMixRef [Cert.NormMixRefIdeal.Facts] : Cert.quiescent_NormMixRefIdeal := by
  intro m g _
  exact (θ_run _ _ _).mono (fun r h => ⟨fun c => (h c).2.2.2, sem_eq_zero_of_no_sems (by decide) r.2⟩)
    (Cert.NormMixRefIdeal.Value.run m g)

/-- The reference `NormFfnRefIdeal` terminates and leaves its arguments unchanged. -/
theorem frame_NormFfnRef [Cert.NormFfnRefIdeal.Facts] : Cert.quiescent_NormFfnRefIdeal := by
  intro m g _
  exact (θ_run _ _ _).mono (fun r h => ⟨fun c => (h c).2, sem_eq_zero_of_no_sems (by decide) r.2⟩)
    (Cert.NormFfnRefIdeal.Value.run m g)

/-- The reference `InLoraRefIdeal` terminates and leaves its arguments unchanged. -/
theorem frame_InLoraRef [Cert.InLoraRefIdeal.Facts] : Cert.quiescent_InLoraRefIdeal := by
  intro m g _
  exact (θ_run _ _ _).mono (fun r h => ⟨fun c => (h c).2, sem_eq_zero_of_no_sems (by decide) r.2⟩)
    (Cert.InLoraRefIdeal.Value.run m g)

/-- The reference `ConvRefIdeal` terminates and leaves its arguments unchanged. -/
theorem frame_ConvRef [Cert.ConvRefIdeal.Facts] : Cert.quiescent_ConvRefIdeal := by
  intro m g _
  exact (θ_run _ _ _).mono (fun r h => ⟨fun c => (h c).2.2, sem_eq_zero_of_no_sems (by decide) r.2⟩)
    (Cert.ConvRefIdeal.Value.run m g)

/-- The reference `GdnOutRefIdeal` terminates and leaves its arguments unchanged. -/
theorem frame_GdnOutRef [Cert.GdnOutRefIdeal.Facts] : Cert.quiescent_GdnOutRefIdeal := by
  intro m g _
  exact (θ_run _ _ _).mono (fun r h => ⟨fun c => (h c).2, sem_eq_zero_of_no_sems (by decide) r.2⟩)
    (Cert.GdnOutRefIdeal.Value.run m g)

/-- The reference `ShiftRefIdeal` terminates and leaves its arguments unchanged. -/
theorem frame_ShiftRef [Cert.ShiftRefIdeal.Facts] : Cert.quiescent_ShiftRefIdeal := by
  intro m g _
  exact (θ_run _ _ _).mono (fun r h => ⟨fun c => (h c).2.2, sem_eq_zero_of_no_sems (by decide) r.2⟩)
    (Cert.ShiftRefIdeal.Value.run m g)

/-- The reference `ShiftLoraRefIdeal` terminates and leaves its arguments unchanged. -/
theorem frame_ShiftLoraRef [Cert.ShiftLoraRefIdeal.Facts] : Cert.quiescent_ShiftLoraRefIdeal := by
  intro m g _
  exact (θ_run _ _ _).mono (fun r h => ⟨fun c => (h c).2.2, sem_eq_zero_of_no_sems (by decide) r.2⟩)
    (Cert.ShiftLoraRefIdeal.Value.run m g)

/-- The reference `RwkvOutRefIdeal` terminates and leaves its arguments unchanged. -/
theorem frame_RwkvOutRef [Cert.RwkvOutRefIdeal.Facts] : Cert.quiescent_RwkvOutRefIdeal := by
  intro m g _
  exact (θ_run _ _ _).mono (fun r h => ⟨fun c => (h c).2, sem_eq_zero_of_no_sems (by decide) r.2⟩)
    (Cert.RwkvOutRefIdeal.Value.run m g)

/-- The reference `CumulativeRefIdeal` terminates and leaves its arguments unchanged. -/
theorem frame_CumulativeRef [Cert.CumulativeRefIdeal.Facts] : Cert.quiescent_CumulativeRefIdeal := by
  intro m g _
  exact (θ_run _ _ _).mono (fun r h => ⟨fun c => (h c).2, sem_eq_zero_of_no_sems (by decide) r.2⟩)
    (Cert.CumulativeRefIdeal.Value.run m g)

/-- The reference `ScanRefIdeal` terminates and leaves its arguments unchanged. -/
theorem frame_ScanRef [Cert.ScanRefIdeal.Facts] : Cert.quiescent_ScanRefIdeal := by
  intro m g _
  exact (θ_run _ _ _).mono (fun r h => ⟨fun c => (h c).2.2, sem_eq_zero_of_no_sems (by decide) r.2⟩)
    (Cert.ScanRefIdeal.Value.run m g)

/-- The reference `CarryRefIdeal` terminates and leaves its arguments unchanged. -/
theorem frame_CarryRef [Cert.CarryRefIdeal.Facts] : Cert.quiescent_CarryRefIdeal := by
  intro m g _
  exact (θ_run _ _ _).mono (fun r h => ⟨fun c => (h c).2.2, sem_eq_zero_of_no_sems (by decide) r.2⟩)
    (Cert.CarryRefIdeal.Value.run m g)

/-- Every claim stated in the statement. -/
theorem claim : Cert.Claim := ⟨
    Cert.Kernel.Gen.facts,
    Cert.KernelIdeal.Gen.facts,
    Cert.ReferenceIdeal.Gen.facts,
    Cert.InGdn.Gen.facts,
    Cert.InGdnIdeal.Gen.facts,
    Cert.InGdnRefIdeal.Gen.facts,
    Cert.InFox.Gen.facts,
    Cert.InFoxIdeal.Gen.facts,
    Cert.InFoxRefIdeal.Gen.facts,
    Cert.InRwkv.Gen.facts,
    Cert.InRwkvIdeal.Gen.facts,
    Cert.InRwkvRefIdeal.Gen.facts,
    Cert.InGates.Gen.facts,
    Cert.InGatesIdeal.Gen.facts,
    Cert.InGatesRefIdeal.Gen.facts,
    Cert.Merge.Gen.facts,
    Cert.MergeIdeal.Gen.facts,
    Cert.MergeRefIdeal.Gen.facts,
    Cert.Out.Gen.facts,
    Cert.OutIdeal.Gen.facts,
    Cert.OutRefIdeal.Gen.facts,
    Cert.Query.Gen.facts,
    Cert.QueryIdeal.Gen.facts,
    Cert.QueryRefIdeal.Gen.facts,
    Cert.Forget.Gen.facts,
    Cert.ForgetIdeal.Gen.facts,
    Cert.ForgetRefIdeal.Gen.facts,
    Cert.NormFinal.Gen.facts,
    Cert.NormFinalIdeal.Gen.facts,
    Cert.NormFinalRefIdeal.Gen.facts,
    Cert.NormMix.Gen.facts,
    Cert.NormMixIdeal.Gen.facts,
    Cert.NormMixRefIdeal.Gen.facts,
    Cert.NormFfn.Gen.facts,
    Cert.NormFfnIdeal.Gen.facts,
    Cert.NormFfnRefIdeal.Gen.facts,
    Cert.InLora.Gen.facts,
    Cert.InLoraIdeal.Gen.facts,
    Cert.InLoraRefIdeal.Gen.facts,
    Cert.Conv.Gen.facts,
    Cert.ConvIdeal.Gen.facts,
    Cert.ConvRefIdeal.Gen.facts,
    Cert.GdnOut.Gen.facts,
    Cert.GdnOutIdeal.Gen.facts,
    Cert.GdnOutRefIdeal.Gen.facts,
    Cert.Shift.Gen.facts,
    Cert.ShiftIdeal.Gen.facts,
    Cert.ShiftRefIdeal.Gen.facts,
    Cert.ShiftLora.Gen.facts,
    Cert.ShiftLoraIdeal.Gen.facts,
    Cert.ShiftLoraRefIdeal.Gen.facts,
    Cert.RwkvOut.Gen.facts,
    Cert.RwkvOutIdeal.Gen.facts,
    Cert.RwkvOutRefIdeal.Gen.facts,
    Cert.Cumulative.Gen.facts,
    Cert.CumulativeIdeal.Gen.facts,
    Cert.CumulativeRefIdeal.Gen.facts,
    Cert.Scan.Gen.facts,
    Cert.ScanIdeal.Gen.facts,
    Cert.ScanRefIdeal.Gen.facts,
    Cert.Carry.Gen.facts,
    Cert.CarryIdeal.Gen.facts,
    Cert.CarryRefIdeal.Gen.facts,
    Cert.Pre_logits_finite.Gen.facts,
    Cert.Pre_heads_finite.Gen.facts,
    Cert.Pre_gates_finite.Gen.facts,
    Cert.Pre_chunks_finite.Gen.facts,
    Cert.Pre_carried_finite.Gen.facts,
    fun m ρ _ => Cert.Kernel.Gen.frame m ρ,
    fun m ρ _ => Cert.KernelIdeal.Gen.frame m ρ,
    fun m ρ _ => Cert.KernelIdeal.Gen.frame m ρ,
    frame_Reference,
    fun m ρ _ => frame_Reference m ρ trivial,
    fun m ρ _ => Cert.InGdn.Gen.frame m ρ,
    fun m ρ _ => Cert.InGdnIdeal.Gen.frame m ρ,
    frame_InGdnRef,
    fun m ρ _ => Cert.InFox.Gen.frame m ρ,
    fun m ρ _ => Cert.InFoxIdeal.Gen.frame m ρ,
    frame_InFoxRef,
    fun m ρ _ => Cert.InRwkv.Gen.frame m ρ,
    fun m ρ _ => Cert.InRwkvIdeal.Gen.frame m ρ,
    frame_InRwkvRef,
    fun m ρ _ => Cert.InGates.Gen.frame m ρ,
    fun m ρ _ => Cert.InGatesIdeal.Gen.frame m ρ,
    frame_InGatesRef,
    fun m ρ _ => Cert.Merge.Gen.frame m ρ,
    fun m ρ _ => Cert.MergeIdeal.Gen.frame m ρ,
    frame_MergeRef,
    fun m ρ _ => Cert.Out.Gen.frame m ρ,
    fun m ρ _ => Cert.OutIdeal.Gen.frame m ρ,
    frame_OutRef,
    fun m ρ _ => Cert.Query.Gen.frame m ρ,
    fun m ρ _ => Cert.QueryIdeal.Gen.frame m ρ,
    frame_QueryRef,
    fun m ρ _ => Cert.Forget.Gen.frame m ρ,
    fun m ρ _ => Cert.ForgetIdeal.Gen.frame m ρ,
    frame_ForgetRef,
    fun m ρ _ => Cert.NormFinal.Gen.frame m ρ,
    fun m ρ _ => Cert.NormFinalIdeal.Gen.frame m ρ,
    frame_NormFinalRef,
    fun m ρ _ => Cert.NormMix.Gen.frame m ρ,
    fun m ρ _ => Cert.NormMixIdeal.Gen.frame m ρ,
    frame_NormMixRef,
    fun m ρ _ => Cert.NormFfn.Gen.frame m ρ,
    fun m ρ _ => Cert.NormFfnIdeal.Gen.frame m ρ,
    frame_NormFfnRef,
    fun m ρ _ => Cert.InLora.Gen.frame m ρ,
    fun m ρ _ => Cert.InLoraIdeal.Gen.frame m ρ,
    frame_InLoraRef,
    fun m ρ _ => Cert.Conv.Gen.frame m ρ,
    fun m ρ _ => Cert.ConvIdeal.Gen.frame m ρ,
    frame_ConvRef,
    fun m ρ _ => Cert.GdnOut.Gen.frame m ρ,
    fun m ρ _ => Cert.GdnOutIdeal.Gen.frame m ρ,
    frame_GdnOutRef,
    fun m ρ _ => Cert.Shift.Gen.frame m ρ,
    fun m ρ _ => Cert.ShiftIdeal.Gen.frame m ρ,
    frame_ShiftRef,
    fun m ρ _ => Cert.ShiftLora.Gen.frame m ρ,
    fun m ρ _ => Cert.ShiftLoraIdeal.Gen.frame m ρ,
    frame_ShiftLoraRef,
    fun m ρ _ => Cert.RwkvOut.Gen.frame m ρ,
    fun m ρ _ => Cert.RwkvOutIdeal.Gen.frame m ρ,
    fun m ρ _ => Cert.RwkvOutIdeal.Gen.frame m ρ,
    frame_RwkvOutRef,
    fun m ρ _ => frame_RwkvOutRef m ρ trivial,
    fun m ρ _ => Cert.Cumulative.Gen.frame m ρ,
    fun m ρ _ => Cert.CumulativeIdeal.Gen.frame m ρ,
    fun m ρ _ => Cert.CumulativeIdeal.Gen.frame m ρ,
    frame_CumulativeRef,
    fun m ρ _ => frame_CumulativeRef m ρ trivial,
    fun m ρ _ => Cert.Scan.Gen.frame m ρ,
    fun m ρ _ => Cert.ScanIdeal.Gen.frame m ρ,
    fun m ρ _ => Cert.ScanIdeal.Gen.frame m ρ,
    frame_ScanRef,
    fun m ρ _ => frame_ScanRef m ρ trivial,
    fun m ρ _ => Cert.Carry.Gen.frame m ρ,
    fun m ρ _ => Cert.CarryIdeal.Gen.frame m ρ,
    fun m ρ _ => Cert.CarryIdeal.Gen.frame m ρ,
    frame_CarryRef,
    fun m ρ _ => frame_CarryRef m ρ trivial,
    Cert.KernelIdeal.RefValue.preserves,
    Cert.KernelIdeal.RefValue.algebraic,
    trivial,
    Cert.InGdnIdeal.RefValue.algebraic,
    trivial,
    Cert.InFoxIdeal.RefValue.algebraic,
    trivial,
    Cert.InRwkvIdeal.RefValue.algebraic,
    trivial,
    Cert.InGatesIdeal.RefValue.algebraic,
    trivial,
    Cert.MergeIdeal.RefValue.algebraic,
    trivial,
    Cert.OutIdeal.RefValue.algebraic,
    trivial,
    Cert.QueryIdeal.RefValue.algebraic,
    trivial,
    Cert.ForgetIdeal.RefValue.algebraic,
    trivial,
    Cert.NormFinalIdeal.RefValue.algebraic,
    trivial,
    Cert.NormMixIdeal.RefValue.algebraic,
    trivial,
    Cert.NormFfnIdeal.RefValue.algebraic,
    trivial,
    Cert.InLoraIdeal.RefValue.algebraic,
    trivial,
    Cert.ConvIdeal.RefValue.algebraic,
    trivial,
    Cert.GdnOutIdeal.RefValue.algebraic,
    trivial,
    Cert.ShiftIdeal.RefValue.algebraic,
    trivial,
    Cert.ShiftLoraIdeal.RefValue.algebraic,
    trivial,
    Cert.RwkvOutIdeal.RefValue.algebraic,
    trivial,
    Cert.CumulativeIdeal.RefValue.algebraic,
    trivial,
    Cert.ScanIdeal.RefValue.algebraic,
    trivial,
    Cert.CarryIdeal.RefValue.algebraic⟩

end Cert.Proof

end
